-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_counts [hPre_small_counts : Cert.Pre_small_counts.Facts] (m : (ℓ : Loc Cert.KernelIdeal.nD Cert.KernelIdeal.τ Cert.KernelIdeal.sig) → Buf (Elt Ideal) ℓ) : Prop :=
  ∀ c : Dev Cert.KernelIdeal.nD,
    (Cert.Pre_small_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_small_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_small_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_small_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_counts [hPre_small_counts : Cert.Pre_small_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_small_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_small_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_small_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_small_counts [hKernelIdeal : Cert.KernelIdeal.Facts] [hPre_small_counts : Cert.Pre_small_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_small_counts [hReferenceIdeal : Cert.ReferenceIdeal.Facts] [hPre_small_counts : Cert.Pre_small_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_small_counts [hKernelIdeal : Cert.KernelIdeal.Facts] [hReferenceIdeal : Cert.ReferenceIdeal.Facts] [hPre_small_counts : Cert.Pre_small_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v20)) (v6 : (c : Dev Cert.KernelIdeal.nD) → Buf (Elt Ideal) ((c.tc : Thread Cert.KernelIdeal.nD Cert.KernelIdeal.τ).loc Cert.KernelIdeal.main_v21)) (v7 : (c : Dev Cert.KernelIdeal.nD) → Buf (Elt Ideal) ((c.tc : Thread Cert.KernelIdeal.nD Cert.KernelIdeal.τ).loc Cert.KernelIdeal.main_v22)) (v8 : (c : Dev Cert.KernelIdeal.nD) → Buf (Elt Ideal) ((c.tc : Thread Cert.KernelIdeal.nD Cert.KernelIdeal.τ).loc Cert.KernelIdeal.main_v23)) (v9 : (c : Dev Cert.KernelIdeal.nD) → Buf (Elt Ideal) ((c.tc : Thread Cert.KernelIdeal.nD Cert.KernelIdeal.τ).loc Cert.KernelIdeal.main_v24)) (v10 : (c : Dev Cert.KernelIdeal.nD) → Buf (Elt Ideal) ((c.tc : Thread Cert.KernelIdeal.nD Cert.KernelIdeal.τ).loc Cert.KernelIdeal.main_v25)) (v11 : (c : Dev Cert.KernelIdeal.nD) → Buf (Elt Ideal) ((c.tc : Thread Cert.KernelIdeal.nD Cert.KernelIdeal.τ).loc Cert.KernelIdeal.main_v26)) (v12 : (c : Dev Cert.KernelIdeal.nD) → Buf (Elt Ideal) ((c.tc : Thread Cert.KernelIdeal.nD Cert.KernelIdeal.τ).loc Cert.KernelIdeal.main_v27)) (v13 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_v21) = v6 c
          ∧ r.2.mem ((c.tc : Thread Cert.KernelIdeal.nD Cert.KernelIdeal.τ).loc Cert.KernelIdeal.main_v22) = v7 c
          ∧ r.2.mem ((c.tc : Thread Cert.KernelIdeal.nD Cert.KernelIdeal.τ).loc Cert.KernelIdeal.main_v23) = v8 c
          ∧ r.2.mem ((c.tc : Thread Cert.KernelIdeal.nD Cert.KernelIdeal.τ).loc Cert.KernelIdeal.main_v24) = v9 c
          ∧ r.2.mem ((c.tc : Thread Cert.KernelIdeal.nD Cert.KernelIdeal.τ).loc Cert.KernelIdeal.main_v25) = v10 c
          ∧ r.2.mem ((c.tc : Thread Cert.KernelIdeal.nD Cert.KernelIdeal.τ).loc Cert.KernelIdeal.main_v26) = v11 c
          ∧ r.2.mem ((c.tc : Thread Cert.KernelIdeal.nD Cert.KernelIdeal.τ).loc Cert.KernelIdeal.main_v27) = v12 c
          ∧ r.2.mem ((c.tc : Thread Cert.KernelIdeal.nD Cert.KernelIdeal.τ).loc Cert.KernelIdeal.main_v28) = v13 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45_0) = v0 c
          ∧ r.2.mem ((c.tc : Thread Cert.ReferenceIdeal.nD Cert.ReferenceIdeal.τ).loc Cert.ReferenceIdeal.main_v45_1) = v1 c
          ∧ r.2.mem ((c.tc : Thread Cert.ReferenceIdeal.nD Cert.ReferenceIdeal.τ).loc Cert.ReferenceIdeal.main_v45_2) = v2 c
          ∧ r.2.mem ((c.tc : Thread Cert.ReferenceIdeal.nD Cert.ReferenceIdeal.τ).loc Cert.ReferenceIdeal.main_v45_3) = v3 c
          ∧ r.2.mem ((c.tc : Thread Cert.ReferenceIdeal.nD Cert.ReferenceIdeal.τ).loc Cert.ReferenceIdeal.main_v45_4) = v4 c
          ∧ r.2.mem ((c.tc : Thread Cert.ReferenceIdeal.nD Cert.ReferenceIdeal.τ).loc Cert.ReferenceIdeal.main_v45_5) = v5 c
          ∧ r.2.mem ((c.tc : Thread Cert.ReferenceIdeal.nD Cert.ReferenceIdeal.τ).loc Cert.ReferenceIdeal.main_v45_6) = v6 c
          ∧ r.2.mem ((c.tc : Thread Cert.ReferenceIdeal.nD Cert.ReferenceIdeal.τ).loc Cert.ReferenceIdeal.main_v45_7) = v7 c
          ∧ r.2.mem ((c.tc : Thread Cert.ReferenceIdeal.nD Cert.ReferenceIdeal.τ).loc Cert.ReferenceIdeal.main_v45_8) = v8 c
          ∧ r.2.mem ((c.tc : Thread Cert.ReferenceIdeal.nD Cert.ReferenceIdeal.τ).loc Cert.ReferenceIdeal.main_v45_9) = v9 c
          ∧ r.2.mem ((c.tc : Thread Cert.ReferenceIdeal.nD Cert.ReferenceIdeal.τ).loc Cert.ReferenceIdeal.main_v45_10) = v10 c
          ∧ r.2.mem ((c.tc : Thread Cert.ReferenceIdeal.nD Cert.ReferenceIdeal.τ).loc Cert.ReferenceIdeal.main_v45_11) = v11 c
          ∧ r.2.mem ((c.tc : Thread Cert.ReferenceIdeal.nD Cert.ReferenceIdeal.τ).loc Cert.ReferenceIdeal.main_v45_12) = v12 c
          ∧ r.2.mem ((c.tc : Thread Cert.ReferenceIdeal.nD Cert.ReferenceIdeal.τ).loc Cert.ReferenceIdeal.main_v45_13) = v13 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_small_counts : Cert.Pre_small_counts.Facts),
    quiescent_Kernel (hKernel := hKernel)
    ∧ quiescent_KernelIdeal (hKernelIdeal := hKernelIdeal)
    ∧ quiescent_KernelIdeal_pre_small_counts (hKernelIdeal := hKernelIdeal) (hPre_small_counts := hPre_small_counts)
    ∧ quiescent_ReferenceIdeal (hReferenceIdeal := hReferenceIdeal)
    ∧ quiescent_ReferenceIdeal_pre_small_counts (hReferenceIdeal := hReferenceIdeal) (hPre_small_counts := hPre_small_counts)
    ∧ preserves_Kernel_KernelIdeal
    ∧ algebraic_KernelIdeal_ReferenceIdeal_pre_small_counts (hKernelIdeal := hKernelIdeal) (hReferenceIdeal := hReferenceIdeal) (hPre_small_counts := hPre_small_counts)
-- ==== Pre_small_counts.lean ====
abbrev S1536x192 : Shape := ⟨2, ![1536, 192]⟩
abbrev S1536 : Shape := ⟨1, ![1536]⟩
abbrev S20000x192 : Shape := ⟨2, ![20000, 192]⟩
abbrev S20000 : Shape := ⟨1, ![20000]⟩
abbrev S1537 : Shape := ⟨1, ![1537]⟩
abbrev S160x384x128 : Shape := ⟨3, ![160, 384, 128]⟩
abbrev S_ : Shape := ⟨0, ![]⟩

class Facts : Prop where
  bcast_S_S1536 : S_.BroadcastsInDim S1536 (![] : Fin 0 → Fin S1536.rank)
  bcast_S_S20000 : S_.BroadcastsInDim S20000 (![] : Fin 0 → Fin S20000.rank)
  bcast_S_S160x384x128 : S_.BroadcastsInDim S160x384x128 (![] : Fin 0 → Fin S160x384x128.rank)

variable [Facts]

def fn_part1 {F : FTy → Type} [FloatOps F] (main_arg5 : IVec S160x384x128 32) (main_v4 : IVec S1536 1) (main_v7 : IVec S20000 1) (main_v11 : IVec S160x384x128 1) (main_v16 : IVec S160x384x128 1) (main_c_4 : IVec S_ 32) : IVec S1536 1 × IVec S20000 1 × IVec S160x384x128 1 × IVec S160x384x128 1 :=
  let main_v17 : IVec S160x384x128 32 := broadcastInDim S160x384x128 ![] bcast_S_S160x384x128 main_c_4
  let main_v18 : IVec S160x384x128 1 := cmpi .eq main_arg5 main_v17
  let main_v19 : IVec S160x384x128 1 := ori main_v16 main_v18
  (main_v4, main_v7, main_v11, main_v19)

def fn {F : FTy → Type} [FloatOps F] (main_arg0 : IVec S1536x192 8) (main_arg1 : FVec F S1536 .f32) (main_arg2 : IVec S20000x192 8) (main_arg3 : FVec F S20000 .f32) (main_arg4 : IVec S1537 32) (main_arg5 : IVec S160x384x128 32) : IVec S1536 1 × IVec S20000 1 × IVec S160x384x128 1 × IVec S160x384x128 1 :=
  let main_v0 : IVec S160x384x128 32 := iotaInDim S160x384x128 32 0
  let main_v1 : IVec S160x384x128 32 := iotaInDim S160x384x128 32 2
  let main_v2 : FVec F S1536 .f32 := Host.absf main_arg1
  let main_cst : FVec F S_ .f32 := constant S_ .f32 0x7F800000#32
  let main_v3 : FVec F S1536 .f32 := broadcastInDim S1536 ![] bcast_S_S1536 main_cst
  let main_v4 : IVec S1536 1 := cmpf .olt main_v2 main_v3
  let main_v5 : FVec F S20000 .f32 := Host.absf main_arg3
  let main_cst_0 : FVec F S_ .f32 := constant S_ .f32 0x7F800000#32
  let main_v6 : FVec F S20000 .f32 := broadcastInDim S20000 ![] bcast_S_S20000 main_cst_0
  let main_v7 : IVec S20000 1 := cmpf .olt main_v5 main_v6
  let main_c : IVec S_ 32 := constantI S_ 32 2155905152#32
  let main_v8 : IVec S160x384x128 32 := broadcastInDim S160x384x128 ![] bcast_S_S160x384x128 main_c
  let main_v9 : IVec S160x384x128 32 := andi main_arg5 main_v8
  let main_c_1 : IVec S_ 32 := constantI S_ 32 0#32
  let main_v10 : IVec S160x384x128 32 := broadcastInDim S160x384x128 ![] bcast_S_S160x384x128 main_c_1
  let main_v11 : IVec S160x384x128 1 := cmpi .eq main_v9 main_v10
  let main_c_2 : IVec S_ 32 := constantI S_ 32 128#32
  let main_v12 : IVec S160x384x128 32 := broadcastInDim S160x384x128 ![] bcast_S_S160x384x128 main_c_2
  let main_v13 : IVec S160x384x128 32 := muli main_v12 main_v0
  let main_v14 : IVec S160x384x128 32 := addi main_v13 main_v1
  let main_c_3 : IVec S_ 32 := constantI S_ 32 20000#32
  let main_v15 : IVec S160x384x128 32 := broadcastInDim S160x384x128 ![] bcast_S_S160x384x128 main_c_3
  let main_v16 : IVec S160x384x128 1 := cmpi .slt main_v14 main_v15
  let main_c_4 : IVec S_ 32 := constantI S_ 32 0#32
  fn_part1 (F := F) main_arg5 main_v4 main_v7 main_v11 main_v16 main_c_4
-- ==== Kernel.lean ====
abbrev S1536x192 : Shape := ⟨2, ![1536, 192]⟩
abbrev S1536 : Shape := ⟨1, ![1536]⟩
abbrev S20000x192 : Shape := ⟨2, ![20000, 192]⟩
abbrev S20000 : Shape := ⟨1, ![20000]⟩
abbrev S1537 : Shape := ⟨1, ![1537]⟩
abbrev S160x384x128 : Shape := ⟨3, ![160, 384, 128]⟩
abbrev S_ : Shape := ⟨0, ![]⟩
abbrev S1x1536 : Shape := ⟨2, ![1, 1536]⟩
abbrev S1x20000 : Shape := ⟨2, ![1, 20000]⟩
abbrev S192x1536 : Shape := ⟨2, ![192, 1536]⟩
abbrev S192x20000 : Shape := ⟨2, ![192, 20000]⟩
abbrev S1x20480 : Shape := ⟨2, ![1, 20480]⟩
abbrev S384x1536 : Shape := ⟨2, ![384, 1536]⟩
abbrev S8x384x128 : Shape := ⟨3, ![8, 384, 128]⟩
abbrev S192x1024 : Shape := ⟨2, ![192, 1024]⟩
abbrev S1x1024 : Shape := ⟨2, ![1, 1024]⟩
abbrev S1536x1024 : Shape := ⟨2, ![1536, 1024]⟩
abbrev S576x1536 : Shape := ⟨2, ![576, 1536]⟩
abbrev S1x384x128 : Shape := ⟨3, ![1, 384, 128]⟩
abbrev S384x128 : Shape := ⟨2, ![384, 128]⟩
abbrev S1536x128 : Shape := ⟨2, ![1536, 128]⟩
abbrev S128 : Shape := ⟨1, ![128]⟩
abbrev S1x128 : Shape := ⟨2, ![1, 128]⟩
abbrev S576x1024 : Shape := ⟨2, ![576, 1024]⟩
abbrev S1024 : Shape := ⟨1, ![1024]⟩
abbrev S1152x1024 : Shape := ⟨2, ![1152, 1024]⟩
abbrev S1152x1536 : Shape := ⟨2, ![1152, 1536]⟩

abbrev nBuf : Space → Nat
  | .hbm => 56
  | .vmem => 55
  | .smem => 0
  | _ => 0

abbrev bufTy : (tb : Table) → Fin (tcTables nBuf tb) → BufTy
  | .hbm, ⟨0, _⟩ => ⟨S1536x192, .i8⟩
  | .hbm, ⟨1, _⟩ => ⟨S1536, .f32⟩
  | .hbm, ⟨2, _⟩ => ⟨S20000x192, .i8⟩
  | .hbm, ⟨3, _⟩ => ⟨S20000, .f32⟩
  | .hbm, ⟨4, _⟩ => ⟨S1537, .i32⟩
  | .hbm, ⟨5, _⟩ => ⟨S160x384x128, .i32⟩
  | .hbm, ⟨6, _⟩ => ⟨S1536, .i32⟩
  | .hbm, ⟨7, _⟩ => ⟨S1536, .i32⟩
  | .hbm, ⟨8, _⟩ => ⟨S1536, .i32⟩
  | .hbm, ⟨9, _⟩ => ⟨S1536, .f32⟩
  | .hbm, ⟨10, _⟩ => ⟨S_, .f32⟩
  | .hbm, ⟨11, _⟩ => ⟨S1536, .f32⟩
  | .hbm, ⟨12, _⟩ => ⟨S1536, .i1⟩
  | .hbm, ⟨13, _⟩ => ⟨S1536, .f32⟩
  | .hbm, ⟨14, _⟩ => ⟨S_, .f32⟩
  | .hbm, ⟨15, _⟩ => ⟨S1536, .f32⟩
  | .hbm, ⟨16, _⟩ => ⟨S1536, .f32⟩
  | .hbm, ⟨17, _⟩ => ⟨S_, .f32⟩
  | .hbm, ⟨18, _⟩ => ⟨S_, .f32⟩
  | .hbm, ⟨19, _⟩ => ⟨S1536, .f32⟩
  | .hbm, ⟨20, _⟩ => ⟨S1536, .f32⟩
  | .hbm, ⟨21, _⟩ => ⟨S1x1536, .f32⟩
  | .hbm, ⟨22, _⟩ => ⟨S1x1536, .f32⟩
  | .hbm, ⟨23, _⟩ => ⟨S1x20000, .f32⟩
  | .hbm, ⟨24, _⟩ => ⟨S192x1536, .i8⟩
  | .hbm, ⟨25, _⟩ => ⟨S192x20000, .i8⟩
  | .hbm, ⟨26, _⟩ => ⟨S192x20000, .i8⟩
  | .hbm, ⟨27, _⟩ => ⟨S1x20000, .f32⟩
  | .hbm, ⟨28, _⟩ => ⟨S1x20480, .f32⟩
  | .hbm, ⟨29, _⟩ => ⟨S384x1536, .f32⟩
  | .hbm, ⟨30, _⟩ => ⟨S192x20000, .i8⟩
  | .hbm, ⟨31, _⟩ => ⟨S1x20000, .f32⟩
  | .hbm, ⟨32, _⟩ => ⟨S192x20000, .i8⟩
  | .hbm, ⟨33, _⟩ => ⟨S1x20000, .f32⟩
  | .hbm, ⟨34, _⟩ => ⟨S192x20000, .bf16⟩
  | .hbm, ⟨35, _⟩ => ⟨S192x1536, .i8⟩
  | .hbm, ⟨36, _⟩ => ⟨S1x1536, .f32⟩
  | .hbm, ⟨37, _⟩ => ⟨S192x1536, .i8⟩
  | .hbm, ⟨38, _⟩ => ⟨S1x1536, .f32⟩
  | .hbm, ⟨39, _⟩ => ⟨S192x1536, .i8⟩
  | .hbm, ⟨40, _⟩ => ⟨S1x1536, .f32⟩
  | .hbm, ⟨41, _⟩ => ⟨S192x1536, .bf16⟩
  | .hbm, ⟨42, _⟩ => ⟨S1536x192, .bf16⟩
  | .hbm, ⟨43, _⟩ => ⟨S20000x192, .bf16⟩
  | .hbm, ⟨44, _⟩ => ⟨S1536x192, .i8⟩
  | .hbm, ⟨45, _⟩ => ⟨S1536, .f32⟩
  | .hbm, ⟨46, _⟩ => ⟨S20000x192, .i8⟩
  | .hbm, ⟨47, _⟩ => ⟨S20000, .f32⟩
  | .hbm, ⟨48, _⟩ => ⟨S1536x192, .i8⟩
  | .hbm, ⟨49, _⟩ => ⟨S1536, .f32⟩
  | .hbm, ⟨50, _⟩ => ⟨S20000x192, .i8⟩
  | .hbm, ⟨51, _⟩ => ⟨S20000, .f32⟩
  | .hbm, ⟨52, _⟩ => ⟨S1536x192, .i8⟩
  | .hbm, ⟨53, _⟩ => ⟨S1536, .f32⟩
  | .hbm, ⟨54, _⟩ => ⟨S20000x192, .i8⟩
  | .hbm, ⟨55, _⟩ => ⟨S20000, .f32⟩
  | .local _ .vmem, ⟨0, _⟩ => ⟨S8x384x128, .i32⟩
  | .local _ .vmem, ⟨1, _⟩ => ⟨S8x384x128, .i32⟩
  | .local _ .vmem, ⟨2, _⟩ => ⟨S192x1024, .i8⟩
  | .local _ .vmem, ⟨3, _⟩ => ⟨S192x1024, .i8⟩
  | .local _ .vmem, ⟨4, _⟩ => ⟨S1x1024, .f32⟩
  | .local _ .vmem, ⟨5, _⟩ => ⟨S1x1024, .f32⟩
  | .local _ .vmem, ⟨6, _⟩ => ⟨S192x1536, .i8⟩
  | .local _ .vmem, ⟨7, _⟩ => ⟨S1x1536, .f32⟩
  | .local _ .vmem, ⟨8, _⟩ => ⟨S1x1536, .f32⟩
  | .local _ .vmem, ⟨9, _⟩ => ⟨S192x1024, .i8⟩
  | .local _ .vmem, ⟨10, _⟩ => ⟨S192x1024, .i8⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S384x1536, .f32⟩
  | .local _ .vmem, ⟨16, _⟩ => ⟨S1536x1024, .bf16⟩
  | .local _ .vmem, ⟨17, _⟩ => ⟨S576x1536, .bf16⟩
  | .local _ .vmem, ⟨18, _⟩ => ⟨S8x384x128, .i32⟩
  | .local _ .vmem, ⟨19, _⟩ => ⟨S8x384x128, .i32⟩
  | .local _ .vmem, ⟨20, _⟩ => ⟨S192x1024, .i8⟩
  | .local _ .vmem, ⟨21, _⟩ => ⟨S192x1024, .i8⟩
  | .local _ .vmem, ⟨22, _⟩ => ⟨S1x1024, .f32⟩
  | .local _ .vmem, ⟨23, _⟩ => ⟨S1x1024, .f32⟩
  | .local _ .vmem, ⟨24, _⟩ => ⟨S192x1024, .i8⟩
  | .local _ .vmem, ⟨25, _⟩ => ⟨S192x1024, .i8⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S384x1536, .f32⟩
  | .local _ .vmem, ⟨31, _⟩ => ⟨S192x1536, .i8⟩
  | .local _ .vmem, ⟨32, _⟩ => ⟨S1x1536, .f32⟩
  | .local _ .vmem, ⟨33, _⟩ => ⟨S1x1536, .f32⟩
  | .local _ .vmem, ⟨34, _⟩ => ⟨S192x1024, .i8⟩
  | .local _ .vmem, ⟨35, _⟩ => ⟨S192x1024, .i8⟩
  | .local _ .vmem, ⟨36, _⟩ => ⟨S1x1024, .f32⟩
  | .local _ .vmem, ⟨37, _⟩ => ⟨S1x1024, .f32⟩
  | .local _ .vmem, ⟨38, _⟩ => ⟨S192x1024, .i8⟩
  | .local _ .vmem, ⟨39, _⟩ => ⟨S192x1024, .i8⟩
  | .local _ .vmem, ⟨40, _⟩ => ⟨S1x1024, .f32⟩
  | .local _ .vmem, ⟨41, _⟩ => ⟨S1x1024, .f32⟩
  | .local _ .vmem, ⟨42, _⟩ => ⟨S192x1024, .bf16⟩
  | .local _ .vmem, ⟨43, _⟩ => ⟨S192x1024, .bf16⟩
  | .local _ .vmem, ⟨44, _⟩ => ⟨S192x1536, .i8⟩
  | .local _ .vmem, ⟨45, _⟩ => ⟨S1x1536, .f32⟩
  | .local _ .vmem, ⟨46, _⟩ => ⟨S192x1536, .i8⟩
  | .local _ .vmem, ⟨47, _⟩ => ⟨S1x1536, .f32⟩
  | .local _ .vmem, ⟨48, _⟩ => ⟨S192x1536, .i8⟩
  | .local _ .vmem, ⟨49, _⟩ => ⟨S1x1536, .f32⟩
  | .local _ .vmem, ⟨50, _⟩ => ⟨S192x1536, .bf16⟩
  | .local _ .vmem, ⟨51, _⟩ => ⟨S1536x1024, .bf16⟩
  | .local _ .vmem, ⟨52, _⟩ => ⟨S1152x1536, .bf16⟩
  | .local _ .vmem, ⟨53, _⟩ => ⟨S192x1536, .f32⟩
  | .local _ .vmem, ⟨54, _⟩ => ⟨S192x1536, .f32⟩
  | _, _ => ⟨S1536x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v14_6 : Ref sig .tc := ⟨.hbm, 36, rfl⟩
abbrev main_v14_7 : Ref sig .tc := ⟨.hbm, 37, rfl⟩
abbrev main_v14_8 : Ref sig .tc := ⟨.hbm, 38, rfl⟩
abbrev main_v14_9 : Ref sig .tc := ⟨.hbm, 39, rfl⟩
abbrev main_v14_10 : Ref sig .tc := ⟨.hbm, 40, rfl⟩
abbrev main_v14_11 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc1_stg15_0 : Ref sig .tc := ⟨.vmem, 44, rfl⟩
abbrev cc1_stg16_0 : Ref sig .tc := ⟨.vmem, 45, rfl⟩
abbrev cc1_stg17_0 : Ref sig .tc := ⟨.vmem, 46, rfl⟩
abbrev cc1_stg18_0 : Ref sig .tc := ⟨.vmem, 47, rfl⟩
abbrev cc1_stg19_0 : Ref sig .tc := ⟨.vmem, 48, rfl⟩
abbrev cc1_stg20_0 : Ref sig .tc := ⟨.vmem, 49, rfl⟩
abbrev cc1_stg21_0 : Ref sig .tc := ⟨.vmem, 50, rfl⟩
abbrev cc1_scratch0 : Ref sig .tc := ⟨.vmem, 51, rfl⟩
abbrev cc1_scratch1 : Ref sig .tc := ⟨.vmem, 52, rfl⟩
abbrev cc1_scratch2 : Ref sig .tc := ⟨.vmem, 53, rfl⟩
abbrev cc1_scratch3 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38
abbrev cc1_sem13_1 : DmaSem sig := 39
abbrev cc1_sem14_0 : DmaSem sig := 40
abbrev cc1_sem14_1 : DmaSem sig := 41
abbrev cc1_sem15_0 : DmaSem sig := 42
abbrev cc1_sem16_0 : DmaSem sig := 43
abbrev cc1_sem17_0 : DmaSem sig := 44
abbrev cc1_sem18_0 : DmaSem sig := 45
abbrev cc1_sem19_0 : DmaSem sig := 46
abbrev cc1_sem20_0 : DmaSem sig := 47
abbrev cc1_sem21_0 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x384x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S192x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S384x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![20], ![false]⟩

def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k1_cond2 (i : grid1.Coords) : BitVec 1 :=
  let arg0 : BitVec 32 := BitVec.ofNat 32 (i 0).val
  let c19_i32 : BitVec 32 := 19#32
  let v165 : BitVec 1 := Scalar.cmpi .eq arg0 c19_i32
  let v166 : BitVec 32 := Scalar.extui v165
  let c0_i32_70 : BitVec 32 := 0#32
  let v167 : BitVec 1 := Scalar.cmpi .ne v166 c0_i32_70
  v167

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x384x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S192x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S192x1024 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S384x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S192x1536 .i8 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1536 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1536 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S192x1024 .i8 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S192x1024 .i8 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S192x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S192x1536 .i8 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1536 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S192x1536 .i8 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1536 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S192x1536 .i8 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1536 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S192x1536 .bf16 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]
-- ==== ReferenceIdeal.lean ====
abbrev S1536x192 : Shape := ⟨2, ![1536, 192]⟩
abbrev S1536 : Shape := ⟨1, ![1536]⟩
abbrev S20000x192 : Shape := ⟨2, ![20000, 192]⟩
abbrev S20000 : Shape := ⟨1, ![20000]⟩
abbrev S1537 : Shape := ⟨1, ![1537]⟩
abbrev S160x384x128 : Shape := ⟨3, ![160, 384, 128]⟩
abbrev S_ : Shape := ⟨0, ![]⟩
abbrev S1x160x384x128 : Shape := ⟨4, ![1, 160, 384, 128]⟩
abbrev S4x160x384x128 : Shape := ⟨4, ![4, 160, 384, 128]⟩
abbrev S384x4x160x128 : Shape := ⟨4, ![384, 4, 160, 128]⟩
abbrev S1536x20480 : Shape := ⟨2, ![1536, 20480]⟩
abbrev S1536x20000 : Shape := ⟨2, ![1536, 20000]⟩
abbrev S1536x1 : Shape := ⟨2, ![1536, 1]⟩
abbrev S1x20000 : Shape := ⟨2, ![1, 20000]⟩
abbrev S20000x1 : Shape := ⟨2, ![20000, 1]⟩

abbrev nBuf : Space → Nat
  | .hbm => 82
  | .vmem => 19
  | .smem => 0
  | _ => 0

abbrev bufTy : (tb : Table) → Fin (tcTables nBuf tb) → BufTy
  | .hbm, ⟨0, _⟩ => ⟨S1536x192, .i8⟩
  | .hbm, ⟨1, _⟩ => ⟨S1536, .f32⟩
  | .hbm, ⟨2, _⟩ => ⟨S20000x192, .i8⟩
  | .hbm, ⟨3, _⟩ => ⟨S20000, .f32⟩
  | .hbm, ⟨4, _⟩ => ⟨S1537, .i32⟩
  | .hbm, ⟨5, _⟩ => ⟨S160x384x128, .i32⟩
  | .hbm, ⟨6, _⟩ => ⟨S_, .i32⟩
  | .hbm, ⟨7, _⟩ => ⟨S160x384x128, .i32⟩
  | .hbm, ⟨8, _⟩ => ⟨S160x384x128, .i32⟩
  | .hbm, ⟨9, _⟩ => ⟨S_, .i32⟩
  | .hbm, ⟨10, _⟩ => ⟨S160x384x128, .i32⟩
  | .hbm, ⟨11, _⟩ => ⟨S160x384x128, .i32⟩
  | .hbm, ⟨12, _⟩ => ⟨S_, .i32⟩
  | .hbm, ⟨13, _⟩ => ⟨S160x384x128, .i32⟩
  | .hbm, ⟨14, _⟩ => ⟨S160x384x128, .i32⟩
  | .hbm, ⟨15, _⟩ => ⟨S_, .i32⟩
  | .hbm, ⟨16, _⟩ => ⟨S160x384x128, .i32⟩
  | .hbm, ⟨17, _⟩ => ⟨S160x384x128, .i32⟩
  | .hbm, ⟨18, _⟩ => ⟨S_, .i32⟩
  | .hbm, ⟨19, _⟩ => ⟨S160x384x128, .i32⟩
  | .hbm, ⟨20, _⟩ => ⟨S160x384x128, .i32⟩
  | .hbm, ⟨21, _⟩ => ⟨S_, .i32⟩
  | .hbm, ⟨22, _⟩ => ⟨S160x384x128, .i32⟩
  | .hbm, ⟨23, _⟩ => ⟨S160x384x128, .i32⟩
  | .hbm, ⟨24, _⟩ => ⟨S_, .i32⟩
  | .hbm, ⟨25, _⟩ => ⟨S160x384x128, .i32⟩
  | .hbm, ⟨26, _⟩ => ⟨S160x384x128, .i32⟩
  | .hbm, ⟨27, _⟩ => ⟨S_, .i32⟩
  | .hbm, ⟨28, _⟩ => ⟨S160x384x128, .i32⟩
  | .hbm, ⟨29, _⟩ => ⟨S160x384x128, .i32⟩
  | .hbm, ⟨30, _⟩ => ⟨S1x160x384x128, .i32⟩
  | .hbm, ⟨31, _⟩ => ⟨S1x160x384x128, .i32⟩
  | .hbm, ⟨32, _⟩ => ⟨S1x160x384x128, .i32⟩
  | .hbm, ⟨33, _⟩ => ⟨S1x160x384x128, .i32⟩
  | .hbm, ⟨34, _⟩ => ⟨S4x160x384x128, .i32⟩
  | .hbm, ⟨35, _⟩ => ⟨S384x4x160x128, .i32⟩
  | .hbm, ⟨36, _⟩ => ⟨S1536x20480, .i32⟩
  | .hbm, ⟨37, _⟩ => ⟨S1536x20000, .i32⟩
  | .hbm, ⟨38, _⟩ => ⟨S1536x20000, .f32⟩
  | .hbm, ⟨39, _⟩ => ⟨S1536, .i32⟩
  | .hbm, ⟨40, _⟩ => ⟨S1536, .i32⟩
  | .hbm, ⟨41, _⟩ => ⟨S1536, .i32⟩
  | .hbm, ⟨42, _⟩ => ⟨S1536, .f32⟩
  | .hbm, ⟨43, _⟩ => ⟨S1536x1, .f32⟩
  | .hbm, ⟨44, _⟩ => ⟨S_, .f32⟩
  | .hbm, ⟨45, _⟩ => ⟨S20000, .f32⟩
  | .hbm, ⟨46, _⟩ => ⟨S1x20000, .f32⟩
  | .hbm, ⟨47, _⟩ => ⟨S_, .f32⟩
  | .hbm, ⟨48, _⟩ => ⟨S1536x1, .f32⟩
  | .hbm, ⟨49, _⟩ => ⟨S1536x1, .i1⟩
  | .hbm, ⟨50, _⟩ => ⟨S_, .f32⟩
  | .hbm, ⟨51, _⟩ => ⟨S1x20000, .f32⟩
  | .hbm, ⟨52, _⟩ => ⟨S1x20000, .i1⟩
  | .hbm, ⟨53, _⟩ => ⟨S1536x20000, .i1⟩
  | .hbm, ⟨54, _⟩ => ⟨S1536x20000, .i1⟩
  | .hbm, ⟨55, _⟩ => ⟨S1536x20000, .i1⟩
  | .hbm, ⟨56, _⟩ => ⟨S1536x20000, .f32⟩
  | .hbm, ⟨57, _⟩ => ⟨S1536x20000, .f32⟩
  | .hbm, ⟨58, _⟩ => ⟨S1536x20000, .f32⟩
  | .hbm, ⟨59, _⟩ => ⟨S1536x20000, .f32⟩
  | .hbm, ⟨60, _⟩ => ⟨S_, .f32⟩
  | .hbm, ⟨61, _⟩ => ⟨S1536x20000, .f32⟩
  | .hbm, ⟨62, _⟩ => ⟨S1536x20000, .f32⟩
  | .hbm, ⟨63, _⟩ => ⟨S_, .f32⟩
  | .hbm, ⟨64, _⟩ => ⟨S_, .f32⟩
  | .hbm, ⟨65, _⟩ => ⟨S1536x20000, .f32⟩
  | .hbm, ⟨66, _⟩ => ⟨S1536x20000, .f32⟩
  | .hbm, ⟨67, _⟩ => ⟨S1536x20000, .f32⟩
  | .hbm, ⟨68, _⟩ => ⟨S1536x192, .bf16⟩
  | .hbm, ⟨69, _⟩ => ⟨S20000x192, .bf16⟩
  | .hbm, ⟨70, _⟩ => ⟨S1536x192, .i8⟩
  | .hbm, ⟨71, _⟩ => ⟨S1536, .f32⟩
  | .hbm, ⟨72, _⟩ => ⟨S20000x192, .i8⟩
  | .hbm, ⟨73, _⟩ => ⟨S20000, .f32⟩
  | .hbm, ⟨74, _⟩ => ⟨S1536x192, .i8⟩
  | .hbm, ⟨75, _⟩ => ⟨S1536, .f32⟩
  | .hbm, ⟨76, _⟩ => ⟨S20000x192, .i8⟩
  | .hbm, ⟨77, _⟩ => ⟨S20000, .f32⟩
  | .hbm, ⟨78, _⟩ => ⟨S1536x192, .i8⟩
  | .hbm, ⟨79, _⟩ => ⟨S1536, .f32⟩
  | .hbm, ⟨80, _⟩ => ⟨S20000x192, .i8⟩
  | .hbm, ⟨81, _⟩ => ⟨S20000, .f32⟩
  | .local _ .vmem, ⟨0, _⟩ => ⟨S1536x20000, .f32⟩
  | .local _ .vmem, ⟨1, _⟩ => ⟨S1536x192, .i8⟩
  | .local _ .vmem, ⟨2, _⟩ => ⟨S1536, .f32⟩
  | .local _ .vmem, ⟨3, _⟩ => ⟨S20000x192, .i8⟩
  | .local _ .vmem, ⟨4, _⟩ => ⟨S20000, .f32⟩
  | .local _ .vmem, ⟨5, _⟩ => ⟨S1536x192, .bf16⟩
  | .local _ .vmem, ⟨6, _⟩ => ⟨S20000x192, .bf16⟩
  | .local _ .vmem, ⟨7, _⟩ => ⟨S1536x192, .i8⟩
  | .local _ .vmem, ⟨8, _⟩ => ⟨S1536, .f32⟩
  | .local _ .vmem, ⟨9, _⟩ => ⟨S20000x192, .i8⟩
  | .local _ .vmem, ⟨10, _⟩ => ⟨S20000, .f32⟩
  | .local _ .vmem, ⟨11, _⟩ => ⟨S1536x192, .i8⟩
  | .local _ .vmem, ⟨12, _⟩ => ⟨S1536, .f32⟩
  | .local _ .vmem, ⟨13, _⟩ => ⟨S20000x192, .i8⟩
  | .local _ .vmem, ⟨14, _⟩ => ⟨S20000, .f32⟩
  | .local _ .vmem, ⟨15, _⟩ => ⟨S1536x192, .i8⟩
  | .local _ .vmem, ⟨16, _⟩ => ⟨S1536, .f32⟩
  | .local _ .vmem, ⟨17, _⟩ => ⟨S20000x192, .i8⟩
  | .local _ .vmem, ⟨18, _⟩ => ⟨S20000, .f32⟩
  | _, _ => ⟨S1536x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev main_v45_2 : Ref sig .tc := ⟨.hbm, 70, rfl⟩
abbrev main_v45_3 : Ref sig .tc := ⟨.hbm, 71, rfl⟩
abbrev main_v45_4 : Ref sig .tc := ⟨.hbm, 72, rfl⟩
abbrev main_v45_5 : Ref sig .tc := ⟨.hbm, 73, rfl⟩
abbrev main_v45_6 : Ref sig .tc := ⟨.hbm, 74, rfl⟩
abbrev main_v45_7 : Ref sig .tc := ⟨.hbm, 75, rfl⟩
abbrev main_v45_8 : Ref sig .tc := ⟨.hbm, 76, rfl⟩
abbrev main_v45_9 : Ref sig .tc := ⟨.hbm, 77, rfl⟩
abbrev main_v45_10 : Ref sig .tc := ⟨.hbm, 78, rfl⟩
abbrev main_v45_11 : Ref sig .tc := ⟨.hbm, 79, rfl⟩
abbrev main_v45_12 : Ref sig .tc := ⟨.hbm, 80, rfl⟩
abbrev main_v45_13 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1536x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20000x192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20000x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x192 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20000x192 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x192 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S20000x192 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S20000 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536x192 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S20000x192 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S20000 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Body0.lean ====
module

public import proofs.«01_k».proof.Proof.Gen.Kernel.Skeleton
public import proofs.«01_k».proof.Proof.Gen.Kernel.Points
public import proofs.«01_k».proof.Proof.Gen.Kernel.Launch
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-! ## What one call computes, as functions of what its buffers hold -/

/-- Tile 0 of the block of packed counts. -/
abbrev w0 (x1 : Vec F S8x384x128 .i32) : Vec F S1x384x128 .i32 := View.ld x1 (Rect.unit (s := S8x384x128) ![0, 0, 0] S1x384x128.size inb_S8x384x128_S1x384x128_0_0_0)
/-- Tile 1 of the block of packed counts. -/
abbrev w1 (x1 : Vec F S8x384x128 .i32) : Vec F S1x384x128 .i32 := View.ld x1 (Rect.unit (s := S8x384x128) ![1, 0, 0] S1x384x128.size inb_S8x384x128_S1x384x128_1_0_0)
/-- Tile 2 of the block of packed counts. -/
abbrev w2 (x1 : Vec F S8x384x128 .i32) : Vec F S1x384x128 .i32 := View.ld x1 (Rect.unit (s := S8x384x128) ![2, 0, 0] S1x384x128.size inb_S8x384x128_S1x384x128_2_0_0)
/-- Tile 3 of the block of packed counts. -/
abbrev w3 (x1 : Vec F S8x384x128 .i32) : Vec F S1x384x128 .i32 := View.ld x1 (Rect.unit (s := S8x384x128) ![3, 0, 0] S1x384x128.size inb_S8x384x128_S1x384x128_3_0_0)
/-- Tile 4 of the block of packed counts. -/
abbrev w4 (x1 : Vec F S8x384x128 .i32) : Vec F S1x384x128 .i32 := View.ld x1 (Rect.unit (s := S8x384x128) ![4, 0, 0] S1x384x128.size inb_S8x384x128_S1x384x128_4_0_0)
/-- Tile 5 of the block of packed counts. -/
abbrev w5 (x1 : Vec F S8x384x128 .i32) : Vec F S1x384x128 .i32 := View.ld x1 (Rect.unit (s := S8x384x128) ![5, 0, 0] S1x384x128.size inb_S8x384x128_S1x384x128_5_0_0)
/-- Tile 6 of the block of packed counts. -/
abbrev w6 (x1 : Vec F S8x384x128 .i32) : Vec F S1x384x128 .i32 := View.ld x1 (Rect.unit (s := S8x384x128) ![6, 0, 0] S1x384x128.size inb_S8x384x128_S1x384x128_6_0_0)
/-- Tile 7 of the block of packed counts. -/
abbrev w7 (x1 : Vec F S8x384x128 .i32) : Vec F S1x384x128 .i32 := View.ld x1 (Rect.unit (s := S8x384x128) ![7, 0, 0] S1x384x128.size inb_S8x384x128_S1x384x128_7_0_0)

/-- The block's counts, unpacked: 1536 users by 1024 items. -/
def aM (x1 : Vec F S8x384x128 .i32) : Vec F S1536x1024 .bf16 := View.canon [
  ⟨Rect.unit (s := S1536x1024) ![0, 896] S1536x128.size inb_S1536x1024_S1536x128_0_896, k0_pay6 (w7 x1)⟩,
  ⟨Rect.unit (s := S1536x1024) ![0, 768] S1536x128.size inb_S1536x1024_S1536x128_0_768, k0_pay6 (w6 x1)⟩,
  ⟨Rect.unit (s := S1536x1024) ![0, 640] S1536x128.size inb_S1536x1024_S1536x128_0_640, k0_pay6 (w5 x1)⟩,
  ⟨Rect.unit (s := S1536x1024) ![0, 512] S1536x128.size inb_S1536x1024_S1536x128_0_512, k0_pay6 (w4 x1)⟩,
  ⟨Rect.unit (s := S1536x1024) ![0, 384] S1536x128.size inb_S1536x1024_S1536x128_0_384, k0_pay6 (w3 x1)⟩,
  ⟨Rect.unit (s := S1536x1024) ![0, 256] S1536x128.size inb_S1536x1024_S1536x128_0_256, k0_pay6 (w2 x1)⟩,
  ⟨Rect.unit (s := S1536x1024) ![0, 128] S1536x128.size inb_S1536x1024_S1536x128_0_128, k0_pay6 (w1 x1)⟩,
  ⟨Rect.unit (s := S1536x1024) ![0, 0] S1536x128.size inb_S1536x1024_S1536x128_0_0, k0_pay6 (w0 x1)⟩]

/-- The degrees of one tile's items, as the packed sums give them. -/
def deg (w : Vec F S1x384x128 .i32) : IVec S1x128 32 := k0_pay16 (k0_pay14 w) (k0_pay15 w)

/-- The inverse square roots of the block's item degrees. -/
def rdi (x1 : Vec F S8x384x128 .i32) : FVec F S1x1024 .f32 :=
  k0_pay39 (deg (w0 x1)) (deg (w1 x1)) (deg (w2 x1)) (deg (w3 x1)) (deg (w4 x1)) (deg (w5 x1)) (deg (w6 x1)) (k0_pay36 (w7 x1)) (k0_pay37 (w7 x1)) k0_pay38

/-- The block's new item vectors before quantisation. -/
def i1 (x1 : Vec F S8x384x128 .i32) (V : Vec F S576x1536 .bf16) : FVec F S192x1024 .f32 :=
  k0_pay40 (deg (w0 x1)) (deg (w1 x1)) (deg (w2 x1)) (deg (w3 x1)) (deg (w4 x1)) (deg (w5 x1)) (deg (w6 x1)) (k0_pay36 (w7 x1)) (k0_pay37 (w7 x1)) k0_pay38 (aM x1) V

/-- Where an item's largest magnitude is zero. -/
def z1 (x1 : Vec F S8x384x128 .i32) (V : Vec F S576x1536 .bf16) : IVec S1x1024 1 :=
  k0_pay42 (deg (w0 x1)) (deg (w1 x1)) (deg (w2 x1)) (deg (w3 x1)) (deg (w4 x1)) (deg (w5 x1)) (deg (w6 x1)) (k0_pay36 (w7 x1)) (k0_pay37 (w7 x1)) k0_pay38 (aM x1) V

/-- The largest magnitudes over 127. -/
def m1 (x1 : Vec F S8x384x128 .i32) (V : Vec F S576x1536 .bf16) : FVec F S1x1024 .f32 :=
  k0_pay43 (deg (w0 x1)) (deg (w1 x1)) (deg (w2 x1)) (deg (w3 x1)) (deg (w4 x1)) (deg (w5 x1)) (deg (w6 x1)) (k0_pay36 (w7 x1)) (k0_pay37 (w7 x1)) k0_pay38 (aM x1) V

/-- The two groups of item terms that the users gather. -/
def v1 (x1 : Vec F S8x384x128 .i32) (x2 : Vec F S192x1024 .i8) (x3 : Vec F S1x1024 .f32) (V : Vec F S576x1536 .bf16) : FVec F S1152x1024 .bf16 :=
  k0_pay47 (rdi x1) (i1 x1 V) (z1 x1 V) (m1 x1 V) x3 x2

/-- The codes of the block's items. -/
def o7 (x1 : Vec F S8x384x128 .i32) (V : Vec F S576x1536 .bf16) : Vec F S192x1024 .i8 := k0_pay46 (i1 x1 V) (z1 x1 V) (m1 x1 V)
/-- The scales of the block's items. -/
def o8 (x1 : Vec F S8x384x128 .i32) (V : Vec F S576x1536 .bf16) : Vec F S1x1024 .f32 := k0_pay44 (z1 x1 V) (m1 x1 V)
/-- The user sums after the block, over the sums `G` before it. -/
def o10 (x1 : Vec F S8x384x128 .i32) (x2 : Vec F S192x1024 .i8) (x3 : Vec F S1x1024 .f32) (V : Vec F S576x1536 .bf16) (G : Vec F S384x1536 .f32) : Vec F S384x1536 .f32 :=
  View.canon [⟨Rect.unit (s := S384x1536) ![192, 0] S192x1536.size inb_S384x1536_S192x1536_192_0, k0_pay3 (aM x1) (v1 x1 x2 x3 V) (constant S1152x1536 .f32 0x00000000#32)
      (View.ld G (Rect.unit (s := S384x1536) ![192, 0] S192x1536.size inb_S384x1536_S192x1536_192_0))⟩,
    ⟨Rect.unit (s := S384x1536) ![0, 0] S192x1536.size inb_S384x1536_S192x1536_0_0, k0_pay2 (aM x1) (v1 x1 x2 x3 V) (constant S1152x1536 .f32 0x00000000#32)
      (View.ld G (Rect.unit (s := S384x1536) ![0, 0] S192x1536.size inb_S384x1536_S192x1536_0_0))⟩]

/-- The first point of the grid. -/
abbrev first (i : grid0.Coords) : Prop := Scalar.cmpi .ne (Scalar.extui (Scalar.cmpi .eq (BitVec.ofNat 32 (i 0).val) 0#32)) 0#32 = 1#1
/-- The user terms the body computes with: fresh at the first point, kept at the others. -/
def vNew (i : grid0.Coords) (x4 : Vec F S192x1536 .i8) (x5 x6 : Vec F S1x1536 .f32) (x12 : Vec F S576x1536 .bf16) : Vec F S576x1536 .bf16 :=
  if first i then k0_pay4 x4 x5 x6 else x12
/-- The user sums before the block: zero at the first point, kept at the others. -/
def gNew (i : grid0.Coords) (x10 : Vec F S384x1536 .f32) : Vec F S384x1536 .f32 := if first i then k0_pay5 else x10

theorem owns_of_read (c : Thread nD τ) {sp : Space} {sh : Shape} {e : EltTy} (m : Memref sig c.2.kind sp sh e) (q : PosShare TreeShare)
    (f : m.view.ty.Contents (Elt F)) {X : sh.Idx → Elt F e} (h : m.view.read (Elt F) f = X) : (m.view.loc c ↦[m.view.set]{q} f : sProp 𝕄) ⊢ iprop(∃ g, ⌜m.view.read (Elt F) g = X⌝ ∗ (m.view.loc c ↦[m.view.set]{q} g)) := by
  subst h; exact owns_intro c m q f

theorem readCov_whole {sp : Space} {S : Shape} {e : EltTy} (v : View sig .tc sp S e) (L : List (View.Piece (Elt F) S e))
    {off : Fin S.rank → ℕ} (inb : ∀ a, off a + S.size a ≤ S.size a) :
    v.readCov L (Rect.unit off S.size inb).toLoadRect = View.canon L := by
  rw [View.readCov_eq_canon']
  funext y
  exact congrArg (View.canon L) (funext fun a => Fin.ext (by
    show off a + 1 * (y a).val = (y a).val
    have := inb a; omega))

theorem cover_aM (p0 p1 p2 p3 p4 p5 p6 p7 : S1536x128.Idx → Elt F .bf16) (y : S1536x1024.Idx) : ∃ p ∈ ([
  ⟨Rect.unit (s := S1536x1024) ![0, 896] S1536x128.size inb_S1536x1024_S1536x128_0_896, p7⟩,
  ⟨Rect.unit (s := S1536x1024) ![0, 768] S1536x128.size inb_S1536x1024_S1536x128_0_768, p6⟩,
  ⟨Rect.unit (s := S1536x1024) ![0, 640] S1536x128.size inb_S1536x1024_S1536x128_0_640, p5⟩,
  ⟨Rect.unit (s := S1536x1024) ![0, 512] S1536x128.size inb_S1536x1024_S1536x128_0_512, p4⟩,
  ⟨Rect.unit (s := S1536x1024) ![0, 384] S1536x128.size inb_S1536x1024_S1536x128_0_384, p3⟩,
  ⟨Rect.unit (s := S1536x1024) ![0, 256] S1536x128.size inb_S1536x1024_S1536x128_0_256, p2⟩,
  ⟨Rect.unit (s := S1536x1024) ![0, 128] S1536x128.size inb_S1536x1024_S1536x128_0_128, p1⟩,
  ⟨Rect.unit (s := S1536x1024) ![0, 0] S1536x128.size inb_S1536x1024_S1536x128_0_0, p0⟩] : List (View.Piece (Elt F) S1536x1024 .bf16)), y ∈ p.1.set := by
  have h0 : (y 0).val < 1536 := (y 0).isLt
  have h1 : (y 1).val < 1024 := (y 1).isLt
  simp only [List.exists_mem_cons_iff, Rect.mem_set_unit]
  have k : ∀ o : Nat, o ≤ (y 1).val → (y 1).val < o + 128 → ∀ a : Fin 2, (![0, o] : Fin 2 → Nat) a ≤ (y a).val ∧ (y a).val < (![0, o] : Fin 2 → Nat) a + S1536x128.size a := by
    intro o ho ho' a
    match a with
    | ⟨0, _⟩ => exact ⟨Nat.zero_le _, by show (y 0).val < 0 + 1536; omega⟩
    | ⟨1, _⟩ => exact ⟨ho, ho'⟩
  by_cases e7 : 896 ≤ (y 1).val
  · exact Or.inl (k 896 e7 (by omega))
  by_cases e6 : 768 ≤ (y 1).val
  · exact Or.inr (Or.inl (k 768 e6 (by omega)))
  by_cases e5 : 640 ≤ (y 1).val
  · exact Or.inr (Or.inr (Or.inl (k 640 e5 (by omega))))
  by_cases e4 : 512 ≤ (y 1).val
  · exact Or.inr (Or.inr (Or.inr (Or.inl (k 512 e4 (by omega)))))
  by_cases e3 : 384 ≤ (y 1).val
  · exact Or.inr (Or.inr (Or.inr (Or.inr (Or.inl (k 384 e3 (by omega))))))
  by_cases e2 : 256 ≤ (y 1).val
  · exact Or.inr (Or.inr (Or.inr (Or.inr (Or.inr (Or.inl (k 256 e2 (by omega)))))))
  by_cases e1 : 128 ≤ (y 1).val
  · exact Or.inr (Or.inr (Or.inr (Or.inr (Or.inr (Or.inr (Or.inl (k 128 e1 (by omega))))))))
  exact Or.inr (Or.inr (Or.inr (Or.inr (Or.inr (Or.inr (Or.inr (Or.inl (k 0 (Nat.zero_le _) (by omega)))))))))

theorem cover_g (p0 p1 : S192x1536.Idx → Elt F .f32) (y : S384x1536.Idx) : ∃ p ∈ ([⟨Rect.unit (s := S384x1536) ![192, 0] S192x1536.size inb_S384x1536_S192x1536_192_0, p1⟩,
    ⟨Rect.unit (s := S384x1536) ![0, 0] S192x1536.size inb_S384x1536_S192x1536_0_0, p0⟩] : List (View.Piece (Elt F) S384x1536 .f32)), y ∈ p.1.set := by
  have h0 : (y 0).val < 384 := (y 0).isLt
  have h1 : (y 1).val < 1536 := (y 1).isLt
  simp only [List.exists_mem_cons_iff, Rect.mem_set_unit]
  have k : ∀ o : Nat, o ≤ (y 0).val → (y 0).val < o + 192 → ∀ a : Fin 2, (![o, 0] : Fin 2 → Nat) a ≤ (y a).val ∧ (y a).val < (![o, 0] : Fin 2 → Nat) a + S192x1536.size a := by
    intro o ho ho' a
    match a with
    | ⟨0, _⟩ => exact ⟨ho, ho'⟩
    | ⟨1, _⟩ => exact ⟨Nat.zero_le _, by show (y 1).val < 0 + 1536; omega⟩
  by_cases e : 192 ≤ (y 0).val
  · exact Or.inl (k 192 e (by omega))
  · exact Or.inr (Or.inl (k 0 (Nat.zero_le _) (by omega)))

/-- The body of the first pass, whole buffers in and out. -/
theorem run1 (c : Dev nD) (i : grid0.Coords) (arg1 : Memref sig .tc .vmem S8x384x128 .i32) (harg1 : arg1.IsWhole) (arg2 : Memref sig .tc .vmem S192x1024 .i8) (harg2 : arg2.IsWhole) (arg3 : Memref sig .tc .vmem S1x1024 .f32) (harg3 : arg3.IsWhole) (arg4 : Memref sig .tc .vmem S192x1536 .i8) (harg4 : arg4.IsWhole) (arg5 : Memref sig .tc .vmem S1x1536 .f32) (harg5 : arg5.IsWhole) (arg6 : Memref sig .tc .vmem S1x1536 .f32) (harg6 : arg6.IsWhole) (arg7 : Memref sig .tc .vmem S192x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S384x1536 .f32) (harg10 : arg10.IsWhole) (arg11 : Memref sig .tc .vmem S1536x1024 .bf16) (harg11 : arg11.IsWhole) (arg12 : Memref sig .tc .vmem S576x1536 .bf16) (harg12 : arg12.IsWhole)
   (x1 : Vec F S8x384x128 .i32) (x2 : Vec F S192x1024 .i8) (x3 : Vec F S1x1024 .f32) (x4 : Vec F S192x1536 .i8) (x5 : Vec F S1x1536 .f32) (x6 : Vec F S1x1536 .f32) (x7 : Vec F S192x1024 .i8) (x8 : Vec F S1x1024 .f32) (x9 : Vec F S1x1024 .f32) (x10 : Vec F S384x1536 .f32) (x11 : Vec F S1536x1024 .bf16) (x12 : Vec F S576x1536 .bf16)
   (Y : sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ (owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare (o7 x1 (vNew i x4 x5 x6 x12))
        ∗ owns (c : Thread nD τ) arg8 fullShare (o8 x1 (vNew i x4 x5 x6 x12))
        ∗ owns (c : Thread nD τ) arg9 fullShare (rdi x1)
        ∗ owns (c : Thread nD τ) arg10 fullShare (o10 x1 x2 x3 (vNew i x4 x5 x6 x12) (gNew i x10))
        ∗ owns (c : Thread nD τ) arg11 fullShare (aM x1)
        ∗ owns (c : Thread nD τ) arg12 fullShare (vNew i x4 x5 x6 x12) -∗ Y))
      ⊢ wp frame (wpE (defs₀ (F := F)) Variants.none c none) Set.univ
          (cc0_pass1 i arg1 harg1 arg2 harg2 arg3 harg3 arg4 harg4 arg5 harg5 arg6 harg6 arg7 harg7 arg8 harg8 arg9 harg9 arg10 harg10 arg11 harg11 arg12 harg12) (fun _ => Y) := by
  sl_unfold [cc0_pass1, k0_part1, k0_part2, k0_part3, k0_part4, k0_part5, k0_part6, k0_part7, k0_part8, k0_part9]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HK⟩
  sl_exec
  sl_step
  iapply HK
  have eV : run1.sl.v286 c i arg4 arg5 arg6 arg12 f4 f5 f6 f12 = vNew i x4 x5 x6 x12 := by
    subst hf4 hf5 hf6 hf12
    delta run1.sl.v286 run1.sl.v2 run1.sl.v1 run1.sl.v0 vNew
    split
    · rename_i hc
      (try rw [if_pos hc])
      rw [View.readAt_full, View.read_writes_full, View.readAt_full, View.readAt_full, View.readAt_full]
    · rename_i hc
      (try rw [if_neg hc])
      rw [View.readAt_full]
  have e85 : run1.sl.v85 c arg1 f1 = deg (w0 x1) := by subst hf1; rfl
  have e112 : run1.sl.v112 c arg1 f1 = deg (w1 x1) := by subst hf1; rfl
  have e139 : run1.sl.v139 c arg1 f1 = deg (w2 x1) := by subst hf1; rfl
  have e166 : run1.sl.v166 c arg1 f1 = deg (w3 x1) := by subst hf1; rfl
  have e193 : run1.sl.v193 c arg1 f1 = deg (w4 x1) := by subst hf1; rfl
  have e220 : run1.sl.v220 c arg1 f1 = deg (w5 x1) := by subst hf1; rfl
  have e247 : run1.sl.v247 c arg1 f1 = deg (w6 x1) := by subst hf1; rfl
  have e253 : run1.sl.v253 c arg1 f1 = k0_pay36 (w7 x1) := by subst hf1; rfl
  have e259 : run1.sl.v259 c arg1 f1 = k0_pay37 (w7 x1) := by subst hf1; rfl
  have e71 : run1.sl.v71 = k0_pay38 := rfl
  have eL : View.canon (run1.sl.H11_8 c arg1 f1) = aM x1 := by subst hf1; rfl
  have eA : run1.sl.v285 c arg1 arg11 f1 = aM x1 := (readCov_whole _ _ _).trans eL
  have er2 : run1.sl.r_2 c arg1 f1 = rdi x1 := by
    delta run1.sl.r_2 rdi; rw [e85, e112, e139, e166, e193, e220, e247, e253, e259, e71]
  have er3 : run1.sl.r_3 c i arg1 arg4 arg5 arg6 arg11 arg12 f1 f4 f5 f6 f12 = i1 x1 (vNew i x4 x5 x6 x12) := by
    delta run1.sl.r_3 i1; rw [e85, e112, e139, e166, e193, e220, e247, e253, e259, e71, eA, eV]
  have er4 : run1.sl.r_4 c i arg1 arg4 arg5 arg6 arg11 arg12 f1 f4 f5 f6 f12 = z1 x1 (vNew i x4 x5 x6 x12) := by
    delta run1.sl.r_4 z1; rw [e85, e112, e139, e166, e193, e220, e247, e253, e259, e71, eA, eV]
  have er5 : run1.sl.r_5 c i arg1 arg4 arg5 arg6 arg11 arg12 f1 f4 f5 f6 f12 = m1 x1 (vNew i x4 x5 x6 x12) := by
    delta run1.sl.r_5 m1; rw [e85, e112, e139, e166, e193, e220, e247, e253, e259, e71, eA, eV]
  have er6 : run1.sl.r_6 c i arg1 arg2 arg3 arg4 arg5 arg6 arg11 arg12 f1 f2 f3 f4 f5 f6 f12 = v1 x1 x2 x3 (vNew i x4 x5 x6 x12) := by
    delta run1.sl.r_6 v1; rw [er2, er3, er4, er5, View.readAt_full, View.readAt_full, hf2, hf3]
  isplitl [H1]
  · iapply (owns_of_read (c : Thread nD τ) arg1 fullShare _ ?_) $$ H1
    exact hf1
  isplitl [H2]
  · iapply (owns_of_read (c : Thread nD τ) arg2 fullShare _ ?_) $$ H2
    exact hf2
  isplitl [H3]
  · iapply (owns_of_read (c : Thread nD τ) arg3 fullShare _ ?_) $$ H3
    exact hf3
  isplitl [H4]
  · iapply (owns_of_read (c : Thread nD τ) arg4 fullShare _ ?_) $$ H4
    exact hf4
  isplitl [H5]
  · iapply (owns_of_read (c : Thread nD τ) arg5 fullShare _ ?_) $$ H5
    exact hf5
  isplitl [H6]
  · iapply (owns_of_read (c : Thread nD τ) arg6 fullShare _ ?_) $$ H6
    exact hf6
  isplitl [H7]
  · iapply (owns_of_read (c : Thread nD τ) arg7 fullShare _ ?_) $$ H7
    rw [View.read_writes_full, er3, er4, er5]; rfl
  isplitl [H8]
  · iapply (owns_of_read (c : Thread nD τ) arg8 fullShare _ ?_) $$ H8
    rw [View.read_writes_full, er4, er5]; rfl
  isplitl [H9]
  · iapply (owns_of_read (c : Thread nD τ) arg9 fullShare _ ?_) $$ H9
    rw [View.read_writes_full, e85, e112, e139, e166, e193, e220, e247, e253, e259, e71]; rfl
  isplitl [H10]
  · iapply (owns_of_read (c : Thread nD τ) arg10 fullShare _ ?_) $$ H10
    refine (View.read_writes_eq_canon _ _ _ (cover_g _ _)).trans ?_
    have eG : ∀ (s : Fin 2 → Nat) (inb : ∀ a, s a + S192x1536.size a ≤ S384x1536.size a), View.readAt (Elt F) arg10.view (Rect.unit (s := S384x1536) s S192x1536.size inb).toLoadRect (if hc : run1.sl.v2 i = 1#1 then arg10.view.writes (Elt F) f10 [⟨Rect.unit ![0, 0] S384x1536.size inb_S384x1536_S384x1536_0_0, k0_pay5⟩] else f10) = View.ld (gNew i x10) (Rect.unit (s := S384x1536) s S192x1536.size inb) := by
      intro s inb
      subst hf10
      rw [View.readAt_eq_ld]
      congr 1
      delta run1.sl.v2 run1.sl.v1 run1.sl.v0 gNew
      split
      · rename_i hc
        (try rw [if_pos hc])
        rw [View.read_writes_full]
      · rename_i hc
        first | rfl | rw [if_neg hc]
    delta run1.sl.v356 run1.sl.v347 run1.sl.cst_159 o10
    rw [eA, er6, eG, eG]
  isplitl [H11]
  · iapply (owns_of_read (c : Thread nD τ) arg11 fullShare _ ?_) $$ H11
    refine (View.read_writes_eq_canon _ _ _ ?_).trans eL
    exact cover_aM _ _ _ _ _ _ _ _
  · iapply (owns_of_read (c : Thread nD τ) arg12 fullShare _ ?_) $$ H12
    subst hf4 hf5 hf6 hf12
    unfold vNew
    sl_unfold_words
    split
    · rename_i hc
      (try rw [if_pos hc])
      rw [View.read_writes_full, View.readAt_full, View.readAt_full, View.readAt_full]
    · rename_i hc
      first | rfl | rw [if_neg hc]

end Cert.Kernel.Body0
end
-- ==== Proof.Weak0.lean ====
/-
  What the frame needs of pallas_call 0: its body runs from its staging buffers at any contents.

  Only the packed counts (window 0) are remembered, because they are an argument; every other window is
  forgotten (`forgets`), so nothing is said here of what the kernel computes.
-/
module

public import proofs.«01_k».proof.Proof.Body0

@[expose] public section

set_option maxRecDepth 16384

noncomputable section

namespace Cert.Kernel.Weak0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-- Every window but the packed counts is forgotten. -/
def forgets : Fin 10 → Bool := ![false, true, true, true, true, true, true, true, true, true]

/-- The proof data of an entry at the valuation `W`: every scratch buffer at some contents between the points. -/
def dat (W : Valuation τ sig (Elt F)) (c : Dev nD) : Dat τ (Elt F) Unit ℕ U ℕ cfg0 c where
  A w := W (Proc.devRef .tc (Pipeline.arrRef spec0 w))
  after w t := (cfg0.win w).fill (cfg0.grid.coords t) (fun _ => Classical.arbitrary _)
    (((cfg0.win w).blk t).view.read (Elt F) (W (Proc.devRef .tc (Pipeline.arrRef spec0 w))))
  Φ _ := iprop(Pipeline.scopedRest spec0 c ∗ ∃ r, prngReg c r)
  q _ := fullShare
  owed _ := 0

/-- The packed counts as a point finds them, and leaves them. -/
abbrev counts (W : Valuation τ sig (Elt F)) (c : Dev nD) (t : Fin cfg0.N) : Vec F S8x384x128 .i32 :=
  (dat (U := U) W c).after 0 t

theorem before_0 (W : Valuation τ sig (Elt F)) (c : Dev nD) (t : Fin cfg0.N)
    (d : (cfg0.win 0).block.Idx → Elt F (cfg0.win 0).elt) : (dat (U := U) W c).before 0 t d = counts (U := U) W c t := by
  unfold Dat.before; rw [if_pos (fetch0_0 t)]; rfl

theorem scratch_split (c : Dev nD) :
    (Pipeline.scopedRest (Ix := Unit) (Name := ℕ) (U := U) (Lvl := ℕ) (Val := Elt F) spec0 c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := U) (Lvl := ℕ) (Val := Elt F) spec0 c [cc0_scratch0, cc0_scratch1]) :=
  Pipeline.scopedRest_split_of_list spec0 c [cc0_scratch0, cc0_scratch1] (by decide) (by decide)

/-- A buffer owned at known contents is owned at some. -/
theorem some_of_owns (c : Dev nD) (b : Ref sig .tc) (X : b.ty.Contents (Elt F)) :
    (owns (c : Thread nD τ) (Memref.whole b) fullShare X : sProp 𝕄) ⊢ iprop(∃ f : Buf (Elt F) ((c : Thread nD τ).loc b), ((c : Thread nD τ).loc b) ↦{fullShare} f) := by
  rw [owns_whole_eq]
  iintro ⟨%f, -, H⟩
  iexists f; iexact H

/-- The body at a point, every buffer but the counts' at some contents before and after. -/
theorem sound_body (W : Valuation τ sig (Elt F)) (c : Dev nD) (t : Fin cfg0.N) :
    iprop((dat (U := U) W c).Φ t.castSucc ∗ (dat (U := U) W c).owesAt () t.castSucc
      ∗ (∃ d, owns (c : Thread nD τ) (st0_0 t) fullShare ((dat (U := U) W c).before 0 t d))
      ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))
    ⊢ wp frame (wpE (defs₀ (F := F)) Variants.none c none) Set.univ (bodyAt0 t) (fun _ =>
        iprop((dat (U := U) W c).Φ t.succ ∗ (dat (U := U) W c).owesAt () t.succ
      ∗ owns (c : Thread nD τ) (st0_0 t) fullShare (counts (U := U) W c t)
      ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))) := by
  unfold bodyAt0
  rw [show (dat (U := U) W c).Φ t.succ = (dat (U := U) W c).Φ t.castSucc from rfl,
    show (dat (U := U) W c).owesAt () t.succ = (dat (U := U) W c).owesAt () t.castSucc from rfl,
    show (dat (U := U) W c).Φ t.castSucc = iprop(Pipeline.scopedRest spec0 c ∗ ∃ r, prngReg c r) from rfl, scratch_split]
  iintro ⟨⟨⟨⟨⟨%f0, S0⟩, ⟨%f1, S1⟩⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0]
  iapply (Body0.run1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)
    (counts (U := U) W c t) d1 d2 d3 d4 d5 d6 d7 d8 d9 f0 f1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]
  · rw [owns_whole_eq]; iexists f0; isplitr
    · ipureintro; rfl
    · iexact S0
  isplitl [S1]
  · rw [owns_whole_eq]; iexists f1; isplitr
    · ipureintro; rfl
    · iexact S1
  iintro ⟨H0, H1, H2, H3, H4, H5, H6, H7, H8, H9, S0, S1⟩
  isplitl [S0 S1 HR HG]
  · isplitl [S0 S1 HR]
    · isplitl [S0 S1]
      · isplitl [S0]; · iapply (some_of_owns c _ _); iexact S0
        iapply (some_of_owns c _ _); iexact S1
      iexact HR
    iexact HG
  isplitl [HO]; · iexact HO
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, every window but the counts forgotten. -/
theorem obligation (W : Valuation τ sig (Elt F)) (c : Dev nD) :
    BodyObligationLoose (dat (U := U) W c) (defs₀ (F := F)) Variants.none () Set.univ forgets := fun t => by
  rw [bigSep_W0, bigSep_W0, defs₀_row]
  exact sound_body W c t

end Cert.Kernel.Weak0

end
-- ==== Proof.Body1.lean ====
module

public import proofs.«01_k».proof.Proof.Body0
public import proofs.«01_k».proof.Proof.Gen.Kernel.Points
public import proofs.«01_k».proof.Proof.Gen.Kernel.Launch
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

open Cert.Kernel.Body0 (aM owns_of_read readCov_whole cover_aM)

/-! ## What one call computes, as functions of what its buffers hold -/

/-- The first layer's user sums. -/
abbrev gA (x7 : Vec F S384x1536 .f32) : Vec F S192x1536 .f32 := View.ld x7 (Rect.unit (s := S384x1536) ![0, 0] S192x1536.size inb_S384x1536_S192x1536_0_0)
/-- The second layer's user sums. -/
abbrev gB (x7 : Vec F S384x1536 .f32) : Vec F S192x1536 .f32 := View.ld x7 (Rect.unit (s := S384x1536) ![192, 0] S192x1536.size inb_S384x1536_S192x1536_192_0)
def uc1 (x7 : Vec F S384x1536 .f32) (x10 : Vec F S1x1536 .f32) : Vec F S192x1536 .i8 := k1_pay11 (k1_pay20 x10) (gA x7)
def us1 (x7 : Vec F S384x1536 .f32) (x10 : Vec F S1x1536 .f32) : Vec F S1x1536 .f32 := k1_pay9 (k1_pay20 x10) (gA x7)
def uc2 (x7 : Vec F S384x1536 .f32) (x10 : Vec F S1x1536 .f32) : Vec F S192x1536 .i8 := k1_pay18 (k1_pay20 x10) (gB x7)
def us2 (x7 : Vec F S384x1536 .f32) (x10 : Vec F S1x1536 .f32) : Vec F S1x1536 .f32 := k1_pay16 (k1_pay20 x10) (gB x7)
/-- The user terms of layers 1 and 2. -/
def vu (x7 : Vec F S384x1536 .f32) (x10 : Vec F S1x1536 .f32) : Vec F S1152x1536 .bf16 :=
  View.canon [⟨Rect.unit (s := S1152x1536) ![576, 0] S576x1536.size inb_S1152x1536_S576x1536_576_0, k1_pay21 (k1_pay19 (k1_pay20 x10) (gB x7))⟩,
    ⟨Rect.unit (s := S1152x1536) ![0, 0] S576x1536.size inb_S1152x1536_S576x1536_0_0, k1_pay13 (k1_pay12 (k1_pay20 x10) (gA x7))⟩]
/-- The sum of the user vectors of layers 0, 1 and 2. -/
def acc (x7 : Vec F S384x1536 .f32) (x8 : Vec F S192x1536 .i8) (x9 x10 : Vec F S1x1536 .f32) : Vec F S192x1536 .f32 :=
  k1_pay22 (k1_pay14 (k1_pay7 x8 x9) (k1_pay9 (k1_pay20 x10) (gA x7)) (k1_pay10 (k1_pay20 x10) (gA x7))) (k1_pay16 (k1_pay20 x10) (gB x7)) (k1_pay17 (k1_pay20 x10) (gB x7))
/-- What a buffer written at the first point only holds after a point. -/
def atFirst {S : Shape} {e : EltTy} (i : grid1.Coords) (v x : Vec F S e) : Vec F S e := if k1_cond1 i = 1#1 then v else x
/-- What a buffer written at the last point only holds after a point. -/
def atLast {S : Shape} {e : EltTy} (i : grid1.Coords) (v x : Vec F S e) : Vec F S e := if k1_cond2 i = 1#1 then v else x
def o11 (x1 : Vec F S8x384x128 .i32) (x6 : Vec F S1x1024 .f32) (V : Vec F S1152x1536 .bf16) : Vec F S192x1024 .i8 := k1_pay42 (k1_pay37 (aM x1) x6 V)
def o12 (x1 : Vec F S8x384x128 .i32) (x6 : Vec F S1x1024 .f32) (V : Vec F S1152x1536 .bf16) : Vec F S1x1024 .f32 := k1_pay36 (aM x1) x6 V
def o13 (x1 : Vec F S8x384x128 .i32) (x6 : Vec F S1x1024 .f32) (V : Vec F S1152x1536 .bf16) : Vec F S192x1024 .i8 := k1_pay43 (k1_pay40 (aM x1) x6 V) (Scalar.ofBits .f32 0xC2FE0000#32)
def o14 (x1 : Vec F S8x384x128 .i32) (x6 : Vec F S1x1024 .f32) (V : Vec F S1152x1536 .bf16) : Vec F S1x1024 .f32 := k1_pay39 (aM x1) x6 V
def o15 (x1 : Vec F S8x384x128 .i32) (x2 : Vec F S192x1024 .i8) (x3 : Vec F S1x1024 .f32) (x4 : Vec F S192x1024 .i8) (x5 x6 : Vec F S1x1024 .f32) (V : Vec F S1152x1536 .bf16) : Vec F S192x1024 .bf16 :=
  k1_pay44 (k1_pay36 (aM x1) x6 V) (k1_pay37 (aM x1) x6 V) (k1_pay39 (aM x1) x6 V) (k1_pay40 (aM x1) x6 V) (Scalar.ofBits .f32 0xC2FE0000#32) x2 x3 x4 x5
/-- The third layer's user sums after the block, over the sums `G` before it. -/
def o25 (x1 : Vec F S8x384x128 .i32) (x6 : Vec F S1x1024 .f32) (V : Vec F S1152x1536 .bf16) (G : Vec F S192x1536 .f32) : Vec F S192x1536 .f32 :=
  k1_pay1 (aM x1) (k1_pay33 x6) (k1_pay36 (aM x1) x6 V) (k1_pay37 (aM x1) x6 V) G
def o20 (x10 : Vec F S1x1536 .f32) (g3 : Vec F S192x1536 .f32) : Vec F S192x1536 .i8 := k1_pay5 (k1_pay20 x10) g3
def o21 (x10 : Vec F S1x1536 .f32) (g3 : Vec F S192x1536 .f32) : Vec F S1x1536 .f32 := k1_pay3 (k1_pay20 x10) g3
def o22 (x10 : Vec F S1x1536 .f32) (g3 u : Vec F S192x1536 .f32) : Vec F S192x1536 .bf16 := k1_pay6 (k1_pay20 x10) g3 u

theorem cover_vu (p0 p1 : S576x1536.Idx → Elt F .bf16) (y : S1152x1536.Idx) : ∃ p ∈ ([⟨Rect.unit (s := S1152x1536) ![576, 0] S576x1536.size inb_S1152x1536_S576x1536_576_0, p1⟩,
    ⟨Rect.unit (s := S1152x1536) ![0, 0] S576x1536.size inb_S1152x1536_S576x1536_0_0, p0⟩] : List (View.Piece (Elt F) S1152x1536 .bf16)), y ∈ p.1.set := by
  have h0 : (y 0).val < 1152 := (y 0).isLt
  have h1 : (y 1).val < 1536 := (y 1).isLt
  simp only [List.exists_mem_cons_iff, Rect.mem_set_unit]
  have k : ∀ o : Nat, o ≤ (y 0).val → (y 0).val < o + 576 → ∀ a : Fin 2, (![o, 0] : Fin 2 → Nat) a ≤ (y a).val ∧ (y a).val < (![o, 0] : Fin 2 → Nat) a + S576x1536.size a := by
    intro o ho ho' a
    match a with
    | ⟨0, _⟩ => exact ⟨ho, ho'⟩
    | ⟨1, _⟩ => exact ⟨Nat.zero_le _, by show (y 1).val < 0 + 1536; omega⟩
  by_cases e : 576 ≤ (y 0).val
  · exact Or.inl (k 576 e (by omega))
  · exact Or.inr (Or.inl (k 0 (Nat.zero_le _) (by omega)))

/-- The body of the second pass, whole buffers in and out. -/
theorem run2 (c : Dev nD) (i : grid1.Coords) (arg1 : Memref sig .tc .vmem S8x384x128 .i32) (harg1 : arg1.IsWhole) (arg2 : Memref sig .tc .vmem S192x1024 .i8) (harg2 : arg2.IsWhole) (arg3 : Memref sig .tc .vmem S1x1024 .f32) (harg3 : arg3.IsWhole) (arg4 : Memref sig .tc .vmem S192x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S384x1536 .f32) (harg7 : arg7.IsWhole) (arg8 : Memref sig .tc .vmem S192x1536 .i8) (harg8 : arg8.IsWhole) (arg9 : Memref sig .tc .vmem S1x1536 .f32) (harg9 : arg9.IsWhole) (arg10 : Memref sig .tc .vmem S1x1536 .f32) (harg10 : arg10.IsWhole) (arg11 : Memref sig .tc .vmem S192x1024 .i8) (harg11 : arg11.IsWhole) (arg12 : Memref sig .tc .vmem S1x1024 .f32) (harg12 : arg12.IsWhole) (arg13 : Memref sig .tc .vmem S192x1024 .i8) (harg13 : arg13.IsWhole) (arg14 : Memref sig .tc .vmem S1x1024 .f32) (harg14 : arg14.IsWhole) (arg15 : Memref sig .tc .vmem S192x1024 .bf16) (harg15 : arg15.IsWhole) (arg16 : Memref sig .tc .vmem S192x1536 .i8) (harg16 : arg16.IsWhole) (arg17 : Memref sig .tc .vmem S1x1536 .f32) (harg17 : arg17.IsWhole) (arg18 : Memref sig .tc .vmem S192x1536 .i8) (harg18 : arg18.IsWhole) (arg19 : Memref sig .tc .vmem S1x1536 .f32) (harg19 : arg19.IsWhole) (arg20 : Memref sig .tc .vmem S192x1536 .i8) (harg20 : arg20.IsWhole) (arg21 : Memref sig .tc .vmem S1x1536 .f32) (harg21 : arg21.IsWhole) (arg22 : Memref sig .tc .vmem S192x1536 .bf16) (harg22 : arg22.IsWhole) (arg23 : Memref sig .tc .vmem S1536x1024 .bf16) (harg23 : arg23.IsWhole) (arg24 : Memref sig .tc .vmem S1152x1536 .bf16) (harg24 : arg24.IsWhole) (arg25 : Memref sig .tc .vmem S192x1536 .f32) (harg25 : arg25.IsWhole) (arg26 : Memref sig .tc .vmem S192x1536 .f32) (harg26 : arg26.IsWhole)
   (x1 : Vec F S8x384x128 .i32) (x2 : Vec F S192x1024 .i8) (x3 : Vec F S1x1024 .f32) (x4 : Vec F S192x1024 .i8) (x5 : Vec F S1x1024 .f32) (x6 : Vec F S1x1024 .f32) (x7 : Vec F S384x1536 .f32) (x8 : Vec F S192x1536 .i8) (x9 : Vec F S1x1536 .f32) (x10 : Vec F S1x1536 .f32) (x11 : Vec F S192x1024 .i8) (x12 : Vec F S1x1024 .f32) (x13 : Vec F S192x1024 .i8) (x14 : Vec F S1x1024 .f32) (x15 : Vec F S192x1024 .bf16) (x16 : Vec F S192x1536 .i8) (x17 : Vec F S1x1536 .f32) (x18 : Vec F S192x1536 .i8) (x19 : Vec F S1x1536 .f32) (x20 : Vec F S192x1536 .i8) (x21 : Vec F S1x1536 .f32) (x22 : Vec F S192x1536 .bf16) (x23 : Vec F S1536x1024 .bf16) (x24 : Vec F S1152x1536 .bf16) (x25 : Vec F S192x1536 .f32) (x26 : Vec F S192x1536 .f32)
   (Y : sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ owns (c : Thread nD τ) arg22 fullShare x22
        ∗ owns (c : Thread nD τ) arg23 fullShare x23
        ∗ owns (c : Thread nD τ) arg24 fullShare x24
        ∗ owns (c : Thread nD τ) arg25 fullShare x25
        ∗ owns (c : Thread nD τ) arg26 fullShare x26
        ∗ (owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare (o11 x1 x6 (atFirst i (vu x7 x10) x24))
        ∗ owns (c : Thread nD τ) arg12 fullShare (o12 x1 x6 (atFirst i (vu x7 x10) x24))
        ∗ owns (c : Thread nD τ) arg13 fullShare (o13 x1 x6 (atFirst i (vu x7 x10) x24))
        ∗ owns (c : Thread nD τ) arg14 fullShare (o14 x1 x6 (atFirst i (vu x7 x10) x24))
        ∗ owns (c : Thread nD τ) arg15 fullShare (o15 x1 x2 x3 x4 x5 x6 (atFirst i (vu x7 x10) x24))
        ∗ owns (c : Thread nD τ) arg16 fullShare (atFirst i (uc1 x7 x10) x16)
        ∗ owns (c : Thread nD τ) arg17 fullShare (atFirst i (us1 x7 x10) x17)
        ∗ owns (c : Thread nD τ) arg18 fullShare (atFirst i (uc2 x7 x10) x18)
        ∗ owns (c : Thread nD τ) arg19 fullShare (atFirst i (us2 x7 x10) x19)
        ∗ owns (c : Thread nD τ) arg20 fullShare (atLast i (o20 x10 (o25 x1 x6 (atFirst i (vu x7 x10) x24) (atFirst i k1_pay23 x25))) x20)
        ∗ owns (c : Thread nD τ) arg21 fullShare (atLast i (o21 x10 (o25 x1 x6 (atFirst i (vu x7 x10) x24) (atFirst i k1_pay23 x25))) x21)
        ∗ owns (c : Thread nD τ) arg22 fullShare (atLast i (o22 x10 (o25 x1 x6 (atFirst i (vu x7 x10) x24) (atFirst i k1_pay23 x25)) (atFirst i (acc x7 x8 x9 x10) x26)) x22)
        ∗ owns (c : Thread nD τ) arg23 fullShare (aM x1)
        ∗ owns (c : Thread nD τ) arg24 fullShare (atFirst i (vu x7 x10) x24)
        ∗ owns (c : Thread nD τ) arg25 fullShare (o25 x1 x6 (atFirst i (vu x7 x10) x24) (atFirst i k1_pay23 x25))
        ∗ owns (c : Thread nD τ) arg26 fullShare (atFirst i (acc x7 x8 x9 x10) x26) -∗ Y))
      ⊢ wp frame (wpE (defs₀ (F := F)) Variants.none c none) Set.univ
          (cc1_pass2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) (fun _ => Y) := by
  sl_unfold [cc1_pass2, k1_part1, k1_part2, k1_part3, k1_part4, k1_part5, k1_part6]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, HK⟩
  sl_exec
  sl_step
  iapply HK
  have eL : View.canon (run2.sl.H23_8 c arg1 f1) = aM x1 := by subst hf1; rfl
  have eA : run2.sl.v61 c arg1 arg23 f1 = aM x1 := (readCov_whole _ _ _).trans eL
  have e10 : run2.sl.r_8 c arg10 f10 = k1_pay20 x10 := by subst hf10; delta run2.sl.r_8; rw [View.readAt_full]
  have e10' : View.readAt (Elt F) arg10.view (Rect.unit (s := S1x1536) ![0, 0] S1x1536.size inb_S1x1536_S1x1536_0_0).toLoadRect f10 = x10 := by subst hf10; rw [View.readAt_full]
  have eGA : View.readAt (Elt F) arg7.view (Rect.unit (s := S384x1536) ![0, 0] S192x1536.size inb_S384x1536_S192x1536_0_0).toLoadRect f7 = gA x7 := by subst hf7; rfl
  have eGB : View.readAt (Elt F) arg7.view (Rect.unit (s := S384x1536) ![192, 0] S192x1536.size inb_S384x1536_S192x1536_192_0).toLoadRect f7 = gB x7 := by subst hf7; rfl
  have e6 : View.readAt (Elt F) arg6.view (Rect.unit (s := S1x1024) ![0, 0] S1x1024.size inb_S1x1024_S1x1024_0_0).toLoadRect f6 = x6 := by subst hf6; rw [View.readAt_full]
  have er1 : run2.sl.r_1 c arg7 arg10 f7 f10 = k1_pay9 (k1_pay20 x10) (gA x7) := by delta run2.sl.r_1; rw [e10', eGA]
  have er2 : run2.sl.r_2 c arg7 arg10 f7 f10 = k1_pay10 (k1_pay20 x10) (gA x7) := by delta run2.sl.r_2; rw [e10', eGA]
  have er3 : run2.sl.r_3 c arg7 arg10 f7 f10 = k1_pay12 (k1_pay20 x10) (gA x7) := by delta run2.sl.r_3; rw [e10', eGA]
  have er5 : run2.sl.r_5 c arg7 arg10 f7 f10 = k1_pay16 (k1_pay20 x10) (gB x7) := by delta run2.sl.r_5; rw [e10', eGB]
  have er6 : run2.sl.r_6 c arg7 arg10 f7 f10 = k1_pay17 (k1_pay20 x10) (gB x7) := by delta run2.sl.r_6; rw [e10', eGB]
  have er7 : run2.sl.r_7 c arg7 arg10 f7 f10 = k1_pay19 (k1_pay20 x10) (gB x7) := by delta run2.sl.r_7; rw [e10', eGB]
  have er0 : run2.sl.r c arg8 arg9 f8 f9 = k1_pay7 x8 x9 := by subst hf8 hf9; delta run2.sl.r; rw [View.readAt_full, View.readAt_full]
  have er4 : run2.sl.r_4 c arg7 arg8 arg9 arg10 f7 f8 f9 f10 = k1_pay14 (k1_pay7 x8 x9) (k1_pay9 (k1_pay20 x10) (gA x7)) (k1_pay10 (k1_pay20 x10) (gA x7)) := by
    delta run2.sl.r_4; rw [er0, er1, er2]
  have e24 : arg24.view.read (Elt F) (if hc : k1_cond1 i = 1#1 then arg24.view.writes (Elt F) f24 [⟨Rect.unit ![576, 0] S576x1536.size inb_S1152x1536_S576x1536_576_0, k1_pay21 (run2.sl.r_7 c arg7 arg10 f7 f10)⟩,
      ⟨Rect.unit ![0, 0] S576x1536.size inb_S1152x1536_S576x1536_0_0, k1_pay13 (run2.sl.r_3 c arg7 arg10 f7 f10)⟩] else f24) = (atFirst i (vu x7 x10) x24) := by
    by_cases hc : k1_cond1 i = 1#1
    · rw [dif_pos hc, atFirst, if_pos hc, er7, er3]
      exact View.read_writes_eq_canon _ _ _ (cover_vu _ _)
    · rw [dif_neg hc, atFirst, if_neg hc, hf24]
  have eV : run2.sl.v64 c i arg7 arg10 arg24 f7 f10 f24 = (atFirst i (vu x7 x10) x24) := by
    delta run2.sl.v64; rw [View.readAt_full, e24]
  have e25 : run2.sl.v143 c i arg25 f25 = (atFirst i k1_pay23 x25) := by
    delta run2.sl.v143; rw [View.readAt_full]
    by_cases hc : k1_cond1 i = 1#1
    · rw [dif_pos hc, atFirst, if_pos hc, View.read_writes_full]
    · rw [dif_neg hc, atFirst, if_neg hc, hf25]
  have e26 : arg26.view.read (Elt F) (if hc : k1_cond1 i = 1#1 then arg26.view.writes (Elt F) f26 [⟨Rect.unit ![0, 0] S192x1536.size inb_S192x1536_S192x1536_0_0, k1_pay22 (run2.sl.r_4 c arg7 arg8 arg9 arg10 f7 f8 f9 f10) (run2.sl.r_5 c arg7 arg10 f7 f10) (run2.sl.r_6 c arg7 arg10 f7 f10)⟩] else f26) = (atFirst i (acc x7 x8 x9 x10) x26) := by
    by_cases hc : k1_cond1 i = 1#1
    · rw [dif_pos hc, atFirst, if_pos hc, View.read_writes_full, er4, er5, er6]; rfl
    · rw [dif_neg hc, atFirst, if_neg hc, hf26]
  have e190 : run2.sl.v190 c i arg7 arg8 arg9 arg10 arg26 f7 f8 f9 f10 f26 = (atFirst i (acc x7 x8 x9 x10) x26) := by
    delta run2.sl.v190; rw [View.readAt_full, e26]
  have er10 : run2.sl.r_10 c arg6 f6 = k1_pay33 x6 := by delta run2.sl.r_10; rw [e6]
  have er11 : run2.sl.r_11 c i arg1 arg6 arg7 arg10 arg23 arg24 f1 f6 f7 f10 f24 = k1_pay36 (aM x1) x6 (atFirst i (vu x7 x10) x24) := by delta run2.sl.r_11; rw [eA, e6, eV]
  have er12 : run2.sl.r_12 c i arg1 arg6 arg7 arg10 arg23 arg24 f1 f6 f7 f10 f24 = k1_pay37 (aM x1) x6 (atFirst i (vu x7 x10) x24) := by delta run2.sl.r_12; rw [eA, e6, eV]
  have er13 : run2.sl.r_13 c i arg1 arg6 arg7 arg10 arg23 arg24 f1 f6 f7 f10 f24 = k1_pay39 (aM x1) x6 (atFirst i (vu x7 x10) x24) := by delta run2.sl.r_13; rw [eA, e6, eV]
  have er14 : run2.sl.r_14 c i arg1 arg6 arg7 arg10 arg23 arg24 f1 f6 f7 f10 f24 = k1_pay40 (aM x1) x6 (atFirst i (vu x7 x10) x24) := by delta run2.sl.r_14; rw [eA, e6, eV]
  have ec : (run2.sl.cst_44 : F .f32) = Scalar.ofBits .f32 0xC2FE0000#32 := rfl
  have e168 : run2.sl.v168 c i arg1 arg6 arg7 arg10 arg23 arg24 arg25 f1 f6 f7 f10 f24 f25 = (o25 x1 x6 (atFirst i (vu x7 x10) x24) (atFirst i k1_pay23 x25)) := by
    delta run2.sl.v168 run2.sl.H25_1; rw [View.readCov_full, eA, er10, er11, er12, e25]; rfl
  isplitl [H1]
  · iapply (owns_of_read (c : Thread nD τ) arg1 fullShare _ ?_) $$ H1
    exact hf1
  isplitl [H2]
  · iapply (owns_of_read (c : Thread nD τ) arg2 fullShare _ ?_) $$ H2
    exact hf2
  isplitl [H3]
  · iapply (owns_of_read (c : Thread nD τ) arg3 fullShare _ ?_) $$ H3
    exact hf3
  isplitl [H4]
  · iapply (owns_of_read (c : Thread nD τ) arg4 fullShare _ ?_) $$ H4
    exact hf4
  isplitl [H5]
  · iapply (owns_of_read (c : Thread nD τ) arg5 fullShare _ ?_) $$ H5
    exact hf5
  isplitl [H6]
  · iapply (owns_of_read (c : Thread nD τ) arg6 fullShare _ ?_) $$ H6
    exact hf6
  isplitl [H7]
  · iapply (owns_of_read (c : Thread nD τ) arg7 fullShare _ ?_) $$ H7
    exact hf7
  isplitl [H8]
  · iapply (owns_of_read (c : Thread nD τ) arg8 fullShare _ ?_) $$ H8
    exact hf8
  isplitl [H9]
  · iapply (owns_of_read (c : Thread nD τ) arg9 fullShare _ ?_) $$ H9
    exact hf9
  isplitl [H10]
  · iapply (owns_of_read (c : Thread nD τ) arg10 fullShare _ ?_) $$ H10
    exact hf10
  isplitl [H11]
  · iapply (owns_of_read (c : Thread nD τ) arg11 fullShare _ ?_) $$ H11
    delta run2.sl.H11_1; rw [View.read_writes_full, er12]; rfl
  isplitl [H12]
  · iapply (owns_of_read (c : Thread nD τ) arg12 fullShare _ ?_) $$ H12
    delta run2.sl.H12_1; rw [View.read_writes_full, er11]; rfl
  isplitl [H13]
  · iapply (owns_of_read (c : Thread nD τ) arg13 fullShare _ ?_) $$ H13
    delta run2.sl.H13_1; rw [View.read_writes_full, er14, ec]; rfl
  isplitl [H14]
  · iapply (owns_of_read (c : Thread nD τ) arg14 fullShare _ ?_) $$ H14
    delta run2.sl.H14_1; rw [View.read_writes_full, er13]; rfl
  isplitl [H15]
  · iapply (owns_of_read (c : Thread nD τ) arg15 fullShare _ ?_) $$ H15
    subst hf2 hf3 hf4 hf5
    delta run2.sl.H15_1; rw [View.read_writes_full, er11, er12, er13, er14, ec, View.readAt_full, View.readAt_full, View.readAt_full, View.readAt_full]; rfl
  isplitl [H16]
  · iapply (owns_of_read (c : Thread nD τ) arg16 fullShare _ ?_) $$ H16
    by_cases hc : k1_cond1 i = 1#1
    · rw [dif_pos hc, atFirst, if_pos hc, View.read_writes_full, e10', eGA]; rfl
    · rw [dif_neg hc, atFirst, if_neg hc, hf16]
  isplitl [H17]
  · iapply (owns_of_read (c : Thread nD τ) arg17 fullShare _ ?_) $$ H17
    by_cases hc : k1_cond1 i = 1#1
    · rw [dif_pos hc, atFirst, if_pos hc, View.read_writes_full, e10', eGA]; rfl
    · rw [dif_neg hc, atFirst, if_neg hc, hf17]
  isplitl [H18]
  · iapply (owns_of_read (c : Thread nD τ) arg18 fullShare _ ?_) $$ H18
    by_cases hc : k1_cond1 i = 1#1
    · rw [dif_pos hc, atFirst, if_pos hc, View.read_writes_full, e10', eGB]; rfl
    · rw [dif_neg hc, atFirst, if_neg hc, hf18]
  isplitl [H19]
  · iapply (owns_of_read (c : Thread nD τ) arg19 fullShare _ ?_) $$ H19
    by_cases hc : k1_cond1 i = 1#1
    · rw [dif_pos hc, atFirst, if_pos hc, View.read_writes_full, e10', eGB]; rfl
    · rw [dif_neg hc, atFirst, if_neg hc, hf19]
  isplitl [H20]
  · iapply (owns_of_read (c : Thread nD τ) arg20 fullShare _ ?_) $$ H20
    by_cases hc : k1_cond2 i = 1#1
    · rw [dif_pos hc, atLast, if_pos hc, View.read_writes_full, e10, e168]; rfl
    · rw [dif_neg hc, atLast, if_neg hc, hf20]
  isplitl [H21]
  · iapply (owns_of_read (c : Thread nD τ) arg21 fullShare _ ?_) $$ H21
    by_cases hc : k1_cond2 i = 1#1
    · rw [dif_pos hc, atLast, if_pos hc, View.read_writes_full, e10, e168]; rfl
    · rw [dif_neg hc, atLast, if_neg hc, hf21]
  isplitl [H22]
  · iapply (owns_of_read (c : Thread nD τ) arg22 fullShare _ ?_) $$ H22
    by_cases hc : k1_cond2 i = 1#1
    · rw [dif_pos hc, atLast, if_pos hc, View.read_writes_full, e10, e168, e190]; rfl
    · rw [dif_neg hc, atLast, if_neg hc, hf22]
  isplitl [H23]
  · iapply (owns_of_read (c : Thread nD τ) arg23 fullShare _ ?_) $$ H23
    refine (View.read_writes_eq_canon _ _ _ ?_).trans eL
    exact cover_aM _ _ _ _ _ _ _ _
  isplitl [H24]
  · iapply (owns_of_read (c : Thread nD τ) arg24 fullShare _ ?_) $$ H24
    exact e24
  isplitl [H25]
  · iapply (owns_of_read (c : Thread nD τ) arg25 fullShare _ ?_) $$ H25
    delta run2.sl.H25_1; rw [View.read_writes_full, eA, er10, er11, er12, e25]; rfl
  · iapply (owns_of_read (c : Thread nD τ) arg26 fullShare _ ?_) $$ H26
    exact e26

end Cert.Kernel.Body1
end
-- ==== Proof.Weak1.lean ====
/-
  What the frame needs of pallas_call 1: its body runs from its staging buffers at any contents.

  Only the packed counts (window 0) are remembered, because they are an argument; every other window is
  forgotten (`forgets`), so nothing is said here of what the kernel computes.
-/
module

public import proofs.«01_k».proof.Proof.Body1

@[expose] public section

set_option maxRecDepth 16384

noncomputable section

namespace Cert.Kernel.Weak1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-- Every window but the packed counts is forgotten. -/
def forgets : Fin 22 → Bool := ![false, true, true, true, true, true, true, true, true, true, true, true, true, true, true, true, true, true, true, true, true, true]

/-- The proof data of an entry at the valuation `W`: every scratch buffer at some contents between the points. -/
def dat (W : Valuation τ sig (Elt F)) (c : Dev nD) : Dat τ (Elt F) Unit ℕ U ℕ cfg1 c where
  A w := W (Proc.devRef .tc (Pipeline.arrRef spec1 w))
  after w t := (cfg1.win w).fill (cfg1.grid.coords t) (fun _ => Classical.arbitrary _)
    (((cfg1.win w).blk t).view.read (Elt F) (W (Proc.devRef .tc (Pipeline.arrRef spec1 w))))
  Φ _ := iprop(Pipeline.scopedRest spec1 c ∗ ∃ r, prngReg c r)
  q _ := fullShare
  owed _ := 0

/-- The packed counts as a point finds them, and leaves them. -/
abbrev counts (W : Valuation τ sig (Elt F)) (c : Dev nD) (t : Fin cfg1.N) : Vec F S8x384x128 .i32 :=
  (dat (U := U) W c).after 0 t

theorem before_0 (W : Valuation τ sig (Elt F)) (c : Dev nD) (t : Fin cfg1.N)
    (d : (cfg1.win 0).block.Idx → Elt F (cfg1.win 0).elt) : (dat (U := U) W c).before 0 t d = counts (U := U) W c t := by
  unfold Dat.before; rw [if_pos (fetch1_0 t)]; rfl

theorem scratch_split (c : Dev nD) :
    (Pipeline.scopedRest (Ix := Unit) (Name := ℕ) (U := U) (Lvl := ℕ) (Val := Elt F) spec1 c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))
          ∗ Pipeline.scopedRestBut (Ix := Unit) (Name := ℕ) (U := U) (Lvl := ℕ) (Val := Elt F) spec1 c [cc1_scratch0, cc1_scratch1, cc1_scratch2, cc1_scratch3]) :=
  Pipeline.scopedRest_split_of_list spec1 c [cc1_scratch0, cc1_scratch1, cc1_scratch2, cc1_scratch3] (by decide) (by decide)

/-- A buffer owned at known contents is owned at some. -/
theorem some_of_owns (c : Dev nD) (b : Ref sig .tc) (X : b.ty.Contents (Elt F)) :
    (owns (c : Thread nD τ) (Memref.whole b) fullShare X : sProp 𝕄) ⊢ iprop(∃ f : Buf (Elt F) ((c : Thread nD τ).loc b), ((c : Thread nD τ).loc b) ↦{fullShare} f) := by
  rw [owns_whole_eq]
  iintro ⟨%f, -, H⟩
  iexists f; iexact H

/-- The body at a point, every buffer but the counts' at some contents before and after. -/
theorem sound_body (W : Valuation τ sig (Elt F)) (c : Dev nD) (t : Fin cfg1.N) :
    iprop((dat (U := U) W c).Φ t.castSucc ∗ (dat (U := U) W c).owesAt () t.castSucc
      ∗ (∃ d, owns (c : Thread nD τ) (st1_0 t) fullShare ((dat (U := U) W c).before 0 t d))
      ∗ (∃ d, owns (c : Thread nD τ) (st1_1 t) fullShare d) ∗ (∃ d, owns (c : Thread nD τ) (st1_2 t) fullShare d) ∗ (∃ d, owns (c : Thread nD τ) (st1_3 t) fullShare d) ∗ (∃ d, owns (c : Thread nD τ) (st1_4 t) fullShare d) ∗ (∃ d, owns (c : Thread nD τ) (st1_5 t) fullShare d) ∗ (∃ d, owns (c : Thread nD τ) (st1_6 t) fullShare d) ∗ (∃ d, owns (c : Thread nD τ) (st1_7 t) fullShare d) ∗ (∃ d, owns (c : Thread nD τ) (st1_8 t) fullShare d) ∗ (∃ d, owns (c : Thread nD τ) (st1_9 t) fullShare d) ∗ (∃ d, owns (c : Thread nD τ) (st1_10 t) fullShare d) ∗ (∃ d, owns (c : Thread nD τ) (st1_11 t) fullShare d) ∗ (∃ d, owns (c : Thread nD τ) (st1_12 t) fullShare d) ∗ (∃ d, owns (c : Thread nD τ) (st1_13 t) fullShare d) ∗ (∃ d, owns (c : Thread nD τ) (st1_14 t) fullShare d) ∗ (∃ d, owns (c : Thread nD τ) (st1_15 t) fullShare d) ∗ (∃ d, owns (c : Thread nD τ) (st1_16 t) fullShare d) ∗ (∃ d, owns (c : Thread nD τ) (st1_17 t) fullShare d) ∗ (∃ d, owns (c : Thread nD τ) (st1_18 t) fullShare d) ∗ (∃ d, owns (c : Thread nD τ) (st1_19 t) fullShare d) ∗ (∃ d, owns (c : Thread nD τ) (st1_20 t) fullShare d) ∗ (∃ d, owns (c : Thread nD τ) (st1_21 t) fullShare d))
    ⊢ wp frame (wpE (defs₀ (F := F)) Variants.none c none) Set.univ (bodyAt1 t) (fun _ =>
        iprop((dat (U := U) W c).Φ t.succ ∗ (dat (U := U) W c).owesAt () t.succ
      ∗ owns (c : Thread nD τ) (st1_0 t) fullShare (counts (U := U) W c t)
      ∗ (∃ d, owns (c : Thread nD τ) (st1_1 t) fullShare d) ∗ (∃ d, owns (c : Thread nD τ) (st1_2 t) fullShare d) ∗ (∃ d, owns (c : Thread nD τ) (st1_3 t) fullShare d) ∗ (∃ d, owns (c : Thread nD τ) (st1_4 t) fullShare d) ∗ (∃ d, owns (c : Thread nD τ) (st1_5 t) fullShare d) ∗ (∃ d, owns (c : Thread nD τ) (st1_6 t) fullShare d) ∗ (∃ d, owns (c : Thread nD τ) (st1_7 t) fullShare d) ∗ (∃ d, owns (c : Thread nD τ) (st1_8 t) fullShare d) ∗ (∃ d, owns (c : Thread nD τ) (st1_9 t) fullShare d) ∗ (∃ d, owns (c : Thread nD τ) (st1_10 t) fullShare d) ∗ (∃ d, owns (c : Thread nD τ) (st1_11 t) fullShare d) ∗ (∃ d, owns (c : Thread nD τ) (st1_12 t) fullShare d) ∗ (∃ d, owns (c : Thread nD τ) (st1_13 t) fullShare d) ∗ (∃ d, owns (c : Thread nD τ) (st1_14 t) fullShare d) ∗ (∃ d, owns (c : Thread nD τ) (st1_15 t) fullShare d) ∗ (∃ d, owns (c : Thread nD τ) (st1_16 t) fullShare d) ∗ (∃ d, owns (c : Thread nD τ) (st1_17 t) fullShare d) ∗ (∃ d, owns (c : Thread nD τ) (st1_18 t) fullShare d) ∗ (∃ d, owns (c : Thread nD τ) (st1_19 t) fullShare d) ∗ (∃ d, owns (c : Thread nD τ) (st1_20 t) fullShare d) ∗ (∃ d, owns (c : Thread nD τ) (st1_21 t) fullShare d))) := by
  unfold bodyAt1
  rw [show (dat (U := U) W c).Φ t.succ = (dat (U := U) W c).Φ t.castSucc from rfl,
    show (dat (U := U) W c).owesAt () t.succ = (dat (U := U) W c).owesAt () t.castSucc from rfl,
    show (dat (U := U) W c).Φ t.castSucc = iprop(Pipeline.scopedRest spec1 c ∗ ∃ r, prngReg c r) from rfl, scratch_split]
  iintro ⟨⟨⟨⟨⟨%f0, S0⟩, ⟨%f1, S1⟩, ⟨%f2, S2⟩, ⟨%f3, S3⟩⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  rw [before_0]
  iapply (Body1.run2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (Memref.whole cc1_scratch0) (Memref.isWhole_whole _) (Memref.whole cc1_scratch1) (Memref.isWhole_whole _) (Memref.whole cc1_scratch2) (Memref.isWhole_whole _) (Memref.whole cc1_scratch3) (Memref.isWhole_whole _)
    (counts (U := U) W c t) d1 d2 d3 d4 d5 d6 d7 d8 d9 d10 d11 d12 d13 d14 d15 d16 d17 d18 d19 d20 d21 f0 f1 f2 f3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]
  · rw [owns_whole_eq]; iexists f0; isplitr
    · ipureintro; rfl
    · iexact S0
  isplitl [S1]
  · rw [owns_whole_eq]; iexists f1; isplitr
    · ipureintro; rfl
    · iexact S1
  isplitl [S2]
  · rw [owns_whole_eq]; iexists f2; isplitr
    · ipureintro; rfl
    · iexact S2
  isplitl [S3]
  · rw [owns_whole_eq]; iexists f3; isplitr
    · ipureintro; rfl
    · iexact S3
  iintro ⟨H0, H1, H2, H3, H4, H5, H6, H7, H8, H9, H10, H11, H12, H13, H14, H15, H16, H17, H18, H19, H20, H21, S0, S1, S2, S3⟩
  isplitl [S0 S1 S2 S3 HR HG]
  · isplitl [S0 S1 S2 S3 HR]
    · isplitl [S0 S1 S2 S3]
      · isplitl [S0]; · iapply (some_of_owns c _ _); iexact S0
        isplitl [S1]; · iapply (some_of_owns c _ _); iexact S1
        isplitl [S2]; · iapply (some_of_owns c _ _); iexact S2
        iapply (some_of_owns c _ _); iexact S3
      iexact HR
    iexact HG
  isplitl [HO]; · iexact HO
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

/-- The body table's row at the point is the body as `bodyAt1` spells it. -/
theorem defs₀_row (t : Fin cfg1.N) : defs₀ (F := F) .tc cfg1.body (cfg1.bodyArgs t (cfg1.slots t)) = bodyAt1 t := by
  unfold defs₀; rw [Defs.onTc_tc]

/-- The library's body obligation, every window but the counts forgotten. -/
theorem obligation (W : Valuation τ sig (Elt F)) (c : Dev nD) :
    BodyObligationLoose (dat (U := U) W c) (defs₀ (F := F)) Variants.none () Set.univ forgets := fun t => by
  rw [bigSep_W1, bigSep_W1, defs₀_row]
  exact sound_body W c t

end Cert.Kernel.Weak1

end
-- ==== Proof.Calls.lean ====
/-
  The two pallas_calls as records of a run that remembers only the arguments.

  Between two items of @main the core holds every unscoped buffer at some contents at which the arguments are as launched.
  A call is entered at any such contents `W` and left at `left p W A`: window 0's array as it was, every other window's
  array at some contents `A`.
-/
module

public import proofs.«01_k».proof.Proof.Weak0
public import proofs.«01_k».proof.Proof.Weak1
public import proofs.«01_k».proof.Proof.Gen.Kernel.Regions
public import Idealize.ShloMosaic.Lib.Pipeline.RegionArraysF
public import Idealize.ShloMosaic.Lib.Pipeline.RegionsForgetLinks
public import Idealize.ShloMosaic.Lib.Pipeline.RegionsLoop
public import Idealize.ShloMosaic.Lib.HostLoop.Plain

@[expose] public section

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- Each call's transfers have their own copy of the pipeline library's algebra. -/
abbrev UA : Type := IProdConst (Fin 2) (UR sig nD τ) × UR sig nD τ

local notation "𝕄" => MT nD τ sig Unit (Elt F) ℕ UA ℕ

/-- Both calls' proof data at the valuation `W`, and the windows each forgets. -/
def dats (W : Dev nD → Valuation τ sig (Elt F)) : (p : Fin 2) → (c : Dev nD) → Dat τ (Elt F) Unit ℕ UA ℕ (Pipeline.pin (pcfgs (F := F)) adm p) c
  | ⟨0, _⟩, c => Weak0.dat (W c) c
  | ⟨1, _⟩, c => Weak1.dat (W c) c
def fgs : (p : Fin 2) → Fin (Pipeline.pin (pcfgs (F := F)) adm p).W → Bool
  | ⟨0, _⟩ => Weak0.forgets
  | ⟨1, _⟩ => Weak1.forgets

abbrev 𝒱₀ : Variants := Variants.none
/-- The staging buffers' cells have the one level index, at level 0. -/
abbrev L : GSem nD τ sig → Finset Unit := fun g => if g.1.2 = .tc then {()} else ∅
abbrev lv : GSem nD τ sig → Unit → ℕ := fun _ _ => 0
abbrev D : Dev nD → CellTallies nD τ sig Unit := fun _ => 0

theorem levelCut (p : Fin 2) : Pipeline.LevelCut (pcfgs (F := F)) adm () L lv p D (fun _ => 0) where
  hι c w s := by simp [L]
  hιb c w s := le_rfl
  hD c g i h := absurd h (by simp [D])

/-- The other unscoped buffers, beside a call's arrays. -/
abbrev others (p : Fin 2) : Finset (DevRef τ sig) := Pipeline.ucRefs τ sig \ Pipeline.arrRefs (pcfgs (F := F) p).spec

/-- The contents when call `p` is left, if entered at `W`. -/
def left (p : Fin 2) (W : Dev nD → Valuation τ sig (Elt F)) (c : Dev nD)
    (A : (w : Fin (Pipeline.pin (pcfgs (F := F)) adm p).W) → Buf (Elt F) (((Pipeline.pin (pcfgs (F := F)) adm p).win w).arr.view.loc (c.tc : Thread nD τ))) :
    Valuation τ sig (Elt F) := fun d =>
  open Classical in
  if h : ∃ w, fgs p w = true ∧ Proc.devRef .tc (Pipeline.arrRef (Pipeline.pin (pcfgs (F := F)) adm p).spec w) = d
  then h.choose_spec.2 ▸ A h.choose else W c d

theorem left_of_ne (p : Fin 2) (W : Dev nD → Valuation τ sig (Elt F)) (c : Dev nD) (A) (d : DevRef τ sig)
    (h : ∀ w, fgs (F := F) p w = true → Proc.devRef .tc (Pipeline.arrRef (Pipeline.pin (pcfgs (F := F)) adm p).spec w) ≠ d) :
    left p W c A d = W c d :=
  dif_neg fun ⟨w, h1, h2⟩ => h w h1 h2

theorem left_arr (p : Fin 2) (hinj : Function.Injective (Pipeline.arrRef (Pipeline.pin (pcfgs (F := F)) adm p).spec))
    (W : Dev nD → Valuation τ sig (Elt F)) (c : Dev nD) (A) (w) (hw : fgs p w = true) :
    left p W c A (Proc.devRef .tc (Pipeline.arrRef (Pipeline.pin (pcfgs (F := F)) adm p).spec w)) = A w := by
  have h : ∃ w', fgs (F := F) p w' = true ∧ Proc.devRef (τ := τ) .tc (Pipeline.arrRef (Pipeline.pin (pcfgs (F := F)) adm p).spec w')
      = Proc.devRef .tc (Pipeline.arrRef (Pipeline.pin (pcfgs (F := F)) adm p).spec w) := ⟨w, hw, rfl⟩
  have key : ∀ w' (e : Proc.devRef (τ := τ) .tc (Pipeline.arrRef (Pipeline.pin (pcfgs (F := F)) adm p).spec w')
      = Proc.devRef .tc (Pipeline.arrRef (Pipeline.pin (pcfgs (F := F)) adm p).spec w)), (e ▸ A w' : Buf (Elt F) (c, Proc.devRef .tc (Pipeline.arrRef (Pipeline.pin (pcfgs (F := F)) adm p).spec w))) = A w := by
    intro w' e
    obtain rfl : w' = w := hinj (Proc.devRef_injective _ e)
    rfl
  unfold left
  rw [dif_pos h]
  exact key _ h.choose_spec.2

theorem kept0 : ∀ w, ¬ Weak0.forgets w = true → w = 0 := by decide
theorem kept1 : ∀ w, ¬ Weak1.forgets w = true → w = 0 := by decide
theorem forgets0_0 : ¬ Weak0.forgets 0 = true := by decide
theorem forgets1_0 : ¬ Weak1.forgets 0 = true := by decide
theorem mem_arrRefs {gr W : Nat} (win : Fin W → Pipeline.WinSpec sig gr) (w : Fin W) :
    Proc.devRef .tc (Pipeline.arrRef win w) ∈ Pipeline.arrRefs (τ := τ) win :=
  Finset.mem_map.mpr ⟨_, Finset.mem_image_of_mem _ (Finset.mem_univ w), rfl⟩

set_option backward.isDefEq.respectTransparency.types false in
/-- Call 0 entered at `W`. -/
def call0 (W : Dev nD → Valuation τ sig (Elt F)) :
    Pipeline.RDat.RegionSeg (pcfgs (F := F)) adm (Pipeline.toRsF (pcfgs (F := F)) adm (dats W) fgs) () defs₀ 𝒱₀ L lv 0 :=
  Pipeline.RDat.RegionSeg.ofHeldF (pcfgs (F := F)) adm (dats W) () defs₀ 𝒱₀ L lv 0 D fgs (K := PEmpty) () (fun k => k.elim)
    (Pipeline.OwnSemFacts.none _) ∅ ∅ (others (F := F) 0) (by simp [Pipeline.hbmRefs]) (by simp [Pipeline.hbmRefs]) launch0.toP rfl
    (fun c => Weak0.obligation (W c) c) (fun _ _ => rfl) (fun _ => rfl) (fun c w => (dats W 0 c).share_full (fun _ => rfl) w)
    (fun c => by iintro -; iapply (Transfers.MayWaits.zero _ _); iempintro) W
    (fun c A _ => left 0 W c A)
    (fun c A g hA w => by
      by_cases hw : fgs (F := F) 0 w = true
      · exact (left_arr 0 launch0.win.arr_inj W c A w hw).symm
      · have h0 : w = 0 := kept0 w hw
        subst h0
        rw [left_of_ne 0 W c A _ (fun w hw e => forgets0_0 (by
            have e' : w = 0 := launch0.win.arr_inj (Proc.devRef_injective _ e)
            rw [e'] at hw; exact hw)), hA 0 rfl]
        exact (dats W 0 c).arrAt_in 0 rfl _)
    (fun c A g b hb => absurd hb (Finset.notMem_empty _))
    (fun c A g d hd => left_of_ne 0 W c A d fun w _ e => by
      have h := (Finset.mem_sdiff.mp (Finset.mem_sdiff.mp (Finset.mem_sdiff.mp hd).1).1).2
      exact h (e ▸ mem_arrRefs _ w))
    (fun c A g d hd => absurd hd (by simp [Pipeline.hbmRefs]))
    (fun c => by
      show _ ⊢ iprop(Pipeline.scopedRest spec0 c ∗ ∃ r, prngReg c r)
      iintro ⟨H, Hp, -, -, -, -⟩
      isplitl [H] <;> iassumption)
    (fun c => by
      show iprop(Pipeline.scopedRest spec0 c ∗ ∃ r, prngReg c r) ⊢ _
      iintro ⟨H, Hp⟩
      isplitl [H]; · iexact H
      isplitl [Hp]; · iexact Hp
      unfold Pipeline.ownSems0
      rw [Finset.univ_eq_empty, BI.bigSep_empty, BI.bigSep_empty, BI.bigSep_empty]
      isplitr; · iempintro
      isplitr <;> iempintro)
    (fun _ => 0) (levelCut 0) (fun _ => iprop(emp)) (fun c w => rfl)

set_option backward.isDefEq.respectTransparency.types false in
/-- Call 1 entered at `W`. -/
def call1 (W : Dev nD → Valuation τ sig (Elt F)) :
    Pipeline.RDat.RegionSeg (pcfgs (F := F)) adm (Pipeline.toRsF (pcfgs (F := F)) adm (dats W) fgs) () defs₀ 𝒱₀ L lv 1 :=
  Pipeline.RDat.RegionSeg.ofHeldF (pcfgs (F := F)) adm (dats W) () defs₀ 𝒱₀ L lv 1 D fgs (K := PEmpty) () (fun k => k.elim)
    (Pipeline.OwnSemFacts.none _) ∅ ∅ (others (F := F) 1) (by simp [Pipeline.hbmRefs]) (by simp [Pipeline.hbmRefs]) launch1.toP rfl
    (fun c => Weak1.obligation (W c) c) (fun _ _ => rfl) (fun _ => rfl) (fun c w => (dats W 1 c).share_full (fun _ => rfl) w)
    (fun c => by iintro -; iapply (Transfers.MayWaits.zero _ _); iempintro) W
    (fun c A _ => left 1 W c A)
    (fun c A g hA w => by
      by_cases hw : fgs (F := F) 1 w = true
      · exact (left_arr 1 launch1.win.arr_inj W c A w hw).symm
      · have h0 : w = 0 := kept1 w hw
        subst h0
        rw [left_of_ne 1 W c A _ (fun w hw e => forgets1_0 (by
            have e' : w = 0 := launch1.win.arr_inj (Proc.devRef_injective _ e)
            rw [e'] at hw; exact hw)), hA 0 rfl]
        exact (dats W 1 c).arrAt_in 0 rfl _)
    (fun c A g b hb => absurd hb (Finset.notMem_empty _))
    (fun c A g d hd => left_of_ne 1 W c A d fun w _ e => by
      have h := (Finset.mem_sdiff.mp (Finset.mem_sdiff.mp (Finset.mem_sdiff.mp hd).1).1).2
      exact h (e ▸ mem_arrRefs _ w))
    (fun c A g d hd => absurd hd (by simp [Pipeline.hbmRefs]))
    (fun c => by
      show _ ⊢ iprop(Pipeline.scopedRest spec1 c ∗ ∃ r, prngReg c r)
      iintro ⟨H, Hp, -, -, -, -⟩
      isplitl [H] <;> iassumption)
    (fun c => by
      show iprop(Pipeline.scopedRest spec1 c ∗ ∃ r, prngReg c r) ⊢ _
      iintro ⟨H, Hp⟩
      isplitl [H]; · iexact H
      isplitl [Hp]; · iexact Hp
      unfold Pipeline.ownSems0
      rw [Finset.univ_eq_empty, BI.bigSep_empty, BI.bigSep_empty, BI.bigSep_empty]
      isplitr; · iempintro
      isplitr <;> iempintro)
    (fun _ => 0) (levelCut 1) (fun _ => iprop(emp)) (fun c w => rfl)

end Cert.Kernel.Calls

end
-- ==== Proof.Run.lean ====
/-
  The run of @main that remembers only the arguments: from any launch it ends, nothing faults, every argument is as
  launched and every semaphore counter is zero.
-/
module

public import proofs.«01_k».proof.Proof.Calls
public import Idealize.ShloMosaic.Lib.HostLoop.Lifted

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel.Calls

variable {F : FTy → Type} [FloatOps F]

local notation "𝕄" => MT nD τ sig Unit (Elt F) ℕ UA ℕ

variable (m : (ℓ : Loc nD τ sig) → Buf (Elt F) ℓ)

abbrev argRefs : List (Ref sig .tc) := [main_arg0, main_arg1, main_arg2, main_arg3, main_arg4, main_arg5]

/-- What is remembered of the contents `W` between two items. -/
def Kept (W : Dev nD → Valuation τ sig (Elt F)) (c : Dev nD) : Prop :=
  ∀ a ∈ argRefs, W c (Proc.devRef .tc a) = m ((c : Thread nD τ).loc a)

/-- What rides beside the buffers. -/
abbrev beside (c : Dev nD) : sProp 𝕄 := iprop((∃ r, prngReg c r) ∗ ∃ Wd, owes (c : Thread nD τ) (D c) Wd)
/-- The state between two items. -/
abbrev between (c : Dev nD) : sProp 𝕄 :=
  iprop(∃ W, StableHlo.held (c : Thread nD τ) (Pipeline.ucRefs τ sig) (W c) ∗ ⌜Kept m W c⌝ ∗ beside (F := F) c)

/-- Each call's ticket. -/
def tk : Fin 2 → Pipeline.Ticket (Ix := Unit) (Name := ℕ) (U := UA) (Lvl := ℕ) (nD := nD) (τ := τ) (pcfgs (F := F)) adm := fun p =>
  { p := p, pdats := dats (fun _ => fun _ _ => Classical.arbitrary _), EP := embAt p }

abbrev noLoops : Fin 0 → Prog (TpuEff nD τ sig (Elt F) (HostLoop.Sig (Pipeline.Sig Λ₀ (Fin 2) fun p => Pipeline.PCfg.Adm (pcfgs (F := F) p)) 0) .tc) PUnit :=
  fun l => l.elim0

abbrev KSeg : Type 1 := Pipeline.CSeg (pcfgs (F := F)) adm defs₀ 𝒱₀ L lv noLoops tk

/-- A stretch of host operations. -/
def host (ops : List (HloOp τ sig (Elt F))) (hS : ∀ op ∈ ops, op.bufs ⊆ Pipeline.ucRefs τ sig) (hf : ∀ op ∈ ops, op.fresh = ∅) : KSeg (F := F) :=
  Pipeline.CSeg.exSel (Kept m) (fun W => Pipeline.CSeg.ofOps _ _ _ _ _ _ _ _ (Pipeline.ucRefs τ sig) ops hS hf W beside)
    (StableHlo.seq ops) (fun _ => rfl) 0 (fun _ => le_rfl) ∅ (fun _ => rfl)

theorem host_pre (ops : List (HloOp τ sig (Elt F))) (hS hf) (c : Dev nD) : between m c ⊢ (host m ops hS hf).pre c :=
  Pipeline.CSeg.exSel_pre c fun _ _ => .rfl

theorem host_post (ops : List (HloOp τ sig (Elt F))) (hS hf) (c : Dev nD) (ws : List (Ref sig .tc))
    (hw : ops.Forall fun op => op.writes ⊆ (ws.map (Proc.devRef (τ := τ) .tc)).toFinset) (ha : ∀ a ∈ argRefs, a ∉ ws) :
    (host m ops hS hf).post c ⊢ between m c :=
  Pipeline.CSeg.exSel_post c fun W h =>
    Pipeline.held_ex_intro (O := Dev nD → Valuation τ sig (Elt F)) (c : Thread nD τ) (Pipeline.ucRefs τ sig) (fun W => W c) (Kept m · c) (beside c)
      (fun c => StableHlo.after ops (W c)) (StableHlo.after ops (W c)) (fun _ _ => rfl)
      fun a hm => (StableHlo.after_of_writes_sub ops (W c) hw (ha a hm)).trans (h a hm)

abbrev rd0 (W : Dev nD → Valuation τ sig (Elt F)) := Pipeline.toRsF (pcfgs (F := F)) adm (dats W) fgs

theorem tk_0 : (tk (F := F) 0).p = 0 := rfl
theorem tk_1 : (tk (F := F) 1).p = 1 := rfl

/-- The two calls. -/
def reg0 : KSeg (F := F) :=
  Pipeline.CSeg.regionFR (pcfgs (F := F)) adm () cellOf_inj defs₀ 𝒱₀ L lv noLoops tk 0 rd0 call0 (Kept m)
def reg1 : KSeg (F := F) := Pipeline.CSeg.regionFR (pcfgs (F := F)) adm () cellOf_inj defs₀ 𝒱₀ L lv noLoops tk 1 rd0 call1 (Kept m)

theorem unscoped0 : ∀ w, (Pipeline.arrRef spec0 w).isScoped = false := by decide
theorem unscoped1 : ∀ w, (Pipeline.arrRef spec1 w).isScoped = false := by decide
theorem arrs_sub (p : Fin 2) : Pipeline.arrRefs (τ := τ) (pcfgs (F := F) p).spec ⊆ Pipeline.ucRefs τ sig :=
  match p with
  | ⟨0, _⟩ => Pipeline.arrRefs_sub_ucRefs _ unscoped0
  | ⟨1, _⟩ => Pipeline.arrRefs_sub_ucRefs _ unscoped1

theorem not_arr0 : ∀ a ∈ argRefs, ∀ w, Weak0.forgets w = true → Pipeline.arrRef spec0 w ≠ a := by decide
theorem not_arr1 : ∀ a ∈ argRefs, ∀ w, Weak1.forgets w = true → Pipeline.arrRef spec1 w ≠ a := by decide

theorem reg0_pre (c : Dev nD) : between m c ⊢ (reg0 m).pre c :=
  Pipeline.CSeg.regionFR_pre c fun W _ => by
    show _ ⊢ iprop(StableHlo.held (c.tc : Thread nD τ) (Pipeline.arrRefs (pcfgs (F := F) 0).spec) (W c) ∗ (∃ r, prngReg c r)
      ∗ (StableHlo.held (c.tc : Thread nD τ) (others (F := F) 0) (W c) ∗ emp) ∗ ∃ Wd, owes (c : Thread nD τ) (D c) Wd)
    rw [StableHlo.held_sub_split (c.tc : Thread nD τ) (arrs_sub (F := F) 0) (W c)]
    iintro ⟨⟨H1, H2⟩, H3, H4⟩
    isplitl [H1]; · iexact H1
    isplitl [H3]; · iexact H3
    isplitl [H2]
    · isplitl [H2]; · iexact H2
      iempintro
    iexact H4

theorem reg0_post (c : Dev nD) : (reg0 m).post c ⊢ between m c :=
  Pipeline.CSeg.regionFR_post c fun W h => by
    show iprop(∃ A g, StableHlo.held (c.tc : Thread nD τ) (Pipeline.arrRefs (pcfgs (F := F) 0).spec) (left 0 W c A) ∗ (∃ r, prngReg c r)
      ∗ (StableHlo.held (c.tc : Thread nD τ) (others (F := F) 0) (left 0 W c A) ∗ emp) ∗ ∃ Wd, owes (c : Thread nD τ) (D c) Wd) ⊢ _
    iintro ⟨%A, %_, H1, H3, ⟨H2, -⟩, H4⟩
    iapply (Pipeline.held_ex_intro (O := Dev nD → Valuation τ sig (Elt F)) (c : Thread nD τ) (Pipeline.ucRefs τ sig) (fun W => W c) (Kept m · c) (beside c)
      (fun _ => left 0 W c A) (left 0 W c A) (fun _ _ => rfl) (fun a ha =>
        (left_of_ne 0 W c A _ fun w hw e => not_arr0 a ha w hw (Proc.devRef_injective _ e)).trans (h a ha)))
    rw [StableHlo.held_sub_split (c.tc : Thread nD τ) (arrs_sub (F := F) 0) (left 0 W c A)]
    isplitl [H1 H2]; · isplitl [H1] <;> iassumption
    isplitl [H3] <;> iassumption

theorem reg1_pre (c : Dev nD) : between m c ⊢ (reg1 m).pre c :=
  Pipeline.CSeg.regionFR_pre c fun W _ => by
    show _ ⊢ iprop(StableHlo.held (c.tc : Thread nD τ) (Pipeline.arrRefs (pcfgs (F := F) 1).spec) (W c) ∗ (∃ r, prngReg c r)
      ∗ (StableHlo.held (c.tc : Thread nD τ) (others (F := F) 1) (W c) ∗ emp) ∗ ∃ Wd, owes (c : Thread nD τ) (D c) Wd)
    rw [StableHlo.held_sub_split (c.tc : Thread nD τ) (arrs_sub (F := F) 1) (W c)]
    iintro ⟨⟨H1, H2⟩, H3, H4⟩
    isplitl [H1]; · iexact H1
    isplitl [H3]; · iexact H3
    isplitl [H2]
    · isplitl [H2]; · iexact H2
      iempintro
    iexact H4

theorem reg1_post (c : Dev nD) : (reg1 m).post c ⊢ between m c :=
  Pipeline.CSeg.regionFR_post c fun W h => by
    show iprop(∃ A g, StableHlo.held (c.tc : Thread nD τ) (Pipeline.arrRefs (pcfgs (F := F) 1).spec) (left 1 W c A) ∗ (∃ r, prngReg c r)
      ∗ (StableHlo.held (c.tc : Thread nD τ) (others (F := F) 1) (left 1 W c A) ∗ emp) ∗ ∃ Wd, owes (c : Thread nD τ) (D c) Wd) ⊢ _
    iintro ⟨%A, %_, H1, H3, ⟨H2, -⟩, H4⟩
    iapply (Pipeline.held_ex_intro (O := Dev nD → Valuation τ sig (Elt F)) (c : Thread nD τ) (Pipeline.ucRefs τ sig) (fun W => W c) (Kept m · c) (beside c)
      (fun _ => left 1 W c A) (left 1 W c A) (fun _ _ => rfl) (fun a ha =>
        (left_of_ne 1 W c A _ fun w hw e => not_arr1 a ha w hw (Proc.devRef_injective _ e)).trans (h a ha)))
    rw [StableHlo.held_sub_split (c.tc : Thread nD τ) (arrs_sub (F := F) 1) (left 1 W c A)]
    isplitl [H1 H2]; · isplitl [H1] <;> iassumption
    isplitl [H3] <;> iassumption

abbrev segs : List (KSeg (F := F)) :=
  [host m hostOps0 (fun op h => Pipeline.sub_ucRefs op ((List.forall_iff_forall_mem.mp hostOps0_sub) op h)) (fun op h => (List.forall_iff_forall_mem.mp hostOps0_fresh) op h),
   host m hostOps0_1 (fun op h => Pipeline.sub_ucRefs op ((List.forall_iff_forall_mem.mp hostOps0_1_sub) op h)) (fun op h => (List.forall_iff_forall_mem.mp hostOps0_1_fresh) op h),
   host m hostOps0_2 (fun op h => Pipeline.sub_ucRefs op ((List.forall_iff_forall_mem.mp hostOps0_2_sub) op h)) (fun op h => (List.forall_iff_forall_mem.mp hostOps0_2_fresh) op h),
   host m hostOps0_3 (fun op h => Pipeline.sub_ucRefs op ((List.forall_iff_forall_mem.mp hostOps0_3_sub) op h)) (fun op h => (List.forall_iff_forall_mem.mp hostOps0_3_fresh) op h),
   reg0 m, reg1 m,
   host m hostOps2 (fun op h => Pipeline.sub_ucRefs op ((List.forall_iff_forall_mem.mp hostOps2_sub) op h)) (fun op h => (List.forall_iff_forall_mem.mp hostOps2_fresh) op h)]

theorem main_chainL (c : Dev nD) : HostLoop.liftProg (L := 0) (main (F := F) c) = Pipeline.CSeg.runL (segs m) := by
  rw [main_chain, HostLoop.liftProg_chain]
  simp only [List.map_cons, List.map_nil, HostLoop.liftProg_seq]
  chain_rfl

theorem hostOps0_args : ∀ a ∈ argRefs, a ∉ hostOps0_W := by decide
theorem hostOps0_1_args : ∀ a ∈ argRefs, a ∉ hostOps0_1_W := by decide
theorem hostOps0_2_args : ∀ a ∈ argRefs, a ∉ hostOps0_2_W := by decide
theorem hostOps0_3_args : ∀ a ∈ argRefs, a ∉ hostOps0_3_W := by decide
theorem hostOps2_args : ∀ a ∈ argRefs, a ∉ hostOps2_W := by decide

theorem segs_disjoint : (segs m).Pairwise fun s s' => Disjoint s.T s'.T := by
  simp only [segs, List.pairwise_cons, List.mem_cons, List.mem_nil_iff, or_false, host, reg0, reg1]
  refine ⟨?_, ?_, ?_, ?_, ?_, ?_, ?_, List.Pairwise.nil⟩ <;> (intro s hs; (repeat' (rcases hs with rfl | hs))) <;>
    first
    | exact Finset.disjoint_empty_left _
    | exact Finset.disjoint_empty_right _
    | (subst hs; exact Finset.disjoint_empty_left _)
    | (subst hs; exact Finset.disjoint_empty_right _)
    | (exact Finset.disjoint_singleton.mpr (by decide))
    | (cases hs)

set_option backward.isDefEq.respectTransparency.types false in
/-- The frame, at any float fields. -/
theorem frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  HostLoop.θ_run_of_lift noLoops defs main _ _ <|
  Pipeline.θ_run_regions_loop_kit_sems (pcfgs (F := F)) adm cellOf_inj defs₀ 𝒱₀ L lv noLoops tk m g (fun c => HostLoop.liftProg (L := 0) (main c)) (segs m)
    (fun c Q => by rw [main_chainL m c]) (segs_disjoint m)
    (O₀ := D) (hL := fun g hg => if_neg hg) (G := fun _ => iprop(emp))
    (u₀ := ((fun _ => (initOf (Pipeline.cells cfgs cellOf_inj) (Pipeline.launchToks cfgs cellOf_inj)) : IProdConst (Fin 2) (UR sig nD τ)), 1))
    (hu₀ := by
      iintro Hu
      ihave H := (ownU_pair _ _) $$ Hu
      icases H with ⟨HP, -⟩
      imodintro
      isplitl [HP]
      · iapply (own_iprod _); iexact HP
      iapply (show (BI.emp : sProp 𝕄) ⊢ bigSep Finset.univ (fun _ : Dev nD => (BI.emp : sProp 𝕄)) from by rw [BI.bigSep_emp_const])
      iempintro)
    (T₀ := between m) (Tₙ := fun c => iprop(∃ W, StableHlo.held (c : Thread nD τ) (Pipeline.ucRefs τ sig) (W c) ∗ ⌜Kept m W c⌝))
    (hch := ⟨host_pre m _ _ _, fun c => (host_post m _ _ _ c _ hostOps0_writes hostOps0_args).trans (host_pre m _ _ _ c),
      fun c => (host_post m _ _ _ c _ hostOps0_1_writes hostOps0_1_args).trans (host_pre m _ _ _ c),
      fun c => (host_post m _ _ _ c _ hostOps0_2_writes hostOps0_2_args).trans (host_pre m _ _ _ c),
      fun c => (host_post m _ _ _ c _ hostOps0_3_writes hostOps0_3_args).trans (reg0_pre m c),
      fun c => (reg0_post m c).trans (reg1_pre m c),
      fun c => (reg1_post m c).trans (host_pre m _ _ _ c),
      fun c => (host_post m _ _ _ c _ hostOps2_writes hostOps2_args).trans (by
        iintro ⟨%W, Hh, %hk, -, HO⟩
        isplitr [HO]; swap; · iexact HO
        iexists W
        isplitl [Hh]; · iexact Hh
        ipureintro; exact hk)⟩)
    (hinit := Pipeline.initEach L lv fun c => by
      iintro ⟨⟨Hb, -, HO, -, Hp, -⟩, -⟩
      imodintro
      iexists (fun c => V0 m c)
      rw [← Pipeline.unscopedBufs_held c (V0 m c)]
      isplitl [Hb]; · iexact Hb
      isplitr; · ipureintro; exact fun _ _ => rfl
      isplitl [Hp]; · iexists _; iexact Hp
      iexists ∅; iexact HO)
    (QY := fun c s => ∀ a ∈ argRefs, s.mem ((c : Thread nD τ).loc a) = m ((c : Thread nD τ).loc a))
    (hfin := fun c s' => by
      unfold StableHlo.held
      iintro ⟨⟨%W, Hh, %hk⟩, HSI⟩
      ihave Hp := (pointsTo_read_all (Pipeline.ucRefs τ sig) (fun b => (((c : Thread nD τ)).1, b)) (W c) s') $$ [Hh HSI]
      · isplitl [Hh] <;> iassumption
      icases Hp with ⟨%hb, HSI⟩
      imodintro
      isplitr
      · ipureintro
        exact fun a ha => (hb _ (Finset.mem_filter.mpr ⟨StableHlo.devRef_mem_tcRefs a, by revert a; decide⟩)).trans (hk a ha)
      iexact HSI)
    (hQ := fun s h hs => ⟨fun c => ⟨h c _ (by simp [argRefs]), h c _ (by simp [argRefs]), h c _ (by simp [argRefs]), h c _ (by simp [argRefs]), h c _ (by simp [argRefs]), h c _ (by simp [argRefs])⟩,
      funext fun g => hs g (.inr (regions_no_unscoped g.2))⟩)

end Cert.Kernel.Run

end
-- ==== Proof.Ideal.Body0.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-! ## What one call computes, as functions of what its buffers hold -/

/-- Tile 0 of the block of packed counts. -/
abbrev w0 (x1 : Vec F S8x384x128 .i32) : Vec F S1x384x128 .i32 := View.ld x1 (Rect.unit (s := S8x384x128) ![0, 0, 0] S1x384x128.size inb_S8x384x128_S1x384x128_0_0_0)
/-- Tile 1 of the block of packed counts. -/
abbrev w1 (x1 : Vec F S8x384x128 .i32) : Vec F S1x384x128 .i32 := View.ld x1 (Rect.unit (s := S8x384x128) ![1, 0, 0] S1x384x128.size inb_S8x384x128_S1x384x128_1_0_0)
/-- Tile 2 of the block of packed counts. -/
abbrev w2 (x1 : Vec F S8x384x128 .i32) : Vec F S1x384x128 .i32 := View.ld x1 (Rect.unit (s := S8x384x128) ![2, 0, 0] S1x384x128.size inb_S8x384x128_S1x384x128_2_0_0)
/-- Tile 3 of the block of packed counts. -/
abbrev w3 (x1 : Vec F S8x384x128 .i32) : Vec F S1x384x128 .i32 := View.ld x1 (Rect.unit (s := S8x384x128) ![3, 0, 0] S1x384x128.size inb_S8x384x128_S1x384x128_3_0_0)
/-- Tile 4 of the block of packed counts. -/
abbrev w4 (x1 : Vec F S8x384x128 .i32) : Vec F S1x384x128 .i32 := View.ld x1 (Rect.unit (s := S8x384x128) ![4, 0, 0] S1x384x128.size inb_S8x384x128_S1x384x128_4_0_0)
/-- Tile 5 of the block of packed counts. -/
abbrev w5 (x1 : Vec F S8x384x128 .i32) : Vec F S1x384x128 .i32 := View.ld x1 (Rect.unit (s := S8x384x128) ![5, 0, 0] S1x384x128.size inb_S8x384x128_S1x384x128_5_0_0)
/-- Tile 6 of the block of packed counts. -/
abbrev w6 (x1 : Vec F S8x384x128 .i32) : Vec F S1x384x128 .i32 := View.ld x1 (Rect.unit (s := S8x384x128) ![6, 0, 0] S1x384x128.size inb_S8x384x128_S1x384x128_6_0_0)
/-- Tile 7 of the block of packed counts. -/
abbrev w7 (x1 : Vec F S8x384x128 .i32) : Vec F S1x384x128 .i32 := View.ld x1 (Rect.unit (s := S8x384x128) ![7, 0, 0] S1x384x128.size inb_S8x384x128_S1x384x128_7_0_0)

/-- The block's counts, unpacked: 1536 users by 1024 items. -/
def aM (x1 : Vec F S8x384x128 .i32) : Vec F S1536x1024 .bf16 := View.canon [
  ⟨Rect.unit (s := S1536x1024) ![0, 896] S1536x128.size inb_S1536x1024_S1536x128_0_896, k0_pay6 (w7 x1)⟩,
  ⟨Rect.unit (s := S1536x1024) ![0, 768] S1536x128.size inb_S1536x1024_S1536x128_0_768, k0_pay6 (w6 x1)⟩,
  ⟨Rect.unit (s := S1536x1024) ![0, 640] S1536x128.size inb_S1536x1024_S1536x128_0_640, k0_pay6 (w5 x1)⟩,
  ⟨Rect.unit (s := S1536x1024) ![0, 512] S1536x128.size inb_S1536x1024_S1536x128_0_512, k0_pay6 (w4 x1)⟩,
  ⟨Rect.unit (s := S1536x1024) ![0, 384] S1536x128.size inb_S1536x1024_S1536x128_0_384, k0_pay6 (w3 x1)⟩,
  ⟨Rect.unit (s := S1536x1024) ![0, 256] S1536x128.size inb_S1536x1024_S1536x128_0_256, k0_pay6 (w2 x1)⟩,
  ⟨Rect.unit (s := S1536x1024) ![0, 128] S1536x128.size inb_S1536x1024_S1536x128_0_128, k0_pay6 (w1 x1)⟩,
  ⟨Rect.unit (s := S1536x1024) ![0, 0] S1536x128.size inb_S1536x1024_S1536x128_0_0, k0_pay6 (w0 x1)⟩]

/-- The degrees of one tile's items, as the packed sums give them. -/
def deg (w : Vec F S1x384x128 .i32) : IVec S1x128 32 := k0_pay16 (k0_pay14 w) (k0_pay15 w)

/-- The inverse square roots of the block's item degrees. -/
def rdi (x1 : Vec F S8x384x128 .i32) : FVec F S1x1024 .f32 :=
  k0_pay39 (deg (w0 x1)) (deg (w1 x1)) (deg (w2 x1)) (deg (w3 x1)) (deg (w4 x1)) (deg (w5 x1)) (deg (w6 x1)) (k0_pay36 (w7 x1)) (k0_pay37 (w7 x1)) k0_pay38

/-- The block's new item vectors before quantisation. -/
def i1 (x1 : Vec F S8x384x128 .i32) (V : Vec F S576x1536 .bf16) : FVec F S192x1024 .f32 :=
  k0_pay40 (deg (w0 x1)) (deg (w1 x1)) (deg (w2 x1)) (deg (w3 x1)) (deg (w4 x1)) (deg (w5 x1)) (deg (w6 x1)) (k0_pay36 (w7 x1)) (k0_pay37 (w7 x1)) k0_pay38 (aM x1) V

/-- Where an item's largest magnitude is zero. -/
def z1 (x1 : Vec F S8x384x128 .i32) (V : Vec F S576x1536 .bf16) : IVec S1x1024 1 :=
  k0_pay42 (deg (w0 x1)) (deg (w1 x1)) (deg (w2 x1)) (deg (w3 x1)) (deg (w4 x1)) (deg (w5 x1)) (deg (w6 x1)) (k0_pay36 (w7 x1)) (k0_pay37 (w7 x1)) k0_pay38 (aM x1) V

/-- The largest magnitudes over 127. -/
def m1 (x1 : Vec F S8x384x128 .i32) (V : Vec F S576x1536 .bf16) : FVec F S1x1024 .f32 :=
  k0_pay43 (deg (w0 x1)) (deg (w1 x1)) (deg (w2 x1)) (deg (w3 x1)) (deg (w4 x1)) (deg (w5 x1)) (deg (w6 x1)) (k0_pay36 (w7 x1)) (k0_pay37 (w7 x1)) k0_pay38 (aM x1) V

/-- The two groups of item terms that the users gather. -/
def v1 (x1 : Vec F S8x384x128 .i32) (x2 : Vec F S192x1024 .i8) (x3 : Vec F S1x1024 .f32) (V : Vec F S576x1536 .bf16) : FVec F S1152x1024 .bf16 :=
  k0_pay47 (rdi x1) (i1 x1 V) (z1 x1 V) (m1 x1 V) x3 x2

/-- The codes of the block's items. -/
def o7 (x1 : Vec F S8x384x128 .i32) (V : Vec F S576x1536 .bf16) : Vec F S192x1024 .i8 := k0_pay46 (i1 x1 V) (z1 x1 V) (m1 x1 V)
/-- The scales of the block's items. -/
def o8 (x1 : Vec F S8x384x128 .i32) (V : Vec F S576x1536 .bf16) : Vec F S1x1024 .f32 := k0_pay44 (z1 x1 V) (m1 x1 V)
/-- The user sums after the block, over the sums `G` before it. -/
def o10 (x1 : Vec F S8x384x128 .i32) (x2 : Vec F S192x1024 .i8) (x3 : Vec F S1x1024 .f32) (V : Vec F S576x1536 .bf16) (G : Vec F S384x1536 .f32) : Vec F S384x1536 .f32 :=
  View.canon [⟨Rect.unit (s := S384x1536) ![192, 0] S192x1536.size inb_S384x1536_S192x1536_192_0, k0_pay3 (aM x1) (v1 x1 x2 x3 V) (constant S1152x1536 .f32 0x00000000#32)
      (View.ld G (Rect.unit (s := S384x1536) ![192, 0] S192x1536.size inb_S384x1536_S192x1536_192_0))⟩,
    ⟨Rect.unit (s := S384x1536) ![0, 0] S192x1536.size inb_S384x1536_S192x1536_0_0, k0_pay2 (aM x1) (v1 x1 x2 x3 V) (constant S1152x1536 .f32 0x00000000#32)
      (View.ld G (Rect.unit (s := S384x1536) ![0, 0] S192x1536.size inb_S384x1536_S192x1536_0_0))⟩]

/-- The first point of the grid. -/
abbrev first (i : grid0.Coords) : Prop := Scalar.cmpi .ne (Scalar.extui (Scalar.cmpi .eq (BitVec.ofNat 32 (i 0).val) 0#32)) 0#32 = 1#1
/-- The user terms the body computes with: fresh at the first point, kept at the others. -/
def vNew (i : grid0.Coords) (x4 : Vec F S192x1536 .i8) (x5 x6 : Vec F S1x1536 .f32) (x12 : Vec F S576x1536 .bf16) : Vec F S576x1536 .bf16 :=
  if first i then k0_pay4 x4 x5 x6 else x12
/-- The user sums before the block: zero at the first point, kept at the others. -/
def gNew (i : grid0.Coords) (x10 : Vec F S384x1536 .f32) : Vec F S384x1536 .f32 := if first i then k0_pay5 else x10

theorem owns_of_read (c : Thread nD τ) {sp : Space} {sh : Shape} {e : EltTy} (m : Memref sig c.2.kind sp sh e) (q : PosShare TreeShare)
    (f : m.view.ty.Contents (Elt F)) {X : sh.Idx → Elt F e} (h : m.view.read (Elt F) f = X) : (m.view.loc c ↦[m.view.set]{q} f : sProp 𝕄) ⊢ iprop(∃ g, ⌜m.view.read (Elt F) g = X⌝ ∗ (m.view.loc c ↦[m.view.set]{q} g)) := by
  subst h; exact owns_intro c m q f

theorem readCov_whole {sp : Space} {S : Shape} {e : EltTy} (v : View sig .tc sp S e) (L : List (View.Piece (Elt F) S e))
    {off : Fin S.rank → ℕ} (inb : ∀ a, off a + S.size a ≤ S.size a) :
    v.readCov L (Rect.unit off S.size inb).toLoadRect = View.canon L := by
  rw [View.readCov_eq_canon']
  funext y
  exact congrArg (View.canon L) (funext fun a => Fin.ext (by
    show off a + 1 * (y a).val = (y a).val
    have := inb a; omega))

theorem cover_aM (p0 p1 p2 p3 p4 p5 p6 p7 : S1536x128.Idx → Elt F .bf16) (y : S1536x1024.Idx) : ∃ p ∈ ([
  ⟨Rect.unit (s := S1536x1024) ![0, 896] S1536x128.size inb_S1536x1024_S1536x128_0_896, p7⟩,
  ⟨Rect.unit (s := S1536x1024) ![0, 768] S1536x128.size inb_S1536x1024_S1536x128_0_768, p6⟩,
  ⟨Rect.unit (s := S1536x1024) ![0, 640] S1536x128.size inb_S1536x1024_S1536x128_0_640, p5⟩,
  ⟨Rect.unit (s := S1536x1024) ![0, 512] S1536x128.size inb_S1536x1024_S1536x128_0_512, p4⟩,
  ⟨Rect.unit (s := S1536x1024) ![0, 384] S1536x128.size inb_S1536x1024_S1536x128_0_384, p3⟩,
  ⟨Rect.unit (s := S1536x1024) ![0, 256] S1536x128.size inb_S1536x1024_S1536x128_0_256, p2⟩,
  ⟨Rect.unit (s := S1536x1024) ![0, 128] S1536x128.size inb_S1536x1024_S1536x128_0_128, p1⟩,
  ⟨Rect.unit (s := S1536x1024) ![0, 0] S1536x128.size inb_S1536x1024_S1536x128_0_0, p0⟩] : List (View.Piece (Elt F) S1536x1024 .bf16)), y ∈ p.1.set := by
  have h0 : (y 0).val < 1536 := (y 0).isLt
  have h1 : (y 1).val < 1024 := (y 1).isLt
  simp only [List.exists_mem_cons_iff, Rect.mem_set_unit]
  have k : ∀ o : Nat, o ≤ (y 1).val → (y 1).val < o + 128 → ∀ a : Fin 2, (![0, o] : Fin 2 → Nat) a ≤ (y a).val ∧ (y a).val < (![0, o] : Fin 2 → Nat) a + S1536x128.size a := by
    intro o ho ho' a
    match a with
    | ⟨0, _⟩ => exact ⟨Nat.zero_le _, by show (y 0).val < 0 + 1536; omega⟩
    | ⟨1, _⟩ => exact ⟨ho, ho'⟩
  by_cases e7 : 896 ≤ (y 1).val
  · exact Or.inl (k 896 e7 (by omega))
  by_cases e6 : 768 ≤ (y 1).val
  · exact Or.inr (Or.inl (k 768 e6 (by omega)))
  by_cases e5 : 640 ≤ (y 1).val
  · exact Or.inr (Or.inr (Or.inl (k 640 e5 (by omega))))
  by_cases e4 : 512 ≤ (y 1).val
  · exact Or.inr (Or.inr (Or.inr (Or.inl (k 512 e4 (by omega)))))
  by_cases e3 : 384 ≤ (y 1).val
  · exact Or.inr (Or.inr (Or.inr (Or.inr (Or.inl (k 384 e3 (by omega))))))
  by_cases e2 : 256 ≤ (y 1).val
  · exact Or.inr (Or.inr (Or.inr (Or.inr (Or.inr (Or.inl (k 256 e2 (by omega)))))))
  by_cases e1 : 128 ≤ (y 1).val
  · exact Or.inr (Or.inr (Or.inr (Or.inr (Or.inr (Or.inr (Or.inl (k 128 e1 (by omega))))))))
  exact Or.inr (Or.inr (Or.inr (Or.inr (Or.inr (Or.inr (Or.inr (Or.inl (k 0 (Nat.zero_le _) (by omega)))))))))

theorem cover_g (p0 p1 : S192x1536.Idx → Elt F .f32) (y : S384x1536.Idx) : ∃ p ∈ ([⟨Rect.unit (s := S384x1536) ![192, 0] S192x1536.size inb_S384x1536_S192x1536_192_0, p1⟩,
    ⟨Rect.unit (s := S384x1536) ![0, 0] S192x1536.size inb_S384x1536_S192x1536_0_0, p0⟩] : List (View.Piece (Elt F) S384x1536 .f32)), y ∈ p.1.set := by
  have h0 : (y 0).val < 384 := (y 0).isLt
  have h1 : (y 1).val < 1536 := (y 1).isLt
  simp only [List.exists_mem_cons_iff, Rect.mem_set_unit]
  have k : ∀ o : Nat, o ≤ (y 0).val → (y 0).val < o + 192 → ∀ a : Fin 2, (![o, 0] : Fin 2 → Nat) a ≤ (y a).val ∧ (y a).val < (![o, 0] : Fin 2 → Nat) a + S192x1536.size a := by
    intro o ho ho' a
    match a with
    | ⟨0, _⟩ => exact ⟨ho, ho'⟩
    | ⟨1, _⟩ => exact ⟨Nat.zero_le _, by show (y 1).val < 0 + 1536; omega⟩
  by_cases e : 192 ≤ (y 0).val
  · exact Or.inl (k 192 e (by omega))
  · exact Or.inr (Or.inl (k 0 (Nat.zero_le _) (by omega)))

/-- The body of the first pass, whole buffers in and out. -/
theorem run1 (c : Dev nD) (i : grid0.Coords) (arg1 : Memref sig .tc .vmem S8x384x128 .i32) (harg1 : arg1.IsWhole) (arg2 : Memref sig .tc .vmem S192x1024 .i8) (harg2 : arg2.IsWhole) (arg3 : Memref sig .tc .vmem S1x1024 .f32) (harg3 : arg3.IsWhole) (arg4 : Memref sig .tc .vmem S192x1536 .i8) (harg4 : arg4.IsWhole) (arg5 : Memref sig .tc .vmem S1x1536 .f32) (harg5 : arg5.IsWhole) (arg6 : Memref sig .tc .vmem S1x1536 .f32) (harg6 : arg6.IsWhole) (arg7 : Memref sig .tc .vmem S192x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S384x1536 .f32) (harg10 : arg10.IsWhole) (arg11 : Memref sig .tc .vmem S1536x1024 .bf16) (harg11 : arg11.IsWhole) (arg12 : Memref sig .tc .vmem S576x1536 .bf16) (harg12 : arg12.IsWhole)
   (x1 : Vec F S8x384x128 .i32) (x2 : Vec F S192x1024 .i8) (x3 : Vec F S1x1024 .f32) (x4 : Vec F S192x1536 .i8) (x5 : Vec F S1x1536 .f32) (x6 : Vec F S1x1536 .f32) (x7 : Vec F S192x1024 .i8) (x8 : Vec F S1x1024 .f32) (x9 : Vec F S1x1024 .f32) (x10 : Vec F S384x1536 .f32) (x11 : Vec F S1536x1024 .bf16) (x12 : Vec F S576x1536 .bf16)
   (Y : sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ (owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare (o7 x1 (vNew i x4 x5 x6 x12))
        ∗ owns (c : Thread nD τ) arg8 fullShare (o8 x1 (vNew i x4 x5 x6 x12))
        ∗ owns (c : Thread nD τ) arg9 fullShare (rdi x1)
        ∗ owns (c : Thread nD τ) arg10 fullShare (o10 x1 x2 x3 (vNew i x4 x5 x6 x12) (gNew i x10))
        ∗ owns (c : Thread nD τ) arg11 fullShare (aM x1)
        ∗ owns (c : Thread nD τ) arg12 fullShare (vNew i x4 x5 x6 x12) -∗ Y))
      ⊢ wp frame (wpE (defs₀ (F := F)) Variants.none c none) Set.univ
          (cc0_pass1 i arg1 harg1 arg2 harg2 arg3 harg3 arg4 harg4 arg5 harg5 arg6 harg6 arg7 harg7 arg8 harg8 arg9 harg9 arg10 harg10 arg11 harg11 arg12 harg12) (fun _ => Y) := by
  sl_unfold [cc0_pass1, k0_part1, k0_part2, k0_part3, k0_part4, k0_part5, k0_part6, k0_part7, k0_part8, k0_part9]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HK⟩
  sl_exec
  sl_step
  iapply HK
  have eV : run1.sl.v286 c i arg4 arg5 arg6 arg12 f4 f5 f6 f12 = vNew i x4 x5 x6 x12 := by
    subst hf4 hf5 hf6 hf12
    delta run1.sl.v286 run1.sl.v2 run1.sl.v1 run1.sl.v0 vNew
    split
    · rename_i hc
      (try rw [if_pos hc])
      rw [View.readAt_full, View.read_writes_full, View.readAt_full, View.readAt_full, View.readAt_full]
    · rename_i hc
      (try rw [if_neg hc])
      rw [View.readAt_full]
  have e85 : run1.sl.v85 c arg1 f1 = deg (w0 x1) := by subst hf1; rfl
  have e112 : run1.sl.v112 c arg1 f1 = deg (w1 x1) := by subst hf1; rfl
  have e139 : run1.sl.v139 c arg1 f1 = deg (w2 x1) := by subst hf1; rfl
  have e166 : run1.sl.v166 c arg1 f1 = deg (w3 x1) := by subst hf1; rfl
  have e193 : run1.sl.v193 c arg1 f1 = deg (w4 x1) := by subst hf1; rfl
  have e220 : run1.sl.v220 c arg1 f1 = deg (w5 x1) := by subst hf1; rfl
  have e247 : run1.sl.v247 c arg1 f1 = deg (w6 x1) := by subst hf1; rfl
  have e253 : run1.sl.v253 c arg1 f1 = k0_pay36 (w7 x1) := by subst hf1; rfl
  have e259 : run1.sl.v259 c arg1 f1 = k0_pay37 (w7 x1) := by subst hf1; rfl
  have e71 : run1.sl.v71 = k0_pay38 := rfl
  have eL : View.canon (run1.sl.H11_8 c arg1 f1) = aM x1 := by subst hf1; rfl
  have eA : run1.sl.v285 c arg1 arg11 f1 = aM x1 := (readCov_whole _ _ _).trans eL
  have er2 : run1.sl.r_2 c arg1 f1 = rdi x1 := by
    delta run1.sl.r_2 rdi; rw [e85, e112, e139, e166, e193, e220, e247, e253, e259, e71]
  have er3 : run1.sl.r_3 c i arg1 arg4 arg5 arg6 arg11 arg12 f1 f4 f5 f6 f12 = i1 x1 (vNew i x4 x5 x6 x12) := by
    delta run1.sl.r_3 i1; rw [e85, e112, e139, e166, e193, e220, e247, e253, e259, e71, eA, eV]
  have er4 : run1.sl.r_4 c i arg1 arg4 arg5 arg6 arg11 arg12 f1 f4 f5 f6 f12 = z1 x1 (vNew i x4 x5 x6 x12) := by
    delta run1.sl.r_4 z1; rw [e85, e112, e139, e166, e193, e220, e247, e253, e259, e71, eA, eV]
  have er5 : run1.sl.r_5 c i arg1 arg4 arg5 arg6 arg11 arg12 f1 f4 f5 f6 f12 = m1 x1 (vNew i x4 x5 x6 x12) := by
    delta run1.sl.r_5 m1; rw [e85, e112, e139, e166, e193, e220, e247, e253, e259, e71, eA, eV]
  have er6 : run1.sl.r_6 c i arg1 arg2 arg3 arg4 arg5 arg6 arg11 arg12 f1 f2 f3 f4 f5 f6 f12 = v1 x1 x2 x3 (vNew i x4 x5 x6 x12) := by
    delta run1.sl.r_6 v1; rw [er2, er3, er4, er5, View.readAt_full, View.readAt_full, hf2, hf3]
  isplitl [H1]
  · iapply (owns_of_read (c : Thread nD τ) arg1 fullShare _ ?_) $$ H1
    exact hf1
  isplitl [H2]
  · iapply (owns_of_read (c : Thread nD τ) arg2 fullShare _ ?_) $$ H2
    exact hf2
  isplitl [H3]
  · iapply (owns_of_read (c : Thread nD τ) arg3 fullShare _ ?_) $$ H3
    exact hf3
  isplitl [H4]
  · iapply (owns_of_read (c : Thread nD τ) arg4 fullShare _ ?_) $$ H4
    exact hf4
  isplitl [H5]
  · iapply (owns_of_read (c : Thread nD τ) arg5 fullShare _ ?_) $$ H5
    exact hf5
  isplitl [H6]
  · iapply (owns_of_read (c : Thread nD τ) arg6 fullShare _ ?_) $$ H6
    exact hf6
  isplitl [H7]
  · iapply (owns_of_read (c : Thread nD τ) arg7 fullShare _ ?_) $$ H7
    rw [View.read_writes_full, er3, er4, er5]; rfl
  isplitl [H8]
  · iapply (owns_of_read (c : Thread nD τ) arg8 fullShare _ ?_) $$ H8
    rw [View.read_writes_full, er4, er5]; rfl
  isplitl [H9]
  · iapply (owns_of_read (c : Thread nD τ) arg9 fullShare _ ?_) $$ H9
    rw [View.read_writes_full, e85, e112, e139, e166, e193, e220, e247, e253, e259, e71]; rfl
  isplitl [H10]
  · iapply (owns_of_read (c : Thread nD τ) arg10 fullShare _ ?_) $$ H10
    refine (View.read_writes_eq_canon _ _ _ (cover_g _ _)).trans ?_
    have eG : ∀ (s : Fin 2 → Nat) (inb : ∀ a, s a + S192x1536.size a ≤ S384x1536.size a), View.readAt (Elt F) arg10.view (Rect.unit (s := S384x1536) s S192x1536.size inb).toLoadRect (if hc : run1.sl.v2 i = 1#1 then arg10.view.writes (Elt F) f10 [⟨Rect.unit ![0, 0] S384x1536.size inb_S384x1536_S384x1536_0_0, k0_pay5⟩] else f10) = View.ld (gNew i x10) (Rect.unit (s := S384x1536) s S192x1536.size inb) := by
      intro s inb
      subst hf10
      rw [View.readAt_eq_ld]
      congr 1
      delta run1.sl.v2 run1.sl.v1 run1.sl.v0 gNew
      split
      · rename_i hc
        (try rw [if_pos hc])
        rw [View.read_writes_full]
      · rename_i hc
        first | rfl | rw [if_neg hc]
    delta run1.sl.v356 run1.sl.v347 run1.sl.cst_159 o10
    rw [eA, er6, eG, eG]
  isplitl [H11]
  · iapply (owns_of_read (c : Thread nD τ) arg11 fullShare _ ?_) $$ H11
    refine (View.read_writes_eq_canon _ _ _ ?_).trans eL
    exact cover_aM _ _ _ _ _ _ _ _
  · iapply (owns_of_read (c : Thread nD τ) arg12 fullShare _ ?_) $$ H12
    subst hf4 hf5 hf6 hf12
    unfold vNew
    sl_unfold_words
    split
    · rename_i hc
      (try rw [if_pos hc])
      rw [View.read_writes_full, View.readAt_full, View.readAt_full, View.readAt_full]
    · rename_i hc
      first | rfl | rw [if_neg hc]

end Cert.KernelIdeal.Body0
end
-- ==== Proof.Ideal.Weak0.lean ====
/-
  What the frame needs of pallas_call 0: its body runs from its staging buffers at any contents.

  Only the packed counts (window 0) are remembered, because they are an argument; every other window is
  forgotten (`forgets`), so nothing is said here of what the kernel computes.
-/
module

public import proofs.«01_k».proof.Proof.Ideal.Body0

@[expose] public section

set_option maxRecDepth 16384

noncomputable section

namespace Cert.KernelIdeal.Weak0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-- Every window but the packed counts is forgotten. -/
def forgets : Fin 10 → Bool := ![false, true, true, true, true, true, true, true, true, true]

/-- The proof data of an entry at the valuation `W`: every scratch buffer at some contents between the points. -/
def dat (W : Valuation τ sig (Elt F)) (c : Dev nD) : Dat τ (Elt F) Unit ℕ U ℕ cfg0 c where
  A w := W (Proc.devRef .tc (Pipeline.arrRef spec0 w))
  after w t := (cfg0.win w).fill (cfg0.grid.coords t) (fun _ => Classical.arbitrary _)
    (((cfg0.win w).blk t).view.read (Elt F) (W (Proc.devRef .tc (Pipeline.arrRef spec0 w))))
  Φ _ := iprop(Pipeline.scopedRest spec0 c ∗ ∃ r, prngReg c r)
  q _ := fullShare
  owed _ := 0

/-- The packed counts as a point finds them, and leaves them. -/
abbrev counts (W : Valuation τ sig (Elt F)) (c : Dev nD) (t : Fin cfg0.N) : Vec F S8x384x128 .i32 :=
  (dat (U := U) W c).after 0 t

theorem before_0 (W : Valuation τ sig (Elt F)) (c : Dev nD) (t : Fin cfg0.N)
    (d : (cfg0.win 0).block.Idx → Elt F (cfg0.win 0).elt) : (dat (U := U) W c).before 0 t d = counts (U := U) W c t := by
  unfold Dat.before; rw [if_pos (fetch0_0 t)]; rfl

theorem scratch_split (c : Dev nD) :
    (Pipeline.scopedRest (Ix := Unit) (Name := ℕ) (U := U) (Lvl := ℕ) (Val := Elt F) spec0 c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := U) (Lvl := ℕ) (Val := Elt F) spec0 c [cc0_scratch0, cc0_scratch1]) :=
  Pipeline.scopedRest_split_of_list spec0 c [cc0_scratch0, cc0_scratch1] (by decide) (by decide)

/-- A buffer owned at known contents is owned at some. -/
theorem some_of_owns (c : Dev nD) (b : Ref sig .tc) (X : b.ty.Contents (Elt F)) :
    (owns (c : Thread nD τ) (Memref.whole b) fullShare X : sProp 𝕄) ⊢ iprop(∃ f : Buf (Elt F) ((c : Thread nD τ).loc b), ((c : Thread nD τ).loc b) ↦{fullShare} f) := by
  rw [owns_whole_eq]
  iintro ⟨%f, -, H⟩
  iexists f; iexact H

/-- The body at a point, every buffer but the counts' at some contents before and after. -/
theorem sound_body (W : Valuation τ sig (Elt F)) (c : Dev nD) (t : Fin cfg0.N) :
    iprop((dat (U := U) W c).Φ t.castSucc ∗ (dat (U := U) W c).owesAt () t.castSucc
      ∗ (∃ d, owns (c : Thread nD τ) (st0_0 t) fullShare ((dat (U := U) W c).before 0 t d))
      ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))
    ⊢ wp frame (wpE (defs₀ (F := F)) Variants.none c none) Set.univ (bodyAt0 t) (fun _ =>
        iprop((dat (U := U) W c).Φ t.succ ∗ (dat (U := U) W c).owesAt () t.succ
      ∗ owns (c : Thread nD τ) (st0_0 t) fullShare (counts (U := U) W c t)
      ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))) := by
  unfold bodyAt0
  rw [show (dat (U := U) W c).Φ t.succ = (dat (U := U) W c).Φ t.castSucc from rfl,
    show (dat (U := U) W c).owesAt () t.succ = (dat (U := U) W c).owesAt () t.castSucc from rfl,
    show (dat (U := U) W c).Φ t.castSucc = iprop(Pipeline.scopedRest spec0 c ∗ ∃ r, prngReg c r) from rfl, scratch_split]
  iintro ⟨⟨⟨⟨⟨%f0, S0⟩, ⟨%f1, S1⟩⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0]
  iapply (Body0.run1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)
    (counts (U := U) W c t) d1 d2 d3 d4 d5 d6 d7 d8 d9 f0 f1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]
  · rw [owns_whole_eq]; iexists f0; isplitr
    · ipureintro; rfl
    · iexact S0
  isplitl [S1]
  · rw [owns_whole_eq]; iexists f1; isplitr
    · ipureintro; rfl
    · iexact S1
  iintro ⟨H0, H1, H2, H3, H4, H5, H6, H7, H8, H9, S0, S1⟩
  isplitl [S0 S1 HR HG]
  · isplitl [S0 S1 HR]
    · isplitl [S0 S1]
      · isplitl [S0]; · iapply (some_of_owns c _ _); iexact S0
        iapply (some_of_owns c _ _); iexact S1
      iexact HR
    iexact HG
  isplitl [HO]; · iexact HO
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, every window but the counts forgotten. -/
theorem obligation (W : Valuation τ sig (Elt F)) (c : Dev nD) :
    BodyObligationLoose (dat (U := U) W c) (defs₀ (F := F)) Variants.none () Set.univ forgets := fun t => by
  rw [bigSep_W0, bigSep_W0, defs₀_row]
  exact sound_body W c t

end Cert.KernelIdeal.Weak0

end
-- ==== Proof.Ideal.Body1.lean ====
module

public import proofs.«01_k».proof.Proof.Ideal.Body0
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

open Cert.KernelIdeal.Body0 (aM owns_of_read readCov_whole cover_aM)

/-! ## What one call computes, as functions of what its buffers hold -/

/-- The first layer's user sums. -/
abbrev gA (x7 : Vec F S384x1536 .f32) : Vec F S192x1536 .f32 := View.ld x7 (Rect.unit (s := S384x1536) ![0, 0] S192x1536.size inb_S384x1536_S192x1536_0_0)
/-- The second layer's user sums. -/
abbrev gB (x7 : Vec F S384x1536 .f32) : Vec F S192x1536 .f32 := View.ld x7 (Rect.unit (s := S384x1536) ![192, 0] S192x1536.size inb_S384x1536_S192x1536_192_0)
def uc1 (x7 : Vec F S384x1536 .f32) (x10 : Vec F S1x1536 .f32) : Vec F S192x1536 .i8 := k1_pay11 (k1_pay20 x10) (gA x7)
def us1 (x7 : Vec F S384x1536 .f32) (x10 : Vec F S1x1536 .f32) : Vec F S1x1536 .f32 := k1_pay9 (k1_pay20 x10) (gA x7)
def uc2 (x7 : Vec F S384x1536 .f32) (x10 : Vec F S1x1536 .f32) : Vec F S192x1536 .i8 := k1_pay18 (k1_pay20 x10) (gB x7)
def us2 (x7 : Vec F S384x1536 .f32) (x10 : Vec F S1x1536 .f32) : Vec F S1x1536 .f32 := k1_pay16 (k1_pay20 x10) (gB x7)
/-- The user terms of layers 1 and 2. -/
def vu (x7 : Vec F S384x1536 .f32) (x10 : Vec F S1x1536 .f32) : Vec F S1152x1536 .bf16 :=
  View.canon [⟨Rect.unit (s := S1152x1536) ![576, 0] S576x1536.size inb_S1152x1536_S576x1536_576_0, k1_pay21 (k1_pay19 (k1_pay20 x10) (gB x7))⟩,
    ⟨Rect.unit (s := S1152x1536) ![0, 0] S576x1536.size inb_S1152x1536_S576x1536_0_0, k1_pay13 (k1_pay12 (k1_pay20 x10) (gA x7))⟩]
/-- The sum of the user vectors of layers 0, 1 and 2. -/
def acc (x7 : Vec F S384x1536 .f32) (x8 : Vec F S192x1536 .i8) (x9 x10 : Vec F S1x1536 .f32) : Vec F S192x1536 .f32 :=
  k1_pay22 (k1_pay14 (k1_pay7 x8 x9) (k1_pay9 (k1_pay20 x10) (gA x7)) (k1_pay10 (k1_pay20 x10) (gA x7))) (k1_pay16 (k1_pay20 x10) (gB x7)) (k1_pay17 (k1_pay20 x10) (gB x7))
/-- What a buffer written at the first point only holds after a point. -/
def atFirst {S : Shape} {e : EltTy} (i : grid1.Coords) (v x : Vec F S e) : Vec F S e := if k1_cond1 i = 1#1 then v else x
/-- What a buffer written at the last point only holds after a point. -/
def atLast {S : Shape} {e : EltTy} (i : grid1.Coords) (v x : Vec F S e) : Vec F S e := if k1_cond2 i = 1#1 then v else x
def o11 (x1 : Vec F S8x384x128 .i32) (x6 : Vec F S1x1024 .f32) (V : Vec F S1152x1536 .bf16) : Vec F S192x1024 .i8 := k1_pay42 (k1_pay37 (aM x1) x6 V)
def o12 (x1 : Vec F S8x384x128 .i32) (x6 : Vec F S1x1024 .f32) (V : Vec F S1152x1536 .bf16) : Vec F S1x1024 .f32 := k1_pay36 (aM x1) x6 V
def o13 (x1 : Vec F S8x384x128 .i32) (x6 : Vec F S1x1024 .f32) (V : Vec F S1152x1536 .bf16) : Vec F S192x1024 .i8 := k1_pay43 (k1_pay40 (aM x1) x6 V) (Scalar.ofBits .f32 0xC2FE0000#32)
def o14 (x1 : Vec F S8x384x128 .i32) (x6 : Vec F S1x1024 .f32) (V : Vec F S1152x1536 .bf16) : Vec F S1x1024 .f32 := k1_pay39 (aM x1) x6 V
def o15 (x1 : Vec F S8x384x128 .i32) (x2 : Vec F S192x1024 .i8) (x3 : Vec F S1x1024 .f32) (x4 : Vec F S192x1024 .i8) (x5 x6 : Vec F S1x1024 .f32) (V : Vec F S1152x1536 .bf16) : Vec F S192x1024 .bf16 :=
  k1_pay44 (k1_pay36 (aM x1) x6 V) (k1_pay37 (aM x1) x6 V) (k1_pay39 (aM x1) x6 V) (k1_pay40 (aM x1) x6 V) (Scalar.ofBits .f32 0xC2FE0000#32) x2 x3 x4 x5
/-- The third layer's user sums after the block, over the sums `G` before it. -/
def o25 (x1 : Vec F S8x384x128 .i32) (x6 : Vec F S1x1024 .f32) (V : Vec F S1152x1536 .bf16) (G : Vec F S192x1536 .f32) : Vec F S192x1536 .f32 :=
  k1_pay1 (aM x1) (k1_pay33 x6) (k1_pay36 (aM x1) x6 V) (k1_pay37 (aM x1) x6 V) G
def o20 (x10 : Vec F S1x1536 .f32) (g3 : Vec F S192x1536 .f32) : Vec F S192x1536 .i8 := k1_pay5 (k1_pay20 x10) g3
def o21 (x10 : Vec F S1x1536 .f32) (g3 : Vec F S192x1536 .f32) : Vec F S1x1536 .f32 := k1_pay3 (k1_pay20 x10) g3
def o22 (x10 : Vec F S1x1536 .f32) (g3 u : Vec F S192x1536 .f32) : Vec F S192x1536 .bf16 := k1_pay6 (k1_pay20 x10) g3 u

theorem cover_vu (p0 p1 : S576x1536.Idx → Elt F .bf16) (y : S1152x1536.Idx) : ∃ p ∈ ([⟨Rect.unit (s := S1152x1536) ![576, 0] S576x1536.size inb_S1152x1536_S576x1536_576_0, p1⟩,
    ⟨Rect.unit (s := S1152x1536) ![0, 0] S576x1536.size inb_S1152x1536_S576x1536_0_0, p0⟩] : List (View.Piece (Elt F) S1152x1536 .bf16)), y ∈ p.1.set := by
  have h0 : (y 0).val < 1152 := (y 0).isLt
  have h1 : (y 1).val < 1536 := (y 1).isLt
  simp only [List.exists_mem_cons_iff, Rect.mem_set_unit]
  have k : ∀ o : Nat, o ≤ (y 0).val → (y 0).val < o + 576 → ∀ a : Fin 2, (![o, 0] : Fin 2 → Nat) a ≤ (y a).val ∧ (y a).val < (![o, 0] : Fin 2 → Nat) a + S576x1536.size a := by
    intro o ho ho' a
    match a with
    | ⟨0, _⟩ => exact ⟨ho, ho'⟩
    | ⟨1, _⟩ => exact ⟨Nat.zero_le _, by show (y 1).val < 0 + 1536; omega⟩
  by_cases e : 576 ≤ (y 0).val
  · exact Or.inl (k 576 e (by omega))
  · exact Or.inr (Or.inl (k 0 (Nat.zero_le _) (by omega)))

/-- The body of the second pass, whole buffers in and out. -/
theorem run2 (c : Dev nD) (i : grid1.Coords) (arg1 : Memref sig .tc .vmem S8x384x128 .i32) (harg1 : arg1.IsWhole) (arg2 : Memref sig .tc .vmem S192x1024 .i8) (harg2 : arg2.IsWhole) (arg3 : Memref sig .tc .vmem S1x1024 .f32) (harg3 : arg3.IsWhole) (arg4 : Memref sig .tc .vmem S192x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S384x1536 .f32) (harg7 : arg7.IsWhole) (arg8 : Memref sig .tc .vmem S192x1536 .i8) (harg8 : arg8.IsWhole) (arg9 : Memref sig .tc .vmem S1x1536 .f32) (harg9 : arg9.IsWhole) (arg10 : Memref sig .tc .vmem S1x1536 .f32) (harg10 : arg10.IsWhole) (arg11 : Memref sig .tc .vmem S192x1024 .i8) (harg11 : arg11.IsWhole) (arg12 : Memref sig .tc .vmem S1x1024 .f32) (harg12 : arg12.IsWhole) (arg13 : Memref sig .tc .vmem S192x1024 .i8) (harg13 : arg13.IsWhole) (arg14 : Memref sig .tc .vmem S1x1024 .f32) (harg14 : arg14.IsWhole) (arg15 : Memref sig .tc .vmem S192x1024 .bf16) (harg15 : arg15.IsWhole) (arg16 : Memref sig .tc .vmem S192x1536 .i8) (harg16 : arg16.IsWhole) (arg17 : Memref sig .tc .vmem S1x1536 .f32) (harg17 : arg17.IsWhole) (arg18 : Memref sig .tc .vmem S192x1536 .i8) (harg18 : arg18.IsWhole) (arg19 : Memref sig .tc .vmem S1x1536 .f32) (harg19 : arg19.IsWhole) (arg20 : Memref sig .tc .vmem S192x1536 .i8) (harg20 : arg20.IsWhole) (arg21 : Memref sig .tc .vmem S1x1536 .f32) (harg21 : arg21.IsWhole) (arg22 : Memref sig .tc .vmem S192x1536 .bf16) (harg22 : arg22.IsWhole) (arg23 : Memref sig .tc .vmem S1536x1024 .bf16) (harg23 : arg23.IsWhole) (arg24 : Memref sig .tc .vmem S1152x1536 .bf16) (harg24 : arg24.IsWhole) (arg25 : Memref sig .tc .vmem S192x1536 .f32) (harg25 : arg25.IsWhole) (arg26 : Memref sig .tc .vmem S192x1536 .f32) (harg26 : arg26.IsWhole)
   (x1 : Vec F S8x384x128 .i32) (x2 : Vec F S192x1024 .i8) (x3 : Vec F S1x1024 .f32) (x4 : Vec F S192x1024 .i8) (x5 : Vec F S1x1024 .f32) (x6 : Vec F S1x1024 .f32) (x7 : Vec F S384x1536 .f32) (x8 : Vec F S192x1536 .i8) (x9 : Vec F S1x1536 .f32) (x10 : Vec F S1x1536 .f32) (x11 : Vec F S192x1024 .i8) (x12 : Vec F S1x1024 .f32) (x13 : Vec F S192x1024 .i8) (x14 : Vec F S1x1024 .f32) (x15 : Vec F S192x1024 .bf16) (x16 : Vec F S192x1536 .i8) (x17 : Vec F S1x1536 .f32) (x18 : Vec F S192x1536 .i8) (x19 : Vec F S1x1536 .f32) (x20 : Vec F S192x1536 .i8) (x21 : Vec F S1x1536 .f32) (x22 : Vec F S192x1536 .bf16) (x23 : Vec F S1536x1024 .bf16) (x24 : Vec F S1152x1536 .bf16) (x25 : Vec F S192x1536 .f32) (x26 : Vec F S192x1536 .f32)
   (Y : sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ owns (c : Thread nD τ) arg22 fullShare x22
        ∗ owns (c : Thread nD τ) arg23 fullShare x23
        ∗ owns (c : Thread nD τ) arg24 fullShare x24
        ∗ owns (c : Thread nD τ) arg25 fullShare x25
        ∗ owns (c : Thread nD τ) arg26 fullShare x26
        ∗ (owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare (o11 x1 x6 (atFirst i (vu x7 x10) x24))
        ∗ owns (c : Thread nD τ) arg12 fullShare (o12 x1 x6 (atFirst i (vu x7 x10) x24))
        ∗ owns (c : Thread nD τ) arg13 fullShare (o13 x1 x6 (atFirst i (vu x7 x10) x24))
        ∗ owns (c : Thread nD τ) arg14 fullShare (o14 x1 x6 (atFirst i (vu x7 x10) x24))
        ∗ owns (c : Thread nD τ) arg15 fullShare (o15 x1 x2 x3 x4 x5 x6 (atFirst i (vu x7 x10) x24))
        ∗ owns (c : Thread nD τ) arg16 fullShare (atFirst i (uc1 x7 x10) x16)
        ∗ owns (c : Thread nD τ) arg17 fullShare (atFirst i (us1 x7 x10) x17)
        ∗ owns (c : Thread nD τ) arg18 fullShare (atFirst i (uc2 x7 x10) x18)
        ∗ owns (c : Thread nD τ) arg19 fullShare (atFirst i (us2 x7 x10) x19)
        ∗ owns (c : Thread nD τ) arg20 fullShare (atLast i (o20 x10 (o25 x1 x6 (atFirst i (vu x7 x10) x24) (atFirst i k1_pay23 x25))) x20)
        ∗ owns (c : Thread nD τ) arg21 fullShare (atLast i (o21 x10 (o25 x1 x6 (atFirst i (vu x7 x10) x24) (atFirst i k1_pay23 x25))) x21)
        ∗ owns (c : Thread nD τ) arg22 fullShare (atLast i (o22 x10 (o25 x1 x6 (atFirst i (vu x7 x10) x24) (atFirst i k1_pay23 x25)) (atFirst i (acc x7 x8 x9 x10) x26)) x22)
        ∗ owns (c : Thread nD τ) arg23 fullShare (aM x1)
        ∗ owns (c : Thread nD τ) arg24 fullShare (atFirst i (vu x7 x10) x24)
        ∗ owns (c : Thread nD τ) arg25 fullShare (o25 x1 x6 (atFirst i (vu x7 x10) x24) (atFirst i k1_pay23 x25))
        ∗ owns (c : Thread nD τ) arg26 fullShare (atFirst i (acc x7 x8 x9 x10) x26) -∗ Y))
      ⊢ wp frame (wpE (defs₀ (F := F)) Variants.none c none) Set.univ
          (cc1_pass2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) (fun _ => Y) := by
  sl_unfold [cc1_pass2, k1_part1, k1_part2, k1_part3, k1_part4, k1_part5, k1_part6]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, HK⟩
  sl_exec
  sl_step
  iapply HK
  have eL : View.canon (run2.sl.H23_8 c arg1 f1) = aM x1 := by subst hf1; rfl
  have eA : run2.sl.v61 c arg1 arg23 f1 = aM x1 := (readCov_whole _ _ _).trans eL
  have e10 : run2.sl.r_8 c arg10 f10 = k1_pay20 x10 := by subst hf10; delta run2.sl.r_8; rw [View.readAt_full]
  have e10' : View.readAt (Elt F) arg10.view (Rect.unit (s := S1x1536) ![0, 0] S1x1536.size inb_S1x1536_S1x1536_0_0).toLoadRect f10 = x10 := by subst hf10; rw [View.readAt_full]
  have eGA : View.readAt (Elt F) arg7.view (Rect.unit (s := S384x1536) ![0, 0] S192x1536.size inb_S384x1536_S192x1536_0_0).toLoadRect f7 = gA x7 := by subst hf7; rfl
  have eGB : View.readAt (Elt F) arg7.view (Rect.unit (s := S384x1536) ![192, 0] S192x1536.size inb_S384x1536_S192x1536_192_0).toLoadRect f7 = gB x7 := by subst hf7; rfl
  have e6 : View.readAt (Elt F) arg6.view (Rect.unit (s := S1x1024) ![0, 0] S1x1024.size inb_S1x1024_S1x1024_0_0).toLoadRect f6 = x6 := by subst hf6; rw [View.readAt_full]
  have er1 : run2.sl.r_1 c arg7 arg10 f7 f10 = k1_pay9 (k1_pay20 x10) (gA x7) := by delta run2.sl.r_1; rw [e10', eGA]
  have er2 : run2.sl.r_2 c arg7 arg10 f7 f10 = k1_pay10 (k1_pay20 x10) (gA x7) := by delta run2.sl.r_2; rw [e10', eGA]
  have er3 : run2.sl.r_3 c arg7 arg10 f7 f10 = k1_pay12 (k1_pay20 x10) (gA x7) := by delta run2.sl.r_3; rw [e10', eGA]
  have er5 : run2.sl.r_5 c arg7 arg10 f7 f10 = k1_pay16 (k1_pay20 x10) (gB x7) := by delta run2.sl.r_5; rw [e10', eGB]
  have er6 : run2.sl.r_6 c arg7 arg10 f7 f10 = k1_pay17 (k1_pay20 x10) (gB x7) := by delta run2.sl.r_6; rw [e10', eGB]
  have er7 : run2.sl.r_7 c arg7 arg10 f7 f10 = k1_pay19 (k1_pay20 x10) (gB x7) := by delta run2.sl.r_7; rw [e10', eGB]
  have er0 : run2.sl.r c arg8 arg9 f8 f9 = k1_pay7 x8 x9 := by subst hf8 hf9; delta run2.sl.r; rw [View.readAt_full, View.readAt_full]
  have er4 : run2.sl.r_4 c arg7 arg8 arg9 arg10 f7 f8 f9 f10 = k1_pay14 (k1_pay7 x8 x9) (k1_pay9 (k1_pay20 x10) (gA x7)) (k1_pay10 (k1_pay20 x10) (gA x7)) := by
    delta run2.sl.r_4; rw [er0, er1, er2]
  have e24 : arg24.view.read (Elt F) (if hc : k1_cond1 i = 1#1 then arg24.view.writes (Elt F) f24 [⟨Rect.unit ![576, 0] S576x1536.size inb_S1152x1536_S576x1536_576_0, k1_pay21 (run2.sl.r_7 c arg7 arg10 f7 f10)⟩,
      ⟨Rect.unit ![0, 0] S576x1536.size inb_S1152x1536_S576x1536_0_0, k1_pay13 (run2.sl.r_3 c arg7 arg10 f7 f10)⟩] else f24) = (atFirst i (vu x7 x10) x24) := by
    by_cases hc : k1_cond1 i = 1#1
    · rw [dif_pos hc, atFirst, if_pos hc, er7, er3]
      exact View.read_writes_eq_canon _ _ _ (cover_vu _ _)
    · rw [dif_neg hc, atFirst, if_neg hc, hf24]
  have eV : run2.sl.v64 c i arg7 arg10 arg24 f7 f10 f24 = (atFirst i (vu x7 x10) x24) := by
    delta run2.sl.v64; rw [View.readAt_full, e24]
  have e25 : run2.sl.v143 c i arg25 f25 = (atFirst i k1_pay23 x25) := by
    delta run2.sl.v143; rw [View.readAt_full]
    by_cases hc : k1_cond1 i = 1#1
    · rw [dif_pos hc, atFirst, if_pos hc, View.read_writes_full]
    · rw [dif_neg hc, atFirst, if_neg hc, hf25]
  have e26 : arg26.view.read (Elt F) (if hc : k1_cond1 i = 1#1 then arg26.view.writes (Elt F) f26 [⟨Rect.unit ![0, 0] S192x1536.size inb_S192x1536_S192x1536_0_0, k1_pay22 (run2.sl.r_4 c arg7 arg8 arg9 arg10 f7 f8 f9 f10) (run2.sl.r_5 c arg7 arg10 f7 f10) (run2.sl.r_6 c arg7 arg10 f7 f10)⟩] else f26) = (atFirst i (acc x7 x8 x9 x10) x26) := by
    by_cases hc : k1_cond1 i = 1#1
    · rw [dif_pos hc, atFirst, if_pos hc, View.read_writes_full, er4, er5, er6]; rfl
    · rw [dif_neg hc, atFirst, if_neg hc, hf26]
  have e190 : run2.sl.v190 c i arg7 arg8 arg9 arg10 arg26 f7 f8 f9 f10 f26 = (atFirst i (acc x7 x8 x9 x10) x26) := by
    delta run2.sl.v190; rw [View.readAt_full, e26]
  have er10 : run2.sl.r_10 c arg6 f6 = k1_pay33 x6 := by delta run2.sl.r_10; rw [e6]
  have er11 : run2.sl.r_11 c i arg1 arg6 arg7 arg10 arg23 arg24 f1 f6 f7 f10 f24 = k1_pay36 (aM x1) x6 (atFirst i (vu x7 x10) x24) := by delta run2.sl.r_11; rw [eA, e6, eV]
  have er12 : run2.sl.r_12 c i arg1 arg6 arg7 arg10 arg23 arg24 f1 f6 f7 f10 f24 = k1_pay37 (aM x1) x6 (atFirst i (vu x7 x10) x24) := by delta run2.sl.r_12; rw [eA, e6, eV]
  have er13 : run2.sl.r_13 c i arg1 arg6 arg7 arg10 arg23 arg24 f1 f6 f7 f10 f24 = k1_pay39 (aM x1) x6 (atFirst i (vu x7 x10) x24) := by delta run2.sl.r_13; rw [eA, e6, eV]
  have er14 : run2.sl.r_14 c i arg1 arg6 arg7 arg10 arg23 arg24 f1 f6 f7 f10 f24 = k1_pay40 (aM x1) x6 (atFirst i (vu x7 x10) x24) := by delta run2.sl.r_14; rw [eA, e6, eV]
  have ec : (run2.sl.cst_44 : F .f32) = Scalar.ofBits .f32 0xC2FE0000#32 := rfl
  have e168 : run2.sl.v168 c i arg1 arg6 arg7 arg10 arg23 arg24 arg25 f1 f6 f7 f10 f24 f25 = (o25 x1 x6 (atFirst i (vu x7 x10) x24) (atFirst i k1_pay23 x25)) := by
    delta run2.sl.v168 run2.sl.H25_1; rw [View.readCov_full, eA, er10, er11, er12, e25]; rfl
  isplitl [H1]
  · iapply (owns_of_read (c : Thread nD τ) arg1 fullShare _ ?_) $$ H1
    exact hf1
  isplitl [H2]
  · iapply (owns_of_read (c : Thread nD τ) arg2 fullShare _ ?_) $$ H2
    exact hf2
  isplitl [H3]
  · iapply (owns_of_read (c : Thread nD τ) arg3 fullShare _ ?_) $$ H3
    exact hf3
  isplitl [H4]
  · iapply (owns_of_read (c : Thread nD τ) arg4 fullShare _ ?_) $$ H4
    exact hf4
  isplitl [H5]
  · iapply (owns_of_read (c : Thread nD τ) arg5 fullShare _ ?_) $$ H5
    exact hf5
  isplitl [H6]
  · iapply (owns_of_read (c : Thread nD τ) arg6 fullShare _ ?_) $$ H6
    exact hf6
  isplitl [H7]
  · iapply (owns_of_read (c : Thread nD τ) arg7 fullShare _ ?_) $$ H7
    exact hf7
  isplitl [H8]
  · iapply (owns_of_read (c : Thread nD τ) arg8 fullShare _ ?_) $$ H8
    exact hf8
  isplitl [H9]
  · iapply (owns_of_read (c : Thread nD τ) arg9 fullShare _ ?_) $$ H9
    exact hf9
  isplitl [H10]
  · iapply (owns_of_read (c : Thread nD τ) arg10 fullShare _ ?_) $$ H10
    exact hf10
  isplitl [H11]
  · iapply (owns_of_read (c : Thread nD τ) arg11 fullShare _ ?_) $$ H11
    delta run2.sl.H11_1; rw [View.read_writes_full, er12]; rfl
  isplitl [H12]
  · iapply (owns_of_read (c : Thread nD τ) arg12 fullShare _ ?_) $$ H12
    delta run2.sl.H12_1; rw [View.read_writes_full, er11]; rfl
  isplitl [H13]
  · iapply (owns_of_read (c : Thread nD τ) arg13 fullShare _ ?_) $$ H13
    delta run2.sl.H13_1; rw [View.read_writes_full, er14, ec]; rfl
  isplitl [H14]
  · iapply (owns_of_read (c : Thread nD τ) arg14 fullShare _ ?_) $$ H14
    delta run2.sl.H14_1; rw [View.read_writes_full, er13]; rfl
  isplitl [H15]
  · iapply (owns_of_read (c : Thread nD τ) arg15 fullShare _ ?_) $$ H15
    subst hf2 hf3 hf4 hf5
    delta run2.sl.H15_1; rw [View.read_writes_full, er11, er12, er13, er14, ec, View.readAt_full, View.readAt_full, View.readAt_full, View.readAt_full]; rfl
  isplitl [H16]
  · iapply (owns_of_read (c : Thread nD τ) arg16 fullShare _ ?_) $$ H16
    by_cases hc : k1_cond1 i = 1#1
    · rw [dif_pos hc, atFirst, if_pos hc, View.read_writes_full, e10', eGA]; rfl
    · rw [dif_neg hc, atFirst, if_neg hc, hf16]
  isplitl [H17]
  · iapply (owns_of_read (c : Thread nD τ) arg17 fullShare _ ?_) $$ H17
    by_cases hc : k1_cond1 i = 1#1
    · rw [dif_pos hc, atFirst, if_pos hc, View.read_writes_full, e10', eGA]; rfl
    · rw [dif_neg hc, atFirst, if_neg hc, hf17]
  isplitl [H18]
  · iapply (owns_of_read (c : Thread nD τ) arg18 fullShare _ ?_) $$ H18
    by_cases hc : k1_cond1 i = 1#1
    · rw [dif_pos hc, atFirst, if_pos hc, View.read_writes_full, e10', eGB]; rfl
    · rw [dif_neg hc, atFirst, if_neg hc, hf18]
  isplitl [H19]
  · iapply (owns_of_read (c : Thread nD τ) arg19 fullShare _ ?_) $$ H19
    by_cases hc : k1_cond1 i = 1#1
    · rw [dif_pos hc, atFirst, if_pos hc, View.read_writes_full, e10', eGB]; rfl
    · rw [dif_neg hc, atFirst, if_neg hc, hf19]
  isplitl [H20]
  · iapply (owns_of_read (c : Thread nD τ) arg20 fullShare _ ?_) $$ H20
    by_cases hc : k1_cond2 i = 1#1
    · rw [dif_pos hc, atLast, if_pos hc, View.read_writes_full, e10, e168]; rfl
    · rw [dif_neg hc, atLast, if_neg hc, hf20]
  isplitl [H21]
  · iapply (owns_of_read (c : Thread nD τ) arg21 fullShare _ ?_) $$ H21
    by_cases hc : k1_cond2 i = 1#1
    · rw [dif_pos hc, atLast, if_pos hc, View.read_writes_full, e10, e168]; rfl
    · rw [dif_neg hc, atLast, if_neg hc, hf21]
  isplitl [H22]
  · iapply (owns_of_read (c : Thread nD τ) arg22 fullShare _ ?_) $$ H22
    by_cases hc : k1_cond2 i = 1#1
    · rw [dif_pos hc, atLast, if_pos hc, View.read_writes_full, e10, e168, e190]; rfl
    · rw [dif_neg hc, atLast, if_neg hc, hf22]
  isplitl [H23]
  · iapply (owns_of_read (c : Thread nD τ) arg23 fullShare _ ?_) $$ H23
    refine (View.read_writes_eq_canon _ _ _ ?_).trans eL
    exact cover_aM _ _ _ _ _ _ _ _
  isplitl [H24]
  · iapply (owns_of_read (c : Thread nD τ) arg24 fullShare _ ?_) $$ H24
    exact e24
  isplitl [H25]
  · iapply (owns_of_read (c : Thread nD τ) arg25 fullShare _ ?_) $$ H25
    delta run2.sl.H25_1; rw [View.read_writes_full, eA, er10, er11, er12, e25]; rfl
  · iapply (owns_of_read (c : Thread nD τ) arg26 fullShare _ ?_) $$ H26
    exact e26

end Cert.KernelIdeal.Body1
end
-- ==== Proof.Ideal.Weak1.lean ====
/-
  What the frame needs of pallas_call 1: its body runs from its staging buffers at any contents.

  Only the packed counts (window 0) are remembered, because they are an argument; every other window is
  forgotten (`forgets`), so nothing is said here of what the kernel computes.
-/
module

public import proofs.«01_k».proof.Proof.Ideal.Body1

@[expose] public section

set_option maxRecDepth 16384

noncomputable section

namespace Cert.KernelIdeal.Weak1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-- Every window but the packed counts is forgotten. -/
def forgets : Fin 22 → Bool := ![false, true, true, true, true, true, true, true, true, true, true, true, true, true, true, true, true, true, true, true, true, true]

/-- The proof data of an entry at the valuation `W`: every scratch buffer at some contents between the points. -/
def dat (W : Valuation τ sig (Elt F)) (c : Dev nD) : Dat τ (Elt F) Unit ℕ U ℕ cfg1 c where
  A w := W (Proc.devRef .tc (Pipeline.arrRef spec1 w))
  after w t := (cfg1.win w).fill (cfg1.grid.coords t) (fun _ => Classical.arbitrary _)
    (((cfg1.win w).blk t).view.read (Elt F) (W (Proc.devRef .tc (Pipeline.arrRef spec1 w))))
  Φ _ := iprop(Pipeline.scopedRest spec1 c ∗ ∃ r, prngReg c r)
  q _ := fullShare
  owed _ := 0

/-- The packed counts as a point finds them, and leaves them. -/
abbrev counts (W : Valuation τ sig (Elt F)) (c : Dev nD) (t : Fin cfg1.N) : Vec F S8x384x128 .i32 :=
  (dat (U := U) W c).after 0 t

theorem before_0 (W : Valuation τ sig (Elt F)) (c : Dev nD) (t : Fin cfg1.N)
    (d : (cfg1.win 0).block.Idx → Elt F (cfg1.win 0).elt) : (dat (U := U) W c).before 0 t d = counts (U := U) W c t := by
  unfold Dat.before; rw [if_pos (fetch1_0 t)]; rfl

theorem scratch_split (c : Dev nD) :
    (Pipeline.scopedRest (Ix := Unit) (Name := ℕ) (U := U) (Lvl := ℕ) (Val := Elt F) spec1 c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))
          ∗ Pipeline.scopedRestBut (Ix := Unit) (Name := ℕ) (U := U) (Lvl := ℕ) (Val := Elt F) spec1 c [cc1_scratch0, cc1_scratch1, cc1_scratch2, cc1_scratch3]) :=
  Pipeline.scopedRest_split_of_list spec1 c [cc1_scratch0, cc1_scratch1, cc1_scratch2, cc1_scratch3] (by decide) (by decide)

/-- A buffer owned at known contents is owned at some. -/
theorem some_of_owns (c : Dev nD) (b : Ref sig .tc) (X : b.ty.Contents (Elt F)) :
    (owns (c : Thread nD τ) (Memref.whole b) fullShare X : sProp 𝕄) ⊢ iprop(∃ f : Buf (Elt F) ((c : Thread nD τ).loc b), ((c : Thread nD τ).loc b) ↦{fullShare} f) := by
  rw [owns_whole_eq]
  iintro ⟨%f, -, H⟩
  iexists f; iexact H

/-- The body at a point, every buffer but the counts' at some contents before and after. -/
theorem sound_body (W : Valuation τ sig (Elt F)) (c : Dev nD) (t : Fin cfg1.N) :
    iprop((dat (U := U) W c).Φ t.castSucc ∗ (dat (U := U) W c).owesAt () t.castSucc
      ∗ (∃ d, owns (c : Thread nD τ) (st1_0 t) fullShare ((dat (U := U) W c).before 0 t d))
      ∗ (∃ d, owns (c : Thread nD τ) (st1_1 t) fullShare d) ∗ (∃ d, owns (c : Thread nD τ) (st1_2 t) fullShare d) ∗ (∃ d, owns (c : Thread nD τ) (st1_3 t) fullShare d) ∗ (∃ d, owns (c : Thread nD τ) (st1_4 t) fullShare d) ∗ (∃ d, owns (c : Thread nD τ) (st1_5 t) fullShare d) ∗ (∃ d, owns (c : Thread nD τ) (st1_6 t) fullShare d) ∗ (∃ d, owns (c : Thread nD τ) (st1_7 t) fullShare d) ∗ (∃ d, owns (c : Thread nD τ) (st1_8 t) fullShare d) ∗ (∃ d, owns (c : Thread nD τ) (st1_9 t) fullShare d) ∗ (∃ d, owns (c : Thread nD τ) (st1_10 t) fullShare d) ∗ (∃ d, owns (c : Thread nD τ) (st1_11 t) fullShare d) ∗ (∃ d, owns (c : Thread nD τ) (st1_12 t) fullShare d) ∗ (∃ d, owns (c : Thread nD τ) (st1_13 t) fullShare d) ∗ (∃ d, owns (c : Thread nD τ) (st1_14 t) fullShare d) ∗ (∃ d, owns (c : Thread nD τ) (st1_15 t) fullShare d) ∗ (∃ d, owns (c : Thread nD τ) (st1_16 t) fullShare d) ∗ (∃ d, owns (c : Thread nD τ) (st1_17 t) fullShare d) ∗ (∃ d, owns (c : Thread nD τ) (st1_18 t) fullShare d) ∗ (∃ d, owns (c : Thread nD τ) (st1_19 t) fullShare d) ∗ (∃ d, owns (c : Thread nD τ) (st1_20 t) fullShare d) ∗ (∃ d, owns (c : Thread nD τ) (st1_21 t) fullShare d))
    ⊢ wp frame (wpE (defs₀ (F := F)) Variants.none c none) Set.univ (bodyAt1 t) (fun _ =>
        iprop((dat (U := U) W c).Φ t.succ ∗ (dat (U := U) W c).owesAt () t.succ
      ∗ owns (c : Thread nD τ) (st1_0 t) fullShare (counts (U := U) W c t)
      ∗ (∃ d, owns (c : Thread nD τ) (st1_1 t) fullShare d) ∗ (∃ d, owns (c : Thread nD τ) (st1_2 t) fullShare d) ∗ (∃ d, owns (c : Thread nD τ) (st1_3 t) fullShare d) ∗ (∃ d, owns (c : Thread nD τ) (st1_4 t) fullShare d) ∗ (∃ d, owns (c : Thread nD τ) (st1_5 t) fullShare d) ∗ (∃ d, owns (c : Thread nD τ) (st1_6 t) fullShare d) ∗ (∃ d, owns (c : Thread nD τ) (st1_7 t) fullShare d) ∗ (∃ d, owns (c : Thread nD τ) (st1_8 t) fullShare d) ∗ (∃ d, owns (c : Thread nD τ) (st1_9 t) fullShare d) ∗ (∃ d, owns (c : Thread nD τ) (st1_10 t) fullShare d) ∗ (∃ d, owns (c : Thread nD τ) (st1_11 t) fullShare d) ∗ (∃ d, owns (c : Thread nD τ) (st1_12 t) fullShare d) ∗ (∃ d, owns (c : Thread nD τ) (st1_13 t) fullShare d) ∗ (∃ d, owns (c : Thread nD τ) (st1_14 t) fullShare d) ∗ (∃ d, owns (c : Thread nD τ) (st1_15 t) fullShare d) ∗ (∃ d, owns (c : Thread nD τ) (st1_16 t) fullShare d) ∗ (∃ d, owns (c : Thread nD τ) (st1_17 t) fullShare d) ∗ (∃ d, owns (c : Thread nD τ) (st1_18 t) fullShare d) ∗ (∃ d, owns (c : Thread nD τ) (st1_19 t) fullShare d) ∗ (∃ d, owns (c : Thread nD τ) (st1_20 t) fullShare d) ∗ (∃ d, owns (c : Thread nD τ) (st1_21 t) fullShare d))) := by
  unfold bodyAt1
  rw [show (dat (U := U) W c).Φ t.succ = (dat (U := U) W c).Φ t.castSucc from rfl,
    show (dat (U := U) W c).owesAt () t.succ = (dat (U := U) W c).owesAt () t.castSucc from rfl,
    show (dat (U := U) W c).Φ t.castSucc = iprop(Pipeline.scopedRest spec1 c ∗ ∃ r, prngReg c r) from rfl, scratch_split]
  iintro ⟨⟨⟨⟨⟨%f0, S0⟩, ⟨%f1, S1⟩, ⟨%f2, S2⟩, ⟨%f3, S3⟩⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  rw [before_0]
  iapply (Body1.run2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (Memref.whole cc1_scratch0) (Memref.isWhole_whole _) (Memref.whole cc1_scratch1) (Memref.isWhole_whole _) (Memref.whole cc1_scratch2) (Memref.isWhole_whole _) (Memref.whole cc1_scratch3) (Memref.isWhole_whole _)
    (counts (U := U) W c t) d1 d2 d3 d4 d5 d6 d7 d8 d9 d10 d11 d12 d13 d14 d15 d16 d17 d18 d19 d20 d21 f0 f1 f2 f3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]
  · rw [owns_whole_eq]; iexists f0; isplitr
    · ipureintro; rfl
    · iexact S0
  isplitl [S1]
  · rw [owns_whole_eq]; iexists f1; isplitr
    · ipureintro; rfl
    · iexact S1
  isplitl [S2]
  · rw [owns_whole_eq]; iexists f2; isplitr
    · ipureintro; rfl
    · iexact S2
  isplitl [S3]
  · rw [owns_whole_eq]; iexists f3; isplitr
    · ipureintro; rfl
    · iexact S3
  iintro ⟨H0, H1, H2, H3, H4, H5, H6, H7, H8, H9, H10, H11, H12, H13, H14, H15, H16, H17, H18, H19, H20, H21, S0, S1, S2, S3⟩
  isplitl [S0 S1 S2 S3 HR HG]
  · isplitl [S0 S1 S2 S3 HR]
    · isplitl [S0 S1 S2 S3]
      · isplitl [S0]; · iapply (some_of_owns c _ _); iexact S0
        isplitl [S1]; · iapply (some_of_owns c _ _); iexact S1
        isplitl [S2]; · iapply (some_of_owns c _ _); iexact S2
        iapply (some_of_owns c _ _); iexact S3
      iexact HR
    iexact HG
  isplitl [HO]; · iexact HO
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

/-- The body table's row at the point is the body as `bodyAt1` spells it. -/
theorem defs₀_row (t : Fin cfg1.N) : defs₀ (F := F) .tc cfg1.body (cfg1.bodyArgs t (cfg1.slots t)) = bodyAt1 t := by
  unfold defs₀; rw [Defs.onTc_tc]

/-- The library's body obligation, every window but the counts forgotten. -/
theorem obligation (W : Valuation τ sig (Elt F)) (c : Dev nD) :
    BodyObligationLoose (dat (U := U) W c) (defs₀ (F := F)) Variants.none () Set.univ forgets := fun t => by
  rw [bigSep_W1, bigSep_W1, defs₀_row]
  exact sound_body W c t

end Cert.KernelIdeal.Weak1

end
-- ==== Proof.Ideal.Calls.lean ====
/-
  The two pallas_calls as records of a run that remembers only the arguments.

  Between two items of @main the core holds every unscoped buffer at some contents at which the arguments are as launched.
  A call is entered at any such contents `W` and left at `left p W A`: window 0's array as it was, every other window's
  array at some contents `A`.
-/
module

public import proofs.«01_k».proof.Proof.Ideal.Weak0
public import proofs.«01_k».proof.Proof.Ideal.Weak1
public import proofs.«01_k».proof.Proof.Gen.KernelIdeal.Regions
public import Idealize.ShloMosaic.Lib.Pipeline.RegionArraysF
public import Idealize.ShloMosaic.Lib.Pipeline.RegionsForgetLinks
public import Idealize.ShloMosaic.Lib.Pipeline.RegionsLoop
public import Idealize.ShloMosaic.Lib.HostLoop.Plain

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- Each call's transfers have their own copy of the pipeline library's algebra. -/
abbrev UA : Type := IProdConst (Fin 2) (UR sig nD τ) × UR sig nD τ

local notation "𝕄" => MT nD τ sig Unit (Elt F) ℕ UA ℕ

/-- Both calls' proof data at the valuation `W`, and the windows each forgets. -/
def dats (W : Dev nD → Valuation τ sig (Elt F)) : (p : Fin 2) → (c : Dev nD) → Dat τ (Elt F) Unit ℕ UA ℕ (Pipeline.pin (pcfgs (F := F)) adm p) c
  | ⟨0, _⟩, c => Weak0.dat (W c) c
  | ⟨1, _⟩, c => Weak1.dat (W c) c
def fgs : (p : Fin 2) → Fin (Pipeline.pin (pcfgs (F := F)) adm p).W → Bool
  | ⟨0, _⟩ => Weak0.forgets
  | ⟨1, _⟩ => Weak1.forgets

abbrev 𝒱₀ : Variants := Variants.none
/-- The staging buffers' cells have the one level index, at level 0. -/
abbrev L : GSem nD τ sig → Finset Unit := fun g => if g.1.2 = .tc then {()} else ∅
abbrev lv : GSem nD τ sig → Unit → ℕ := fun _ _ => 0
abbrev D : Dev nD → CellTallies nD τ sig Unit := fun _ => 0

theorem levelCut (p : Fin 2) : Pipeline.LevelCut (pcfgs (F := F)) adm () L lv p D (fun _ => 0) where
  hι c w s := by simp [L]
  hιb c w s := le_rfl
  hD c g i h := absurd h (by simp [D])

/-- The other unscoped buffers, beside a call's arrays. -/
abbrev others (p : Fin 2) : Finset (DevRef τ sig) := Pipeline.ucRefs τ sig \ Pipeline.arrRefs (pcfgs (F := F) p).spec

/-- The contents when call `p` is left, if entered at `W`. -/
def left (p : Fin 2) (W : Dev nD → Valuation τ sig (Elt F)) (c : Dev nD)
    (A : (w : Fin (Pipeline.pin (pcfgs (F := F)) adm p).W) → Buf (Elt F) (((Pipeline.pin (pcfgs (F := F)) adm p).win w).arr.view.loc (c.tc : Thread nD τ))) :
    Valuation τ sig (Elt F) := fun d =>
  open Classical in
  if h : ∃ w, fgs p w = true ∧ Proc.devRef .tc (Pipeline.arrRef (Pipeline.pin (pcfgs (F := F)) adm p).spec w) = d
  then h.choose_spec.2 ▸ A h.choose else W c d

theorem left_of_ne (p : Fin 2) (W : Dev nD → Valuation τ sig (Elt F)) (c : Dev nD) (A) (d : DevRef τ sig)
    (h : ∀ w, fgs (F := F) p w = true → Proc.devRef .tc (Pipeline.arrRef (Pipeline.pin (pcfgs (F := F)) adm p).spec w) ≠ d) :
    left p W c A d = W c d :=
  dif_neg fun ⟨w, h1, h2⟩ => h w h1 h2

theorem left_arr (p : Fin 2) (hinj : Function.Injective (Pipeline.arrRef (Pipeline.pin (pcfgs (F := F)) adm p).spec))
    (W : Dev nD → Valuation τ sig (Elt F)) (c : Dev nD) (A) (w) (hw : fgs p w = true) :
    left p W c A (Proc.devRef .tc (Pipeline.arrRef (Pipeline.pin (pcfgs (F := F)) adm p).spec w)) = A w := by
  have h : ∃ w', fgs (F := F) p w' = true ∧ Proc.devRef (τ := τ) .tc (Pipeline.arrRef (Pipeline.pin (pcfgs (F := F)) adm p).spec w')
      = Proc.devRef .tc (Pipeline.arrRef (Pipeline.pin (pcfgs (F := F)) adm p).spec w) := ⟨w, hw, rfl⟩
  have key : ∀ w' (e : Proc.devRef (τ := τ) .tc (Pipeline.arrRef (Pipeline.pin (pcfgs (F := F)) adm p).spec w')
      = Proc.devRef .tc (Pipeline.arrRef (Pipeline.pin (pcfgs (F := F)) adm p).spec w)), (e ▸ A w' : Buf (Elt F) (c, Proc.devRef .tc (Pipeline.arrRef (Pipeline.pin (pcfgs (F := F)) adm p).spec w))) = A w := by
    intro w' e
    obtain rfl : w' = w := hinj (Proc.devRef_injective _ e)
    rfl
  unfold left
  rw [dif_pos h]
  exact key _ h.choose_spec.2

theorem kept0 : ∀ w, ¬ Weak0.forgets w = true → w = 0 := by decide
theorem kept1 : ∀ w, ¬ Weak1.forgets w = true → w = 0 := by decide
theorem forgets0_0 : ¬ Weak0.forgets 0 = true := by decide
theorem forgets1_0 : ¬ Weak1.forgets 0 = true := by decide
theorem mem_arrRefs {gr W : Nat} (win : Fin W → Pipeline.WinSpec sig gr) (w : Fin W) :
    Proc.devRef .tc (Pipeline.arrRef win w) ∈ Pipeline.arrRefs (τ := τ) win :=
  Finset.mem_map.mpr ⟨_, Finset.mem_image_of_mem _ (Finset.mem_univ w), rfl⟩

set_option backward.isDefEq.respectTransparency.types false in
/-- Call 0 entered at `W`. -/
def call0 (W : Dev nD → Valuation τ sig (Elt F)) :
    Pipeline.RDat.RegionSeg (pcfgs (F := F)) adm (Pipeline.toRsF (pcfgs (F := F)) adm (dats W) fgs) () defs₀ 𝒱₀ L lv 0 :=
  Pipeline.RDat.RegionSeg.ofHeldF (pcfgs (F := F)) adm (dats W) () defs₀ 𝒱₀ L lv 0 D fgs (K := PEmpty) () (fun k => k.elim)
    (Pipeline.OwnSemFacts.none _) ∅ ∅ (others (F := F) 0) (by simp [Pipeline.hbmRefs]) (by simp [Pipeline.hbmRefs]) launch0.toP rfl
    (fun c => Weak0.obligation (W c) c) (fun _ _ => rfl) (fun _ => rfl) (fun c w => (dats W 0 c).share_full (fun _ => rfl) w)
    (fun c => by iintro -; iapply (Transfers.MayWaits.zero _ _); iempintro) W
    (fun c A _ => left 0 W c A)
    (fun c A g hA w => by
      by_cases hw : fgs (F := F) 0 w = true
      · exact (left_arr 0 launch0.win.arr_inj W c A w hw).symm
      · have h0 : w = 0 := kept0 w hw
        subst h0
        rw [left_of_ne 0 W c A _ (fun w hw e => forgets0_0 (by
            have e' : w = 0 := launch0.win.arr_inj (Proc.devRef_injective _ e)
            rw [e'] at hw; exact hw)), hA 0 rfl]
        exact (dats W 0 c).arrAt_in 0 rfl _)
    (fun c A g b hb => absurd hb (Finset.notMem_empty _))
    (fun c A g d hd => left_of_ne 0 W c A d fun w _ e => by
      have h := (Finset.mem_sdiff.mp (Finset.mem_sdiff.mp (Finset.mem_sdiff.mp hd).1).1).2
      exact h (e ▸ mem_arrRefs _ w))
    (fun c A g d hd => absurd hd (by simp [Pipeline.hbmRefs]))
    (fun c => by
      show _ ⊢ iprop(Pipeline.scopedRest spec0 c ∗ ∃ r, prngReg c r)
      iintro ⟨H, Hp, -, -, -, -⟩
      isplitl [H] <;> iassumption)
    (fun c => by
      show iprop(Pipeline.scopedRest spec0 c ∗ ∃ r, prngReg c r) ⊢ _
      iintro ⟨H, Hp⟩
      isplitl [H]; · iexact H
      isplitl [Hp]; · iexact Hp
      unfold Pipeline.ownSems0
      rw [Finset.univ_eq_empty, BI.bigSep_empty, BI.bigSep_empty, BI.bigSep_empty]
      isplitr; · iempintro
      isplitr <;> iempintro)
    (fun _ => 0) (levelCut 0) (fun _ => iprop(emp)) (fun c w => rfl)

set_option backward.isDefEq.respectTransparency.types false in
/-- Call 1 entered at `W`. -/
def call1 (W : Dev nD → Valuation τ sig (Elt F)) :
    Pipeline.RDat.RegionSeg (pcfgs (F := F)) adm (Pipeline.toRsF (pcfgs (F := F)) adm (dats W) fgs) () defs₀ 𝒱₀ L lv 1 :=
  Pipeline.RDat.RegionSeg.ofHeldF (pcfgs (F := F)) adm (dats W) () defs₀ 𝒱₀ L lv 1 D fgs (K := PEmpty) () (fun k => k.elim)
    (Pipeline.OwnSemFacts.none _) ∅ ∅ (others (F := F) 1) (by simp [Pipeline.hbmRefs]) (by simp [Pipeline.hbmRefs]) launch1.toP rfl
    (fun c => Weak1.obligation (W c) c) (fun _ _ => rfl) (fun _ => rfl) (fun c w => (dats W 1 c).share_full (fun _ => rfl) w)
    (fun c => by iintro -; iapply (Transfers.MayWaits.zero _ _); iempintro) W
    (fun c A _ => left 1 W c A)
    (fun c A g hA w => by
      by_cases hw : fgs (F := F) 1 w = true
      · exact (left_arr 1 launch1.win.arr_inj W c A w hw).symm
      · have h0 : w = 0 := kept1 w hw
        subst h0
        rw [left_of_ne 1 W c A _ (fun w hw e => forgets1_0 (by
            have e' : w = 0 := launch1.win.arr_inj (Proc.devRef_injective _ e)
            rw [e'] at hw; exact hw)), hA 0 rfl]
        exact (dats W 1 c).arrAt_in 0 rfl _)
    (fun c A g b hb => absurd hb (Finset.notMem_empty _))
    (fun c A g d hd => left_of_ne 1 W c A d fun w _ e => by
      have h := (Finset.mem_sdiff.mp (Finset.mem_sdiff.mp (Finset.mem_sdiff.mp hd).1).1).2
      exact h (e ▸ mem_arrRefs _ w))
    (fun c A g d hd => absurd hd (by simp [Pipeline.hbmRefs]))
    (fun c => by
      show _ ⊢ iprop(Pipeline.scopedRest spec1 c ∗ ∃ r, prngReg c r)
      iintro ⟨H, Hp, -, -, -, -⟩
      isplitl [H] <;> iassumption)
    (fun c => by
      show iprop(Pipeline.scopedRest spec1 c ∗ ∃ r, prngReg c r) ⊢ _
      iintro ⟨H, Hp⟩
      isplitl [H]; · iexact H
      isplitl [Hp]; · iexact Hp
      unfold Pipeline.ownSems0
      rw [Finset.univ_eq_empty, BI.bigSep_empty, BI.bigSep_empty, BI.bigSep_empty]
      isplitr; · iempintro
      isplitr <;> iempintro)
    (fun _ => 0) (levelCut 1) (fun _ => iprop(emp)) (fun c w => rfl)

end Cert.KernelIdeal.Calls

end
-- ==== Proof.Ideal.Run.lean ====
/-
  The run of @main that remembers only the arguments: from any launch it ends, nothing faults, every argument is as
  launched and every semaphore counter is zero.
-/
module

public import proofs.«01_k».proof.Proof.Ideal.Calls
public import Idealize.ShloMosaic.Lib.HostLoop.Lifted

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Calls

variable {F : FTy → Type} [FloatOps F]

local notation "𝕄" => MT nD τ sig Unit (Elt F) ℕ UA ℕ

variable (m : (ℓ : Loc nD τ sig) → Buf (Elt F) ℓ)

abbrev argRefs : List (Ref sig .tc) := [main_arg0, main_arg1, main_arg2, main_arg3, main_arg4, main_arg5]

/-- What is remembered of the contents `W` between two items. -/
def Kept (W : Dev nD → Valuation τ sig (Elt F)) (c : Dev nD) : Prop :=
  ∀ a ∈ argRefs, W c (Proc.devRef .tc a) = m ((c : Thread nD τ).loc a)

/-- What rides beside the buffers. -/
abbrev beside (c : Dev nD) : sProp 𝕄 := iprop((∃ r, prngReg c r) ∗ ∃ Wd, owes (c : Thread nD τ) (D c) Wd)
/-- The state between two items. -/
abbrev between (c : Dev nD) : sProp 𝕄 :=
  iprop(∃ W, StableHlo.held (c : Thread nD τ) (Pipeline.ucRefs τ sig) (W c) ∗ ⌜Kept m W c⌝ ∗ beside (F := F) c)

/-- Each call's ticket. -/
def tk : Fin 2 → Pipeline.Ticket (Ix := Unit) (Name := ℕ) (U := UA) (Lvl := ℕ) (nD := nD) (τ := τ) (pcfgs (F := F)) adm := fun p =>
  { p := p, pdats := dats (fun _ => fun _ _ => Classical.arbitrary _), EP := embAt p }

abbrev noLoops : Fin 0 → Prog (TpuEff nD τ sig (Elt F) (HostLoop.Sig (Pipeline.Sig Λ₀ (Fin 2) fun p => Pipeline.PCfg.Adm (pcfgs (F := F) p)) 0) .tc) PUnit :=
  fun l => l.elim0

abbrev KSeg : Type 1 := Pipeline.CSeg (pcfgs (F := F)) adm defs₀ 𝒱₀ L lv noLoops tk

/-- A stretch of host operations. -/
def host (ops : List (HloOp τ sig (Elt F))) (hS : ∀ op ∈ ops, op.bufs ⊆ Pipeline.ucRefs τ sig) (hf : ∀ op ∈ ops, op.fresh = ∅) : KSeg (F := F) :=
  Pipeline.CSeg.exSel (Kept m) (fun W => Pipeline.CSeg.ofOps _ _ _ _ _ _ _ _ (Pipeline.ucRefs τ sig) ops hS hf W beside)
    (StableHlo.seq ops) (fun _ => rfl) 0 (fun _ => le_rfl) ∅ (fun _ => rfl)

theorem host_pre (ops : List (HloOp τ sig (Elt F))) (hS hf) (c : Dev nD) : between m c ⊢ (host m ops hS hf).pre c :=
  Pipeline.CSeg.exSel_pre c fun _ _ => .rfl

theorem host_post (ops : List (HloOp τ sig (Elt F))) (hS hf) (c : Dev nD) (ws : List (Ref sig .tc))
    (hw : ops.Forall fun op => op.writes ⊆ (ws.map (Proc.devRef (τ := τ) .tc)).toFinset) (ha : ∀ a ∈ argRefs, a ∉ ws) :
    (host m ops hS hf).post c ⊢ between m c :=
  Pipeline.CSeg.exSel_post c fun W h =>
    Pipeline.held_ex_intro (O := Dev nD → Valuation τ sig (Elt F)) (c : Thread nD τ) (Pipeline.ucRefs τ sig) (fun W => W c) (Kept m · c) (beside c)
      (fun c => StableHlo.after ops (W c)) (StableHlo.after ops (W c)) (fun _ _ => rfl)
      fun a hm => (StableHlo.after_of_writes_sub ops (W c) hw (ha a hm)).trans (h a hm)

abbrev rd0 (W : Dev nD → Valuation τ sig (Elt F)) := Pipeline.toRsF (pcfgs (F := F)) adm (dats W) fgs

theorem tk_0 : (tk (F := F) 0).p = 0 := rfl
theorem tk_1 : (tk (F := F) 1).p = 1 := rfl

/-- The two calls. -/
def reg0 : KSeg (F := F) :=
  Pipeline.CSeg.regionFR (pcfgs (F := F)) adm () cellOf_inj defs₀ 𝒱₀ L lv noLoops tk 0 rd0 call0 (Kept m)
def reg1 : KSeg (F := F) := Pipeline.CSeg.regionFR (pcfgs (F := F)) adm () cellOf_inj defs₀ 𝒱₀ L lv noLoops tk 1 rd0 call1 (Kept m)

theorem unscoped0 : ∀ w, (Pipeline.arrRef spec0 w).isScoped = false := by decide
theorem unscoped1 : ∀ w, (Pipeline.arrRef spec1 w).isScoped = false := by decide
theorem arrs_sub (p : Fin 2) : Pipeline.arrRefs (τ := τ) (pcfgs (F := F) p).spec ⊆ Pipeline.ucRefs τ sig :=
  match p with
  | ⟨0, _⟩ => Pipeline.arrRefs_sub_ucRefs _ unscoped0
  | ⟨1, _⟩ => Pipeline.arrRefs_sub_ucRefs _ unscoped1

theorem not_arr0 : ∀ a ∈ argRefs, ∀ w, Weak0.forgets w = true → Pipeline.arrRef spec0 w ≠ a := by decide
theorem not_arr1 : ∀ a ∈ argRefs, ∀ w, Weak1.forgets w = true → Pipeline.arrRef spec1 w ≠ a := by decide

theorem reg0_pre (c : Dev nD) : between m c ⊢ (reg0 m).pre c :=
  Pipeline.CSeg.regionFR_pre c fun W _ => by
    show _ ⊢ iprop(StableHlo.held (c.tc : Thread nD τ) (Pipeline.arrRefs (pcfgs (F := F) 0).spec) (W c) ∗ (∃ r, prngReg c r)
      ∗ (StableHlo.held (c.tc : Thread nD τ) (others (F := F) 0) (W c) ∗ emp) ∗ ∃ Wd, owes (c : Thread nD τ) (D c) Wd)
    rw [StableHlo.held_sub_split (c.tc : Thread nD τ) (arrs_sub (F := F) 0) (W c)]
    iintro ⟨⟨H1, H2⟩, H3, H4⟩
    isplitl [H1]; · iexact H1
    isplitl [H3]; · iexact H3
    isplitl [H2]
    · isplitl [H2]; · iexact H2
      iempintro
    iexact H4

theorem reg0_post (c : Dev nD) : (reg0 m).post c ⊢ between m c :=
  Pipeline.CSeg.regionFR_post c fun W h => by
    show iprop(∃ A g, StableHlo.held (c.tc : Thread nD τ) (Pipeline.arrRefs (pcfgs (F := F) 0).spec) (left 0 W c A) ∗ (∃ r, prngReg c r)
      ∗ (StableHlo.held (c.tc : Thread nD τ) (others (F := F) 0) (left 0 W c A) ∗ emp) ∗ ∃ Wd, owes (c : Thread nD τ) (D c) Wd) ⊢ _
    iintro ⟨%A, %_, H1, H3, ⟨H2, -⟩, H4⟩
    iapply (Pipeline.held_ex_intro (O := Dev nD → Valuation τ sig (Elt F)) (c : Thread nD τ) (Pipeline.ucRefs τ sig) (fun W => W c) (Kept m · c) (beside c)
      (fun _ => left 0 W c A) (left 0 W c A) (fun _ _ => rfl) (fun a ha =>
        (left_of_ne 0 W c A _ fun w hw e => not_arr0 a ha w hw (Proc.devRef_injective _ e)).trans (h a ha)))
    rw [StableHlo.held_sub_split (c.tc : Thread nD τ) (arrs_sub (F := F) 0) (left 0 W c A)]
    isplitl [H1 H2]; · isplitl [H1] <;> iassumption
    isplitl [H3] <;> iassumption

theorem reg1_pre (c : Dev nD) : between m c ⊢ (reg1 m).pre c :=
  Pipeline.CSeg.regionFR_pre c fun W _ => by
    show _ ⊢ iprop(StableHlo.held (c.tc : Thread nD τ) (Pipeline.arrRefs (pcfgs (F := F) 1).spec) (W c) ∗ (∃ r, prngReg c r)
      ∗ (StableHlo.held (c.tc : Thread nD τ) (others (F := F) 1) (W c) ∗ emp) ∗ ∃ Wd, owes (c : Thread nD τ) (D c) Wd)
    rw [StableHlo.held_sub_split (c.tc : Thread nD τ) (arrs_sub (F := F) 1) (W c)]
    iintro ⟨⟨H1, H2⟩, H3, H4⟩
    isplitl [H1]; · iexact H1
    isplitl [H3]; · iexact H3
    isplitl [H2]
    · isplitl [H2]; · iexact H2
      iempintro
    iexact H4

theorem reg1_post (c : Dev nD) : (reg1 m).post c ⊢ between m c :=
  Pipeline.CSeg.regionFR_post c fun W h => by
    show iprop(∃ A g, StableHlo.held (c.tc : Thread nD τ) (Pipeline.arrRefs (pcfgs (F := F) 1).spec) (left 1 W c A) ∗ (∃ r, prngReg c r)
      ∗ (StableHlo.held (c.tc : Thread nD τ) (others (F := F) 1) (left 1 W c A) ∗ emp) ∗ ∃ Wd, owes (c : Thread nD τ) (D c) Wd) ⊢ _
    iintro ⟨%A, %_, H1, H3, ⟨H2, -⟩, H4⟩
    iapply (Pipeline.held_ex_intro (O := Dev nD → Valuation τ sig (Elt F)) (c : Thread nD τ) (Pipeline.ucRefs τ sig) (fun W => W c) (Kept m · c) (beside c)
      (fun _ => left 1 W c A) (left 1 W c A) (fun _ _ => rfl) (fun a ha =>
        (left_of_ne 1 W c A _ fun w hw e => not_arr1 a ha w hw (Proc.devRef_injective _ e)).trans (h a ha)))
    rw [StableHlo.held_sub_split (c.tc : Thread nD τ) (arrs_sub (F := F) 1) (left 1 W c A)]
    isplitl [H1 H2]; · isplitl [H1] <;> iassumption
    isplitl [H3] <;> iassumption

abbrev segs : List (KSeg (F := F)) :=
  [host m hostOps0 (fun op h => Pipeline.sub_ucRefs op ((List.forall_iff_forall_mem.mp hostOps0_sub) op h)) (fun op h => (List.forall_iff_forall_mem.mp hostOps0_fresh) op h),
   host m hostOps0_1 (fun op h => Pipeline.sub_ucRefs op ((List.forall_iff_forall_mem.mp hostOps0_1_sub) op h)) (fun op h => (List.forall_iff_forall_mem.mp hostOps0_1_fresh) op h),
   host m hostOps0_2 (fun op h => Pipeline.sub_ucRefs op ((List.forall_iff_forall_mem.mp hostOps0_2_sub) op h)) (fun op h => (List.forall_iff_forall_mem.mp hostOps0_2_fresh) op h),
   host m hostOps0_3 (fun op h => Pipeline.sub_ucRefs op ((List.forall_iff_forall_mem.mp hostOps0_3_sub) op h)) (fun op h => (List.forall_iff_forall_mem.mp hostOps0_3_fresh) op h),
   reg0 m, reg1 m,
   host m hostOps2 (fun op h => Pipeline.sub_ucRefs op ((List.forall_iff_forall_mem.mp hostOps2_sub) op h)) (fun op h => (List.forall_iff_forall_mem.mp hostOps2_fresh) op h)]

theorem main_chainL (c : Dev nD) : HostLoop.liftProg (L := 0) (main (F := F) c) = Pipeline.CSeg.runL (segs m) := by
  rw [main_chain, HostLoop.liftProg_chain]
  simp only [List.map_cons, List.map_nil, HostLoop.liftProg_seq]
  chain_rfl

theorem hostOps0_args : ∀ a ∈ argRefs, a ∉ hostOps0_W := by decide
theorem hostOps0_1_args : ∀ a ∈ argRefs, a ∉ hostOps0_1_W := by decide
theorem hostOps0_2_args : ∀ a ∈ argRefs, a ∉ hostOps0_2_W := by decide
theorem hostOps0_3_args : ∀ a ∈ argRefs, a ∉ hostOps0_3_W := by decide
theorem hostOps2_args : ∀ a ∈ argRefs, a ∉ hostOps2_W := by decide

theorem segs_disjoint : (segs m).Pairwise fun s s' => Disjoint s.T s'.T := by
  simp only [segs, List.pairwise_cons, List.mem_cons, List.mem_nil_iff, or_false, host, reg0, reg1]
  refine ⟨?_, ?_, ?_, ?_, ?_, ?_, ?_, List.Pairwise.nil⟩ <;> (intro s hs; (repeat' (rcases hs with rfl | hs))) <;>
    first
    | exact Finset.disjoint_empty_left _
    | exact Finset.disjoint_empty_right _
    | (subst hs; exact Finset.disjoint_empty_left _)
    | (subst hs; exact Finset.disjoint_empty_right _)
    | (exact Finset.disjoint_singleton.mpr (by decide))
    | (cases hs)

set_option backward.isDefEq.respectTransparency.types false in
/-- The frame, at any float fields. -/
theorem frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  HostLoop.θ_run_of_lift noLoops defs main _ _ <|
  Pipeline.θ_run_regions_loop_kit_sems (pcfgs (F := F)) adm cellOf_inj defs₀ 𝒱₀ L lv noLoops tk m g (fun c => HostLoop.liftProg (L := 0) (main c)) (segs m)
    (fun c Q => by rw [main_chainL m c]) (segs_disjoint m)
    (O₀ := D) (hL := fun g hg => if_neg hg) (G := fun _ => iprop(emp))
    (u₀ := ((fun _ => (initOf (Pipeline.cells cfgs cellOf_inj) (Pipeline.launchToks cfgs cellOf_inj)) : IProdConst (Fin 2) (UR sig nD τ)), 1))
    (hu₀ := by
      iintro Hu
      ihave H := (ownU_pair _ _) $$ Hu
      icases H with ⟨HP, -⟩
      imodintro
      isplitl [HP]
      · iapply (own_iprod _); iexact HP
      iapply (show (BI.emp : sProp 𝕄) ⊢ bigSep Finset.univ (fun _ : Dev nD => (BI.emp : sProp 𝕄)) from by rw [BI.bigSep_emp_const])
      iempintro)
    (T₀ := between m) (Tₙ := fun c => iprop(∃ W, StableHlo.held (c : Thread nD τ) (Pipeline.ucRefs τ sig) (W c) ∗ ⌜Kept m W c⌝))
    (hch := ⟨host_pre m _ _ _, fun c => (host_post m _ _ _ c _ hostOps0_writes hostOps0_args).trans (host_pre m _ _ _ c),
      fun c => (host_post m _ _ _ c _ hostOps0_1_writes hostOps0_1_args).trans (host_pre m _ _ _ c),
      fun c => (host_post m _ _ _ c _ hostOps0_2_writes hostOps0_2_args).trans (host_pre m _ _ _ c),
      fun c => (host_post m _ _ _ c _ hostOps0_3_writes hostOps0_3_args).trans (reg0_pre m c),
      fun c => (reg0_post m c).trans (reg1_pre m c),
      fun c => (reg1_post m c).trans (host_pre m _ _ _ c),
      fun c => (host_post m _ _ _ c _ hostOps2_writes hostOps2_args).trans (by
        iintro ⟨%W, Hh, %hk, -, HO⟩
        isplitr [HO]; swap; · iexact HO
        iexists W
        isplitl [Hh]; · iexact Hh
        ipureintro; exact hk)⟩)
    (hinit := Pipeline.initEach L lv fun c => by
      iintro ⟨⟨Hb, -, HO, -, Hp, -⟩, -⟩
      imodintro
      iexists (fun c => V0 m c)
      rw [← Pipeline.unscopedBufs_held c (V0 m c)]
      isplitl [Hb]; · iexact Hb
      isplitr; · ipureintro; exact fun _ _ => rfl
      isplitl [Hp]; · iexists _; iexact Hp
      iexists ∅; iexact HO)
    (QY := fun c s => ∀ a ∈ argRefs, s.mem ((c : Thread nD τ).loc a) = m ((c : Thread nD τ).loc a))
    (hfin := fun c s' => by
      unfold StableHlo.held
      iintro ⟨⟨%W, Hh, %hk⟩, HSI⟩
      ihave Hp := (pointsTo_read_all (Pipeline.ucRefs τ sig) (fun b => (((c : Thread nD τ)).1, b)) (W c) s') $$ [Hh HSI]
      · isplitl [Hh] <;> iassumption
      icases Hp with ⟨%hb, HSI⟩
      imodintro
      isplitr
      · ipureintro
        exact fun a ha => (hb _ (Finset.mem_filter.mpr ⟨StableHlo.devRef_mem_tcRefs a, by revert a; decide⟩)).trans (hk a ha)
      iexact HSI)
    (hQ := fun s h hs => ⟨fun c => ⟨h c _ (by simp [argRefs]), h c _ (by simp [argRefs]), h c _ (by simp [argRefs]), h c _ (by simp [argRefs]), h c _ (by simp [argRefs]), h c _ (by simp [argRefs])⟩,
      funext fun g => hs g (.inr (regions_no_unscoped g.2))⟩)

end Cert.KernelIdeal.Run

end
-- ==== Proof.Ideal.Exact0.lean ====
/-
  pallas_call 0 with everything it computes remembered.

  What each window holds after a point is stated in closed form: the codes, the scales and the inverse square root
  degrees of the block's items, and the user sums accumulated so far.
-/
module

public import proofs.«01_k».proof.Proof.Ideal.Weak0
public import Idealize.ShloMosaic.Lib.Pipeline.FrameBody

@[expose] public section

set_option maxRecDepth 16384

noncomputable section

namespace Cert.KernelIdeal.Exact0

open Cert.KernelIdeal Cert.KernelIdeal.Gen Cert.KernelIdeal.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-- Input window `w`'s block at a point, what it lacks at the array's edge filled in arbitrarily. -/
def inAt (W : Valuation τ sig (Elt F)) (w : Fin 10) (t : Fin cfg0.N) : (cfg0.win w).block.Idx → Elt F (cfg0.win w).elt :=
  (cfg0.win w).fill (cfg0.grid.coords t) (fun _ => Classical.arbitrary _)
    (((cfg0.win w).blk t).view.read (Elt F) (W (Proc.devRef .tc (Pipeline.arrRef spec0 w))))

abbrev x1 (W : Valuation τ sig (Elt F)) (t : Fin cfg0.N) : Vec F S8x384x128 .i32 := inAt W 0 t
abbrev x2 (W : Valuation τ sig (Elt F)) (t : Fin cfg0.N) : Vec F S192x1024 .i8 := inAt W 1 t
abbrev x3 (W : Valuation τ sig (Elt F)) (t : Fin cfg0.N) : Vec F S1x1024 .f32 := inAt W 2 t
abbrev x4 (W : Valuation τ sig (Elt F)) (t : Fin cfg0.N) : Vec F S192x1536 .i8 := inAt W 3 t
abbrev x5 (W : Valuation τ sig (Elt F)) (t : Fin cfg0.N) : Vec F S1x1536 .f32 := inAt W 4 t
abbrev x6 (W : Valuation τ sig (Elt F)) (t : Fin cfg0.N) : Vec F S1x1536 .f32 := inAt W 5 t

theorem N_pos : 0 < cfg0.N := by decide
theorem N_eq : cfg0.N = 20 := by decide

/-- The user terms, computed once at the first point. -/
def vu (W : Valuation τ sig (Elt F)) : Vec F S576x1536 .bf16 := k0_pay4 (x4 W ⟨0, N_pos⟩) (x5 W ⟨0, N_pos⟩) (x6 W ⟨0, N_pos⟩)

/-- The user sums after point `n`. -/
def g (W : Valuation τ sig (Elt F)) : (n : ℕ) → n < cfg0.N → Vec F S384x1536 .f32
  | 0, h => o10 (x1 W ⟨0, h⟩) (x2 W ⟨0, h⟩) (x3 W ⟨0, h⟩) (vu W) k0_pay5
  | n + 1, h => o10 (x1 W ⟨n + 1, h⟩) (x2 W ⟨n + 1, h⟩) (x3 W ⟨n + 1, h⟩) (vu W) (g W n (Nat.lt_of_succ_lt h))

/-- What window `w` holds after point `t`. -/
def outAt (W : Valuation τ sig (Elt F)) (w : Fin 10) (t : Fin cfg0.N) : (cfg0.win w).block.Idx → Elt F (cfg0.win w).elt :=
  match w with
  | ⟨6, _⟩ => o7 (x1 W t) (vu W)
  | ⟨7, _⟩ => o8 (x1 W t) (vu W)
  | ⟨8, _⟩ => rdi (x1 W t)
  | ⟨9, _⟩ => g W t.val t.isLt
  | w => inAt W w t

/-- What is held between points: the two scratch buffers, of which the second holds the user terms after the first point. -/
abbrev inv (W : Valuation τ sig (Elt F)) (c : Dev nD) (n : ℕ) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ⌜n ≠ 0 → f = vu W⌝ ∗ (((c : Thread nD τ).loc cc0_scratch1) ↦{fullShare} f)))
    ∗ Pipeline.scopedRestBut (Ix := Unit) (Name := ℕ) (U := U) (Lvl := ℕ) (Val := Elt F) spec0 c [cc0_scratch0, cc0_scratch1] ∗ ∃ r, prngReg c r)

/-- The proof data of an entry at the valuation `W`. -/
def dat (W : Valuation τ sig (Elt F)) (c : Dev nD) : Dat τ (Elt F) Unit ℕ U ℕ cfg0 c where
  A w := W (Proc.devRef .tc (Pipeline.arrRef spec0 w))
  after w t := outAt W w t
  Φ t := inv W c t.val
  q _ := fullShare
  owed _ := 0

theorem before_0 (W : Valuation τ sig (Elt F)) (c : Dev nD) (t : Fin cfg0.N) (d) : (dat (U := U) W c).before 0 t d = x1 W t :=
  ((dat (U := U) W c).before_in_eq_fetched 0 rfl (fun _ => rfl) (fun _ _ _ => rfl) (fun t => (cfg0.win 0).cut_fill (cfg0.grid.coords t) (fun _ => Classical.arbitrary _) _) t d).trans
    (Pipeline.fill_of_clip_none 0 _ (fun _ => rfl) _ _ _)

theorem before_3 (W : Valuation τ sig (Elt F)) (c : Dev nD) (t : Fin cfg0.N) (d) : (dat (U := U) W c).before 3 t d = x4 W t :=
  ((dat (U := U) W c).before_in_eq_fetched 3 rfl (fun _ => rfl) (fun _ _ _ => rfl) (fun t => (cfg0.win 3).cut_fill (cfg0.grid.coords t) (fun _ => Classical.arbitrary _) _) t d).trans
    (Pipeline.fill_of_clip_none 3 _ (fun _ => rfl) _ _ _)

theorem before_4 (W : Valuation τ sig (Elt F)) (c : Dev nD) (t : Fin cfg0.N) (d) : (dat (U := U) W c).before 4 t d = x5 W t :=
  ((dat (U := U) W c).before_in_eq_fetched 4 rfl (fun _ => rfl) (fun _ _ _ => rfl) (fun t => (cfg0.win 4).cut_fill (cfg0.grid.coords t) (fun _ => Classical.arbitrary _) _) t d).trans
    (Pipeline.fill_of_clip_none 4 _ (fun _ => rfl) _ _ _)

theorem before_5 (W : Valuation τ sig (Elt F)) (c : Dev nD) (t : Fin cfg0.N) (d) : (dat (U := U) W c).before 5 t d = x6 W t :=
  ((dat (U := U) W c).before_in_eq_fetched 5 rfl (fun _ => rfl) (fun _ _ _ => rfl) (fun t => (cfg0.win 5).cut_fill (cfg0.grid.coords t) (fun _ => Classical.arbitrary _) _) t d).trans
    (Pipeline.fill_of_clip_none 5 _ (fun _ => rfl) _ _ _)

theorem before_1 (W : Valuation τ sig (Elt F)) (c : Dev nD) (t : Fin cfg0.N) (d) : (dat (U := U) W c).before 1 t d = (dat (U := U) W c).fetched 1 t d :=
  (dat (U := U) W c).before_fetched 1 t (fetch0_1 t) d

theorem before_2 (W : Valuation τ sig (Elt F)) (c : Dev nD) (t : Fin cfg0.N) (d) : (dat (U := U) W c).before 2 t d = (dat (U := U) W c).fetched 2 t d :=
  (dat (U := U) W c).before_fetched 2 t (fetch0_2 t) d

theorem before_9 (W : Valuation τ sig (Elt F)) (c : Dev nD) (n : ℕ) (h : n + 1 < cfg0.N) (d) : (dat (U := U) W c).before 9 ⟨n + 1, h⟩ d = g W n (Nat.lt_of_succ_lt h) :=
  ((dat (U := U) W c).before_out_kept 9 rfl ⟨n + 1, h⟩ (Nat.succ_ne_zero n)
    (Bool.eq_false_iff.mpr fun e => by have h' := (flush0_9 _).mp e; have := N_eq; simp only [Nat.add_sub_cancel] at h'; omega) (fun _ => rfl) (fun _ _ => rfl) d)

theorem first_iff : ∀ t : Fin cfg0.N, first (grid0.coords t) ↔ t.val = 0 := by decide +kernel

/-- What an overhanging block holds past its array's edge does not reach the user sums. -/
def EdgeFree (W : Valuation τ sig (Elt F)) : Prop :=
  ∀ (t : Fin cfg0.N) (d1 : Vec F S192x1024 .i8) (d2 : Vec F S1x1024 .f32) (G : Vec F S384x1536 .f32),
    o10 (x1 W t) ((cfg0.win 1).fill (cfg0.grid.coords t) d1 (((cfg0.win 1).blk t).view.read (Elt F) (W (Proc.devRef .tc (Pipeline.arrRef spec0 1)))))
      ((cfg0.win 2).fill (cfg0.grid.coords t) d2 (((cfg0.win 2).blk t).view.read (Elt F) (W (Proc.devRef .tc (Pipeline.arrRef spec0 2))))) (vu W) G
    = o10 (x1 W t) (x2 W t) (x3 W t) (vu W) G

/-- A buffer owned whole at known contents holds them. -/
theorem known (c : Dev nD) (b : Ref sig .tc) (X : b.ty.Contents (Elt F)) (n : ℕ) :
    (owns (c : Thread nD τ) (Memref.whole b) fullShare X : sProp 𝕄)
      ⊢ iprop(∃ f : Buf (Elt F) ((c : Thread nD τ).loc b), ⌜n ≠ 0 → f = X⌝ ∗ (((c : Thread nD τ).loc b) ↦{fullShare} f)) := by
  rw [owns_whole_eq]
  iintro ⟨%f, %hf, H⟩
  iexists f
  isplitr
  · ipureintro; exact fun _ => hf
  · iexact H

/-- The body at a point. -/
theorem sound_body (W : Valuation τ sig (Elt F)) (hE : EdgeFree W) (c : Dev nD) (t : Fin cfg0.N) :
    iprop(inv (U := U) W c t.val ∗ (dat (U := U) W c).owesAt () t.castSucc
      ∗ (∃ d, owns (c : Thread nD τ) (st0_0 t) fullShare ((dat (U := U) W c).before 0 t d))
      ∗ (∃ d, owns (c : Thread nD τ) (st0_1 t) fullShare ((dat (U := U) W c).before 1 t d))
      ∗ (∃ d, owns (c : Thread nD τ) (st0_2 t) fullShare ((dat (U := U) W c).before 2 t d))
      ∗ (∃ d, owns (c : Thread nD τ) (st0_3 t) fullShare ((dat (U := U) W c).before 3 t d))
      ∗ (∃ d, owns (c : Thread nD τ) (st0_4 t) fullShare ((dat (U := U) W c).before 4 t d))
      ∗ (∃ d, owns (c : Thread nD τ) (st0_5 t) fullShare ((dat (U := U) W c).before 5 t d))
      ∗ (∃ d, owns (c : Thread nD τ) (st0_6 t) fullShare ((dat (U := U) W c).before 6 t d))
      ∗ (∃ d, owns (c : Thread nD τ) (st0_7 t) fullShare ((dat (U := U) W c).before 7 t d))
      ∗ (∃ d, owns (c : Thread nD τ) (st0_8 t) fullShare ((dat (U := U) W c).before 8 t d))
      ∗ (∃ d, owns (c : Thread nD τ) (st0_9 t) fullShare ((dat (U := U) W c).before 9 t d)))
    ⊢ wp frame (wpE (defs₀ (F := F)) Variants.none c none) Set.univ (bodyAt0 t) (fun _ =>
        iprop(inv (U := U) W c (t.val + 1) ∗ (dat (U := U) W c).owesAt () t.succ
      ∗ owns (c : Thread nD τ) (st0_0 t) fullShare ((dat (U := U) W c).after 0 t)
      ∗ (∃ d, owns (c : Thread nD τ) (st0_1 t) fullShare ((cfg0.win 1).fill (cfg0.grid.coords t) d ((cfg0.win 1).cut (cfg0.grid.coords t) ((dat (U := U) W c).after 1 t))))
      ∗ (∃ d, owns (c : Thread nD τ) (st0_2 t) fullShare ((cfg0.win 2).fill (cfg0.grid.coords t) d ((cfg0.win 2).cut (cfg0.grid.coords t) ((dat (U := U) W c).after 2 t))))
      ∗ owns (c : Thread nD τ) (st0_3 t) fullShare ((dat (U := U) W c).after 3 t)
      ∗ owns (c : Thread nD τ) (st0_4 t) fullShare ((dat (U := U) W c).after 4 t)
      ∗ owns (c : Thread nD τ) (st0_5 t) fullShare ((dat (U := U) W c).after 5 t)
      ∗ (∃ d, owns (c : Thread nD τ) (st0_6 t) fullShare ((cfg0.win 6).fill (cfg0.grid.coords t) d ((cfg0.win 6).cut (cfg0.grid.coords t) ((dat (U := U) W c).after 6 t))))
      ∗ (∃ d, owns (c : Thread nD τ) (st0_7 t) fullShare ((cfg0.win 7).fill (cfg0.grid.coords t) d ((cfg0.win 7).cut (cfg0.grid.coords t) ((dat (U := U) W c).after 7 t))))
      ∗ owns (c : Thread nD τ) (st0_8 t) fullShare ((dat (U := U) W c).after 8 t)
      ∗ owns (c : Thread nD τ) (st0_9 t) fullShare ((dat (U := U) W c).after 9 t))) := by
  unfold bodyAt0
  rw [show (dat (U := U) W c).owesAt () t.succ = (dat (U := U) W c).owesAt () t.castSucc from rfl]
  iintro ⟨⟨⟨⟨%f0, S0⟩, ⟨%f1, %hf1, S1⟩⟩, HR, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0, before_1, before_2, before_3, before_4, before_5]
  have eV : vNew (grid0.coords t) (x4 W t) (x5 W t) (x6 W t) f1 = vu W := by
    unfold vNew
    by_cases h0 : t.val = 0
    · rw [if_pos ((first_iff t).mpr h0)]
      obtain rfl : t = ⟨0, N_pos⟩ := Fin.ext h0
      rfl
    · rw [if_neg (fun h => h0 ((first_iff t).mp h))]; exact hf1 h0
  have eG : o10 (x1 W t) ((dat (U := U) W c).fetched 1 t d1) ((dat (U := U) W c).fetched 2 t d2) (vu W) (gNew (grid0.coords t) ((dat (U := U) W c).before 9 t d9)) = g W t.val t.isLt := by
    refine (hE t d1 d2 _).trans ?_
    obtain ⟨n, hn⟩ := t
    cases n with
    | zero => unfold gNew; rw [if_pos ((first_iff _).mpr rfl)]; rfl
    | succ n => unfold gNew; rw [if_neg (fun h => Nat.succ_ne_zero n ((first_iff _).mp h)), before_9]; rfl
  iapply (Body0.run1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)
    (x1 W t) ((dat (U := U) W c).fetched 1 t d1) ((dat (U := U) W c).fetched 2 t d2) (x4 W t) (x5 W t) (x6 W t) _ _ _ _ f0 f1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]
  · rw [owns_whole_eq]; iexists f0; isplitr
    · ipureintro; rfl
    · iexact S0
  isplitl [S1]
  · rw [owns_whole_eq]; iexists f1; isplitr
    · ipureintro; rfl
    · iexact S1
  rw [eV, eG]
  iintro ⟨H0, H1, H2, H3, H4, H5, H6, H7, H8, H9, S0, S1⟩
  isplitl [S0 S1 HR HG]
  · isplitl [S0 S1]
    · isplitl [S0]; · iapply (Weak0.some_of_owns c _ _); iexact S0
      iapply (known c cc0_scratch1 (vu W) (t.val + 1)); iexact S1
    isplitl [HR]; · iexact HR
    iexact HG
  isplitl [HO]; · iexact HO
  isplitl [H0]; · iexact H0
  isplitl [H1]
  · iexists d1
    rw [show (cfg0.win 1).cut (cfg0.grid.coords t) ((dat (U := U) W c).after 1 t) = (dat (U := U) W c).blockOf 1 t from (cfg0.win 1).cut_fill _ _ _]
    iexact H1
  isplitl [H2]
  · iexists d2
    rw [show (cfg0.win 2).cut (cfg0.grid.coords t) ((dat (U := U) W c).after 2 t) = (dat (U := U) W c).blockOf 2 t from (cfg0.win 2).cut_fill _ _ _]
    iexact H2
  isplitl [H3]; · iexact H3
  isplitl [H4]; · iexact H4
  isplitl [H5]; · iexact H5
  isplitl [H6]
  · iexists ((dat (U := U) W c).after 6 t); rw [(cfg0.win 6).fill_cut]; iexact H6
  isplitl [H7]
  · iexists ((dat (U := U) W c).after 7 t); rw [(cfg0.win 7).fill_cut]; iexact H7
  isplitl [H8]; · iexact H8
  iexact H9

/-- The library's body obligation. -/
theorem obligation (W : Valuation τ sig (Elt F)) (hE : EdgeFree W) (c : Dev nD) :
    BodyObligationLoose (dat (U := U) W c) (defs₀ (F := F)) Variants.none () Set.univ := fun t => by
  rw [bigSep_W0, bigSep_W0, Weak0.defs₀_row]
  exact sound_body W hE c t

end Cert.KernelIdeal.Exact0

end
-- ==== Proof.Ideal.Exact1.lean ====
/-
  pallas_call 1 with everything it computes remembered.

  What each window holds after a point is stated in closed form: the item codes and scales of layers 2 and 3 and the
  item output of the block's items; the user codes and scales of layers 1 and 2, written at the first point; and the
  third layer's user codes and scales and the user output, written at the last.
-/
module

public import proofs.«01_k».proof.Proof.Ideal.Weak1
public import Idealize.ShloMosaic.Lib.Pipeline.FrameBody
public import Idealize.ShloMosaic.Lib.Pipeline.TableIdle

@[expose] public section

set_option maxRecDepth 16384

noncomputable section

namespace Cert.KernelIdeal.Exact1

open Cert.KernelIdeal Cert.KernelIdeal.Gen Cert.KernelIdeal.Body1
open Cert.KernelIdeal.Body0 (aM)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] {U : Type} [URA U]

local notation "𝕄" => MT nD τ sig Unit (Elt F) ℕ U ℕ

/-- Input window `w`'s block at a point, what it lacks at the array's edge filled in arbitrarily. -/
def inAt (W : Valuation τ sig (Elt F)) (w : Fin 22) (t : Fin cfg1.N) : (cfg1.win w).block.Idx → Elt F (cfg1.win w).elt :=
  (cfg1.win w).fill (cfg1.grid.coords t) (fun _ => Classical.arbitrary _)
    (((cfg1.win w).blk t).view.read (Elt F) (W (Proc.devRef .tc (Pipeline.arrRef spec1 w))))

abbrev x1 (W : Valuation τ sig (Elt F)) (t : Fin cfg1.N) : Vec F S8x384x128 .i32 := inAt W 0 t
abbrev x2 (W : Valuation τ sig (Elt F)) (t : Fin cfg1.N) : Vec F S192x1024 .i8 := inAt W 1 t
abbrev x3 (W : Valuation τ sig (Elt F)) (t : Fin cfg1.N) : Vec F S1x1024 .f32 := inAt W 2 t
abbrev x4 (W : Valuation τ sig (Elt F)) (t : Fin cfg1.N) : Vec F S192x1024 .i8 := inAt W 3 t
abbrev x5 (W : Valuation τ sig (Elt F)) (t : Fin cfg1.N) : Vec F S1x1024 .f32 := inAt W 4 t
abbrev x6 (W : Valuation τ sig (Elt F)) (t : Fin cfg1.N) : Vec F S1x1024 .f32 := inAt W 5 t
abbrev x7 (W : Valuation τ sig (Elt F)) (t : Fin cfg1.N) : Vec F S384x1536 .f32 := inAt W 6 t
abbrev x8 (W : Valuation τ sig (Elt F)) (t : Fin cfg1.N) : Vec F S192x1536 .i8 := inAt W 7 t
abbrev x9 (W : Valuation τ sig (Elt F)) (t : Fin cfg1.N) : Vec F S1x1536 .f32 := inAt W 8 t
abbrev x10 (W : Valuation τ sig (Elt F)) (t : Fin cfg1.N) : Vec F S1x1536 .f32 := inAt W 9 t

theorem N_pos : 0 < cfg1.N := by decide
theorem N_eq : cfg1.N = 20 := by decide

abbrev t0 : Fin cfg1.N := ⟨0, N_pos⟩
abbrev tL : Fin cfg1.N := ⟨19, by decide⟩

/-- The user terms of layers 1 and 2, computed once at the first point. -/
def vuAt (W : Valuation τ sig (Elt F)) : Vec F S1152x1536 .bf16 := vu (x7 W t0) (x10 W t0)

/-- The user vectors of layers 0, 1 and 2 summed, computed once at the first point. -/
def accAt (W : Valuation τ sig (Elt F)) : Vec F S192x1536 .f32 := acc (x7 W t0) (x8 W t0) (x9 W t0) (x10 W t0)

/-- The third layer's user sums after point `n`. -/
def g3 (W : Valuation τ sig (Elt F)) : (n : ℕ) → n < cfg1.N → Vec F S192x1536 .f32
  | 0, h => o25 (x1 W ⟨0, h⟩) (x6 W ⟨0, h⟩) (vuAt W) k1_pay23
  | n + 1, h => o25 (x1 W ⟨n + 1, h⟩) (x6 W ⟨n + 1, h⟩) (vuAt W) (g3 W n (Nat.lt_of_succ_lt h))

/-- What window `w` holds after point `t`. -/
def outAt (W : Valuation τ sig (Elt F)) (w : Fin 22) (t : Fin cfg1.N) : (cfg1.win w).block.Idx → Elt F (cfg1.win w).elt :=
  match w with
  | ⟨10, _⟩ => o11 (x1 W t) (x6 W t) (vuAt W)
  | ⟨11, _⟩ => o12 (x1 W t) (x6 W t) (vuAt W)
  | ⟨12, _⟩ => o13 (x1 W t) (x6 W t) (vuAt W)
  | ⟨13, _⟩ => o14 (x1 W t) (x6 W t) (vuAt W)
  | ⟨14, _⟩ => o15 (x1 W t) (x2 W t) (x3 W t) (x4 W t) (x5 W t) (x6 W t) (vuAt W)
  | ⟨15, _⟩ => uc1 (x7 W t0) (x10 W t0)
  | ⟨16, _⟩ => us1 (x7 W t0) (x10 W t0)
  | ⟨17, _⟩ => uc2 (x7 W t0) (x10 W t0)
  | ⟨18, _⟩ => us2 (x7 W t0) (x10 W t0)
  | ⟨19, _⟩ => o20 (x10 W tL) (g3 W 19 tL.isLt)
  | ⟨20, _⟩ => o21 (x10 W tL) (g3 W 19 tL.isLt)
  | ⟨21, _⟩ => o22 (x10 W tL) (g3 W 19 tL.isLt) (accAt W)
  | w => inAt W w t

/-- What is held between points: the four scratch buffers; after the first point the last three hold the user terms,
    the third layer's user sums so far and the user vectors' sum. -/
abbrev inv (W : Valuation τ sig (Elt F)) (c : Dev nD) (n : ℕ) : sProp 𝕄 :=
  iprop(((∃ f : Buf (Elt F) ((c : Thread nD τ).loc cc1_scratch0), ((c : Thread nD τ).loc cc1_scratch0) ↦{fullShare} f)
      ∗ (∃ f : Buf (Elt F) ((c : Thread nD τ).loc cc1_scratch1), ⌜n ≠ 0 → f = vuAt W⌝ ∗ (((c : Thread nD τ).loc cc1_scratch1) ↦{fullShare} f))
      ∗ (∃ f : Buf (Elt F) ((c : Thread nD τ).loc cc1_scratch2), ⌜n ≠ 0 → ∀ h, f = g3 W (n - 1) h⌝ ∗ (((c : Thread nD τ).loc cc1_scratch2) ↦{fullShare} f))
      ∗ (∃ f : Buf (Elt F) ((c : Thread nD τ).loc cc1_scratch3), ⌜n ≠ 0 → f = accAt W⌝ ∗ (((c : Thread nD τ).loc cc1_scratch3) ↦{fullShare} f)))
    ∗ Pipeline.scopedRestBut (Ix := Unit) (Name := ℕ) (U := U) (Lvl := ℕ) (Val := Elt F) spec1 c [cc1_scratch0, cc1_scratch1, cc1_scratch2, cc1_scratch3] ∗ ∃ r, prngReg c r)

/-- The proof data of an entry at the valuation `W`. -/
def dat (W : Valuation τ sig (Elt F)) (c : Dev nD) : Dat τ (Elt F) Unit ℕ U ℕ cfg1 c where
  A w := W (Proc.devRef .tc (Pipeline.arrRef spec1 w))
  after w t := outAt W w t
  Φ t := inv W c t.val
  q _ := fullShare
  owed _ := 0

theorem before_0 (W : Valuation τ sig (Elt F)) (c : Dev nD) (t : Fin cfg1.N) (d) : (dat (U := U) W c).before 0 t d = x1 W t :=
  ((dat (U := U) W c).before_in_eq_fetched 0 rfl (fun _ => rfl) (fun _ _ _ => rfl) (fun t => (cfg1.win 0).cut_fill (cfg1.grid.coords t) (fun _ => Classical.arbitrary _) _) t d).trans
    (Pipeline.fill_of_clip_none 0 _ (fun _ => rfl) _ _ _)

theorem before_5 (W : Valuation τ sig (Elt F)) (c : Dev nD) (t : Fin cfg1.N) (d) : (dat (U := U) W c).before 5 t d = x6 W t :=
  ((dat (U := U) W c).before_in_eq_fetched 5 rfl (fun _ => rfl) (fun _ _ _ => rfl) (fun t => (cfg1.win 5).cut_fill (cfg1.grid.coords t) (fun _ => Classical.arbitrary _) _) t d).trans
    (Pipeline.fill_of_clip_none 5 _ (fun _ => rfl) _ _ _)

theorem before_6 (W : Valuation τ sig (Elt F)) (c : Dev nD) (t : Fin cfg1.N) (d) : (dat (U := U) W c).before 6 t d = x7 W t :=
  ((dat (U := U) W c).before_in_eq_fetched 6 rfl (fun _ => rfl) (fun _ _ _ => rfl) (fun t => (cfg1.win 6).cut_fill (cfg1.grid.coords t) (fun _ => Classical.arbitrary _) _) t d).trans
    (Pipeline.fill_of_clip_none 6 _ (fun _ => rfl) _ _ _)

theorem before_7 (W : Valuation τ sig (Elt F)) (c : Dev nD) (t : Fin cfg1.N) (d) : (dat (U := U) W c).before 7 t d = x8 W t :=
  ((dat (U := U) W c).before_in_eq_fetched 7 rfl (fun _ => rfl) (fun _ _ _ => rfl) (fun t => (cfg1.win 7).cut_fill (cfg1.grid.coords t) (fun _ => Classical.arbitrary _) _) t d).trans
    (Pipeline.fill_of_clip_none 7 _ (fun _ => rfl) _ _ _)

theorem before_8 (W : Valuation τ sig (Elt F)) (c : Dev nD) (t : Fin cfg1.N) (d) : (dat (U := U) W c).before 8 t d = x9 W t :=
  ((dat (U := U) W c).before_in_eq_fetched 8 rfl (fun _ => rfl) (fun _ _ _ => rfl) (fun t => (cfg1.win 8).cut_fill (cfg1.grid.coords t) (fun _ => Classical.arbitrary _) _) t d).trans
    (Pipeline.fill_of_clip_none 8 _ (fun _ => rfl) _ _ _)

theorem before_9 (W : Valuation τ sig (Elt F)) (c : Dev nD) (t : Fin cfg1.N) (d) : (dat (U := U) W c).before 9 t d = x10 W t :=
  ((dat (U := U) W c).before_in_eq_fetched 9 rfl (fun _ => rfl) (fun _ _ _ => rfl) (fun t => (cfg1.win 9).cut_fill (cfg1.grid.coords t) (fun _ => Classical.arbitrary _) _) t d).trans
    (Pipeline.fill_of_clip_none 9 _ (fun _ => rfl) _ _ _)

theorem before_1 (W : Valuation τ sig (Elt F)) (c : Dev nD) (t : Fin cfg1.N) (d) : (dat (U := U) W c).before 1 t d = (dat (U := U) W c).fetched 1 t d :=
  (dat (U := U) W c).before_fetched 1 t (fetch1_1 t) d

theorem before_2 (W : Valuation τ sig (Elt F)) (c : Dev nD) (t : Fin cfg1.N) (d) : (dat (U := U) W c).before 2 t d = (dat (U := U) W c).fetched 2 t d :=
  (dat (U := U) W c).before_fetched 2 t (fetch1_2 t) d

theorem before_3 (W : Valuation τ sig (Elt F)) (c : Dev nD) (t : Fin cfg1.N) (d) : (dat (U := U) W c).before 3 t d = (dat (U := U) W c).fetched 3 t d :=
  (dat (U := U) W c).before_fetched 3 t (fetch1_3 t) d

theorem before_4 (W : Valuation τ sig (Elt F)) (c : Dev nD) (t : Fin cfg1.N) (d) : (dat (U := U) W c).before 4 t d = (dat (U := U) W c).fetched 4 t d :=
  (dat (U := U) W c).before_fetched 4 t (fetch1_4 t) d

theorem first_iff : ∀ t : Fin grid1.N, k1_cond1 (grid1.coords t) = 1#1 ↔ t.val = 0 := by decide +kernel
theorem last_iff : ∀ t : Fin grid1.N, k1_cond2 (grid1.coords t) = 1#1 ↔ t.val = 19 := by decide +kernel

/-- What an overhanging block holds past its array's edge does not reach the item output within the array. -/
def EdgeFree (W : Valuation τ sig (Elt F)) : Prop :=
  ∀ (t : Fin cfg1.N) (d1 : Vec F S192x1024 .i8) (d2 : Vec F S1x1024 .f32) (d3 : Vec F S192x1024 .i8) (d4 : Vec F S1x1024 .f32),
    (cfg1.win 14).cut (cfg1.grid.coords t) (o15 (x1 W t)
      ((cfg1.win 1).fill (cfg1.grid.coords t) d1 (((cfg1.win 1).blk t).view.read (Elt F) (W (Proc.devRef .tc (Pipeline.arrRef spec1 1)))))
      ((cfg1.win 2).fill (cfg1.grid.coords t) d2 (((cfg1.win 2).blk t).view.read (Elt F) (W (Proc.devRef .tc (Pipeline.arrRef spec1 2)))))
      ((cfg1.win 3).fill (cfg1.grid.coords t) d3 (((cfg1.win 3).blk t).view.read (Elt F) (W (Proc.devRef .tc (Pipeline.arrRef spec1 3)))))
      ((cfg1.win 4).fill (cfg1.grid.coords t) d4 (((cfg1.win 4).blk t).view.read (Elt F) (W (Proc.devRef .tc (Pipeline.arrRef spec1 4)))))
      (x6 W t) (vuAt W))
    = (cfg1.win 14).cut (cfg1.grid.coords t) (o15 (x1 W t) (x2 W t) (x3 W t) (x4 W t) (x5 W t) (x6 W t) (vuAt W))

/-- What the body owes for a window live at the point: its contents as stated. -/
theorem leaves_live {Λ₀ : Idealize.SL.Sem.Labels} {cfg : Cfg sig Λ₀} {c : Dev nD} (dat : Dat τ (Elt F) Unit ℕ U ℕ cfg c) (w : Fin cfg.W) (t : Fin cfg.N)
    (hi : cfg.idle w (cfg.grid.coords t) = false) (hl : cfg.loose w = false) (X : (cfg.win w).block.Idx → Elt F (cfg.win w).elt) (hX : X = dat.after w t) :
    (owns (c : Thread nD τ) ((cfg.win w).stage (cfg.slots t w)) fullShare X : sProp 𝕄) ⊢ dat.leaves w t := by
  subst hX
  unfold Dat.leaves
  rw [hi, hl]

/-- What the body owes for a window idle at the point: what it found. -/
theorem leaves_found {Λ₀ : Idealize.SL.Sem.Labels} {cfg : Cfg sig Λ₀} {c : Dev nD} (dat : Dat τ (Elt F) Unit ℕ U ℕ cfg c) (w : Fin cfg.W) (t : Fin cfg.N)
    (hi : cfg.idle w (cfg.grid.coords t) = true) (hl : cfg.loose w = false) (d : (cfg.win w).block.Idx → Elt F (cfg.win w).elt)
    (hb : (cfg.win w).flush t = true → dat.before w t d = dat.after w t) :
    (owns (c : Thread nD τ) ((cfg.win w).stage (cfg.slots t w)) fullShare (dat.before w t d) : sProp 𝕄) ⊢ dat.leaves w t := by
  unfold Dat.leaves
  rw [hi, hl]
  cases hf : (cfg.win w).flush t
  · iintro H; iexists d; iexact H
  · rw [hb hf]

theorem idle_15 : ∀ t : Fin grid1.N, cfg1.idle 15 (grid1.coords t) = decide (t.val ≠ 0) := by decide +kernel

theorem fresh_15 (t : Fin cfg1.N) : cfg1.fresh 15 t.val = decide (t.val = 0) := by
  rw [cfg1.fresh_tab 15 (fun n => decide (n = 0 ∨ n = 20)) rfl (fun t => by
    have h : t.val < 20 := t.isLt
    rw [idle_15]
    cases hf : (cfg1.win 15).flush t with
    | true => have := (flush1_15 t).mp hf; simp only [Bool.true_or, decide_eq_true_eq]; omega
    | false =>
      have := mt (flush1_15 t).mpr (Bool.eq_false_iff.mp hf)
      simp only [Bool.false_or, ← Bool.decide_and, decide_eq_decide]; omega) t.val (Nat.le_of_lt t.isLt)]
  have h : t.val < 20 := t.isLt
  simp only [decide_eq_decide]; omega

theorem after_15 (W : Valuation τ sig (Elt F)) (c : Dev nD) (t : Fin cfg1.N) : (dat (U := U) W c).after 15 t = uc1 (x7 W t0) (x10 W t0) := rfl

theorem kept_15 (W : Valuation τ sig (Elt F)) (c : Dev nD) (t : Fin cfg1.N) (h0 : t.val ≠ 0) (d) :
    (dat (U := U) W c).before 15 t d = (dat (U := U) W c).after 15 t := by
  rw [(dat (U := U) W c).before_out_traj 15 rfl (fun _ _ => rfl) (fun t _ _ _ => (after_15 W c t).trans (after_15 W c _).symm) t.val t rfl d, fresh_15, if_neg (by simp [h0])]
  exact (after_15 W c _).trans (after_15 W c _).symm

theorem leave_15 (W : Valuation τ sig (Elt F)) (c : Dev nD) (t : Fin cfg1.N) (d) :
    owns (c : Thread nD τ) (st1_15 t) fullShare (atFirst (grid1.coords t) (uc1 (x7 W t) (x10 W t)) ((dat (U := U) W c).before 15 t d)) ⊢ (dat (U := U) W c).leaves 15 t := by
  by_cases h0 : t.val = 0
  · rw [atFirst, if_pos ((first_iff t).mpr h0)]
    obtain rfl : t = t0 := Fin.ext h0
    exact leaves_live (dat (U := U) W c) 15 t0 (idle_15 t0) rfl _ (after_15 W c t0).symm
  · rw [atFirst, if_neg (fun h => h0 ((first_iff t).mp h))]
    exact leaves_found (dat (U := U) W c) 15 t ((idle_15 t).trans (decide_eq_true h0)) rfl d (fun _ => kept_15 W c t h0 d)

theorem idle_16 : ∀ t : Fin grid1.N, cfg1.idle 16 (grid1.coords t) = decide (t.val ≠ 0) := by decide +kernel

theorem fresh_16 (t : Fin cfg1.N) : cfg1.fresh 16 t.val = decide (t.val = 0) := by
  rw [cfg1.fresh_tab 16 (fun n => decide (n = 0 ∨ n = 20)) rfl (fun t => by
    have h : t.val < 20 := t.isLt
    rw [idle_16]
    cases hf : (cfg1.win 16).flush t with
    | true => have := (flush1_16 t).mp hf; simp only [Bool.true_or, decide_eq_true_eq]; omega
    | false =>
      have := mt (flush1_16 t).mpr (Bool.eq_false_iff.mp hf)
      simp only [Bool.false_or, ← Bool.decide_and, decide_eq_decide]; omega) t.val (Nat.le_of_lt t.isLt)]
  have h : t.val < 20 := t.isLt
  simp only [decide_eq_decide]; omega

theorem after_16 (W : Valuation τ sig (Elt F)) (c : Dev nD) (t : Fin cfg1.N) : (dat (U := U) W c).after 16 t = us1 (x7 W t0) (x10 W t0) := rfl

theorem kept_16 (W : Valuation τ sig (Elt F)) (c : Dev nD) (t : Fin cfg1.N) (h0 : t.val ≠ 0) (d) :
    (dat (U := U) W c).before 16 t d = (dat (U := U) W c).after 16 t := by
  rw [(dat (U := U) W c).before_out_traj 16 rfl (fun _ _ => rfl) (fun t _ _ _ => (after_16 W c t).trans (after_16 W c _).symm) t.val t rfl d, fresh_16, if_neg (by simp [h0])]
  exact (after_16 W c _).trans (after_16 W c _).symm

theorem leave_16 (W : Valuation τ sig (Elt F)) (c : Dev nD) (t : Fin cfg1.N) (d) :
    owns (c : Thread nD τ) (st1_16 t) fullShare (atFirst (grid1.coords t) (us1 (x7 W t) (x10 W t)) ((dat (U := U) W c).before 16 t d)) ⊢ (dat (U := U) W c).leaves 16 t := by
  by_cases h0 : t.val = 0
  · rw [atFirst, if_pos ((first_iff t).mpr h0)]
    obtain rfl : t = t0 := Fin.ext h0
    exact leaves_live (dat (U := U) W c) 16 t0 (idle_16 t0) rfl _ (after_16 W c t0).symm
  · rw [atFirst, if_neg (fun h => h0 ((first_iff t).mp h))]
    exact leaves_found (dat (U := U) W c) 16 t ((idle_16 t).trans (decide_eq_true h0)) rfl d (fun _ => kept_16 W c t h0 d)

theorem idle_17 : ∀ t : Fin grid1.N, cfg1.idle 17 (grid1.coords t) = decide (t.val ≠ 0) := by decide +kernel

theorem fresh_17 (t : Fin cfg1.N) : cfg1.fresh 17 t.val = decide (t.val = 0) := by
  rw [cfg1.fresh_tab 17 (fun n => decide (n = 0 ∨ n = 20)) rfl (fun t => by
    have h : t.val < 20 := t.isLt
    rw [idle_17]
    cases hf : (cfg1.win 17).flush t with
    | true => have := (flush1_17 t).mp hf; simp only [Bool.true_or, decide_eq_true_eq]; omega
    | false =>
      have := mt (flush1_17 t).mpr (Bool.eq_false_iff.mp hf)
      simp only [Bool.false_or, ← Bool.decide_and, decide_eq_decide]; omega) t.val (Nat.le_of_lt t.isLt)]
  have h : t.val < 20 := t.isLt
  simp only [decide_eq_decide]; omega

theorem after_17 (W : Valuation τ sig (Elt F)) (c : Dev nD) (t : Fin cfg1.N) : (dat (U := U) W c).after 17 t = uc2 (x7 W t0) (x10 W t0) := rfl

theorem kept_17 (W : Valuation τ sig (Elt F)) (c : Dev nD) (t : Fin cfg1.N) (h0 : t.val ≠ 0) (d) :
    (dat (U := U) W c).before 17 t d = (dat (U := U) W c).after 17 t := by
  rw [(dat (U := U) W c).before_out_traj 17 rfl (fun _ _ => rfl) (fun t _ _ _ => (after_17 W c t).trans (after_17 W c _).symm) t.val t rfl d, fresh_17, if_neg (by simp [h0])]
  exact (after_17 W c _).trans (after_17 W c _).symm

theorem leave_17 (W : Valuation τ sig (Elt F)) (c : Dev nD) (t : Fin cfg1.N) (d) :
    owns (c : Thread nD τ) (st1_17 t) fullShare (atFirst (grid1.coords t) (uc2 (x7 W t) (x10 W t)) ((dat (U := U) W c).before 17 t d)) ⊢ (dat (U := U) W c).leaves 17 t := by
  by_cases h0 : t.val = 0
  · rw [atFirst, if_pos ((first_iff t).mpr h0)]
    obtain rfl : t = t0 := Fin.ext h0
    exact leaves_live (dat (U := U) W c) 17 t0 (idle_17 t0) rfl _ (after_17 W c t0).symm
  · rw [atFirst, if_neg (fun h => h0 ((first_iff t).mp h))]
    exact leaves_found (dat (U := U) W c) 17 t ((idle_17 t).trans (decide_eq_true h0)) rfl d (fun _ => kept_17 W c t h0 d)

theorem idle_18 : ∀ t : Fin grid1.N, cfg1.idle 18 (grid1.coords t) = decide (t.val ≠ 0) := by decide +kernel

theorem fresh_18 (t : Fin cfg1.N) : cfg1.fresh 18 t.val = decide (t.val = 0) := by
  rw [cfg1.fresh_tab 18 (fun n => decide (n = 0 ∨ n = 20)) rfl (fun t => by
    have h : t.val < 20 := t.isLt
    rw [idle_18]
    cases hf : (cfg1.win 18).flush t with
    | true => have := (flush1_18 t).mp hf; simp only [Bool.true_or, decide_eq_true_eq]; omega
    | false =>
      have := mt (flush1_18 t).mpr (Bool.eq_false_iff.mp hf)
      simp only [Bool.false_or, ← Bool.decide_and, decide_eq_decide]; omega) t.val (Nat.le_of_lt t.isLt)]
  have h : t.val < 20 := t.isLt
  simp only [decide_eq_decide]; omega

theorem after_18 (W : Valuation τ sig (Elt F)) (c : Dev nD) (t : Fin cfg1.N) : (dat (U := U) W c).after 18 t = us2 (x7 W t0) (x10 W t0) := rfl

theorem kept_18 (W : Valuation τ sig (Elt F)) (c : Dev nD) (t : Fin cfg1.N) (h0 : t.val ≠ 0) (d) :
    (dat (U := U) W c).before 18 t d = (dat (U := U) W c).after 18 t := by
  rw [(dat (U := U) W c).before_out_traj 18 rfl (fun _ _ => rfl) (fun t _ _ _ => (after_18 W c t).trans (after_18 W c _).symm) t.val t rfl d, fresh_18, if_neg (by simp [h0])]
  exact (after_18 W c _).trans (after_18 W c _).symm

theorem leave_18 (W : Valuation τ sig (Elt F)) (c : Dev nD) (t : Fin cfg1.N) (d) :
    owns (c : Thread nD τ) (st1_18 t) fullShare (atFirst (grid1.coords t) (us2 (x7 W t) (x10 W t)) ((dat (U := U) W c).before 18 t d)) ⊢ (dat (U := U) W c).leaves 18 t := by
  by_cases h0 : t.val = 0
  · rw [atFirst, if_pos ((first_iff t).mpr h0)]
    obtain rfl : t = t0 := Fin.ext h0
    exact leaves_live (dat (U := U) W c) 18 t0 (idle_18 t0) rfl _ (after_18 W c t0).symm
  · rw [atFirst, if_neg (fun h => h0 ((first_iff t).mp h))]
    exact leaves_found (dat (U := U) W c) 18 t ((idle_18 t).trans (decide_eq_true h0)) rfl d (fun _ => kept_18 W c t h0 d)

theorem idle_19 : ∀ t : Fin grid1.N, cfg1.idle 19 (grid1.coords t) = decide (t.val ≠ 19) := by decide +kernel

theorem after_19 (W : Valuation τ sig (Elt F)) (c : Dev nD) (t : Fin cfg1.N) : (dat (U := U) W c).after 19 t = o20 (x10 W tL) (g3 W 19 tL.isLt) := rfl

theorem leave_19 (W : Valuation τ sig (Elt F)) (c : Dev nD) (t : Fin cfg1.N) (d) :
    owns (c : Thread nD τ) (st1_19 t) fullShare (atLast (grid1.coords t) (o20 (x10 W t) (g3 W t.val t.isLt)) ((dat (U := U) W c).before 19 t d)) ⊢ (dat (U := U) W c).leaves 19 t := by
  by_cases h0 : t.val = 19
  · rw [atLast, if_pos ((last_iff t).mpr h0)]
    obtain rfl : t = tL := Fin.ext h0
    exact leaves_live (dat (U := U) W c) 19 tL (idle_19 tL) rfl _ (after_19 W c tL).symm
  · rw [atLast, if_neg (fun h => h0 ((last_iff t).mp h))]
    exact leaves_found (dat (U := U) W c) 19 t ((idle_19 t).trans (decide_eq_true h0)) rfl d fun h => by
      have h1 := (flush1_19 t).mp h; have h2 : t.val < 20 := t.isLt; omega

theorem idle_20 : ∀ t : Fin grid1.N, cfg1.idle 20 (grid1.coords t) = decide (t.val ≠ 19) := by decide +kernel

theorem after_20 (W : Valuation τ sig (Elt F)) (c : Dev nD) (t : Fin cfg1.N) : (dat (U := U) W c).after 20 t = o21 (x10 W tL) (g3 W 19 tL.isLt) := rfl

theorem leave_20 (W : Valuation τ sig (Elt F)) (c : Dev nD) (t : Fin cfg1.N) (d) :
    owns (c : Thread nD τ) (st1_20 t) fullShare (atLast (grid1.coords t) (o21 (x10 W t) (g3 W t.val t.isLt)) ((dat (U := U) W c).before 20 t d)) ⊢ (dat (U := U) W c).leaves 20 t := by
  by_cases h0 : t.val = 19
  · rw [atLast, if_pos ((last_iff t).mpr h0)]
    obtain rfl : t = tL := Fin.ext h0
    exact leaves_live (dat (U := U) W c) 20 tL (idle_20 tL) rfl _ (after_20 W c tL).symm
  · rw [atLast, if_neg (fun h => h0 ((last_iff t).mp h))]
    exact leaves_found (dat (U := U) W c) 20 t ((idle_20 t).trans (decide_eq_true h0)) rfl d fun h => by
      have h1 := (flush1_20 t).mp h; have h2 : t.val < 20 := t.isLt; omega

theorem idle_21 : ∀ t : Fin grid1.N, cfg1.idle 21 (grid1.coords t) = decide (t.val ≠ 19) := by decide +kernel

theorem after_21 (W : Valuation τ sig (Elt F)) (c : Dev nD) (t : Fin cfg1.N) : (dat (U := U) W c).after 21 t = o22 (x10 W tL) (g3 W 19 tL.isLt) (accAt W) := rfl

theorem leave_21 (W : Valuation τ sig (Elt F)) (c : Dev nD) (t : Fin cfg1.N) (d) :
    owns (c : Thread nD τ) (st1_21 t) fullShare (atLast (grid1.coords t) (o22 (x10 W t) (g3 W t.val t.isLt) (accAt W)) ((dat (U := U) W c).before 21 t d)) ⊢ (dat (U := U) W c).leaves 21 t := by
  by_cases h0 : t.val = 19
  · rw [atLast, if_pos ((last_iff t).mpr h0)]
    obtain rfl : t = tL := Fin.ext h0
    exact leaves_live (dat (U := U) W c) 21 tL (idle_21 tL) rfl _ (after_21 W c tL).symm
  · rw [atLast, if_neg (fun h => h0 ((last_iff t).mp h))]
    exact leaves_found (dat (U := U) W c) 21 t ((idle_21 t).trans (decide_eq_true h0)) rfl d fun h => by
      have h1 := (flush1_21 t).mp h; have h2 : t.val < 20 := t.isLt; omega

/-- A buffer owned whole at contents of which `P` holds. -/
theorem known (c : Dev nD) (b : Ref sig .tc) (X : b.ty.Contents (Elt F)) (P : Buf (Elt F) ((c : Thread nD τ).loc b) → Prop) (hP : P X) :
    (owns (c : Thread nD τ) (Memref.whole b) fullShare X : sProp 𝕄)
      ⊢ iprop(∃ f : Buf (Elt F) ((c : Thread nD τ).loc b), ⌜P f⌝ ∗ (((c : Thread nD τ).loc b) ↦{fullShare} f)) := by
  rw [owns_whole_eq]
  iintro ⟨%f, %hf, H⟩
  iexists f
  isplitr
  · ipureintro
    have e : f = X := hf
    rw [e]; exact hP
  · iexact H

/-- The body at a point. -/
theorem sound_body (W : Valuation τ sig (Elt F)) (hE : EdgeFree W) (c : Dev nD) (t : Fin cfg1.N) :
    iprop(inv (U := U) W c t.val ∗ (dat (U := U) W c).owesAt () t.castSucc
      ∗ (∃ d, owns (c : Thread nD τ) (st1_0 t) fullShare ((dat (U := U) W c).before 0 t d))
      ∗ (∃ d, owns (c : Thread nD τ) (st1_1 t) fullShare ((dat (U := U) W c).before 1 t d))
      ∗ (∃ d, owns (c : Thread nD τ) (st1_2 t) fullShare ((dat (U := U) W c).before 2 t d))
      ∗ (∃ d, owns (c : Thread nD τ) (st1_3 t) fullShare ((dat (U := U) W c).before 3 t d))
      ∗ (∃ d, owns (c : Thread nD τ) (st1_4 t) fullShare ((dat (U := U) W c).before 4 t d))
      ∗ (∃ d, owns (c : Thread nD τ) (st1_5 t) fullShare ((dat (U := U) W c).before 5 t d))
      ∗ (∃ d, owns (c : Thread nD τ) (st1_6 t) fullShare ((dat (U := U) W c).before 6 t d))
      ∗ (∃ d, owns (c : Thread nD τ) (st1_7 t) fullShare ((dat (U := U) W c).before 7 t d))
      ∗ (∃ d, owns (c : Thread nD τ) (st1_8 t) fullShare ((dat (U := U) W c).before 8 t d))
      ∗ (∃ d, owns (c : Thread nD τ) (st1_9 t) fullShare ((dat (U := U) W c).before 9 t d))
      ∗ (∃ d, owns (c : Thread nD τ) (st1_10 t) fullShare ((dat (U := U) W c).before 10 t d))
      ∗ (∃ d, owns (c : Thread nD τ) (st1_11 t) fullShare ((dat (U := U) W c).before 11 t d))
      ∗ (∃ d, owns (c : Thread nD τ) (st1_12 t) fullShare ((dat (U := U) W c).before 12 t d))
      ∗ (∃ d, owns (c : Thread nD τ) (st1_13 t) fullShare ((dat (U := U) W c).before 13 t d))
      ∗ (∃ d, owns (c : Thread nD τ) (st1_14 t) fullShare ((dat (U := U) W c).before 14 t d))
      ∗ (∃ d, owns (c : Thread nD τ) (st1_15 t) fullShare ((dat (U := U) W c).before 15 t d))
      ∗ (∃ d, owns (c : Thread nD τ) (st1_16 t) fullShare ((dat (U := U) W c).before 16 t d))
      ∗ (∃ d, owns (c : Thread nD τ) (st1_17 t) fullShare ((dat (U := U) W c).before 17 t d))
      ∗ (∃ d, owns (c : Thread nD τ) (st1_18 t) fullShare ((dat (U := U) W c).before 18 t d))
      ∗ (∃ d, owns (c : Thread nD τ) (st1_19 t) fullShare ((dat (U := U) W c).before 19 t d))
      ∗ (∃ d, owns (c : Thread nD τ) (st1_20 t) fullShare ((dat (U := U) W c).before 20 t d))
      ∗ (∃ d, owns (c : Thread nD τ) (st1_21 t) fullShare ((dat (U := U) W c).before 21 t d)))
    ⊢ wp frame (wpE (defs₀ (F := F)) Variants.none c none) Set.univ (bodyAt1 t) (fun _ =>
        iprop(inv (U := U) W c (t.val + 1) ∗ (dat (U := U) W c).owesAt () t.succ
      ∗ owns (c : Thread nD τ) (st1_0 t) fullShare ((dat (U := U) W c).after 0 t)
      ∗ (∃ d, owns (c : Thread nD τ) (st1_1 t) fullShare ((cfg1.win 1).fill (cfg1.grid.coords t) d ((cfg1.win 1).cut (cfg1.grid.coords t) ((dat (U := U) W c).after 1 t))))
      ∗ (∃ d, owns (c : Thread nD τ) (st1_2 t) fullShare ((cfg1.win 2).fill (cfg1.grid.coords t) d ((cfg1.win 2).cut (cfg1.grid.coords t) ((dat (U := U) W c).after 2 t))))
      ∗ (∃ d, owns (c : Thread nD τ) (st1_3 t) fullShare ((cfg1.win 3).fill (cfg1.grid.coords t) d ((cfg1.win 3).cut (cfg1.grid.coords t) ((dat (U := U) W c).after 3 t))))
      ∗ (∃ d, owns (c : Thread nD τ) (st1_4 t) fullShare ((cfg1.win 4).fill (cfg1.grid.coords t) d ((cfg1.win 4).cut (cfg1.grid.coords t) ((dat (U := U) W c).after 4 t))))
      ∗ owns (c : Thread nD τ) (st1_5 t) fullShare ((dat (U := U) W c).after 5 t)
      ∗ owns (c : Thread nD τ) (st1_6 t) fullShare ((dat (U := U) W c).after 6 t)
      ∗ owns (c : Thread nD τ) (st1_7 t) fullShare ((dat (U := U) W c).after 7 t)
      ∗ owns (c : Thread nD τ) (st1_8 t) fullShare ((dat (U := U) W c).after 8 t)
      ∗ owns (c : Thread nD τ) (st1_9 t) fullShare ((dat (U := U) W c).after 9 t)
      ∗ (∃ d, owns (c : Thread nD τ) (st1_10 t) fullShare ((cfg1.win 10).fill (cfg1.grid.coords t) d ((cfg1.win 10).cut (cfg1.grid.coords t) ((dat (U := U) W c).after 10 t))))
      ∗ (∃ d, owns (c : Thread nD τ) (st1_11 t) fullShare ((cfg1.win 11).fill (cfg1.grid.coords t) d ((cfg1.win 11).cut (cfg1.grid.coords t) ((dat (U := U) W c).after 11 t))))
      ∗ (∃ d, owns (c : Thread nD τ) (st1_12 t) fullShare ((cfg1.win 12).fill (cfg1.grid.coords t) d ((cfg1.win 12).cut (cfg1.grid.coords t) ((dat (U := U) W c).after 12 t))))
      ∗ (∃ d, owns (c : Thread nD τ) (st1_13 t) fullShare ((cfg1.win 13).fill (cfg1.grid.coords t) d ((cfg1.win 13).cut (cfg1.grid.coords t) ((dat (U := U) W c).after 13 t))))
      ∗ (∃ d, owns (c : Thread nD τ) (st1_14 t) fullShare ((cfg1.win 14).fill (cfg1.grid.coords t) d ((cfg1.win 14).cut (cfg1.grid.coords t) ((dat (U := U) W c).after 14 t))))
      ∗ (dat (U := U) W c).leaves 15 t
      ∗ (dat (U := U) W c).leaves 16 t
      ∗ (dat (U := U) W c).leaves 17 t
      ∗ (dat (U := U) W c).leaves 18 t
      ∗ (dat (U := U) W c).leaves 19 t
      ∗ (dat (U := U) W c).leaves 20 t
      ∗ (dat (U := U) W c).leaves 21 t)) := by
  unfold bodyAt1
  rw [show (dat (U := U) W c).owesAt () t.succ = (dat (U := U) W c).owesAt () t.castSucc from rfl]
  iintro ⟨⟨⟨⟨%f0, S0⟩, ⟨%f1, %hf1, S1⟩, ⟨%f2, %hf2, S2⟩, ⟨%f3, %hf3, S3⟩⟩, HR, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  rw [before_0, before_1, before_2, before_3, before_4, before_5, before_6, before_7, before_8, before_9]
  have eV : atFirst (grid1.coords t) (vu (x7 W t) (x10 W t)) f1 = vuAt W := by
    unfold atFirst
    by_cases h0 : t.val = 0
    · rw [if_pos ((first_iff t).mpr h0)]
      obtain rfl : t = t0 := Fin.ext h0
      rfl
    · rw [if_neg (fun h => h0 ((first_iff t).mp h))]; exact hf1 h0
  have eU : atFirst (grid1.coords t) (acc (x7 W t) (x8 W t) (x9 W t) (x10 W t)) f3 = accAt W := by
    unfold atFirst
    by_cases h0 : t.val = 0
    · rw [if_pos ((first_iff t).mpr h0)]
      obtain rfl : t = t0 := Fin.ext h0
      rfl
    · rw [if_neg (fun h => h0 ((first_iff t).mp h))]; exact hf3 h0
  have eG : o25 (x1 W t) (x6 W t) (vuAt W) (atFirst (grid1.coords t) k1_pay23 f2) = g3 W t.val t.isLt := by
    obtain ⟨n, hn⟩ := t
    cases n with
    | zero => unfold atFirst; rw [if_pos ((first_iff _).mpr rfl)]; rfl
    | succ n =>
      unfold atFirst; rw [if_neg (fun h => Nat.succ_ne_zero n ((first_iff _).mp h))]
      rw [show f2 = g3 W n (Nat.lt_of_succ_lt hn) from hf2 (Nat.succ_ne_zero n) (Nat.lt_of_succ_lt hn)]; rfl
  iapply (Body1.run2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (Memref.whole cc1_scratch0) (Memref.isWhole_whole _) (Memref.whole cc1_scratch1) (Memref.isWhole_whole _) (Memref.whole cc1_scratch2) (Memref.isWhole_whole _) (Memref.whole cc1_scratch3) (Memref.isWhole_whole _)
    (x1 W t) ((dat (U := U) W c).fetched 1 t d1) ((dat (U := U) W c).fetched 2 t d2) ((dat (U := U) W c).fetched 3 t d3) ((dat (U := U) W c).fetched 4 t d4) (x6 W t) (x7 W t) (x8 W t) (x9 W t) (x10 W t) _ _ _ _ _ _ _ _ _ _ _ _ f0 f1 f2 f3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]
  · rw [owns_whole_eq]; iexists f0; isplitr
    · ipureintro; rfl
    · iexact S0
  isplitl [S1]
  · rw [owns_whole_eq]; iexists f1; isplitr
    · ipureintro; rfl
    · iexact S1
  isplitl [S2]
  · rw [owns_whole_eq]; iexists f2; isplitr
    · ipureintro; rfl
    · iexact S2
  isplitl [S3]
  · rw [owns_whole_eq]; iexists f3; isplitr
    · ipureintro; rfl
    · iexact S3
  rw [eV, eU, eG]
  iintro ⟨H0, H1, H2, H3, H4, H5, H6, H7, H8, H9, H10, H11, H12, H13, H14, H15, H16, H17, H18, H19, H20, H21, S0, S1, S2, S3⟩
  isplitl [S0 S1 S2 S3 HR HG]
  · isplitl [S0 S1 S2 S3]
    · isplitl [S0]; · iapply (Weak1.some_of_owns c _ _); iexact S0
      isplitl [S1]; · iapply (known c cc1_scratch1 (vuAt W) (fun f => t.val + 1 ≠ 0 → f = vuAt W) (fun _ => rfl)); iexact S1
      isplitl [S2]; · iapply (known c cc1_scratch2 (g3 W t.val t.isLt) (fun f => t.val + 1 ≠ 0 → ∀ h, f = g3 W (t.val + 1 - 1) h) (fun _ _ => rfl)); iexact S2
      iapply (known c cc1_scratch3 (accAt W) (fun f => t.val + 1 ≠ 0 → f = accAt W) (fun _ => rfl)); iexact S3
    isplitl [HR]; · iexact HR
    iexact HG
  isplitl [HO]; · iexact HO
  isplitl [H0]
  · iexact H0
  isplitl [H1]
  · iexists d1
    rw [show (cfg1.win 1).cut (cfg1.grid.coords t) ((dat (U := U) W c).after 1 t) = (dat (U := U) W c).blockOf 1 t from (cfg1.win 1).cut_fill _ _ _]
    iexact H1
  isplitl [H2]
  · iexists d2
    rw [show (cfg1.win 2).cut (cfg1.grid.coords t) ((dat (U := U) W c).after 2 t) = (dat (U := U) W c).blockOf 2 t from (cfg1.win 2).cut_fill _ _ _]
    iexact H2
  isplitl [H3]
  · iexists d3
    rw [show (cfg1.win 3).cut (cfg1.grid.coords t) ((dat (U := U) W c).after 3 t) = (dat (U := U) W c).blockOf 3 t from (cfg1.win 3).cut_fill _ _ _]
    iexact H3
  isplitl [H4]
  · iexists d4
    rw [show (cfg1.win 4).cut (cfg1.grid.coords t) ((dat (U := U) W c).after 4 t) = (dat (U := U) W c).blockOf 4 t from (cfg1.win 4).cut_fill _ _ _]
    iexact H4
  isplitl [H5]
  · iexact H5
  isplitl [H6]
  · iexact H6
  isplitl [H7]
  · iexact H7
  isplitl [H8]
  · iexact H8
  isplitl [H9]
  · iexact H9
  isplitl [H10]
  · iexists ((dat (U := U) W c).after 10 t); rw [(cfg1.win 10).fill_cut]; iexact H10
  isplitl [H11]
  · iexists ((dat (U := U) W c).after 11 t); rw [(cfg1.win 11).fill_cut]; iexact H11
  isplitl [H12]
  · iexists ((dat (U := U) W c).after 12 t); rw [(cfg1.win 12).fill_cut]; iexact H12
  isplitl [H13]
  · iexists ((dat (U := U) W c).after 13 t); rw [(cfg1.win 13).fill_cut]; iexact H13
  isplitl [H14]
  · iexists (o15 (x1 W t) ((dat (U := U) W c).fetched 1 t d1) ((dat (U := U) W c).fetched 2 t d2) ((dat (U := U) W c).fetched 3 t d3) ((dat (U := U) W c).fetched 4 t d4) (x6 W t) (vuAt W))
    rw [show (cfg1.win 14).cut (cfg1.grid.coords t) ((dat (U := U) W c).after 14 t) = (cfg1.win 14).cut (cfg1.grid.coords t) (o15 (x1 W t) ((dat (U := U) W c).fetched 1 t d1) ((dat (U := U) W c).fetched 2 t d2) ((dat (U := U) W c).fetched 3 t d3) ((dat (U := U) W c).fetched 4 t d4) (x6 W t) (vuAt W)) from (hE t d1 d2 d3 d4).symm, (cfg1.win 14).fill_cut]
    iexact H14
  isplitl [H15]
  · iapply (leave_15 W c t d15); iexact H15
  isplitl [H16]
  · iapply (leave_16 W c t d16); iexact H16
  isplitl [H17]
  · iapply (leave_17 W c t d17); iexact H17
  isplitl [H18]
  · iapply (leave_18 W c t d18); iexact H18
  isplitl [H19]
  · iapply (leave_19 W c t d19); iexact H19
  isplitl [H20]
  · iapply (leave_20 W c t d20); iexact H20
  iapply (leave_21 W c t d21); iexact H21

/-- The library's body obligation. -/
theorem obligation (W : Valuation τ sig (Elt F)) (hE : EdgeFree W) (c : Dev nD) :
    BodyObligationLoose (dat (U := U) W c) (defs₀ (F := F)) Variants.none () Set.univ := fun t => by
  rw [bigSep_W1, bigSep_W1, Weak1.defs₀_row]
  exact sound_body W hE c t

end Cert.KernelIdeal.Exact1

end
-- ==== Proof.Ideal.ExactRun.lean ====
/-
  The run of @main with everything computed remembered: every unscoped buffer ends at the valuation the host stretches
  and the two pallas_calls leave, in order.
-/
module

public import proofs.«01_k».proof.Proof.Ideal.Exact0
public import proofs.«01_k».proof.Proof.Ideal.Exact1
public import proofs.«01_k».proof.Proof.Gen.KernelIdeal.Regions
public import Idealize.ShloMosaic.Lib.Pipeline.RegionArraysS
public import Idealize.ShloMosaic.Lib.Pipeline.Kit

@[expose] public section

set_option maxRecDepth 16384

noncomputable section

namespace Cert.KernelIdeal.ExactRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf HostSeg RegionSeg Seg)

variable {F : FTy → Type} [FloatOps F]

abbrev UA : Type := UR sig nD τ

local notation "𝕄" => MT nD τ sig Unit (Elt F) ℕ UA ℕ

variable (m : (ℓ : Loc nD τ sig) → Buf (Elt F) ℓ)

/-- The buffers after the first pallas_call, -/
def V5 (c : Dev nD) : Valuation τ sig (Elt F) := Pipeline.afterRegion (Exact0.dat (U := UA) (V4 m c) c) (V4 m c)
/-- after the second, -/
def V6 (c : Dev nD) : Valuation τ sig (Elt F) := Pipeline.afterRegion (Exact1.dat (U := UA) (V5 m c) c) (V5 m c)
/-- and after the last host stretch. -/
def V7 (c : Dev nD) : Valuation τ sig (Elt F) := StableHlo.after hostOps2 (V6 m c)

/-- Both calls' proof data. -/
def dats : (p : Fin 2) → (c : Dev nD) → Dat τ (Elt F) Unit ℕ UA ℕ (cfgs p) c
  | ⟨0, _⟩, c => Exact0.dat (V4 m c) c
  | ⟨1, _⟩, c => Exact1.dat (V5 m c) c

abbrev 𝒱₀ : Variants := Variants.none
/-- The staging buffers' cells have the one level index, at level 0. -/
abbrev L : GSem nD τ sig → Finset Unit := fun g => if g.1.2 = .tc then {()} else ∅
abbrev lv : GSem nD τ sig → Unit → ℕ := fun _ _ => 0
abbrev D : Dev nD → CellTallies nD τ sig Unit := fun _ => 0

theorem levelCut (p : Fin 2) : Pipeline.LevelCut (pcfgs (F := F)) adm () L lv p D (fun _ => 0) where
  hι c w s := by simp [L]
  hιb c w s := le_rfl
  hD c g i h := absurd h (by simp [D])

/-- What rides beside the buffers. -/
abbrev beside (c : Dev nD) : sProp 𝕄 := iprop((∃ Wd, owes (c : Thread nD τ) (D c) Wd) ∗ (∃ r, prngReg c r) ∗ emp)

set_option backward.isDefEq.respectTransparency.types false in
/-- The first pallas_call. -/
def call0 (hE : ∀ c, Exact0.EdgeFree (V4 m c)) : RegionSeg (pcfgs (F := F)) adm (dats m) () defs₀ 𝒱₀ L lv 0 :=
  RegionSeg.ofHeldIn (pcfgs (F := F)) adm (dats m) () defs₀ 𝒱₀ L lv 0 D (Pipeline.ucRefs τ sig)
    (fun c => iprop(∃ r, prngReg c r)) (fun c => iprop(∃ r, prngReg c r)) launch0.toP rfl
    (fun c => Exact0.obligation (V4 m c) (hE c) c) (fun _ _ => rfl) (fun _ => rfl) (fun c w => (dats m 0 c).share_full (fun _ => rfl) w)
    (fun c => by
      show iprop(Pipeline.scopedRest spec0 c ∗ ∃ r, prngReg c r) ⊢ Exact0.inv (V4 m c) c 0
      rw [Weak0.scratch_split]
      iintro ⟨⟨⟨S0, ⟨%f, S1⟩⟩, HR⟩, HG⟩
      isplitl [S0 S1]
      · isplitl [S0]; · iexact S0
        iexists f
        isplitr
        · ipureintro; exact fun h => absurd rfl h
        · iexact S1
      isplitl [HR] <;> iassumption)
    (fun c => by
      show Exact0.inv (V4 m c) c cfg0.N ⊢ iprop(Pipeline.scopedRest spec0 c ∗ ∃ r, prngReg c r)
      rw [Weak0.scratch_split]
      iintro ⟨⟨S0, ⟨%f, -, S1⟩⟩, HR, HG⟩
      isplitl [S0 S1 HR]
      · isplitl [S0 S1]
        · isplitl [S0]; · iexact S0
          iexists f; iexact S1
        iexact HR
      iexact HG)
    (fun _ => 0) (levelCut 0) (fun _ => iprop(emp)) (V4 m) (fun c w => rfl)

set_option backward.isDefEq.respectTransparency.types false in
/-- The second pallas_call. -/
def call1 (hE : ∀ c, Exact1.EdgeFree (V5 m c)) : RegionSeg (pcfgs (F := F)) adm (dats m) () defs₀ 𝒱₀ L lv 1 :=
  RegionSeg.ofHeldIn (pcfgs (F := F)) adm (dats m) () defs₀ 𝒱₀ L lv 1 D (Pipeline.ucRefs τ sig)
    (fun c => iprop(∃ r, prngReg c r)) (fun c => iprop(∃ r, prngReg c r)) launch1.toP rfl
    (fun c => Exact1.obligation (V5 m c) (hE c) c) (fun _ _ => rfl) (fun _ => rfl) (fun c w => (dats m 1 c).share_full (fun _ => rfl) w)
    (fun c => by
      show iprop(Pipeline.scopedRest spec1 c ∗ ∃ r, prngReg c r) ⊢ Exact1.inv (V5 m c) c 0
      rw [Weak1.scratch_split]
      iintro ⟨⟨⟨S0, ⟨%f1, S1⟩, ⟨%f2, S2⟩, ⟨%f3, S3⟩⟩, HR⟩, HG⟩
      isplitl [S0 S1 S2 S3]
      · isplitl [S0]; · iexact S0
        isplitl [S1]
        · iexists f1
          isplitr
          · ipureintro; exact fun h => absurd rfl h
          · iexact S1
        isplitl [S2]
        · iexists f2
          isplitr
          · ipureintro; exact fun h => absurd rfl h
          · iexact S2
        iexists f3
        isplitr
        · ipureintro; exact fun h => absurd rfl h
        · iexact S3
      isplitl [HR] <;> iassumption)
    (fun c => by
      show Exact1.inv (V5 m c) c cfg1.N ⊢ iprop(Pipeline.scopedRest spec1 c ∗ ∃ r, prngReg c r)
      rw [Weak1.scratch_split]
      iintro ⟨⟨S0, ⟨%f1, -, S1⟩, ⟨%f2, -, S2⟩, ⟨%f3, -, S3⟩⟩, HR, HG⟩
      isplitl [S0 S1 S2 S3 HR]
      · isplitl [S0 S1 S2 S3]
        · isplitl [S0]; · iexact S0
          isplitl [S1]; · iexists f1; iexact S1
          isplitl [S2]; · iexists f2; iexact S2
          iexists f3; iexact S3
        iexact HR
      iexact HG)
    (fun _ => 0) (levelCut 1) (fun _ => iprop(emp)) (V5 m) (fun c w => rfl)

theorem arrs0 : Pipeline.arrRefs (τ := τ) (pcfgs (F := F) 0).spec ⊆ Pipeline.ucRefs τ sig := Pipeline.arrRefs_sub_ucRefs spec0 (by decide)
theorem arrs1 : Pipeline.arrRefs (τ := τ) (pcfgs (F := F) 1).spec ⊆ Pipeline.ucRefs τ sig := Pipeline.arrRefs_sub_ucRefs spec1 (by decide)

theorem call0_pre (hE : ∀ c, Exact0.EdgeFree (V4 m c)) (c : Dev nD) :
    iprop(StableHlo.held (c : Thread nD τ) (Pipeline.ucRefs τ sig) (V4 m c) ∗ beside c) ⊢ (call0 m hE).pre c := by
  unfold call0; exact RegionSeg.ofHeldIn_pre (Lvl := ℕ) (Ix := Unit) (Name := ℕ) (U := UA) (Val := Elt F) (pcs := pcfgs (F := F)) (a := adm) (pdats := dats m) (ι := ()) (defs₀ := defs₀) (𝒱₀ := 𝒱₀) (L := L) (lv := lv) (D := D) (p := 0) (S := Pipeline.ucRefs τ sig) (X := fun c => iprop(∃ r, prngReg c r)) (Y := fun c => iprop(∃ r, prngReg c r)) (R := fun _ => iprop(emp)) (W := V4 m) (arrs0 (F := F)) c

theorem call0_post (hE : ∀ c, Exact0.EdgeFree (V4 m c)) (c : Dev nD) :
    (call0 m hE).post c ⊢ iprop(StableHlo.held (c : Thread nD τ) (Pipeline.ucRefs τ sig) (V5 m c) ∗ beside c) := by
  unfold call0; exact RegionSeg.ofHeldIn_post (Lvl := ℕ) (Ix := Unit) (Name := ℕ) (U := UA) (Val := Elt F) (pcs := pcfgs (F := F)) (a := adm) (pdats := dats m) (ι := ()) (defs₀ := defs₀) (𝒱₀ := 𝒱₀) (L := L) (lv := lv) (D := D) (p := 0) (S := Pipeline.ucRefs τ sig) (X := fun c => iprop(∃ r, prngReg c r)) (Y := fun c => iprop(∃ r, prngReg c r)) (R := fun _ => iprop(emp)) (W := V4 m) (arrs0 (F := F)) c

theorem call1_pre (hE : ∀ c, Exact1.EdgeFree (V5 m c)) (c : Dev nD) :
    iprop(StableHlo.held (c : Thread nD τ) (Pipeline.ucRefs τ sig) (V5 m c) ∗ beside c) ⊢ (call1 m hE).pre c := by
  unfold call1; exact RegionSeg.ofHeldIn_pre (Lvl := ℕ) (Ix := Unit) (Name := ℕ) (U := UA) (Val := Elt F) (pcs := pcfgs (F := F)) (a := adm) (pdats := dats m) (ι := ()) (defs₀ := defs₀) (𝒱₀ := 𝒱₀) (L := L) (lv := lv) (D := D) (p := 1) (S := Pipeline.ucRefs τ sig) (X := fun c => iprop(∃ r, prngReg c r)) (Y := fun c => iprop(∃ r, prngReg c r)) (R := fun _ => iprop(emp)) (W := V5 m) (arrs1 (F := F)) c

theorem call1_post (hE : ∀ c, Exact1.EdgeFree (V5 m c)) (c : Dev nD) :
    (call1 m hE).post c ⊢ iprop(StableHlo.held (c : Thread nD τ) (Pipeline.ucRefs τ sig) (V6 m c) ∗ beside c) := by
  unfold call1; exact RegionSeg.ofHeldIn_post (Lvl := ℕ) (Ix := Unit) (Name := ℕ) (U := UA) (Val := Elt F) (pcs := pcfgs (F := F)) (a := adm) (pdats := dats m) (ι := ()) (defs₀ := defs₀) (𝒱₀ := 𝒱₀) (L := L) (lv := lv) (D := D) (p := 1) (S := Pipeline.ucRefs τ sig) (X := fun c => iprop(∃ r, prngReg c r)) (Y := fun c => iprop(∃ r, prngReg c r)) (R := fun _ => iprop(emp)) (W := V5 m) (arrs1 (F := F)) c

/-- The last host stretch. -/
def segLast : HostSeg (Ix := Unit) (Name := ℕ) (U := UA) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V6 m) beside

/-- @main's items. -/
abbrev items (h0 : ∀ c, Exact0.EdgeFree (V4 m c)) (h1 : ∀ c, Exact1.EdgeFree (V5 m c)) (c : Dev nD) :
    List (Seg (pcfgs (F := F)) adm (dats m) () defs₀ 𝒱₀ L lv) :=
  [.host (seg0 m 𝒱₀ L lv fun _ => beside), .host (seg1 m 𝒱₀ L lv fun _ => beside), .host (seg2 m 𝒱₀ L lv fun _ => beside), .host (seg3 m 𝒱₀ L lv fun _ => beside),
    .region (call0 m h0), .region (call1 m h1), .host (segLast m)]

set_option backward.isDefEq.respectTransparency.types false in
/-- From any launch the run ends, and every unscoped buffer ends at `V7`. -/
theorem run (g : Dev nD → PrngReg) (h0 : ∀ c, Exact0.EdgeFree (V4 m c)) (h1 : ∀ c, Exact1.EdgeFree (V5 m c)) :
    θ_run defs (onTc (τ := τ) (main (F := F))) ⟨m, fun _ => 0, g⟩ (fun r => ∀ c : Dev nD, ∀ b ∈ Pipeline.ucRefs τ sig,
      r.2.mem ((c.tc : Thread nD τ).1, b) = V7 m c b) := by
  refine Pipeline.θ_run_regions_kit_dev_sems (pcfgs (F := F)) adm (dats m) () cellOf_inj emb₁ defs₀ 𝒱₀ L lv m g main
    (items m h0 h1)
    (fun c Q => by
      rewrite [main_chain c, Seg.run_eq_chain,
        show (items m h0 h1 c).map Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := D) (hL := fun g hg => if_neg hg)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V7 m c))
    (hch := fun c => ⟨.rfl, .rfl, .rfl, .rfl,
      call0_pre m h0 c, (call0_post m h0 c).trans (call1_pre m h1 c), call1_post m h1 c,
      (show iprop(StableHlo.held (c : Thread nD τ) (Pipeline.ucRefs τ sig) (V7 m c) ∗ beside c) ⊢ (_ : sProp 𝕄) from by
        iintro ⟨Hh, HO, -, -⟩
        isplitl [Hh] <;> iassumption)⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UA) (Lvl := ℕ) c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem ((c.tc : Thread nD τ).1, b) = V7 m c b)
    (hfin := fun c s' => by
      unfold StableHlo.held
      iintro ⟨Hh, HSI⟩
      ihave Hr := (pointsTo_read_all (Pipeline.ucRefs τ sig) (fun b => ((c.tc : Thread nD τ).1, b)) (V7 m c) s') $$ [Hh HSI]
      · isplitl [Hh] <;> iassumption
      imodintro; iexact Hr)
    (hQ := fun _ h _ => h)

end Cert.KernelIdeal.ExactRun

end
-- ==== Proof.Ideal.Bits.lean ====
module

public import Idealize.ShloMosaic.Lib.WordSum
public import Idealize.ShloMosaic.Lib.PackedFields
public import Idealize.ShloMosaic.Lib.BitcastPair
public import Idealize.ShloMosaic.PureOps.Ideal.Laws

@[expose] public section

noncomputable section

/-! Four counts to a word: reading one byte, and adding up the bytes of a column of words two at a time. -/
namespace Cert.Bits

open Idealize.ShloMosaic
open Idealize.ShloMosaic.PackedFields

/-- Byte `s` of a word. -/
def by4 (x : BitVec 32) (s : ℕ) : ℕ := field 8 s x.toNat

/-- Every byte of the word is below 128. -/
def Small (x : BitVec 32) : Prop := x &&& 0x80808080#32 = 0#32

theorem by4_lt (x : BitVec 32) (h : Small x) (s : ℕ) (hs : s < 4) : by4 x s < 128 := by
  have hb : x.getLsbD (8 * s + 7) = false := by
    have h1 : (x &&& 0x80808080#32).getLsbD (8 * s + 7) = false := by rw [h]; simp
    rw [BitVec.getLsbD_and] at h1
    have h2 : (0x80808080#32).getLsbD (8 * s + 7) = true := by
      have : ∀ s < 4, (0x80808080#32).getLsbD (8 * s + 7) = true := by decide
      exact this s hs
    simpa [h2] using h1
  unfold by4
  have h8 : field 8 s x.toNat < 256 := by unfold field; exact Nat.mod_lt _ (by norm_num)
  have h7 : (field 8 s x.toNat).testBit 7 = false := by
    rw [testBit_field]
    have : x.toNat.testBit (8 * s + 7) = false := hb
    rw [this]; simp
  by_contra hc
  have : (field 8 s x.toNat).testBit 7 = true := by
    rw [Nat.testBit_eq_decide_div_mod_eq]
    have : field 8 s x.toNat / 2 ^ 7 = 1 := by norm_num; omega
    rw [this]; decide
  rw [h7] at this
  exact absurd this (by decide)

/-- A word is its two halves. -/
theorem halves (a : BitVec 32) : a.toNat = field 16 0 a.toNat + 65536 * field 16 1 a.toNat := by
  have := a.isLt
  rw [field_eq_div, field_eq_div]
  norm_num
  omega

theorem even_toNat (x : BitVec 32) : (IntOp.andi x 16711935#32).toNat = by4 x 0 + 65536 * by4 x 2 := by
  have h0 : field 16 0 (IntOp.andi x 16711935#32).toNat = field 8 0 x.toNat := field_andi_even (w := 8) (m := 16711935#32) isEvenMask_8 0 x
  have h1 : field 16 1 (IntOp.andi x 16711935#32).toNat = field 8 2 x.toNat := field_andi_even (w := 8) (m := 16711935#32) isEvenMask_8 1 x
  rw [halves, h0, h1]; rfl

theorem msb_false (x : BitVec 32) (h : Small x) : x.msb = false := by
  have := by4_lt x h 3 (by norm_num)
  rw [BitVec.msb_eq_decide]
  unfold by4 at this
  rw [field_eq_div] at this
  have hx := x.isLt
  norm_num at this ⊢
  omega

theorem odd_toNat (x : BitVec 32) (h : Small x) : (IntOp.andi (IntOp.shrsi .vector x 8#32) 16711935#32).toNat = by4 x 1 + 65536 * by4 x 3 := by
  have e : IntOp.shrsi .vector x 8#32 = IntOp.shrui .vector x (BitVec.ofNat 32 8) := by
    unfold IntOp.shrsi IntOp.shrui
    rw [if_pos (by decide), if_pos (by decide)]
    show x.sshiftRight 8 = x >>> 8
    exact BitVec.sshiftRight_eq_of_msb_false (msb_false x h)
  have h0 : field 16 0 (IntOp.andi (IntOp.shrui .vector x (BitVec.ofNat 32 8)) 16711935#32).toNat = field 8 1 x.toNat :=
    field_shrui_andi_odd (w := 8) (m := 16711935#32) isEvenMask_8 (by decide) 0 x
  have h1 : field 16 1 (IntOp.andi (IntOp.shrui .vector x (BitVec.ofNat 32 8)) 16711935#32).toNat = field 8 3 x.toNat :=
    field_shrui_andi_odd (w := 8) (m := 16711935#32) isEvenMask_8 (by decide) 1 x
  rw [e, halves, h0, h1]; rfl

/-- The high half of a word, by the arithmetic shift. -/
theorem high16 (a : BitVec 32) : (BitVec.sshiftRight a 16 &&& 65535#32).toNat = field 16 1 a.toNat := by
  have e : BitVec.sshiftRight a 16 &&& 65535#32 = a >>> 16 := by
    apply BitVec.eq_of_getLsbD_eq
    intro i hi
    rw [BitVec.getLsbD_and, BitVec.getLsbD_sshiftRight, BitVec.getLsbD_ushiftRight]
    have h2 : (65535#32).getLsbD i = decide (i < 16) := by
      have : ∀ i < 32, (65535#32).getLsbD i = decide (i < 16) := by decide
      exact this i hi
    rw [h2]
    by_cases c : i < 16
    · have : 16 + i < 32 := by omega
      simp [c, this, hi]
    · have : a.getLsbD (16 + i) = false := BitVec.getLsbD_of_ge _ _ (by omega)
      simp [c, this]
  rw [e, BitVec.toNat_ushiftRight, Nat.shiftRight_eq_div_pow, field_eq_div]
  have := a.isLt
  norm_num
  omega

/-- A column of words and the sum of a byte over it. -/
theorem sum_halves {n : ℕ} (x : Fin n → BitVec 32) (p q : Fin n → ℕ) (h : ∀ i, (x i).toNat = p i + 65536 * q i)
    (hp : ∀ i, p i < 128) (hq : ∀ i, q i < 128) (hn : n ≤ 384) :
    (∑ i, p i) ≤ 48768 ∧ (∑ i, q i) ≤ 48768 ∧ (∑ i, x i).toNat = ∑ i, p i + 65536 * ∑ i, q i := by
  have h1 : ∀ f : Fin n → ℕ, (∀ i, f i < 128) → ∑ i, f i ≤ 48768 := fun f hf =>
    (Finset.sum_le_sum (g := fun _ => 127) (fun i _ => by have := hf i; omega)).trans (by simp; omega)
  have e : ∑ i, (x i).toNat = ∑ i, p i + 65536 * ∑ i, q i := by
    rw [Finset.mul_sum, ← Finset.sum_add_distrib]; exact Finset.sum_congr rfl fun i _ => h i
  refine ⟨h1 p hp, h1 q hq, ?_⟩
  rw [WordSum.toNat_sum _ _ (by rw [e]; have := h1 p hp; have := h1 q hq; norm_num; omega), e]

theorem fold_addi {n : ℕ} (x : Fin n → BitVec 32) : Finset.fold IntOp.addi 0#32 x Finset.univ = ∑ i, x i := by
  rw [Finset.sum_eq_fold]; rfl

/-- The degree a column of words packs: its even and its odd bytes summed two at a time, and the four halves added. -/
theorem degree (x : Fin 384 → BitVec 32) (h : ∀ g, Small (x g)) (E O : BitVec 32)
    (hE : E = Finset.fold IntOp.addi 0#32 (fun g => IntOp.andi (x g) 16711935#32) Finset.univ)
    (hO : O = Finset.fold IntOp.addi 0#32 (fun g => IntOp.andi (IntOp.shrsi .vector (x g) 8#32) 16711935#32) Finset.univ) :
    (IntOp.addi (IntOp.addi (IntOp.addi (IntOp.andi E 65535#32) (IntOp.andi (IntOp.shrsi .vector E 16#32) 65535#32)) (IntOp.andi O 65535#32))
      (IntOp.andi (IntOp.shrsi .vector O 16#32) 65535#32)).toInt = ((∑ g, by4 (x g) 0 + ∑ g, by4 (x g) 2 + ∑ g, by4 (x g) 1 + ∑ g, by4 (x g) 3 : ℕ) : ℤ) := by
  have hs : ∀ A : BitVec 32, IntOp.shrsi .vector A 16#32 = BitVec.sshiftRight A 16 := fun A => by
    unfold IntOp.shrsi; rw [if_pos (by decide)]; rfl
  rw [fold_addi] at hE hO
  obtain ⟨a0, a2, hEn⟩ := sum_halves (fun g => IntOp.andi (x g) 16711935#32) (fun g => by4 (x g) 0) (fun g => by4 (x g) 2)
    (fun g => even_toNat (x g)) (fun g => by4_lt _ (h g) 0 (by norm_num)) (fun g => by4_lt _ (h g) 2 (by norm_num)) (le_refl _)
  obtain ⟨a1, a3, hOn⟩ := sum_halves (fun g => IntOp.andi (IntOp.shrsi .vector (x g) 8#32) 16711935#32) (fun g => by4 (x g) 1) (fun g => by4 (x g) 3)
    (fun g => odd_toNat (x g) (h g)) (fun g => by4_lt _ (h g) 1 (by norm_num)) (fun g => by4_lt _ (h g) 3 (by norm_num)) (le_refl _)
  rw [← hE] at hEn
  rw [← hO] at hOn
  generalize ∑ g, by4 (x g) 0 = s0 at *
  generalize ∑ g, by4 (x g) 1 = s1 at *
  generalize ∑ g, by4 (x g) 2 = s2 at *
  generalize ∑ g, by4 (x g) 3 = s3 at *
  rw [hs, hs]
  have e0 : (IntOp.andi E 65535#32).toNat = s0 := by rw [toNat_andi_low16, hEn, field_eq_div]; norm_num; omega
  have e1 : (IntOp.andi O 65535#32).toNat = s1 := by rw [toNat_andi_low16, hOn, field_eq_div]; norm_num; omega
  have e2 : (IntOp.andi (BitVec.sshiftRight E 16) 65535#32).toNat = s2 := by
    show (BitVec.sshiftRight E 16 &&& 65535#32).toNat = s2
    rw [high16, hEn, field_eq_div]; norm_num; omega
  have e3 : (IntOp.andi (BitVec.sshiftRight O 16) 65535#32).toNat = s3 := by
    show (BitVec.sshiftRight O 16 &&& 65535#32).toNat = s3
    rw [high16, hOn, field_eq_div]; norm_num; omega
  unfold IntOp.addi
  have ht : (IntOp.andi E 65535#32 + IntOp.andi (BitVec.sshiftRight E 16) 65535#32 + IntOp.andi O 65535#32 + IntOp.andi (BitVec.sshiftRight O 16) 65535#32).toNat = s0 + s2 + s1 + s3 := by
    rw [BitVec.toNat_add, BitVec.toNat_add, BitVec.toNat_add, e0, e1, e2, e3]
    omega
  rw [BitVec.toInt_eq_toNat_cond, ht, if_pos (by omega)]

/-- One element of a word's bytes, read as signed. -/
theorem byte_toInt (x : BitVec 32) (h : Small x) (s : ℕ) (hs : s < 4) : (x.extractLsb' (8 * s) 8).toInt = (by4 x s : ℤ) := by
  have e : (x.extractLsb' (8 * s) 8).toNat = by4 x s := by
    rw [BitVec.extractLsb'_toNat]; rfl
  have := by4_lt x h s hs
  rw [BitVec.toInt_eq_toNat_cond, e, if_pos (by omega)]

theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- The bytes of a column of words, counted once per user. -/
theorem sum_users (f : Fin 384 → ℕ → ℝ) :
    ∑ u : Fin 1536, f ⟨u.val / 4, by omega⟩ (u.val % 4) = ∑ g, f g 0 + ∑ g, f g 2 + ∑ g, f g 1 + ∑ g, f g 3 := by
  have e : ∑ u : Fin 1536, f ⟨u.val / 4, by omega⟩ (u.val % 4) = ∑ p : Fin 384 × Fin 4, f p.1 p.2.val := by
    refine (Equiv.sum_comp (finProdFinEquiv : Fin 384 × Fin 4 ≃ Fin 1536) (fun u : Fin 1536 => f ⟨u.val / 4, by omega⟩ (u.val % 4))).symm.trans ?_
    refine Finset.sum_congr rfl fun p _ => ?_
    have hv : (finProdFinEquiv p : Fin (384 * 4)).val = p.2.val + 4 * p.1.val := rfl
    have h2 := p.2.isLt
    congr 1
    · apply Fin.ext
      show (finProdFinEquiv p : Fin (384 * 4)).val / 4 = _
      rw [hv]; omega
    · show (finProdFinEquiv p : Fin (384 * 4)).val % 4 = _
      rw [hv]; omega
  rw [e, Fintype.sum_prod_type]
  simp only [Fin.sum_univ_four]
  rw [Finset.sum_add_distrib, Finset.sum_add_distrib, Finset.sum_add_distrib]
  simp only [Fin.val_zero, Fin.val_one, Fin.val_two]
  rw [show ((3 : Fin 4).val) = 3 from rfl]
  ring

end Cert.Bits
end
-- ==== Proof.Ideal.Model.lean ====
module

public import Idealize.ShloMosaic.PureOps.Ideal.Laws
public import Idealize.ShloMosaic.Lib.ValueIdx

@[expose] public section

noncomputable section

/-! The mathematics of the two programs over the extended reals: the quantiser of one vector, one layer of the
propagation, and when everything is finite. -/
namespace Cert.Model

open Idealize.ShloMosaic

/-- A finite value. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.mul {x y : EReal} (hx : IsR x) (hy : IsR y) : IsR (x * y) := by
  obtain ⟨a, rfl⟩ := hx; obtain ⟨b, rfl⟩ := hy
  exact ⟨a * b, (EReal.coe_mul a b).symm⟩
theorem IsR.add {x y : EReal} (hx : IsR x) (hy : IsR y) : IsR (x + y) := by
  obtain ⟨a, rfl⟩ := hx; obtain ⟨b, rfl⟩ := hy
  exact ⟨a + b, (EReal.coe_add a b).symm⟩
theorem IsR.max {x y : EReal} (hx : IsR x) (hy : IsR y) : IsR (max x y) := by
  rcases max_choice x y with h | h <;> rw [h] <;> assumption
theorem IsR.min {x y : EReal} (hx : IsR x) (hy : IsR y) : IsR (min x y) := by
  rcases min_choice x y with h | h <;> rw [h] <;> assumption
theorem IsR.neg {x : EReal} (hx : IsR x) : IsR (-x) := by
  obtain ⟨a, rfl⟩ := hx
  exact ⟨-a, (EReal.coe_neg a).symm⟩
theorem IsR.sum {ι : Type} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih
theorem IsR.sub_self {x : EReal} (hx : IsR x) : x - x = 0 := by
  obtain ⟨a, rfl⟩ := hx
  rw [← EReal.coe_sub, _root_.sub_self]; rfl
theorem IsR.ite {p : Prop} [Decidable p] {x y : EReal} (hx : IsR x) (hy : IsR y) : IsR (if p then x else y) := by
  split <;> assumption

/-- A factor taken out of a finite sum. -/
theorem sum_mul_coe {ι : Type} (s : Finset ι) (f : ι → EReal) (h : ∀ i, IsR (f i)) {y : EReal} (hy : IsR y) :
    (∑ i ∈ s, f i) * y = ∑ i ∈ s, f i * y := by
  classical
  obtain ⟨b, rfl⟩ := hy
  choose g hg using h
  obtain rfl : f = fun i => (g i : EReal) := funext hg
  induction s using Finset.induction_on with
  | empty => simp
  | insert a s ha ih =>
    rw [Finset.sum_insert ha, Finset.sum_insert ha, ← ih]
    obtain ⟨c, hc⟩ := IsR.sum s (fun i => (g i : EReal)) (fun i => ⟨g i, rfl⟩)
    rw [hc]
    simp only [← EReal.coe_mul, ← EReal.coe_add, add_mul]

/-! ## The quantiser -/

theorem ofBits_127 : Ideal.ofBits .f32 0x42FE0000#32 = ((127 : ℝ) : EReal) := by
  simp [Ideal.ofBits, Ideal.ieee]; rw [← EReal.coe_mul]; norm_num
theorem ofBits_neg127 : Ideal.ofBits .f32 0xC2FE0000#32 = ((-127 : ℝ) : EReal) := by
  simp [Ideal.ofBits, Ideal.ieee]; rw [← EReal.coe_mul]; norm_num
theorem ofBits_bot : Ideal.ofBits .f32 0xFF800000#32 = ⊥ := by
  simp [Ideal.ofBits, Ideal.ieee]

/-- The largest magnitude of a vector. -/
def top {n : ℕ} (v : Fin n → EReal) : EReal :=
  Finset.fold max (Ideal.ofBits .f32 0xFF800000#32) (fun x => FloatOps.absf (F := Ideal) (φ := .f32) (v x)) Finset.univ

/-- A vector's scale. -/
def scale {n : ℕ} (v : Fin n → EReal) : EReal :=
  if top v = 0 then 1 else Ideal.div (top v) (Ideal.ofBits .f32 0x42FE0000#32)

theorem ofBits_1 : Ideal.ofBits .f32 0x3F800000#32 = 1 := by
  simp [Ideal.ofBits, Ideal.ieee]; rw [← EReal.coe_mul]; norm_num
theorem ofBits_0 : Ideal.ofBits .f32 0x00000000#32 = 0 := by
  simp [Ideal.ofBits, Ideal.ieee]

/-- A scale as the programs select it. -/
theorem select_scale {n : ℕ} (v : Fin n → EReal) :
    Scalar.select (FloatOps.cmpf (F := Ideal) (φ := .f32) .oeq (top v) (Ideal.ofBits .f32 0x00000000#32)) (Ideal.ofBits .f32 0x3F800000#32)
      (Ideal.div (top v) (Ideal.ofBits .f32 0x42FE0000#32)) = scale v := by
  unfold scale
  rw [ofBits_1, ofBits_0]
  by_cases c : top v = 0
  · rw [if_pos c, c]
    have : FloatOps.cmpf (F := Ideal) (φ := .f32) .oeq (0 : EReal) 0 = 1#1 := by show BitVec.ofBool (decide _) = _; simp
    rw [this]; rfl
  · rw [if_neg c]
    have : FloatOps.cmpf (F := Ideal) (φ := .f32) .oeq (top v) 0 = 0#1 := by show BitVec.ofBool (decide _) = _; simp [c]
    rw [this]; rfl

/-- A vector's codes, as values. -/
def code {n : ℕ} (v : Fin n → EReal) (d : Fin n) : EReal :=
  min (Ideal.ofBits .f32 0x42FE0000#32)
    (max (Ideal.ofBits .f32 0xC2FE0000#32) (Ideal.liftRound Ideal.roundHalfEven (Ideal.div (v d) (scale v))))

/-- A vector's codes, as bytes. -/
def code8 {n : ℕ} (v : Fin n → EReal) (d : Fin n) : BitVec 8 := Ideal.fptosi 8 (code v d)

/-- What the codes stand for. -/
def deq {n : ℕ} (v : Fin n → EReal) (d : Fin n) : EReal := code v d * scale v

theorem absf_isR {x : EReal} (hx : IsR x) : IsR (FloatOps.absf (F := Ideal) (φ := .f32) x) := hx.max hx.neg

theorem fold_max_isR {n : ℕ} (f : Fin n → EReal) (hf : ∀ i, IsR (f i)) (s : Finset (Fin n)) :
    s.fold max (⊥ : EReal) f = ⊥ ∨ IsR (s.fold max (⊥ : EReal) f) := by
  induction s using Finset.induction_on with
  | empty => exact Or.inl rfl
  | insert a s ha ih =>
    right
    rw [Finset.fold_insert ha]
    rcases ih with h | h
    · rw [h, max_bot_right]; exact hf a
    · exact (hf a).max h

theorem top_isR {n : ℕ} (hn : 0 < n) (v : Fin n → EReal) (hv : ∀ i, IsR (v i)) : IsR (top v) := by
  unfold top
  rw [ofBits_bot]
  rcases fold_max_isR _ (fun i => absf_isR (hv i)) Finset.univ with h | h
  · exfalso
    have hm : FloatOps.absf (F := Ideal) (φ := .f32) (v ⟨0, hn⟩) ≤ (⊥ : EReal) := by
      rw [← h]
      exact (Finset.le_fold_max _).2 (Or.inr ⟨⟨0, hn⟩, Finset.mem_univ _, le_refl _⟩)
    obtain ⟨r, hr⟩ := absf_isR (hv ⟨0, hn⟩)
    rw [hr] at hm
    exact absurd (le_bot_iff.1 hm) (EReal.coe_ne_bot r)
  · exact h

theorem scale_isR {n : ℕ} (hn : 0 < n) (v : Fin n → EReal) (hv : ∀ i, IsR (v i)) : IsR (scale v) := by
  unfold scale
  refine IsR.ite IsR.one ?_
  rw [ofBits_127]
  unfold Ideal.div
  rw [if_neg (by norm_num)]
  exact (top_isR hn v hv).mul ⟨127⁻¹, (EReal.coe_inv 127).symm⟩

/-- A code is an integer between −127 and 127. -/
theorem code_int {n : ℕ} (v : Fin n → EReal) (d : Fin n) : ∃ k : ℤ, -127 ≤ k ∧ k ≤ 127 ∧ code v d = ((k : ℝ) : EReal) := by
  unfold code
  rw [ofBits_127, ofBits_neg127]
  generalize Ideal.div (v d) (scale v) = x
  induction x using EReal.rec with
  | bot =>
    refine ⟨-127, le_refl _, by norm_num, ?_⟩
    show min _ (max _ (⊥ : EReal)) = _
    rw [max_bot_right, min_eq_right (EReal.coe_le_coe_iff.2 (by norm_num))]
    norm_num
  | top =>
    refine ⟨127, by norm_num, le_refl _, ?_⟩
    show min _ (max _ (⊤ : EReal)) = _
    rw [max_top_right, min_top_right]
    norm_num
  | coe r =>
    refine ⟨min 127 (max (-127) (Ideal.roundHalfEven r)), by simp, by simp, ?_⟩
    show min _ (max _ (((Ideal.roundHalfEven r : ℝ)) : EReal)) = _
    rw [← EReal.coe_strictMono.monotone.map_max, ← EReal.coe_strictMono.monotone.map_min]
    push_cast
    rfl

theorem code_isR {n : ℕ} (v : Fin n → EReal) (d : Fin n) : IsR (code v d) := by
  obtain ⟨k, _, _, h⟩ := code_int v d
  exact ⟨k, h⟩

theorem deq_isR {n : ℕ} (hn : 0 < n) (v : Fin n → EReal) (hv : ∀ i, IsR (v i)) (d : Fin n) : IsR (deq v d) :=
  (code_isR v d).mul (scale_isR hn v hv)

/-- A code survives its byte. -/
theorem sitofp_code8 {n : ℕ} (v : Fin n → EReal) (d : Fin n) : (((code8 v d).toInt : ℝ) : EReal) = code v d := by
  obtain ⟨k, h1, h2, h⟩ := code_int v d
  unfold code8
  rw [h]
  have e : Ideal.fptosi 8 ((k : ℝ) : EReal) = BitVec.ofInt 8 k := by
    show BitVec.ofInt 8 (max (-((2 ^ (8 - 1) : ℕ) : ℤ)) (min (((2 ^ (8 - 1) : ℕ) : ℤ) - 1) (if (0 : ℝ) ≤ (k : ℝ) then ⌊(k : ℝ)⌋ else ⌈(k : ℝ)⌉))) = _
    rw [Int.floor_intCast, Int.ceil_intCast, ite_self]
    congr 1
    norm_num
    omega
  rw [e, BitVec.toInt_ofInt]
  congr 2
  rw [Int.bmod_def]
  norm_num
  split <;> omega

/-! ## Joining the three summands of a split value -/

/-- The three summands of a finite value at the ideal values are the value and two zeros, so their joined sums are
    the value's own. -/
theorem join3 {ι : Type} (s : Finset ι) (y a : ι → EReal) (h : ∀ i, IsR (y i)) :
    (∑ i ∈ s, ((y i - y i) - (y i - y i)) * a i + ∑ i ∈ s, (y i - y i) * a i) + ∑ i ∈ s, y i * a i = ∑ i ∈ s, y i * a i := by
  have h0 : ∀ i, y i - y i = 0 := fun i => (h i).sub_self
  simp [h0]

/-! ## One layer -/

/-- What the users gather from the items. -/
def toU (W : Fin 1536 → Fin 20000 → EReal) (i : Fin 20000 → Fin 192 → EReal) (u : Fin 1536) (d : Fin 192) : EReal := ∑ j, W u j * i j d
/-- What the items gather from the users. -/
def toI (W : Fin 1536 → Fin 20000 → EReal) (x : Fin 1536 → Fin 192 → EReal) (j : Fin 20000) (d : Fin 192) : EReal := ∑ u, W u j * x u d

theorem toU_isR {W : Fin 1536 → Fin 20000 → EReal} {i : Fin 20000 → Fin 192 → EReal} (hW : ∀ u j, IsR (W u j)) (hi : ∀ j d, IsR (i j d))
    (u : Fin 1536) (d : Fin 192) : IsR (toU W i u d) := IsR.sum _ _ fun j => (hW u j).mul (hi j d)
theorem toI_isR {W : Fin 1536 → Fin 20000 → EReal} {x : Fin 1536 → Fin 192 → EReal} (hW : ∀ u j, IsR (W u j)) (hx : ∀ u d, IsR (x u d))
    (j : Fin 20000) (d : Fin 192) : IsR (toI W x j d) := IsR.sum _ _ fun u => (hW u j).mul (hx u d)

/-- The vectors a layer leaves, from the aggregates: every row quantised and dequantised. -/
def deqs {N : ℕ} (v : Fin N → Fin 192 → EReal) (r : Fin N) (d : Fin 192) : EReal := deq (v r) d

theorem deqs_isR {N : ℕ} (v : Fin N → Fin 192 → EReal) (h : ∀ r d, IsR (v r d)) (r : Fin N) (d : Fin 192) : IsR (deqs v r d) :=
  deq_isR (by norm_num) _ (h r) d

section Layers
variable (W : Fin 1536 → Fin 20000 → EReal) (u0 : Fin 1536 → Fin 192 → EReal) (i0 : Fin 20000 → Fin 192 → EReal)
/-- The aggregates of the three layers. -/
def nu1 := toU W i0
def ni1 := toI W u0
def nu2 := toU W (deqs (ni1 W u0))
def ni2 := toI W (deqs (nu1 W i0))
def nu3 := toU W (deqs (ni2 W i0))
def ni3 := toI W (deqs (nu2 W u0))
/-- The mean of the four layers' vectors. -/
def uOut (u : Fin 1536) (d : Fin 192) : EReal :=
  (((u0 u d + deqs (nu1 W i0) u d) + deqs (nu2 W u0) u d) + deqs (nu3 W i0) u d) * Ideal.ofBits .f32 0x3E800000#32
def iOut (j : Fin 20000) (d : Fin 192) : EReal :=
  (((i0 j d + deqs (ni1 W u0) j d) + deqs (ni2 W i0) j d) + deqs (ni3 W u0) j d) * Ideal.ofBits .f32 0x3E800000#32
end Layers

end Cert.Model
end
-- ==== Proof.Ideal.MaxRow.lean ====
module

public import Idealize.ShloMosaic.PureOps.Ideal.Laws
public import Idealize.ShloMosaic.Lib.Pointwise

@[expose] public section

noncomputable section

/-! The maximum along the rows, and along the columns, of a matrix, as a supremum. -/
namespace Cert.Model
open Idealize.ShloMosaic

/-- The maximum along the rows of a matrix, at one row. -/
theorem maxRow {N D : ℕ} (src : FVec Ideal ⟨2, ![N, D]⟩ .f32) (h : Shape.Reduces ⟨2, ![N, D]⟩ [1] ⟨1, ![N]⟩)
    (hφ : FKind.Formats .f32) (hacc : (0xFF800000#32 : BitVec 32) = FKind.maximumf.neutral .f32 hφ) (u : Fin N) :
    multiReduction .maximumf [1] ⟨1, ![N]⟩ src 0xFF800000#32 h hφ hacc (ix1 u)
      = Finset.fold max (Ideal.ofBits .f32 0xFF800000#32) (fun x => src (ix2 u x)) Finset.univ := by
  refine (Ideal.multiReduction_maximumf_single src _ h hφ hacc (ix1 u)).trans ?_
  show Finset.fold max _ (fun x => src (h.lift (ix1 u) x)) Finset.univ = _
  have e : (fun x : Fin D => src (h.lift (ix1 u) x)) = fun x => src (ix2 u x) := by
    funext x
    congr 1
    funext a
    match a with
    | ⟨0, _⟩ => rfl
    | ⟨1, _⟩ => rfl
  exact congrArg (fun f => Finset.fold max (Ideal.ofBits .f32 0xFF800000#32) f Finset.univ) e

/-- The maximum along the columns of a matrix, at one column. -/
theorem maxCol {N D : ℕ} (src : FVec Ideal ⟨2, ![D, N]⟩ .f32) (h : Shape.Reduces ⟨2, ![D, N]⟩ [0] ⟨1, ![N]⟩)
    (hφ : FKind.Formats .f32) (hacc : (0xFF800000#32 : BitVec 32) = FKind.maximumf.neutral .f32 hφ) (u : Fin N) :
    multiReduction .maximumf [0] ⟨1, ![N]⟩ src 0xFF800000#32 h hφ hacc (ix1 u)
      = Finset.fold max (Ideal.ofBits .f32 0xFF800000#32) (fun x => src (ix2 x u)) Finset.univ := by
  refine (Ideal.multiReduction_maximumf_single src _ h hφ hacc (ix1 u)).trans ?_
  show Finset.fold max _ (fun x => src (h.lift (ix1 u) x)) Finset.univ = _
  have e : (fun x : Fin D => src (h.lift (ix1 u) x)) = fun x => src (ix2 x u) := by
    funext x
    congr 1
    funext a
    match a with
    | ⟨0, _⟩ => rfl
    | ⟨1, _⟩ => rfl
  exact congrArg (fun f => Finset.fold max (Ideal.ofBits .f32 0xFF800000#32) f Finset.univ) e
end Cert.Model
end
-- ==== Proof.Ideal.Counts.lean ====
module

public import proofs.«01_k».proof.Proof.Gen.KernelIdeal.Skeleton
public import proofs.«01_k».proof.Proof.Ideal.Body0
public import proofs.«01_k».proof.Proof.Ideal.Body1
public import proofs.«01_k».proof.Proof.Ideal.Bits
public import proofs.«01_k».proof.Proof.Ideal.Model
public import proofs.«01_k».proof.Proof.Ideal.MaxRow
public import Idealize.ShloMosaic.Lib.Pointwise

@[expose] public section

set_option maxRecDepth 16384

noncomputable section

/-! What the kernel reads from a block of packed words at the reals: the count of each user and item, and the item degrees. -/
namespace Cert.KernelIdeal.Counts

open Cert.KernelIdeal Cert.KernelIdeal.Gen
open Idealize.ShloMosaic Idealize.ShloMosaic.TcCoe Idealize.ShloMosaic.Tactic
open Cert Cert.Bits

/-- The count between user `u` and item `k` of a block of words. -/
def cB (x1 : Vec Ideal S8x384x128 .i32) (u : Fin 1536) (k : Fin 1024) : ℝ :=
  ((by4 (x1 (ix3 ⟨k.val / 128, by omega⟩ ⟨u.val / 4, by omega⟩ ⟨k.val % 128, by omega⟩)) (u.val % 4) : ℕ) : ℝ)

/-- The inverse square root of a degree, zero at degree zero. -/
def rd (d : ℝ) : EReal := if 0 < d then (((√d)⁻¹ : ℝ) : EReal) else 0

theorem rd_isR (d : ℝ) : Model.IsR (rd d) := Model.IsR.ite ⟨_, rfl⟩ Model.IsR.zero

/-- … as the programs compute it. -/
theorem div_sqrt (d : ℝ) (h : 0 < d) : Ideal.div 1 (Ideal.sqrt (d : EReal)) = (((√d)⁻¹ : ℝ) : EReal) := by
  have e : Ideal.sqrt (d : EReal) = ((√d : ℝ) : EReal) := by
    show (if d < 0 then (⊥ : EReal) else ((Real.sqrt d : ℝ) : EReal)) = _
    rw [if_neg (by linarith)]
  have hs : 0 < √d := Real.sqrt_pos.2 h
  rw [e]
  unfold Ideal.div
  rw [if_neg (by rw [← EReal.coe_zero]; exact fun hh => hs.ne' (EReal.coe_eq_coe_iff.1 hh)), one_mul, EReal.coe_inv]

theorem ld3 (x : Vec Ideal S8x384x128 .i32) (t : Fin 8) (inb : ∀ a, (![t.val, 0, 0] : Fin 3 → ℕ) a + S1x384x128.size a ≤ S8x384x128.size a) (g : Fin 384) (l : Fin 128) :
    View.ld x (Rect.unit (s := S8x384x128) ![t.val, 0, 0] S1x384x128.size inb) (ix3 0 g l) = x (ix3 t g l) := by
  refine congrArg x (funext fun a => Fin.ext ?_)
  match a with
  | ⟨0, _⟩ => show t.val + 1 * 0 = t.val; omega
  | ⟨1, _⟩ => show 0 + 1 * g.val = g.val; omega
  | ⟨2, _⟩ => show 0 + 1 * l.val = l.val; omega

/-- One tile of words, unpacked. -/
theorem pay6_at (w : Vec Ideal S1x384x128 .i32) (hw : ∀ g l, Small (w (ix3 0 g l))) (u : Fin 1536) (l : Fin 128) :
    k0_pay6 w (ix2 u l) = (((by4 (w (ix3 0 ⟨u.val / 4, by omega⟩ l)) (u.val % 4) : ℕ) : ℝ) : EReal) := by
  unfold k0_pay6
  pointwise
  rw [bitcast_32_8]
  have e : (shapeCast S384x128 w shapeCasts_S1x384x128_S384x128) (bitcasts_S384x128_w32_S1536x128_w8.srcIdx (ix2 u l) (S1536x128.row (ix2 u l) / 4) (fun a ha => by
        have := bitcasts_S384x128_w32_S1536x128_w8.pos_lt (ix2 u l) 0 (by decide) a ha; omega)) = w (ix3 0 ⟨u.val / 4, by omega⟩ l) := by
    have e2 : bitcasts_S384x128_w32_S1536x128_w8.srcIdx (ix2 u l) (S1536x128.row (ix2 u l) / 4) (fun a ha => by
        have := bitcasts_S384x128_w32_S1536x128_w8.pos_lt (ix2 u l) 0 (by decide) a ha; omega) = (ix2 ⟨u.val / 4, by omega⟩ l : S384x128.Idx) := by
      funext c
      match c with
      | ⟨0, _⟩ => exact Fin.ext (Shape.Bitcasts.srcIdx_row _ _ _ _ _ rfl)
      | ⟨1, _⟩ => exact Fin.ext (Shape.Bitcasts.srcIdx_other _ _ _ _ _ (by show ¬ 1 + 2 = 2; omega))
    rw [e2]
    pointwise
  rw [e]
  show ((((_ : BitVec 8).toInt : ℝ)) : EReal) = _
  have hr : S1536x128.row (ix2 u l) % 4 = u.val % 4 := rfl
  rw [hr, byte_toInt _ (hw _ _) _ (by omega)]
  norm_cast

/-- The block's counts, unpacked. -/
theorem aM_at (x1 : Vec Ideal S8x384x128 .i32) (hx : ∀ i, Small (x1 i)) (u : Fin 1536) (k : Fin 1024) :
    Body0.aM x1 (ix2 u k) = ((cB x1 u k : ℝ) : EReal) := by
  unfold Body0.aM
  refine View.canon_apply_of_pieces (Val := Elt Ideal) (e := .bf16) (fun y : S1536x1024.Idx => (((cB x1 (y 0) (y 1) : ℝ) : EReal) : Elt Ideal .bf16)) _ ?_ (ix2 u k) (Body0.cover_aM _ _ _ _ _ _ _ _ (ix2 u k))
  have key : ∀ (t : Fin 8) (inb : ∀ a, (![t.val, 0, 0] : Fin 3 → ℕ) a + S1x384x128.size a ≤ S8x384x128.size a) (o : ℕ)
      (inb' : ∀ a, (![0, o] : Fin 2 → ℕ) a + S1536x128.size a ≤ S1536x1024.size a) (ho : o = 128 * t.val) (x : S1536x128.Idx),
      k0_pay6 (View.ld x1 (Rect.unit (s := S8x384x128) ![t.val, 0, 0] S1x384x128.size inb)) x
        = ((cB x1 ((Rect.unit (s := S1536x1024) ![0, o] S1536x128.size inb').emb x 0) ((Rect.unit (s := S1536x1024) ![0, o] S1536x128.size inb').emb x 1) : ℝ) : EReal) := by
    intro t inb o inb' ho x
    obtain ⟨u, l, rfl⟩ : ∃ (u : Fin 1536) (l : Fin 128), x = ix2 u l := ⟨x 0, x 1, (eq_ix2 x)⟩
    rw [pay6_at _ (fun g l => by rw [ld3]; exact hx _), ld3]
    have e0 : ((Rect.unit (s := S1536x1024) ![0, o] S1536x128.size inb').emb (ix2 u l) 0) = u := Fin.ext (by show 0 + 1 * u.val = u.val; omega)
    have e1 : ((Rect.unit (s := S1536x1024) ![0, o] S1536x128.size inb').emb (ix2 u l) 1) = (⟨128 * t.val + l.val, by omega⟩ : Fin 1024) :=
      Fin.ext (by show o + 1 * l.val = 128 * t.val + l.val; omega)
    rw [e0, e1]
    unfold cB
    congr 5
    all_goals apply Fin.ext
    · show t.val = (128 * t.val + l.val) / 128; omega
    · show l.val = (128 * t.val + l.val) % 128; omega
  intro p hp
  simp only [List.mem_cons, List.not_mem_nil, or_false] at hp
  rcases hp with rfl | rfl | rfl | rfl | rfl | rfl | rfl | rfl
  · exact key 7 inb_S8x384x128_S1x384x128_7_0_0 _ inb_S1536x1024_S1536x128_0_896 rfl
  · exact key 6 inb_S8x384x128_S1x384x128_6_0_0 _ inb_S1536x1024_S1536x128_0_768 rfl
  · exact key 5 inb_S8x384x128_S1x384x128_5_0_0 _ inb_S1536x1024_S1536x128_0_640 rfl
  · exact key 4 inb_S8x384x128_S1x384x128_4_0_0 _ inb_S1536x1024_S1536x128_0_512 rfl
  · exact key 3 inb_S8x384x128_S1x384x128_3_0_0 _ inb_S1536x1024_S1536x128_0_384 rfl
  · exact key 2 inb_S8x384x128_S1x384x128_2_0_0 _ inb_S1536x1024_S1536x128_0_256 rfl
  · exact key 1 inb_S8x384x128_S1x384x128_1_0_0 _ inb_S1536x1024_S1536x128_0_128 rfl
  · exact key 0 inb_S8x384x128_S1x384x128_0_0_0 _ inb_S1536x1024_S1536x128_0_0 rfl
/-- The packed degree of one column of words. -/
def dW (x : Fin 384 → BitVec 32) : BitVec 32 :=
  IntOp.addi (IntOp.addi (IntOp.addi (IntOp.andi (Finset.fold IntOp.addi 0#32 (fun g => IntOp.andi (x g) 16711935#32) Finset.univ) 65535#32)
      (IntOp.andi (IntOp.shrsi .vector (Finset.fold IntOp.addi 0#32 (fun g => IntOp.andi (x g) 16711935#32) Finset.univ) 16#32) 65535#32))
      (IntOp.andi (Finset.fold IntOp.addi 0#32 (fun g => IntOp.andi (IntOp.shrsi .vector (x g) 8#32) 16711935#32) Finset.univ) 65535#32))
      (IntOp.andi (IntOp.shrsi .vector (Finset.fold IntOp.addi 0#32 (fun g => IntOp.andi (IntOp.shrsi .vector (x g) 8#32) 16711935#32) Finset.univ) 16#32) 65535#32)

theorem deg_at (w : Vec Ideal S1x384x128 .i32) (l : Fin 128) : Body0.deg w (ix2 0 l) = dW (fun g => w (ix3 0 g l)) := by
  unfold Body0.deg
  pointwise [k0_pay16, k0_pay14, k0_pay15]
  rfl
theorem pay36_at (w : Vec Ideal S1x384x128 .i32) (l : Fin 128) : k0_pay36 w (ix2 0 l) = Finset.fold IntOp.addi 0#32 (fun g => IntOp.andi (w (ix3 0 g l)) 16711935#32) Finset.univ := by
  pointwise [k0_pay36, k0_pay35]
theorem pay37_at (w : Vec Ideal S1x384x128 .i32) (l : Fin 128) : k0_pay37 w (ix2 0 l) = Finset.fold IntOp.addi 0#32 (fun g => IntOp.andi (IntOp.shrsi .vector (w (ix3 0 g l)) 8#32) 16711935#32) Finset.univ := by
  pointwise [k0_pay37, k0_pay35]
theorem pay38_at (l : Fin 128) : k0_pay38 (ix2 0 l) = 65535#32 := by
  pointwise [k0_pay38]

/-- The eight tiles' degrees side by side. -/
theorem cat8 (G : Fin 8 → Fin 128 → BitVec 32) (k : Fin 1024) (a0 a1 a2 a3 a4 a5 a6 a7 : IVec S1x128 32)
    (h0 : ∀ l, a0 (ix2 0 l) = G 0 l) (h1 : ∀ l, a1 (ix2 0 l) = G 1 l) (h2 : ∀ l, a2 (ix2 0 l) = G 2 l) (h3 : ∀ l, a3 (ix2 0 l) = G 3 l)
    (h4 : ∀ l, a4 (ix2 0 l) = G 4 l) (h5 : ∀ l, a5 (ix2 0 l) = G 5 l) (h6 : ∀ l, a6 (ix2 0 l) = G 6 l) (h7 : ∀ l, a7 (ix2 0 l) = G 7 l) :
    concatenate S1x1024 1 [⟨S1x128, a0⟩, ⟨S1x128, a1⟩, ⟨S1x128, a2⟩, ⟨S1x128, a3⟩, ⟨S1x128, a4⟩, ⟨S1x128, a5⟩, ⟨S1x128, a6⟩, ⟨S1x128, a7⟩] concatenates_S1x128_S1x128_S1x128_S1x128_S1x128_S1x128_S1x128_S1x128_S1x1024_d1 (ix2 0 k)
      = G ⟨k.val / 128, by omega⟩ ⟨k.val % 128, by omega⟩ := by
  pointwise
  have key : ∀ (t : Fin 8) (l : ℕ) (hl : l < 128), k.val = 128 * t.val + l → G t ⟨l, hl⟩ = G ⟨k.val / 128, by omega⟩ ⟨k.val % 128, by omega⟩ := by
    intro t l hl h
    congr 1
    · exact Fin.ext (by show t.val = k.val / 128; omega)
    · exact Fin.ext (by show l = k.val % 128; omega)
  have hk := k.isLt
  split_ifs
  all_goals first
    | (rw [h0]; exact key 0 _ _ (by show k.val = 128 * 0 + _; omega))
    | (rw [h1]; exact key 1 _ _ (by show k.val = 128 * 1 + _; omega))
    | (rw [h2]; exact key 2 _ _ (by show k.val = 128 * 2 + _; omega))
    | (rw [h3]; exact key 3 _ _ (by show k.val = 128 * 3 + _; omega))
    | (rw [h4]; exact key 4 _ _ (by show k.val = 128 * 4 + _; omega))
    | (rw [h5]; exact key 5 _ _ (by show k.val = 128 * 5 + _; omega))
    | (rw [h6]; exact key 6 _ _ (by show k.val = 128 * 6 + _; omega))
    | (rw [h7]; exact key 7 _ _ (by show k.val = 128 * 7 + _; omega))

/-- The degree of item `k` of a block. -/
def dB (x1 : Vec Ideal S8x384x128 .i32) (k : Fin 1024) : ℝ := ∑ u, cB x1 u k

theorem sel_rd (cat : IVec S1x1024 32) (k : Fin 1024) :
    select (cmpf .ogt (sitofp .f32 cat) (broadcast S1x1024 (Scalar.ofBits (F := Ideal) .f32 0x00000000#32)))
      (divf (broadcast S1x1024 (Scalar.ofBits (F := Ideal) .f32 0x3F800000#32)) (sqrt (sitofp .f32 cat))) (broadcast S1x1024 (Scalar.ofBits (F := Ideal) .f32 0x00000000#32)) (ix2 0 k)
      = rd (((cat (ix2 0 k)).toInt : ℤ) : ℝ) := by
  show Scalar.select (FloatOps.cmpf (F := Ideal) (φ := .f32) .ogt ((((cat (ix2 0 k)).toInt : ℝ)) : EReal) (Ideal.ofBits .f32 0x00000000#32))
    (Ideal.div (Ideal.ofBits .f32 0x3F800000#32) (Ideal.sqrt ((((cat (ix2 0 k)).toInt : ℝ)) : EReal))) (Ideal.ofBits .f32 0x00000000#32) = _
  generalize (((cat (ix2 0 k)).toInt : ℤ) : ℝ) = d
  rw [Model.ofBits_0, Model.ofBits_1]
  unfold rd
  by_cases c : 0 < d
  · rw [if_pos c, ← div_sqrt _ c]
    have : FloatOps.cmpf (F := Ideal) (φ := .f32) .ogt ((d : ℝ) : EReal) 0 = 1#1 := by show BitVec.ofBool (decide _) = _; simp [c]
    rw [this]; rfl
  · rw [if_neg c]
    have : FloatOps.cmpf (F := Ideal) (φ := .f32) .ogt ((d : ℝ) : EReal) 0 = 0#1 := by show BitVec.ofBool (decide _) = _; simp [c]
    rw [this]; rfl

/-- The inverse square roots of the block's item degrees. -/
theorem rdi_at (x1 : Vec Ideal S8x384x128 .i32) (hx : ∀ i, Small (x1 i)) (k : Fin 1024) : Body0.rdi x1 (ix2 0 k) = rd (dB x1 k) := by
  have hcat := cat8 (fun t l => dW (fun g => x1 (ix3 t g l))) k (Body0.deg (Body0.w0 x1)) (Body0.deg (Body0.w1 x1)) (Body0.deg (Body0.w2 x1))
    (Body0.deg (Body0.w3 x1)) (Body0.deg (Body0.w4 x1)) (Body0.deg (Body0.w5 x1)) (Body0.deg (Body0.w6 x1))
    (addi (addi (addi (andi (k0_pay36 (Body0.w7 x1)) k0_pay38) (andi (shrsi (k0_pay36 (Body0.w7 x1)) (broadcast S1x128 16#32)) (broadcast S1x128 65535#32)))
      (andi (k0_pay37 (Body0.w7 x1)) (broadcast S1x128 65535#32))) (andi (shrsi (k0_pay37 (Body0.w7 x1)) (broadcast S1x128 16#32)) (broadcast S1x128 65535#32)))
    (fun l => by rw [deg_at]; exact congrArg dW (funext fun g => ld3 x1 0 _ g l))
    (fun l => by rw [deg_at]; exact congrArg dW (funext fun g => ld3 x1 1 _ g l))
    (fun l => by rw [deg_at]; exact congrArg dW (funext fun g => ld3 x1 2 _ g l))
    (fun l => by rw [deg_at]; exact congrArg dW (funext fun g => ld3 x1 3 _ g l))
    (fun l => by rw [deg_at]; exact congrArg dW (funext fun g => ld3 x1 4 _ g l))
    (fun l => by rw [deg_at]; exact congrArg dW (funext fun g => ld3 x1 5 _ g l))
    (fun l => by rw [deg_at]; exact congrArg dW (funext fun g => ld3 x1 6 _ g l))
    (fun l => by
      have e : (fun g => (Body0.w7 x1) (ix3 0 g l)) = fun g => x1 (ix3 7 g l) := funext fun g => ld3 x1 7 _ g l
      show IntOp.addi (IntOp.addi (IntOp.addi (IntOp.andi (k0_pay36 (Body0.w7 x1) (ix2 0 l)) (k0_pay38 (ix2 0 l))) (IntOp.andi (IntOp.shrsi .vector (k0_pay36 (Body0.w7 x1) (ix2 0 l)) 16#32) 65535#32))
        (IntOp.andi (k0_pay37 (Body0.w7 x1) (ix2 0 l)) 65535#32)) (IntOp.andi (IntOp.shrsi .vector (k0_pay37 (Body0.w7 x1) (ix2 0 l)) 16#32) 65535#32) = _
      rw [pay36_at, pay37_at, pay38_at]
      rw [← e]; rfl)
  have hd : ((dW (fun g => x1 (ix3 ⟨k.val / 128, by omega⟩ g ⟨k.val % 128, by omega⟩))).toInt : ℝ) = dB x1 k := by
    unfold dW
    rw [degree _ (fun g => hx _) _ _ rfl rfl]
    unfold dB cB
    rw [sum_users (fun g s => ((by4 (x1 (ix3 ⟨k.val / 128, by omega⟩ g ⟨k.val % 128, by omega⟩)) s : ℕ) : ℝ))]
    push_cast
    rfl
  unfold Body0.rdi k0_pay39
  refine (sel_rd _ k).trans ?_
  rw [hcat, hd]

end Cert.KernelIdeal.Counts
end
-- ==== Proof.Ideal.KGen.lean ====
module

public import proofs.«01_k».proof.Proof.Gen.KernelIdeal.Skeleton
public import proofs.«01_k».proof.Proof.Ideal.Body0
public import proofs.«01_k».proof.Proof.Ideal.Body1

public import proofs.«01_k».proof.Proof.Ideal.Bits
public import proofs.«01_k».proof.Proof.Ideal.Model
public import proofs.«01_k».proof.Proof.Ideal.MaxRow
public import Idealize.ShloMosaic.Lib.Pointwise

@[expose] public section

set_option maxRecDepth 16384

noncomputable section

/-! The pieces both calls share, at one index: quantising a column, splitting a value into three summands, and joining the products of the summands. -/
namespace Cert.KernelIdeal.KGen

open Cert.KernelIdeal Cert.KernelIdeal.Gen
open Idealize.ShloMosaic Idealize.ShloMosaic.TcCoe Idealize.ShloMosaic.Tactic
open Cert

/-- Rows `o` to `o + 575` of a matrix hold the three summands a value `y` is split into. -/
def Split {R N : ℕ} (V : (⟨2, ![R, N]⟩ : Shape).Idx → EReal) (o : ℕ) (y : Fin 192 → Fin N → EReal) : Prop :=
  ∀ (h : o + 576 ≤ R) (d : Fin 192) (k : Fin N), V (ix2 ⟨o + d.val, by omega⟩ k) = y d k
    ∧ V (ix2 ⟨o + 192 + d.val, by omega⟩ k) = y d k - y d k
    ∧ V (ix2 ⟨o + 384 + d.val, by omega⟩ k) = (y d k - y d k) - (y d k - y d k)

theorem scaleOf {N : ℕ} (m : FVec Ideal ⟨2, ![1, N]⟩ .f32) (v : Fin 192 → EReal) (k : Fin N) (hm : m (ix2 0 k) = Model.top v) :
    select (cmpf .oeq m (broadcast ⟨2, ![1, N]⟩ (Scalar.ofBits .f32 0x00000000#32))) (broadcast ⟨2, ![1, N]⟩ (Scalar.ofBits .f32 0x3F800000#32))
        (divf m (broadcast ⟨2, ![1, N]⟩ (Scalar.ofBits .f32 0x42FE0000#32))) (ix2 0 k)
      = Model.scale v := by
  show Scalar.select (FloatOps.cmpf .oeq (m (ix2 0 k)) (Ideal.ofBits .f32 0x00000000#32)) (Ideal.ofBits .f32 0x3F800000#32)
        (Ideal.div (m (ix2 0 k)) (Ideal.ofBits .f32 0x42FE0000#32)) = _
  rw [hm]
  exact Model.select_scale _

theorem codeOf {N : ℕ} (v b : FVec Ideal ⟨2, ![192, N]⟩ .f32) (k : Fin N) (d : Fin 192) (hb : b (ix2 d k) = Model.scale (fun d => v (ix2 d k))) :
    minimumf (broadcast ⟨2, ![192, N]⟩ (Scalar.ofBits .f32 0x42FE0000#32)) (maximumf (broadcast ⟨2, ![192, N]⟩ (Scalar.ofBits .f32 0xC2FE0000#32)) (roundeven (divf v b))) (ix2 d k)
      = Model.code (fun d => v (ix2 d k)) d := by
  show (min (Ideal.ofBits .f32 0x42FE0000#32) (max (Ideal.ofBits .f32 0xC2FE0000#32) (Ideal.liftRound Ideal.roundHalfEven (Ideal.div (v (ix2 d k)) (b (ix2 d k)))))) = _
  rw [hb]; rfl

theorem topOf1024 (v : FVec Ideal S192x1024 .f32) (k : Fin 1024) :
    shapeCast S1x1024 (multiReduction .maximumf [0] S1024 (absf v) 0xFF800000#32 reduces_S192x1024_S1024 (.inl rfl) rfl) shapeCasts_S1024_S1x1024 (ix2 0 k)
      = Model.top (fun d => v (ix2 d k)) := by
  have e : shapeCast S1x1024 (multiReduction .maximumf [0] S1024 (absf v) 0xFF800000#32 reduces_S192x1024_S1024 (.inl rfl) rfl) shapeCasts_S1024_S1x1024 (ix2 0 k)
    = multiReduction .maximumf [0] S1024 (absf v) 0xFF800000#32 reduces_S192x1024_S1024 (.inl rfl) rfl (ix1 k) := by
    generalize multiReduction .maximumf [0] S1024 (absf v) 0xFF800000#32 reduces_S192x1024_S1024 (.inl rfl) rfl = z
    pointwise
  rw [e]
  exact Model.maxCol (absf v) _ _ _ k

theorem topOf1536 (v : FVec Ideal S192x1536 .f32) (k : Fin 1536) :
    shapeCast S1x1536 (multiReduction .maximumf [0] S1536 (absf v) 0xFF800000#32 reduces_S192x1536_S1536 (.inl rfl) rfl) shapeCasts_S1536_S1x1536 (ix2 0 k)
      = Model.top (fun d => v (ix2 d k)) := by
  have e : shapeCast S1x1536 (multiReduction .maximumf [0] S1536 (absf v) 0xFF800000#32 reduces_S192x1536_S1536 (.inl rfl) rfl) shapeCasts_S1536_S1x1536 (ix2 0 k)
    = multiReduction .maximumf [0] S1536 (absf v) 0xFF800000#32 reduces_S192x1536_S1536 (.inl rfl) rfl (ix1 k) := by
    generalize multiReduction .maximumf [0] S1536 (absf v) 0xFF800000#32 reduces_S192x1536_S1536 (.inl rfl) rfl = z
    pointwise
  rw [e]
  exact Model.maxCol (absf v) _ _ _ k

theorem bc1024 {α : Type} (v : S1x1024.Idx → α) (d : Fin 192) (k : Fin 1024) : broadcastTo S192x1024 v broadcasts_S1x1024_S192x1024 (ix2 d k) = v (ix2 0 k) := by pointwise
theorem bc1536 {α : Type} (v : S1x1536.Idx → α) (d : Fin 192) (k : Fin 1536) : broadcastTo S192x1536 v broadcasts_S1x1536_S192x1536 (ix2 d k) = v (ix2 0 k) := by pointwise

theorem split1024 (a b c : FVec Ideal S192x1024 .bf16) (y : Fin 192 → Fin 1024 → EReal) (ha : ∀ d k, a (ix2 d k) = y d k)
    (hb : ∀ d k, b (ix2 d k) = y d k - y d k) (hc : ∀ d k, c (ix2 d k) = (y d k - y d k) - (y d k - y d k)) :
    Split (R := 576) (N := 1024) (concatenate S576x1024 0 [⟨S192x1024, a⟩, ⟨S192x1024, b⟩, ⟨S192x1024, c⟩] concatenates_S192x1024_S192x1024_S192x1024_S576x1024_d0) 0 y := by
  intro h d k
  refine ⟨Eq.trans ?_ (ha d k), Eq.trans ?_ (hb d k), Eq.trans ?_ (hc d k)⟩
  · pointwise
  · pointwise
  · pointwise
    rw [dif_neg (by omega), dif_neg (by omega)]
    congr 2
    apply Fin.ext
    show 384 + d.val - 192 - 192 = d.val
    omega

theorem split1536 (a b c : FVec Ideal S192x1536 .bf16) (y : Fin 192 → Fin 1536 → EReal) (ha : ∀ d k, a (ix2 d k) = y d k)
    (hb : ∀ d k, b (ix2 d k) = y d k - y d k) (hc : ∀ d k, c (ix2 d k) = (y d k - y d k) - (y d k - y d k)) :
    Split (R := 576) (N := 1536) (concatenate S576x1536 0 [⟨S192x1536, a⟩, ⟨S192x1536, b⟩, ⟨S192x1536, c⟩] concatenates_S192x1536_S192x1536_S192x1536_S576x1536_d0) 0 y := by
  intro h d k
  refine ⟨Eq.trans ?_ (ha d k), Eq.trans ?_ (hb d k), Eq.trans ?_ (hc d k)⟩
  · pointwise
  · pointwise
  · pointwise
    rw [dif_neg (by omega), dif_neg (by omega)]
    congr 2
    apply Fin.ext
    show 384 + d.val - 192 - 192 = d.val
    omega

theorem Split.congr {R N : ℕ} {V : (⟨2, ![R, N]⟩ : Shape).Idx → EReal} {o : ℕ} {y y' : Fin 192 → Fin N → EReal} (h : Split V o y) (e : ∀ d k, y d k = y' d k) : Split V o y' := by
  have : y = y' := funext fun d => funext fun k => e d k
  rw [← this]; exact h

theorem splitOf1024 (m : FVec Ideal S192x1024 .f32) :
    Split (R := 576) (N := 1024) (concatenate S576x1024 0 [⟨S192x1024, truncf .bf16 m bitsLt_bf16_f32⟩,
      ⟨S192x1024, truncf .bf16 (subf m (extf .f32 (truncf .bf16 m bitsLt_bf16_f32) bitsLt_bf16_f32)) bitsLt_bf16_f32⟩,
      ⟨S192x1024, truncf .bf16 (subf (subf m (extf .f32 (truncf .bf16 m bitsLt_bf16_f32) bitsLt_bf16_f32))
        (extf .f32 (truncf .bf16 (subf m (extf .f32 (truncf .bf16 m bitsLt_bf16_f32) bitsLt_bf16_f32)) bitsLt_bf16_f32) bitsLt_bf16_f32)) bitsLt_bf16_f32⟩]
      concatenates_S192x1024_S192x1024_S192x1024_S576x1024_d0) 0 (fun d k => m (ix2 d k)) :=
  split1024 _ _ _ _ (fun d k => rfl) (fun d k => rfl) (fun d k => rfl)
theorem splitOf1536 (m : FVec Ideal S192x1536 .f32) :
    Split (R := 576) (N := 1536) (concatenate S576x1536 0 [⟨S192x1536, truncf .bf16 m bitsLt_bf16_f32⟩,
      ⟨S192x1536, truncf .bf16 (subf m (extf .f32 (truncf .bf16 m bitsLt_bf16_f32) bitsLt_bf16_f32)) bitsLt_bf16_f32⟩,
      ⟨S192x1536, truncf .bf16 (subf (subf m (extf .f32 (truncf .bf16 m bitsLt_bf16_f32) bitsLt_bf16_f32))
        (extf .f32 (truncf .bf16 (subf m (extf .f32 (truncf .bf16 m bitsLt_bf16_f32) bitsLt_bf16_f32)) bitsLt_bf16_f32) bitsLt_bf16_f32)) bitsLt_bf16_f32⟩]
      concatenates_S192x1536_S192x1536_S192x1536_S576x1536_d0) 0 (fun d k => m (ix2 d k)) :=
  split1536 _ _ _ _ (fun d k => rfl) (fun d k => rfl) (fun d k => rfl)

/-- The joined products of a split matrix and a finite one, from the rows of the three summands on. -/
theorem joined {R N : ℕ} {V : (⟨2, ![R, N]⟩ : Shape).Idx → EReal} {o : ℕ} {y : Fin 192 → Fin N → EReal} (hV : Split V o y) (ho : o + 576 ≤ R)
    (hy : ∀ d u, Model.IsR (y d u)) (d : Fin 192) (a : Fin N → EReal) (r0 r1 r2 : Fin R) (e0 : r0.val = o + d.val) (e1 : r1.val = o + 192 + d.val) (e2 : r2.val = o + 384 + d.val) :
    (∑ u, V (ix2 r2 u) * a u + ∑ u, V (ix2 r1 u) * a u) + ∑ u, V (ix2 r0 u) * a u = ∑ u, y d u * a u := by
  rw [← Model.join3 Finset.univ (fun u => y d u) a (fun u => hy d u)]
  have hv := fun u => hV ho d u
  have i0 : r0 = (⟨o + d.val, by omega⟩ : Fin R) := Fin.ext e0
  have i1 : r1 = (⟨o + 192 + d.val, by omega⟩ : Fin R) := Fin.ext e1
  have i2 : r2 = (⟨o + 384 + d.val, by omega⟩ : Fin R) := Fin.ext e2
  refine congrArg₂ (· + ·) (congrArg₂ (· + ·) ?_ ?_) ?_
  · exact Finset.sum_congr rfl fun u _ => congrArg (· * a u) ((congrArg (fun r => V (ix2 r u)) i2).trans (hv u).2.2)
  · exact Finset.sum_congr rfl fun u _ => congrArg (· * a u) ((congrArg (fun r => V (ix2 r u)) i1).trans (hv u).2.1)
  · exact Finset.sum_congr rfl fun u _ => congrArg (· * a u) ((congrArg (fun r => V (ix2 r u)) i0).trans (hv u).1)

/-- Two groups of three summands, one above the other. -/
theorem split2 (a b : FVec Ideal S576x1024 .bf16) (y z : Fin 192 → Fin 1024 → EReal) (ha : Split (R := 576) (N := 1024) a 0 y) (hb : Split (R := 576) (N := 1024) b 0 z) :
    Split (R := 1152) (N := 1024) (concatenate S1152x1024 0 [⟨S576x1024, a⟩, ⟨S576x1024, b⟩] concatenates_S576x1024_S576x1024_S1152x1024_d0) 0 y
    ∧ Split (R := 1152) (N := 1024) (concatenate S1152x1024 0 [⟨S576x1024, a⟩, ⟨S576x1024, b⟩] concatenates_S576x1024_S576x1024_S1152x1024_d0) 576 z := by
  have hc : ∀ (r : Fin 1152) (k : Fin 1024), concatenate S1152x1024 0 [⟨S576x1024, a⟩, ⟨S576x1024, b⟩] concatenates_S576x1024_S576x1024_S1152x1024_d0 (ix2 r k)
      = if h : r.val < 576 then a (ix2 ⟨r.val, h⟩ k) else b (ix2 ⟨r.val - 576, by omega⟩ k) := by
    intro r k
    pointwise
  have h1 : ∀ (s : ℕ) (hs : s < 576) (k : Fin 1024), concatenate S1152x1024 0 [⟨S576x1024, a⟩, ⟨S576x1024, b⟩] concatenates_S576x1024_S576x1024_S1152x1024_d0 (ix2 ⟨s, by omega⟩ k) = a (ix2 ⟨s, hs⟩ k) := by
    intro s hs k; rw [hc, dif_pos hs]
  have h2 : ∀ (s q : ℕ) (hs : s < 576) (hq : q < 1152) (e : q = 576 + s) (k : Fin 1024), concatenate S1152x1024 0 [⟨S576x1024, a⟩, ⟨S576x1024, b⟩] concatenates_S576x1024_S576x1024_S1152x1024_d0 (ix2 ⟨q, hq⟩ k) = b (ix2 ⟨s, hs⟩ k) := by
    intro s q hs hq e k
    subst e
    rw [hc, dif_neg (by show ¬ 576 + s < 576; omega)]
    congr 2
    apply Fin.ext
    show 576 + s - 576 = s
    omega
  constructor
  · intro h d k
    have := ha (by norm_num) d k
    rw [← h1 (0 + d.val) (by omega) k, ← h1 (0 + 192 + d.val) (by omega) k, ← h1 (0 + 384 + d.val) (by omega) k] at this
    exact this
  · intro h d k
    have := hb (by norm_num) d k
    rw [← h2 (0 + d.val) (576 + d.val) (by omega) (by omega) (by omega) k, ← h2 (0 + 192 + d.val) (576 + 192 + d.val) (by omega) (by omega) (by omega) k, ← h2 (0 + 384 + d.val) (576 + 384 + d.val) (by omega) (by omega) (by omega) k] at this
    exact this

end Cert.KernelIdeal.KGen
end
-- ==== Proof.Ideal.KVals0.lean ====
module

public import proofs.«01_k».proof.Proof.Gen.KernelIdeal.Skeleton
public import proofs.«01_k».proof.Proof.Ideal.Body0
public import proofs.«01_k».proof.Proof.Ideal.Body1
public import proofs.«01_k».proof.Proof.Ideal.Counts
public import proofs.«01_k».proof.Proof.Ideal.KGen
public import proofs.«01_k».proof.Proof.Ideal.Bits
public import proofs.«01_k».proof.Proof.Ideal.Model
public import proofs.«01_k».proof.Proof.Ideal.MaxRow
public import Idealize.ShloMosaic.Lib.Pointwise

@[expose] public section

set_option maxRecDepth 16384

noncomputable section

/-! What one step of the first call computes, at one index. -/
namespace Cert.KernelIdeal.KVals0

open Cert.KernelIdeal Cert.KernelIdeal.Gen
open Idealize.ShloMosaic Idealize.ShloMosaic.TcCoe Idealize.ShloMosaic.Tactic
open Cert Cert.KernelIdeal.KGen Cert.KernelIdeal.Counts

/-- The users' terms of the first layer. -/
def yU (x4 : Vec Ideal S192x1536 .i8) (x5 x6 : Vec Ideal S1x1536 .f32) (d : Fin 192) (u : Fin 1536) : EReal :=
  (((x4 (ix2 d u)).toInt : ℝ) : EReal) * (x5 (ix2 0 u) * x6 (ix2 0 u))

theorem pay4_split (x4 : Vec Ideal S192x1536 .i8) (x5 x6 : Vec Ideal S1x1536 .f32) :
    Split (R := 576) (N := 1536) (k0_pay4 x4 x5 x6) 0 (yU x4 x5 x6) := by
  have e : k0_pay4 x4 x5 x6 = _ := shapeCast_id _ _
  rw [e]
  refine (splitOf1536 (mulf (sitofp .f32 (shapeCast S192x1536 x4 shapeCasts_S192x1536_S192x1536)) (broadcastTo S192x1536 (mulf (shapeCast S1x1536 x5 shapeCasts_S1x1536_S1x1536) (shapeCast S1x1536 x6 shapeCasts_S1x1536_S1x1536)) broadcasts_S1x1536_S192x1536) : FVec Ideal S192x1536 .f32)).congr fun d k => ?_
  pointwise
  rfl

/-- The items' aggregates of the first layer, from users' terms in three summands. -/
theorem i1_at (x1 : Vec Ideal S8x384x128 .i32) (hx : ∀ i, Bits.Small (x1 i)) (V : Vec Ideal S576x1536 .bf16) (y : Fin 192 → Fin 1536 → EReal)
    (hV : Split (R := 576) (N := 1536) V 0 y) (hy : ∀ d u, Model.IsR (y d u)) (d : Fin 192) (k : Fin 1024) :
    Body0.i1 x1 V (ix2 d k) = (∑ u, y d u * ((cB x1 u k : ℝ) : EReal)) * rd (dB x1 k) := by
  have e : Body0.i1 x1 V (ix2 d k) = ((∑ u, V (ix2 ⟨384 + d.val, by omega⟩ u) * Body0.aM x1 (ix2 u k) + ∑ u, V (ix2 ⟨192 + d.val, by omega⟩ u) * Body0.aM x1 (ix2 u k))
      + ∑ u, V (ix2 ⟨d.val, by omega⟩ u) * Body0.aM x1 (ix2 u k)) * Body0.rdi x1 (ix2 0 k) := by
    unfold Body0.i1 Body0.rdi
    generalize Body0.aM x1 = A
    unfold k0_pay40
    generalize k0_pay39 (F := Ideal) _ _ _ _ _ _ _ _ _ _ = r
    pointwise
  rw [e, rdi_at _ hx]
  congr 1
  refine (joined hV (by norm_num) hy d (fun u => Body0.aM x1 (ix2 u k)) _ _ _ (by show d.val = 0 + d.val; omega) (by show 192 + d.val = 0 + 192 + d.val; omega) (by show 384 + d.val = 0 + 384 + d.val; omega)).trans ?_
  exact Finset.sum_congr rfl fun u _ => by rw [aM_at _ hx]

theorem scale0_at (x1 : Vec Ideal S8x384x128 .i32) (V : Vec Ideal S576x1536 .bf16) (k : Fin 1024) :
    Body0.o8 x1 V (ix2 0 k) = Model.scale (fun d => Body0.i1 x1 V (ix2 d k)) := by
  unfold Body0.o8 k0_pay44 Body0.z1 Body0.m1 k0_pay42 k0_pay43
  exact scaleOf _ _ k (topOf1024 (Body0.i1 x1 V) k)

theorem code0_at (x1 : Vec Ideal S8x384x128 .i32) (V : Vec Ideal S576x1536 .bf16) (d : Fin 192) (k : Fin 1024) :
    k0_pay45 (Body0.i1 x1 V) (Body0.z1 x1 V) (Body0.m1 x1 V) (ix2 d k) = Model.code (fun d => Body0.i1 x1 V (ix2 d k)) d := by
  unfold k0_pay45
  exact codeOf _ _ k d ((bc1024 _ d k).trans (scale0_at x1 V k))

theorem o7_at (x1 : Vec Ideal S8x384x128 .i32) (V : Vec Ideal S576x1536 .bf16) (d : Fin 192) (k : Fin 1024) :
    Body0.o7 x1 V (ix2 d k) = Model.code8 (fun d => Body0.i1 x1 V (ix2 d k)) d :=
  congrArg (Ideal.fptosi 8) (code0_at x1 V d k)

/-- The items' terms of the first layer, and of the second. -/
def yA (x1 : Vec Ideal S8x384x128 .i32) (x2 : Vec Ideal S192x1024 .i8) (x3 : Vec Ideal S1x1024 .f32) (d : Fin 192) (k : Fin 1024) : EReal :=
  (((x2 (ix2 d k)).toInt : ℝ) : EReal) * (if 0 < Body0.rdi x1 (ix2 0 k) then x3 (ix2 0 k) * Body0.rdi x1 (ix2 0 k) else 0)
def yB (x1 : Vec Ideal S8x384x128 .i32) (V : Vec Ideal S576x1536 .bf16) (d : Fin 192) (k : Fin 1024) : EReal :=
  Model.code (fun d => Body0.i1 x1 V (ix2 d k)) d * (Model.scale (fun d => Body0.i1 x1 V (ix2 d k)) * Body0.rdi x1 (ix2 0 k))

theorem v1_split (x1 : Vec Ideal S8x384x128 .i32) (x2 : Vec Ideal S192x1024 .i8) (x3 : Vec Ideal S1x1024 .f32) (V : Vec Ideal S576x1536 .bf16) :
    Split (R := 1152) (N := 1024) (Body0.v1 x1 x2 x3 V) 0 (yA x1 x2 x3) ∧ Split (R := 1152) (N := 1024) (Body0.v1 x1 x2 x3 V) 576 (yB x1 V) := by
  unfold Body0.v1 k0_pay47
  refine split2 _ _ _ _ ((splitOf1024 _).congr fun d k => ?_) ((splitOf1024 _).congr fun d k => ?_)
  · show (mulf (F := Ideal) (φ := .f32) (s := S192x1024) _ _) (ix2 d k) = _
    unfold yA
    generalize Body0.rdi x1 = r
    pointwise
    rfl
  · show FloatOps.mulf (F := Ideal) (φ := .f32) (k0_pay45 (Body0.i1 x1 V) (Body0.z1 x1 V) (Body0.m1 x1 V) (ix2 d k)) (broadcastTo S192x1024 (mulf (k0_pay44 (Body0.z1 x1 V) (Body0.m1 x1 V)) (Body0.rdi x1)) broadcasts_S1x1024_S192x1024 (ix2 d k)) = _
    rw [code0_at, bc1024]
    show _ * ((Body0.o8 x1 V (ix2 0 k)) * Body0.rdi x1 (ix2 0 k)) = _
    rw [scale0_at]; rfl

/-- The users' sums after a block. -/
theorem o10_at (x1 : Vec Ideal S8x384x128 .i32) (hx : ∀ i, Bits.Small (x1 i)) (x2 : Vec Ideal S192x1024 .i8) (x3 : Vec Ideal S1x1024 .f32) (V : Vec Ideal S576x1536 .bf16)
    (hA : ∀ d k, Model.IsR (yA x1 x2 x3 d k)) (hB : ∀ d k, Model.IsR (yB x1 V d k)) (G : Vec Ideal S384x1536 .f32) (d : Fin 192) (u : Fin 1536) :
    Body0.o10 x1 x2 x3 V G (ix2 ⟨d.val, by omega⟩ u) = G (ix2 ⟨d.val, by omega⟩ u) + ∑ k, yA x1 x2 x3 d k * ((cB x1 u k : ℝ) : EReal)
    ∧ Body0.o10 x1 x2 x3 V G (ix2 ⟨192 + d.val, by omega⟩ u) = G (ix2 ⟨192 + d.val, by omega⟩ u) + ∑ k, yB x1 V d k * ((cB x1 u k : ℝ) : EReal) := by
  have hs := v1_split x1 x2 x3 V
  unfold Body0.o10
  generalize hv : Body0.v1 x1 x2 x3 V = v at *
  have hl0 : ∀ (d : Fin 192) (u : Fin 1536), View.ld G (Rect.unit (s := S384x1536) ![0, 0] S192x1536.size inb_S384x1536_S192x1536_0_0) (ix2 d u) = G (ix2 ⟨d.val, by omega⟩ u) := by
    intro d u
    refine congrArg G (funext fun a => Fin.ext ?_)
    match a with
    | ⟨0, _⟩ => show 0 + 1 * d.val = d.val; omega
    | ⟨1, _⟩ => show 0 + 1 * u.val = u.val; omega
  have hl1 : ∀ (d : Fin 192) (u : Fin 1536), View.ld G (Rect.unit (s := S384x1536) ![192, 0] S192x1536.size inb_S384x1536_S192x1536_192_0) (ix2 d u) = G (ix2 ⟨192 + d.val, by omega⟩ u) := by
    intro d u
    refine congrArg G (funext fun a => Fin.ext ?_)
    match a with
    | ⟨0, _⟩ => show 192 + 1 * d.val = 192 + d.val; omega
    | ⟨1, _⟩ => show 0 + 1 * u.val = u.val; omega
  have e2 : ∀ (A : Vec Ideal S1536x1024 .bf16) (H : Vec Ideal S192x1536 .f32), k0_pay2 A v (constant S1152x1536 .f32 0x00000000#32) H (ix2 d u)
      = H (ix2 d u) + ((∑ k, v (ix2 ⟨384 + d.val, by omega⟩ k) * A (ix2 u k) + ∑ k, v (ix2 ⟨192 + d.val, by omega⟩ k) * A (ix2 u k)) + ∑ k, v (ix2 ⟨d.val, by omega⟩ k) * A (ix2 u k)) := by
    intro A H
    pointwise [k0_pay2, k0_pay1]
  have e3 : ∀ (A : Vec Ideal S1536x1024 .bf16) (H : Vec Ideal S192x1536 .f32), k0_pay3 A v (constant S1152x1536 .f32 0x00000000#32) H (ix2 d u)
      = H (ix2 d u) + ((∑ k, v (ix2 ⟨960 + d.val, by omega⟩ k) * A (ix2 u k) + ∑ k, v (ix2 ⟨768 + d.val, by omega⟩ k) * A (ix2 u k)) + ∑ k, v (ix2 ⟨576 + d.val, by omega⟩ k) * A (ix2 u k)) := by
    intro A H
    pointwise [k0_pay3, k0_pay1]
  have hsum : ∀ y : Fin 192 → Fin 1024 → EReal, ∑ k, y d k * Body0.aM x1 (ix2 u k) = ∑ k, y d k * ((cB x1 u k : ℝ) : EReal) :=
    fun y => Finset.sum_congr rfl fun k _ => by rw [aM_at _ hx]
  constructor
  · have i0 : ix2 ⟨d.val, by omega⟩ u = (Rect.unit (s := S384x1536) ![0, 0] S192x1536.size inb_S384x1536_S192x1536_0_0).emb (ix2 d u) := by
      funext a; apply Fin.ext
      match a with
      | ⟨0, _⟩ => show d.val = 0 + 1 * d.val; omega
      | ⟨1, _⟩ => show u.val = 0 + 1 * u.val; omega
    rw [View.canon_cons_of_not_mem _ _ (by
      rw [Rect.mem_set_unit]
      intro h
      have h0 := (h 0).1
      have : (192 : ℕ) ≤ d.val := h0
      omega), i0, View.canon_cons_emb, ← i0, e2, hl0]
    refine congrArg (G (ix2 ⟨d.val, by omega⟩ u) + ·) ?_
    rw [← hsum]
    exact joined hs.1 (by norm_num) hA d (fun k => Body0.aM x1 (ix2 u k)) _ _ _ (by show d.val = 0 + d.val; omega) (by show 192 + d.val = 0 + 192 + d.val; omega) (by show 384 + d.val = 0 + 384 + d.val; omega)
  · have i0 : ix2 ⟨192 + d.val, by omega⟩ u = (Rect.unit (s := S384x1536) ![192, 0] S192x1536.size inb_S384x1536_S192x1536_192_0).emb (ix2 d u) := by
      funext a; apply Fin.ext
      match a with
      | ⟨0, _⟩ => show 192 + d.val = 192 + 1 * d.val; omega
      | ⟨1, _⟩ => show u.val = 0 + 1 * u.val; omega
    rw [i0, View.canon_cons_emb, ← i0, e3, hl1]
    refine congrArg (G (ix2 ⟨192 + d.val, by omega⟩ u) + ·) ?_
    rw [← hsum]
    exact joined hs.2 (by norm_num) hB d (fun k => Body0.aM x1 (ix2 u k)) _ _ _ rfl rfl rfl

end Cert.KernelIdeal.KVals0
end
-- ==== Proof.Ideal.KVals1.lean ====
module

public import proofs.«01_k».proof.Proof.Gen.KernelIdeal.Skeleton
public import proofs.«01_k».proof.Proof.Ideal.Body0
public import proofs.«01_k».proof.Proof.Ideal.Body1
public import proofs.«01_k».proof.Proof.Ideal.Counts
public import proofs.«01_k».proof.Proof.Ideal.KGen
public import proofs.«01_k».proof.Proof.Ideal.Bits
public import proofs.«01_k».proof.Proof.Ideal.Model
public import proofs.«01_k».proof.Proof.Ideal.MaxRow
public import Idealize.ShloMosaic.Lib.Pointwise

@[expose] public section

set_option maxRecDepth 16384

noncomputable section

namespace Cert.KernelIdeal.KVals1

open Cert.KernelIdeal Cert.KernelIdeal.Gen
open Idealize.ShloMosaic Idealize.ShloMosaic.TcCoe Idealize.ShloMosaic.Tactic
open Cert Cert.KernelIdeal.KGen Cert.KernelIdeal.Counts
open Cert.KernelIdeal.Body1

theorem pay20_eq (x10 : Vec Ideal S1x1536 .f32) : k1_pay20 x10 = x10 := shapeCast_id _ _
theorem pay33_eq (x6 : Vec Ideal S1x1024 .f32) : k1_pay33 x6 = x6 := shapeCast_id _ _

/-- The users' aggregates from their sums. -/
def vU (g : Vec Ideal S192x1536 .f32) (x10 : Vec Ideal S1x1536 .f32) (u : Fin 1536) (d : Fin 192) : EReal := g (ix2 d u) * x10 (ix2 0 u)
/-- What the users hand on. -/
def yV (g : Vec Ideal S192x1536 .f32) (x10 : Vec Ideal S1x1536 .f32) (d : Fin 192) (u : Fin 1536) : EReal :=
  Model.code (vU g x10 u) d * (Model.scale (vU g x10 u) * x10 (ix2 0 u))

theorem pay2_at (x10 : Vec Ideal S1x1536 .f32) (g : Vec Ideal S192x1536 .f32) (d : Fin 192) (u : Fin 1536) : k1_pay2 (k1_pay20 x10) g (ix2 d u) = vU g x10 u d := by
  rw [pay20_eq]
  exact congrArg (g (ix2 d u) * ·) (bc1536 x10 d u)
theorem pay8_at (x10 : Vec Ideal S1x1536 .f32) (g : Vec Ideal S192x1536 .f32) (d : Fin 192) (u : Fin 1536) : k1_pay8 (k1_pay20 x10) g (ix2 d u) = vU g x10 u d := by
  rw [pay20_eq]
  exact congrArg₂ (· * ·) (congrFun (shapeCast_id g _) (ix2 d u)) (bc1536 x10 d u)

theorem pay9_at (x10 : Vec Ideal S1x1536 .f32) (g : Vec Ideal S192x1536 .f32) (u : Fin 1536) : k1_pay9 (k1_pay20 x10) g (ix2 0 u) = Model.scale (vU g x10 u) := by
  have h := topOf1536 (k1_pay8 (k1_pay20 x10) g) u
  rw [funext fun d => pay8_at x10 g d u] at h
  exact scaleOf _ _ u h
theorem pay3_at (x10 : Vec Ideal S1x1536 .f32) (g : Vec Ideal S192x1536 .f32) (u : Fin 1536) : k1_pay3 (k1_pay20 x10) g (ix2 0 u) = Model.scale (vU g x10 u) := by
  have h := topOf1536 (k1_pay2 (k1_pay20 x10) g) u
  rw [funext fun d => pay2_at x10 g d u] at h
  exact scaleOf _ _ u h
theorem pay16_at (x10 : Vec Ideal S1x1536 .f32) (g : Vec Ideal S192x1536 .f32) (u : Fin 1536) : k1_pay16 (k1_pay20 x10) g (ix2 0 u) = Model.scale (vU g x10 u) :=
  pay9_at x10 g u

theorem pay10_at (x10 : Vec Ideal S1x1536 .f32) (g : Vec Ideal S192x1536 .f32) (d : Fin 192) (u : Fin 1536) : k1_pay10 (k1_pay20 x10) g (ix2 d u) = Model.code (vU g x10 u) d := by
  have e := funext fun d => pay8_at x10 g d u
  have h := codeOf (k1_pay8 (k1_pay20 x10) g) (broadcastTo S192x1536 (k1_pay9 (k1_pay20 x10) g) broadcasts_S1x1536_S192x1536) u d
    ((bc1536 _ d u).trans ((pay9_at x10 g u).trans (by rw [e])))
  rw [e] at h
  exact h
theorem pay4_at (x10 : Vec Ideal S1x1536 .f32) (g : Vec Ideal S192x1536 .f32) (d : Fin 192) (u : Fin 1536) : k1_pay4 (k1_pay20 x10) g (ix2 d u) = Model.code (vU g x10 u) d := by
  have e := funext fun d => pay2_at x10 g d u
  have h := codeOf (k1_pay2 (k1_pay20 x10) g) (broadcastTo S192x1536 (k1_pay3 (k1_pay20 x10) g) broadcasts_S1x1536_S192x1536) u d
    ((bc1536 _ d u).trans ((pay3_at x10 g u).trans (by rw [e])))
  rw [e] at h
  exact h
theorem pay17_at (x10 : Vec Ideal S1x1536 .f32) (g : Vec Ideal S192x1536 .f32) (d : Fin 192) (u : Fin 1536) : k1_pay17 (k1_pay20 x10) g (ix2 d u) = Model.code (vU g x10 u) d :=
  pay10_at x10 g d u

theorem uc1_at (x7 : Vec Ideal S384x1536 .f32) (x10 : Vec Ideal S1x1536 .f32) (d : Fin 192) (u : Fin 1536) : uc1 x7 x10 (ix2 d u) = Model.code8 (vU (gA x7) x10 u) d :=
  congrArg (Ideal.fptosi 8) (pay10_at x10 (gA x7) d u)
theorem uc2_at (x7 : Vec Ideal S384x1536 .f32) (x10 : Vec Ideal S1x1536 .f32) (d : Fin 192) (u : Fin 1536) : uc2 x7 x10 (ix2 d u) = Model.code8 (vU (gB x7) x10 u) d :=
  congrArg (Ideal.fptosi 8) (pay17_at x10 (gB x7) d u)
theorem us1_at (x7 : Vec Ideal S384x1536 .f32) (x10 : Vec Ideal S1x1536 .f32) (u : Fin 1536) : us1 x7 x10 (ix2 0 u) = Model.scale (vU (gA x7) x10 u) :=
  pay9_at x10 (gA x7) u
theorem us2_at (x7 : Vec Ideal S384x1536 .f32) (x10 : Vec Ideal S1x1536 .f32) (u : Fin 1536) : us2 x7 x10 (ix2 0 u) = Model.scale (vU (gB x7) x10 u) :=
  pay16_at x10 (gB x7) u
theorem o20_at (x10 : Vec Ideal S1x1536 .f32) (g3 : Vec Ideal S192x1536 .f32) (d : Fin 192) (u : Fin 1536) : o20 x10 g3 (ix2 d u) = Model.code8 (vU g3 x10 u) d :=
  congrArg (Ideal.fptosi 8) (pay4_at x10 g3 d u)
theorem o21_at (x10 : Vec Ideal S1x1536 .f32) (g3 : Vec Ideal S192x1536 .f32) (u : Fin 1536) : o21 x10 g3 (ix2 0 u) = Model.scale (vU g3 x10 u) :=
  pay3_at x10 g3 u

theorem gA_at (x7 : Vec Ideal S384x1536 .f32) (d : Fin 192) (u : Fin 1536) : gA x7 (ix2 d u) = x7 (ix2 ⟨d.val, by omega⟩ u) := by
  refine congrArg x7 (funext fun a => Fin.ext ?_)
  match a with
  | ⟨0, _⟩ => show 0 + 1 * d.val = d.val; omega
  | ⟨1, _⟩ => show 0 + 1 * u.val = u.val; omega
theorem gB_at (x7 : Vec Ideal S384x1536 .f32) (d : Fin 192) (u : Fin 1536) : gB x7 (ix2 d u) = x7 (ix2 ⟨192 + d.val, by omega⟩ u) := by
  refine congrArg x7 (funext fun a => Fin.ext ?_)
  match a with
  | ⟨0, _⟩ => show 192 + 1 * d.val = 192 + d.val; omega
  | ⟨1, _⟩ => show 0 + 1 * u.val = u.val; omega

theorem acc_at (x7 : Vec Ideal S384x1536 .f32) (x8 : Vec Ideal S192x1536 .i8) (x9 x10 : Vec Ideal S1x1536 .f32) (d : Fin 192) (u : Fin 1536) :
    acc x7 x8 x9 x10 (ix2 d u) = ((((x8 (ix2 d u)).toInt : ℝ) : EReal) * x9 (ix2 0 u) + Model.deq (vU (gA x7) x10 u) d) + Model.deq (vU (gB x7) x10 u) d := by
  unfold acc k1_pay22
  refine (congrFun (shapeCast_id _ _) (ix2 d u)).trans ?_
  refine congrArg₂ (· + ·) (congrArg₂ (· + ·) (congrArg₂ (· * ·) ?_ ?_) (congrArg₂ (· * ·) ?_ ?_)) (congrArg₂ (· * ·) ?_ ?_)
  · exact congrArg (fun b : BitVec 8 => (((b.toInt : ℝ)) : EReal)) (congrFun (shapeCast_id x8 _) (ix2 d u))
  · exact (bc1536 _ d u).trans (congrFun (shapeCast_id x9 _) (ix2 0 u))
  · exact pay10_at x10 (gA x7) d u
  · exact (bc1536 _ d u).trans (pay9_at x10 (gA x7) u)
  · exact pay17_at x10 (gB x7) d u
  · exact (bc1536 _ d u).trans (pay16_at x10 (gB x7) u)

theorem o22_at (x10 : Vec Ideal S1x1536 .f32) (g3 a : Vec Ideal S192x1536 .f32) (d : Fin 192) (u : Fin 1536) :
    o22 x10 g3 a (ix2 d u) = (a (ix2 d u) + Model.deq (vU g3 x10 u) d) * Ideal.ofBits .f32 0x3E800000#32 := by
  refine congrArg (· * Ideal.ofBits .f32 0x3E800000#32) (congrArg (a (ix2 d u) + ·) (congrArg₂ (· * ·) ?_ ?_))
  · exact pay4_at x10 g3 d u
  · exact (bc1536 _ d u).trans (pay3_at x10 g3 u)

theorem pay12_split (x10 : Vec Ideal S1x1536 .f32) (g : Vec Ideal S192x1536 .f32) : Split (R := 576) (N := 1536) (k1_pay12 (k1_pay20 x10) g) 0 (yV g x10) := by
  refine (splitOf1536 _).congr fun d u => ?_
  refine congrArg₂ (· * ·) (pay10_at x10 g d u) ((bc1536 _ d u).trans (congrArg₂ (· * ·) (pay9_at x10 g u) (congrFun (pay20_eq x10) (ix2 0 u))))

theorem vu_at (x7 : Vec Ideal S384x1536 .f32) (x10 : Vec Ideal S1x1536 .f32) (r : Fin 576) (u : Fin 1536) :
    vu x7 x10 (ix2 ⟨r.val, by omega⟩ u) = k1_pay12 (k1_pay20 x10) (gA x7) (ix2 r u)
    ∧ vu x7 x10 (ix2 ⟨576 + r.val, by omega⟩ u) = k1_pay12 (k1_pay20 x10) (gB x7) (ix2 r u) := by
  unfold vu
  constructor
  · have i0 : ix2 ⟨r.val, by omega⟩ u = (Rect.unit (s := S1152x1536) ![0, 0] S576x1536.size inb_S1152x1536_S576x1536_0_0).emb (ix2 r u) := by
      funext a; apply Fin.ext
      match a with
      | ⟨0, _⟩ => show r.val = 0 + 1 * r.val; omega
      | ⟨1, _⟩ => show u.val = 0 + 1 * u.val; omega
    rw [View.canon_cons_of_not_mem _ _ (by
      rw [Rect.mem_set_unit]
      intro h
      have h0 := (h 0).1
      have : (576 : ℕ) ≤ r.val := h0
      omega), i0, View.canon_cons_emb]
    unfold k1_pay13
    exact congrFun (shapeCast_id _ _) (ix2 r u)
  · have i0 : ix2 ⟨576 + r.val, by omega⟩ u = (Rect.unit (s := S1152x1536) ![576, 0] S576x1536.size inb_S1152x1536_S576x1536_576_0).emb (ix2 r u) := by
      funext a; apply Fin.ext
      match a with
      | ⟨0, _⟩ => show 576 + r.val = 576 + 1 * r.val; omega
      | ⟨1, _⟩ => show u.val = 0 + 1 * u.val; omega
    rw [i0, View.canon_cons_emb]
    unfold k1_pay21
    exact congrFun (shapeCast_id _ _) (ix2 r u)

theorem vu_split (x7 : Vec Ideal S384x1536 .f32) (x10 : Vec Ideal S1x1536 .f32) :
    Split (R := 1152) (N := 1536) (vu x7 x10) 0 (yV (gA x7) x10) ∧ Split (R := 1152) (N := 1536) (vu x7 x10) 576 (yV (gB x7) x10) := by
  have hA := pay12_split x10 (gA x7)
  have hB := pay12_split x10 (gB x7)
  have h1 : ∀ (r : Fin 1152) (q : Fin 576) (e : r.val = q.val) (u : Fin 1536), vu x7 x10 (ix2 r u) = k1_pay12 (k1_pay20 x10) (gA x7) (ix2 q u) := by
    intro r q e u
    have : r = ⟨q.val, by omega⟩ := Fin.ext e
    rw [this]; exact (vu_at x7 x10 q u).1
  have h2 : ∀ (r : Fin 1152) (q : Fin 576) (e : r.val = 576 + q.val) (u : Fin 1536), vu x7 x10 (ix2 r u) = k1_pay12 (k1_pay20 x10) (gB x7) (ix2 q u) := by
    intro r q e u
    have : r = ⟨576 + q.val, by omega⟩ := Fin.ext e
    rw [this]; exact (vu_at x7 x10 q u).2
  constructor
  · intro h d u
    refine ⟨(h1 _ ⟨0 + d.val, by omega⟩ rfl u).trans (hA (by omega) d u).1, (h1 _ ⟨0 + 192 + d.val, by omega⟩ rfl u).trans (hA (by omega) d u).2.1,
      (h1 _ ⟨0 + 384 + d.val, by omega⟩ rfl u).trans (hA (by omega) d u).2.2⟩
  · intro h d u
    refine ⟨(h2 _ ⟨0 + d.val, by omega⟩ (by show 576 + d.val = 576 + (0 + d.val); omega) u).trans (hB (by omega) d u).1,
      (h2 _ ⟨0 + 192 + d.val, by omega⟩ (by show 576 + 192 + d.val = 576 + (0 + 192 + d.val); omega) u).trans (hB (by omega) d u).2.1,
      (h2 _ ⟨0 + 384 + d.val, by omega⟩ (by show 576 + 384 + d.val = 576 + (0 + 384 + d.val); omega) u).trans (hB (by omega) d u).2.2⟩

/-! ## The items' side -/

/-- The items' aggregates of a layer from the users' terms. -/
def vI (x1 : Vec Ideal S8x384x128 .i32) (x6 : Vec Ideal S1x1024 .f32) (y : Fin 192 → Fin 1536 → EReal) (k : Fin 1024) (d : Fin 192) : EReal :=
  (∑ u, y d u * ((cB x1 u k : ℝ) : EReal)) * x6 (ix2 0 k)

section Items
variable (x1 : Vec Ideal S8x384x128 .i32) (hx : ∀ i, Bits.Small (x1 i)) (x6 : Vec Ideal S1x1024 .f32) (V : Vec Ideal S1152x1536 .bf16)
  (y : Fin 192 → Fin 1536 → EReal) (hy : ∀ d u, Model.IsR (y d u))
include hx hy

theorem pay35_at (hV : Split (R := 1152) (N := 1536) V 0 y) (d : Fin 192) (k : Fin 1024) : k1_pay35 (Body0.aM x1) x6 V (ix2 d k) = vI x1 x6 y k d := by
  have e : k1_pay35 (Body0.aM x1) x6 V (ix2 d k) = ((∑ u, V (ix2 ⟨384 + d.val, by omega⟩ u) * Body0.aM x1 (ix2 u k) + ∑ u, V (ix2 ⟨192 + d.val, by omega⟩ u) * Body0.aM x1 (ix2 u k))
      + ∑ u, V (ix2 ⟨d.val, by omega⟩ u) * Body0.aM x1 (ix2 u k)) * x6 (ix2 0 k) := by
    generalize Body0.aM x1 = A
    pointwise [k1_pay35, k1_pay34, k1_pay33]
  rw [e]
  refine congrArg (· * x6 (ix2 0 k)) ?_
  refine (joined hV (by norm_num) hy d (fun u => Body0.aM x1 (ix2 u k)) _ _ _ (by show d.val = 0 + d.val; omega) (by show 192 + d.val = 0 + 192 + d.val; omega) (by show 384 + d.val = 0 + 384 + d.val; omega)).trans ?_
  exact Finset.sum_congr rfl fun u _ => by rw [aM_at _ hx]
theorem pay38_at (hV : Split (R := 1152) (N := 1536) V 576 y) (d : Fin 192) (k : Fin 1024) : k1_pay38 (Body0.aM x1) x6 V (ix2 d k) = vI x1 x6 y k d := by
  have e : k1_pay38 (Body0.aM x1) x6 V (ix2 d k) = ((∑ u, V (ix2 ⟨960 + d.val, by omega⟩ u) * Body0.aM x1 (ix2 u k) + ∑ u, V (ix2 ⟨768 + d.val, by omega⟩ u) * Body0.aM x1 (ix2 u k))
      + ∑ u, V (ix2 ⟨576 + d.val, by omega⟩ u) * Body0.aM x1 (ix2 u k)) * x6 (ix2 0 k) := by
    generalize Body0.aM x1 = A
    pointwise [k1_pay38, k1_pay34, k1_pay33]
  rw [e]
  refine congrArg (· * x6 (ix2 0 k)) ?_
  refine (joined hV (by norm_num) hy d (fun u => Body0.aM x1 (ix2 u k)) _ _ _ rfl rfl rfl).trans ?_
  exact Finset.sum_congr rfl fun u _ => by rw [aM_at _ hx]

theorem o12_at (hV : Split (R := 1152) (N := 1536) V 0 y) (k : Fin 1024) : o12 x1 x6 V (ix2 0 k) = Model.scale (vI x1 x6 y k) := by
  have h := topOf1024 (k1_pay35 (Body0.aM x1) x6 V) k
  rw [funext fun d => pay35_at x1 hx x6 V y hy hV d k] at h
  unfold o12 k1_pay36
  exact scaleOf _ _ k h
theorem o14_at (hV : Split (R := 1152) (N := 1536) V 576 y) (k : Fin 1024) : o14 x1 x6 V (ix2 0 k) = Model.scale (vI x1 x6 y k) := by
  have h := topOf1024 (k1_pay38 (Body0.aM x1) x6 V) k
  rw [funext fun d => pay38_at x1 hx x6 V y hy hV d k] at h
  unfold o14 k1_pay39
  exact scaleOf _ _ k h
theorem pay37_at (hV : Split (R := 1152) (N := 1536) V 0 y) (d : Fin 192) (k : Fin 1024) : k1_pay37 (Body0.aM x1) x6 V (ix2 d k) = Model.code (vI x1 x6 y k) d := by
  have e := funext fun d => pay35_at x1 hx x6 V y hy hV d k
  have h := codeOf (k1_pay35 (Body0.aM x1) x6 V) (broadcastTo S192x1024 (k1_pay36 (Body0.aM x1) x6 V) broadcasts_S1x1024_S192x1024) k d
    ((bc1024 _ d k).trans ((o12_at x1 hx x6 V y hy hV k).trans (by rw [e])))
  rw [e] at h
  exact h
theorem pay41_at (hV : Split (R := 1152) (N := 1536) V 576 y) (d : Fin 192) (k : Fin 1024) :
    k1_pay41 (k1_pay40 (Body0.aM x1) x6 V) (Scalar.ofBits .f32 0xC2FE0000#32) (ix2 d k) = Model.code (vI x1 x6 y k) d := by
  have e := funext fun d => pay38_at x1 hx x6 V y hy hV d k
  have h := codeOf (k1_pay38 (Body0.aM x1) x6 V) (broadcastTo S192x1024 (k1_pay39 (Body0.aM x1) x6 V) broadcasts_S1x1024_S192x1024) k d
    ((bc1024 _ d k).trans ((o14_at x1 hx x6 V y hy hV k).trans (by rw [e])))
  rw [e] at h
  exact h
theorem o11_at (hV : Split (R := 1152) (N := 1536) V 0 y) (d : Fin 192) (k : Fin 1024) : o11 x1 x6 V (ix2 d k) = Model.code8 (vI x1 x6 y k) d := by
  have h := pay37_at x1 hx x6 V y hy hV d k
  unfold o11
  generalize k1_pay37 (Body0.aM x1) x6 V = z at *
  exact congrArg (Ideal.fptosi 8) h
theorem o13_at (hV : Split (R := 1152) (N := 1536) V 576 y) (d : Fin 192) (k : Fin 1024) : o13 x1 x6 V (ix2 d k) = Model.code8 (vI x1 x6 y k) d := by
  have h := pay41_at x1 hx x6 V y hy hV d k
  unfold o13 k1_pay43
  generalize k1_pay41 (F := Ideal) _ _ = z at *
  exact congrArg (Ideal.fptosi 8) h

/-- The third layer's user sums after a block. -/
theorem o25_at (hV : Split (R := 1152) (N := 1536) V 0 y) (hS : ∀ d k, Model.IsR (Model.code (vI x1 x6 y k) d * (Model.scale (vI x1 x6 y k) * x6 (ix2 0 k))))
    (G : Vec Ideal S192x1536 .f32) (d : Fin 192) (u : Fin 1536) :
    o25 x1 x6 V G (ix2 d u) = G (ix2 d u) + ∑ k, (Model.code (vI x1 x6 y k) d * (Model.scale (vI x1 x6 y k) * x6 (ix2 0 k))) * ((cB x1 u k : ℝ) : EReal) := by
  have hs := (splitOf1024 (mulf (k1_pay37 (Body0.aM x1) x6 V) (broadcastTo S192x1024 (mulf (k1_pay36 (Body0.aM x1) x6 V) (k1_pay33 x6)) broadcasts_S1x1024_S192x1024))).congr
    (y' := fun d k => Model.code (vI x1 x6 y k) d * (Model.scale (vI x1 x6 y k) * x6 (ix2 0 k)))
    fun d k => congrArg₂ (· * ·) (pay37_at x1 hx x6 V y hy hV d k) ((bc1024 _ d k).trans (congrArg₂ (· * ·) (o12_at x1 hx x6 V y hy hV k) (congrFun (pay33_eq x6) (ix2 0 k))))
  unfold o25 k1_pay1
  refine (congrFun (shapeCast_id _ _) (ix2 d u)).trans ?_
  have eg : ∀ (v : FVec Ideal S576x1024 .bf16) (A : FVec Ideal S1536x1024 .bf16),
      addf G (addf (addf (extractStridedSlice S192x1536 ![384, 0] (matmul dot_S576x1024_S1536x1024_S576x1536_1_1_0_0_n_n none v A (constant S576x1536 .f32 0x00000000#32)) slices_S576x1536_o384_0_S192x1536)
        (extractStridedSlice S192x1536 ![192, 0] (matmul dot_S576x1024_S1536x1024_S576x1536_1_1_0_0_n_n none v A (constant S576x1536 .f32 0x00000000#32)) slices_S576x1536_o192_0_S192x1536))
        (extractStridedSlice S192x1536 ![0, 0] (matmul dot_S576x1024_S1536x1024_S576x1536_1_1_0_0_n_n none v A (constant S576x1536 .f32 0x00000000#32)) slices_S576x1536_o0_0_S192x1536)) (ix2 d u)
      = G (ix2 d u) + ((∑ k, v (ix2 ⟨384 + d.val, by omega⟩ k) * A (ix2 u k) + ∑ k, v (ix2 ⟨192 + d.val, by omega⟩ k) * A (ix2 u k)) + ∑ k, v (ix2 ⟨d.val, by omega⟩ k) * A (ix2 u k)) := by
    intro v A
    pointwise
  refine (eg _ (Body0.aM x1)).trans (congrArg (G (ix2 d u) + ·) ?_)
  refine (joined hs (by norm_num) hS d (fun k => Body0.aM x1 (ix2 u k)) _ _ _ (by show d.val = 0 + d.val; omega) (by show 192 + d.val = 0 + 192 + d.val; omega) (by show 384 + d.val = 0 + 384 + d.val; omega)).trans ?_
  exact Finset.sum_congr rfl fun k _ => by rw [aM_at _ hx]

theorem o15_at (z : Fin 192 → Fin 1536 → EReal) (hz : ∀ d u, Model.IsR (z d u)) (hV : Split (R := 1152) (N := 1536) V 0 y) (hV' : Split (R := 1152) (N := 1536) V 576 z)
    (x2 : Vec Ideal S192x1024 .i8) (x3 : Vec Ideal S1x1024 .f32) (x4 : Vec Ideal S192x1024 .i8) (x5 : Vec Ideal S1x1024 .f32) (d : Fin 192) (k : Fin 1024) :
    o15 x1 x2 x3 x4 x5 x6 V (ix2 d k) = ((((((x2 (ix2 d k)).toInt : ℝ) : EReal) * x3 (ix2 0 k) + (((x4 (ix2 d k)).toInt : ℝ) : EReal) * x5 (ix2 0 k))
      + Model.deq (vI x1 x6 y k) d) + Model.deq (vI x1 x6 z k) d) * Ideal.ofBits .f32 0x3E800000#32 := by
  refine congrArg (· * Ideal.ofBits .f32 0x3E800000#32) (congrArg₂ (· + ·) (congrArg₂ (· + ·) (congrArg₂ (· + ·) (congrArg₂ (· * ·) ?_ ?_) (congrArg₂ (· * ·) ?_ ?_)) (congrArg₂ (· * ·) ?_ ?_)) (congrArg₂ (· * ·) ?_ ?_))
  · exact congrArg (fun b : BitVec 8 => (((b.toInt : ℝ)) : EReal)) (congrFun (shapeCast_id x2 _) (ix2 d k))
  · exact (bc1024 _ d k).trans (congrFun (shapeCast_id x3 _) (ix2 0 k))
  · exact congrArg (fun b : BitVec 8 => (((b.toInt : ℝ)) : EReal)) (congrFun (shapeCast_id x4 _) (ix2 d k))
  · exact (bc1024 _ d k).trans (congrFun (shapeCast_id x5 _) (ix2 0 k))
  · exact pay37_at x1 hx x6 V y hy hV d k
  · exact (bc1024 _ d k).trans (o12_at x1 hx x6 V y hy hV k)
  · exact pay41_at x1 hx x6 V z hz hV' d k
  · exact (bc1024 _ d k).trans (o14_at x1 hx x6 V z hz hV' k)

end Items

end Cert.KernelIdeal.KVals1
end
-- ==== Proof.Ideal.Reads.lean ====
module

public import proofs.«01_k».proof.Proof.Ideal.ExactRun
public import proofs.«01_k».proof.Proof.Ideal.KVals0
public import proofs.«01_k».proof.Proof.Ideal.KVals1
public import Idealize.ShloMosaic.Lib.Pipeline.ValueKit.Geometry
public import Idealize.ShloMosaic.Lib.Pointwise

@[expose] public section

set_option maxRecDepth 16384

noncomputable section

/-! Which element of its array each window of the two calls shows at a step, also where a block overhangs the array. -/
namespace Cert.KernelIdeal.Reads

open Cert Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Counts Cert.KernelIdeal.KGen

theorem ix0_1 : ∀ t : Fin cfg0.N, win0_1.index t = ![0, t.val] := (by decide +kernel : ∀ t : Fin grid0.N, win0_1.index t = ![0, t.val])
theorem ix0_0 : ∀ t : Fin cfg0.N, win0_0.index t = ![t.val, 0, 0] := (by decide +kernel : ∀ t : Fin grid0.N, win0_0.index t = ![t.val, 0, 0])
theorem xs0_1 : ∀ t : Fin cfg0.N, win0_1.xsize (cfg0.grid.coords t) 0 = 192 ∧ win0_1.xsize (cfg0.grid.coords t) 1 = min 1024 (20000 - 1024 * t.val) :=
  (by decide +kernel : ∀ t : Fin grid0.N, win0_1.xsize (grid0.coords t) 0 = 192 ∧ win0_1.xsize (grid0.coords t) 1 = min 1024 (20000 - 1024 * t.val))

theorem fill_at {sig' : RefSig} {G : Pipeline.Grid} (w : Window sig' G) {α : Type} (i : G.Coords) (d : w.block.Idx → α) (g : (w.xblock i).Idx → α) (j : w.block.Idx) (h : ∀ a, (j a).val < w.xsize i a) :
    w.fill i d g j = g fun a => ⟨(j a).val, h a⟩ := by
  unfold Window.fill; rw [dif_pos ((w.moved_iff i j).mpr h)]

theorem x2_at (W : Valuation τ sig (Elt Ideal)) (t : Fin cfg0.N) (d : Fin 192) (k : Fin 1024) (h : 1024 * t.val + k.val < 20000) :
    Exact0.x2 W t (ix2 d k) = (W (Proc.devRef .tc main_v12) : Vec Ideal S192x20000 .i8) (ix2 d ⟨1024 * t.val + k.val, h⟩) := by
  refine (fill_at win0_1 _ _ _ (ix2 d k) (fun a => ?_)).trans ?_
  · match a with
    | ⟨0, _⟩ => show d.val < win0_1.xsize _ 0; rw [(xs0_1 t).1]; exact d.isLt
    | ⟨1, _⟩ => show k.val < win0_1.xsize _ 1; rw [(xs0_1 t).2]; have := k.isLt; omega
  · refine congrArg (W (Proc.devRef .tc main_v12) : Vec Ideal S192x20000 .i8) ?_
    blk_ext [ix0_1]

theorem x1_at (W : Valuation τ sig (Elt Ideal)) (t : Fin cfg0.N) (s : Fin 8) (q : Fin 384) (l : Fin 128) :
    Exact0.x1 W t (ix3 s q l) = (W (Proc.devRef .tc main_arg5) : Vec Ideal S160x384x128 .i32) (ix3 ⟨8 * t.val + s.val, by have := t.isLt; have := Exact0.N_eq; omega⟩ q l) := by
  refine congrArg (W (Proc.devRef .tc main_arg5) : Vec Ideal S160x384x128 .i32) ?_
  blk_ext [ix0_0]

theorem ix1_0 : ∀ t : Fin cfg1.N, win1_0.index t = ![t.val, 0, 0] := (by decide +kernel : ∀ t : Fin grid1.N, win1_0.index t = ![t.val, 0, 0])
theorem ix0_2 : ∀ t : Fin cfg0.N, win0_2.index t = ![0, t.val] := (by decide +kernel : ∀ t : Fin grid0.N, win0_2.index t = ![0, t.val])
theorem xs0_2 : ∀ t : Fin cfg0.N, win0_2.xsize (cfg0.grid.coords t) 0 = 1 ∧ win0_2.xsize (cfg0.grid.coords t) 1 = min 1024 (20000 - 1024 * t.val) :=
  (by decide +kernel : ∀ t : Fin grid0.N, win0_2.xsize (grid0.coords t) 0 = 1 ∧ win0_2.xsize (grid0.coords t) 1 = min 1024 (20000 - 1024 * t.val))
theorem ix0_3 : ∀ t : Fin cfg0.N, win0_3.index t = ![0, 0] := (by decide +kernel : ∀ t : Fin grid0.N, win0_3.index t = ![0, 0])
theorem ix0_4 : ∀ t : Fin cfg0.N, win0_4.index t = ![0, 0] := (by decide +kernel : ∀ t : Fin grid0.N, win0_4.index t = ![0, 0])
theorem ix0_5 : ∀ t : Fin cfg0.N, win0_5.index t = ![0, 0] := (by decide +kernel : ∀ t : Fin grid0.N, win0_5.index t = ![0, 0])

theorem x3_at (W : Valuation τ sig (Elt Ideal)) (t : Fin cfg0.N) (k : Fin 1024) (h : 1024 * t.val + k.val < 20000) :
    Exact0.x3 W t (ix2 0 k) = (W (Proc.devRef .tc main_v10) : Vec Ideal S1x20000 .f32) (ix2 0 ⟨1024 * t.val + k.val, h⟩) := by
  refine (fill_at win0_2 _ _ _ (ix2 0 k) (fun a => ?_)).trans ?_
  · match a with
    | ⟨0, _⟩ => show 0 < win0_2.xsize _ 0; rw [(xs0_2 t).1]; exact Nat.one_pos
    | ⟨1, _⟩ => show k.val < win0_2.xsize _ 1; rw [(xs0_2 t).2]; have := k.isLt; omega
  · refine congrArg (W (Proc.devRef .tc main_v10) : Vec Ideal S1x20000 .f32) ?_
    blk_ext [ix0_2]
theorem x4_at (W : Valuation τ sig (Elt Ideal)) (t : Fin cfg0.N) (d : Fin 192) (u : Fin 1536) :
    Exact0.x4 W t (ix2 d u) = (W (Proc.devRef .tc main_v11) : Vec Ideal S192x1536 .i8) (ix2 d u) := by
  refine congrArg (W (Proc.devRef .tc main_v11) : Vec Ideal S192x1536 .i8) ?_
  blk_ext [ix0_3]
theorem x5_at (W : Valuation τ sig (Elt Ideal)) (t : Fin cfg0.N) (u : Fin 1536) :
    Exact0.x5 W t (ix2 0 u) = (W (Proc.devRef .tc main_v9) : Vec Ideal S1x1536 .f32) (ix2 0 u) := by
  refine congrArg (W (Proc.devRef .tc main_v9) : Vec Ideal S1x1536 .f32) ?_
  blk_ext [ix0_4]
theorem x6_at (W : Valuation τ sig (Elt Ideal)) (t : Fin cfg0.N) (u : Fin 1536) :
    Exact0.x6 W t (ix2 0 u) = (W (Proc.devRef .tc main_v8) : Vec Ideal S1x1536 .f32) (ix2 0 u) := by
  refine congrArg (W (Proc.devRef .tc main_v8) : Vec Ideal S1x1536 .f32) ?_
  blk_ext [ix0_5]

/-- The point that handles a column, and the column's place there. -/
abbrev pt0 (j : ℕ) (h : j < 20480) : Fin cfg0.N := ⟨j / 1024, by rw [Exact0.N_eq]; omega⟩
abbrev pt1 (j : ℕ) (h : j < 20480) : Fin cfg1.N := ⟨j / 1024, by rw [Exact1.N_eq]; omega⟩
abbrev co (j : ℕ) : Fin 1024 := ⟨j % 1024, Nat.mod_lt _ (by norm_num)⟩

theorem out0_congr (W : Valuation τ sig (Elt Ideal)) (w : Fin 10) {t t' : Fin cfg0.N} (ht : t = t') {i i' : (cfg0.win w).block.Idx} (hi : ∀ a, (i a).val = (i' a).val) :
    Exact0.outAt W w t i = Exact0.outAt W w t' i' := by
  subst ht; rw [show i = i' from funext fun a => Fin.ext (hi a)]
theorem after0_eq (W : Valuation τ sig (Elt Ideal)) (c : Dev nD) (w : Fin 10) (t : Fin cfg0.N) :
    (Exact0.dat (U := ExactRun.UA) W c).after w t = Exact0.outAt W w t := rfl
theorem after1_eq (W : Valuation τ sig (Elt Ideal)) (c : Dev nD) (w : Fin 22) (t : Fin cfg1.N) :
    (Exact1.dat (U := ExactRun.UA) W c).after w t = Exact1.outAt W w t := rfl
attribute [local irreducible] Exact0.outAt Exact1.outAt
theorem out1_congr (W : Valuation τ sig (Elt Ideal)) (w : Fin 22) {t t' : Fin cfg1.N} (ht : t = t') {i i' : (cfg1.win w).block.Idx} (hi : ∀ a, (i a).val = (i' a).val) :
    Exact1.outAt W w t i = Exact1.outAt W w t' i' := by
  subst ht; rw [show i = i' from funext fun a => Fin.ext (hi a)]

theorem ix0_6 : ∀ t : Fin cfg0.N, win0_6.index t = ![0, t.val] := (by decide +kernel : ∀ t : Fin grid0.N, win0_6.index t = ![0, t.val])
theorem out0_6 (W : Valuation τ sig (Elt Ideal)) (c : Dev nD) (d : Fin 192) (j : Fin 20000) :
    ((Exact0.dat (U := ExactRun.UA) W c).arrAt 6 cfg0.N : Vec Ideal S192x20000 .i8) (ix2 d j)
      = (Exact0.outAt W 6 (pt0 j.val (by omega)) : Vec Ideal S192x1024 .i8) (ix2 d (co j.val)) := by
  refine congrFun ((Exact0.dat (U := ExactRun.UA) W c).arrAt_eq_of_covers 6
    (fun i : S192x20000.Idx => (Exact0.outAt W 6 (pt0 (i 1).val (by have : (i 1).val < 20000 := (i 1).isLt; omega)) : Vec Ideal S192x1024 .i8) (ix2 (i 0) (co (i 1).val)) : Vec Ideal S192x20000 .i8)
    (by decide +kernel) (fun t hf y => ?_)) (ix2 d j)
  have ht : t.val < 20 := t.isLt
  have hy : (y 1).val < 1024 := Nat.lt_of_lt_of_le (y 1).isLt ((cfg0.win 6).xsize_le (cfg0.grid.coords t) 1)
  blk_simp [ix0_6]
  refine (congrFun (after0_eq W c 6 t) _).trans ?_
  refine out0_congr W 6 (Fin.ext (by show t.val = (t.val * 1024 + (y 1).val) / 1024; omega)) fun a => ?_
  match a with
  | ⟨0, _⟩ => show (y 0).val = ((win0_6.blk t).view.emb y 0).val; blk_simp [ix0_6]
  | ⟨1, _⟩ => show (y 1).val = (t.val * 1024 + (y 1).val) % 1024; omega

theorem ix0_7 : ∀ t : Fin cfg0.N, win0_7.index t = ![0, t.val] := (by decide +kernel : ∀ t : Fin grid0.N, win0_7.index t = ![0, t.val])
theorem out0_7 (W : Valuation τ sig (Elt Ideal)) (c : Dev nD) (j : Fin 20000) :
    ((Exact0.dat (U := ExactRun.UA) W c).arrAt 7 cfg0.N : Vec Ideal S1x20000 .f32) (ix2 0 j)
      = (Exact0.outAt W 7 (pt0 j.val (by omega)) : Vec Ideal S1x1024 .f32) (ix2 0 (co j.val)) := by
  refine congrFun ((Exact0.dat (U := ExactRun.UA) W c).arrAt_eq_of_covers 7
    (fun i : S1x20000.Idx => (Exact0.outAt W 7 (pt0 (i 1).val (by have : (i 1).val < 20000 := (i 1).isLt; omega)) : Vec Ideal S1x1024 .f32) (ix2 0 (co (i 1).val)) : Vec Ideal S1x20000 .f32)
    (by decide +kernel) (fun t hf y => ?_)) (ix2 0 j)
  have ht : t.val < 20 := t.isLt
  have hy : (y 1).val < 1024 := Nat.lt_of_lt_of_le (y 1).isLt ((cfg0.win 7).xsize_le (cfg0.grid.coords t) 1)
  blk_simp [ix0_7]
  refine (congrFun (after0_eq W c 7 t) _).trans ?_
  refine out0_congr W 7 (Fin.ext (by show t.val = (t.val * 1024 + (y 1).val) / 1024; omega)) fun a => ?_
  match a with
  | ⟨0, _⟩ => show (y 0).val = 0; have : (y 0).val < 1 := Nat.lt_of_lt_of_le (y 0).isLt ((cfg0.win 7).xsize_le (cfg0.grid.coords t) 0); omega
  | ⟨1, _⟩ => show (y 1).val = (t.val * 1024 + (y 1).val) % 1024; omega

theorem ix0_8 : ∀ t : Fin cfg0.N, win0_8.index t = ![0, t.val] := (by decide +kernel : ∀ t : Fin grid0.N, win0_8.index t = ![0, t.val])
theorem out0_8 (W : Valuation τ sig (Elt Ideal)) (c : Dev nD) (j : Fin 20480) :
    ((Exact0.dat (U := ExactRun.UA) W c).arrAt 8 cfg0.N : Vec Ideal S1x20480 .f32) (ix2 0 j)
      = (Exact0.outAt W 8 (pt0 j.val (by omega)) : Vec Ideal S1x1024 .f32) (ix2 0 (co j.val)) := by
  refine congrFun ((Exact0.dat (U := ExactRun.UA) W c).arrAt_eq_of_covers 8
    (fun i : S1x20480.Idx => (Exact0.outAt W 8 (pt0 (i 1).val (by have : (i 1).val < 20480 := (i 1).isLt; omega)) : Vec Ideal S1x1024 .f32) (ix2 0 (co (i 1).val)) : Vec Ideal S1x20480 .f32)
    (by decide +kernel) (fun t hf y => ?_)) (ix2 0 j)
  have ht : t.val < 20 := t.isLt
  have hy : (y 1).val < 1024 := Nat.lt_of_lt_of_le (y 1).isLt ((cfg0.win 8).xsize_le (cfg0.grid.coords t) 1)
  blk_simp [ix0_8]
  refine (congrFun (after0_eq W c 8 t) _).trans ?_
  refine out0_congr W 8 (Fin.ext (by show t.val = (t.val * 1024 + (y 1).val) / 1024; omega)) fun a => ?_
  match a with
  | ⟨0, _⟩ => show (y 0).val = 0; have : (y 0).val < 1 := Nat.lt_of_lt_of_le (y 0).isLt ((cfg0.win 8).xsize_le (cfg0.grid.coords t) 0); omega
  | ⟨1, _⟩ => show (y 1).val = (t.val * 1024 + (y 1).val) % 1024; omega

/-- The last point of the first call. -/
abbrev last0 : Fin cfg0.N := ⟨19, by decide⟩

theorem out0_9 (W : Valuation τ sig (Elt Ideal)) (c : Dev nD) :
    (Exact0.dat (U := ExactRun.UA) W c).arrAt 9 cfg0.N = Exact0.outAt W 9 last0 :=
  (Exact0.dat (U := ExactRun.UA) W c).arrAt_eq_of_after_last 9 last0 (by decide +kernel) _ (fun _ => (congrFun (after0_eq W c 9 last0) _).trans (out0_congr W 9 rfl fun _ => rfl))

theorem ix1_10 : ∀ t : Fin cfg1.N, win1_10.index t = ![0, t.val] := (by decide +kernel : ∀ t : Fin grid1.N, win1_10.index t = ![0, t.val])
theorem out1_10 (W : Valuation τ sig (Elt Ideal)) (c : Dev nD) (d : Fin 192) (j : Fin 20000) :
    ((Exact1.dat (U := ExactRun.UA) W c).arrAt 10 cfg1.N : Vec Ideal S192x20000 .i8) (ix2 d j)
      = (Exact1.outAt W 10 (pt1 j.val (by omega)) : Vec Ideal S192x1024 .i8) (ix2 d (co j.val)) := by
  refine congrFun ((Exact1.dat (U := ExactRun.UA) W c).arrAt_eq_of_covers 10
    (fun i : S192x20000.Idx => (Exact1.outAt W 10 (pt1 (i 1).val (by have : (i 1).val < 20000 := (i 1).isLt; omega)) : Vec Ideal S192x1024 .i8) (ix2 (i 0) (co (i 1).val)) : Vec Ideal S192x20000 .i8)
    (by decide +kernel) (fun t hf y => ?_)) (ix2 d j)
  have ht : t.val < 20 := t.isLt
  have hy : (y 1).val < 1024 := Nat.lt_of_lt_of_le (y 1).isLt ((cfg1.win 10).xsize_le (cfg1.grid.coords t) 1)
  blk_simp [ix1_10]
  refine (congrFun (after1_eq W c 10 t) _).trans ?_
  refine out1_congr W 10 (Fin.ext (by show t.val = (t.val * 1024 + (y 1).val) / 1024; omega)) fun a => ?_
  match a with
  | ⟨0, _⟩ => show (y 0).val = ((win1_10.blk t).view.emb y 0).val; blk_simp [ix1_10]
  | ⟨1, _⟩ => show (y 1).val = (t.val * 1024 + (y 1).val) % 1024; omega

theorem ix1_11 : ∀ t : Fin cfg1.N, win1_11.index t = ![0, t.val] := (by decide +kernel : ∀ t : Fin grid1.N, win1_11.index t = ![0, t.val])
theorem out1_11 (W : Valuation τ sig (Elt Ideal)) (c : Dev nD) (j : Fin 20000) :
    ((Exact1.dat (U := ExactRun.UA) W c).arrAt 11 cfg1.N : Vec Ideal S1x20000 .f32) (ix2 0 j)
      = (Exact1.outAt W 11 (pt1 j.val (by omega)) : Vec Ideal S1x1024 .f32) (ix2 0 (co j.val)) := by
  refine congrFun ((Exact1.dat (U := ExactRun.UA) W c).arrAt_eq_of_covers 11
    (fun i : S1x20000.Idx => (Exact1.outAt W 11 (pt1 (i 1).val (by have : (i 1).val < 20000 := (i 1).isLt; omega)) : Vec Ideal S1x1024 .f32) (ix2 0 (co (i 1).val)) : Vec Ideal S1x20000 .f32)
    (by decide +kernel) (fun t hf y => ?_)) (ix2 0 j)
  have ht : t.val < 20 := t.isLt
  have hy : (y 1).val < 1024 := Nat.lt_of_lt_of_le (y 1).isLt ((cfg1.win 11).xsize_le (cfg1.grid.coords t) 1)
  blk_simp [ix1_11]
  refine (congrFun (after1_eq W c 11 t) _).trans ?_
  refine out1_congr W 11 (Fin.ext (by show t.val = (t.val * 1024 + (y 1).val) / 1024; omega)) fun a => ?_
  match a with
  | ⟨0, _⟩ => show (y 0).val = 0; have : (y 0).val < 1 := Nat.lt_of_lt_of_le (y 0).isLt ((cfg1.win 11).xsize_le (cfg1.grid.coords t) 0); omega
  | ⟨1, _⟩ => show (y 1).val = (t.val * 1024 + (y 1).val) % 1024; omega

theorem ix1_12 : ∀ t : Fin cfg1.N, win1_12.index t = ![0, t.val] := (by decide +kernel : ∀ t : Fin grid1.N, win1_12.index t = ![0, t.val])
theorem out1_12 (W : Valuation τ sig (Elt Ideal)) (c : Dev nD) (d : Fin 192) (j : Fin 20000) :
    ((Exact1.dat (U := ExactRun.UA) W c).arrAt 12 cfg1.N : Vec Ideal S192x20000 .i8) (ix2 d j)
      = (Exact1.outAt W 12 (pt1 j.val (by omega)) : Vec Ideal S192x1024 .i8) (ix2 d (co j.val)) := by
  refine congrFun ((Exact1.dat (U := ExactRun.UA) W c).arrAt_eq_of_covers 12
    (fun i : S192x20000.Idx => (Exact1.outAt W 12 (pt1 (i 1).val (by have : (i 1).val < 20000 := (i 1).isLt; omega)) : Vec Ideal S192x1024 .i8) (ix2 (i 0) (co (i 1).val)) : Vec Ideal S192x20000 .i8)
    (by decide +kernel) (fun t hf y => ?_)) (ix2 d j)
  have ht : t.val < 20 := t.isLt
  have hy : (y 1).val < 1024 := Nat.lt_of_lt_of_le (y 1).isLt ((cfg1.win 12).xsize_le (cfg1.grid.coords t) 1)
  blk_simp [ix1_12]
  refine (congrFun (after1_eq W c 12 t) _).trans ?_
  refine out1_congr W 12 (Fin.ext (by show t.val = (t.val * 1024 + (y 1).val) / 1024; omega)) fun a => ?_
  match a with
  | ⟨0, _⟩ => show (y 0).val = ((win1_12.blk t).view.emb y 0).val; blk_simp [ix1_12]
  | ⟨1, _⟩ => show (y 1).val = (t.val * 1024 + (y 1).val) % 1024; omega

theorem ix1_13 : ∀ t : Fin cfg1.N, win1_13.index t = ![0, t.val] := (by decide +kernel : ∀ t : Fin grid1.N, win1_13.index t = ![0, t.val])
theorem out1_13 (W : Valuation τ sig (Elt Ideal)) (c : Dev nD) (j : Fin 20000) :
    ((Exact1.dat (U := ExactRun.UA) W c).arrAt 13 cfg1.N : Vec Ideal S1x20000 .f32) (ix2 0 j)
      = (Exact1.outAt W 13 (pt1 j.val (by omega)) : Vec Ideal S1x1024 .f32) (ix2 0 (co j.val)) := by
  refine congrFun ((Exact1.dat (U := ExactRun.UA) W c).arrAt_eq_of_covers 13
    (fun i : S1x20000.Idx => (Exact1.outAt W 13 (pt1 (i 1).val (by have : (i 1).val < 20000 := (i 1).isLt; omega)) : Vec Ideal S1x1024 .f32) (ix2 0 (co (i 1).val)) : Vec Ideal S1x20000 .f32)
    (by decide +kernel) (fun t hf y => ?_)) (ix2 0 j)
  have ht : t.val < 20 := t.isLt
  have hy : (y 1).val < 1024 := Nat.lt_of_lt_of_le (y 1).isLt ((cfg1.win 13).xsize_le (cfg1.grid.coords t) 1)
  blk_simp [ix1_13]
  refine (congrFun (after1_eq W c 13 t) _).trans ?_
  refine out1_congr W 13 (Fin.ext (by show t.val = (t.val * 1024 + (y 1).val) / 1024; omega)) fun a => ?_
  match a with
  | ⟨0, _⟩ => show (y 0).val = 0; have : (y 0).val < 1 := Nat.lt_of_lt_of_le (y 0).isLt ((cfg1.win 13).xsize_le (cfg1.grid.coords t) 0); omega
  | ⟨1, _⟩ => show (y 1).val = (t.val * 1024 + (y 1).val) % 1024; omega

theorem ix1_14 : ∀ t : Fin cfg1.N, win1_14.index t = ![0, t.val] := (by decide +kernel : ∀ t : Fin grid1.N, win1_14.index t = ![0, t.val])
theorem out1_14 (W : Valuation τ sig (Elt Ideal)) (c : Dev nD) (d : Fin 192) (j : Fin 20000) :
    ((Exact1.dat (U := ExactRun.UA) W c).arrAt 14 cfg1.N : Vec Ideal S192x20000 .bf16) (ix2 d j)
      = (Exact1.outAt W 14 (pt1 j.val (by omega)) : Vec Ideal S192x1024 .bf16) (ix2 d (co j.val)) := by
  refine congrFun ((Exact1.dat (U := ExactRun.UA) W c).arrAt_eq_of_covers 14
    (fun i : S192x20000.Idx => (Exact1.outAt W 14 (pt1 (i 1).val (by have : (i 1).val < 20000 := (i 1).isLt; omega)) : Vec Ideal S192x1024 .bf16) (ix2 (i 0) (co (i 1).val)) : Vec Ideal S192x20000 .bf16)
    (by decide +kernel) (fun t hf y => ?_)) (ix2 d j)
  have ht : t.val < 20 := t.isLt
  have hy : (y 1).val < 1024 := Nat.lt_of_lt_of_le (y 1).isLt ((cfg1.win 14).xsize_le (cfg1.grid.coords t) 1)
  blk_simp [ix1_14]
  refine (congrFun (after1_eq W c 14 t) _).trans ?_
  refine out1_congr W 14 (Fin.ext (by show t.val = (t.val * 1024 + (y 1).val) / 1024; omega)) fun a => ?_
  match a with
  | ⟨0, _⟩ => show (y 0).val = ((win1_14.blk t).view.emb y 0).val; blk_simp [ix1_14]
  | ⟨1, _⟩ => show (y 1).val = (t.val * 1024 + (y 1).val) % 1024; omega

theorem out1_15 (W : Valuation τ sig (Elt Ideal)) (c : Dev nD) :
    (Exact1.dat (U := ExactRun.UA) W c).arrAt 15 cfg1.N = Exact1.outAt W 15 Exact1.tL :=
  (Exact1.dat (U := ExactRun.UA) W c).arrAt_eq_of_after_last 15 Exact1.tL (by decide +kernel) _ (fun _ => (congrFun (after1_eq W c 15 Exact1.tL) _).trans (out1_congr W 15 rfl fun _ => rfl))

theorem out1_16 (W : Valuation τ sig (Elt Ideal)) (c : Dev nD) :
    (Exact1.dat (U := ExactRun.UA) W c).arrAt 16 cfg1.N = Exact1.outAt W 16 Exact1.tL :=
  (Exact1.dat (U := ExactRun.UA) W c).arrAt_eq_of_after_last 16 Exact1.tL (by decide +kernel) _ (fun _ => (congrFun (after1_eq W c 16 Exact1.tL) _).trans (out1_congr W 16 rfl fun _ => rfl))

theorem out1_17 (W : Valuation τ sig (Elt Ideal)) (c : Dev nD) :
    (Exact1.dat (U := ExactRun.UA) W c).arrAt 17 cfg1.N = Exact1.outAt W 17 Exact1.tL :=
  (Exact1.dat (U := ExactRun.UA) W c).arrAt_eq_of_after_last 17 Exact1.tL (by decide +kernel) _ (fun _ => (congrFun (after1_eq W c 17 Exact1.tL) _).trans (out1_congr W 17 rfl fun _ => rfl))

theorem out1_18 (W : Valuation τ sig (Elt Ideal)) (c : Dev nD) :
    (Exact1.dat (U := ExactRun.UA) W c).arrAt 18 cfg1.N = Exact1.outAt W 18 Exact1.tL :=
  (Exact1.dat (U := ExactRun.UA) W c).arrAt_eq_of_after_last 18 Exact1.tL (by decide +kernel) _ (fun _ => (congrFun (after1_eq W c 18 Exact1.tL) _).trans (out1_congr W 18 rfl fun _ => rfl))

theorem out1_19 (W : Valuation τ sig (Elt Ideal)) (c : Dev nD) :
    (Exact1.dat (U := ExactRun.UA) W c).arrAt 19 cfg1.N = Exact1.outAt W 19 Exact1.tL :=
  (Exact1.dat (U := ExactRun.UA) W c).arrAt_eq_of_after_last 19 Exact1.tL (by decide +kernel) _ (fun _ => (congrFun (after1_eq W c 19 Exact1.tL) _).trans (out1_congr W 19 rfl fun _ => rfl))

theorem out1_20 (W : Valuation τ sig (Elt Ideal)) (c : Dev nD) :
    (Exact1.dat (U := ExactRun.UA) W c).arrAt 20 cfg1.N = Exact1.outAt W 20 Exact1.tL :=
  (Exact1.dat (U := ExactRun.UA) W c).arrAt_eq_of_after_last 20 Exact1.tL (by decide +kernel) _ (fun _ => (congrFun (after1_eq W c 20 Exact1.tL) _).trans (out1_congr W 20 rfl fun _ => rfl))

theorem out1_21 (W : Valuation τ sig (Elt Ideal)) (c : Dev nD) :
    (Exact1.dat (U := ExactRun.UA) W c).arrAt 21 cfg1.N = Exact1.outAt W 21 Exact1.tL :=
  (Exact1.dat (U := ExactRun.UA) W c).arrAt_eq_of_after_last 21 Exact1.tL (by decide +kernel) _ (fun _ => (congrFun (after1_eq W c 21 Exact1.tL) _).trans (out1_congr W 21 rfl fun _ => rfl))

theorem ix1_1 : ∀ t : Fin cfg1.N, win1_1.index t = ![0, t.val] := (by decide +kernel : ∀ t : Fin grid1.N, win1_1.index t = ![0, t.val])
theorem xs1_1 : ∀ t : Fin cfg1.N, win1_1.xsize (cfg1.grid.coords t) 0 = 192 ∧ win1_1.xsize (cfg1.grid.coords t) 1 = min 1024 (20000 - 1024 * t.val) :=
  (by decide +kernel : ∀ t : Fin grid1.N, win1_1.xsize (grid1.coords t) 0 = 192 ∧ win1_1.xsize (grid1.coords t) 1 = min 1024 (20000 - 1024 * t.val))
theorem y2_at (W : Valuation τ sig (Elt Ideal)) (t : Fin cfg1.N) (D : Vec Ideal S192x1024 .i8) (d : Fin 192) (k : Fin 1024) (h : 1024 * t.val + k.val < 20000) :
    (cfg1.win 1).fill (cfg1.grid.coords t) D (((cfg1.win 1).blk t).view.read (Elt Ideal) (W (Proc.devRef .tc (Pipeline.arrRef spec1 1)))) (ix2 d k)
      = (W (Proc.devRef .tc main_v12) : Vec Ideal S192x20000 .i8) (ix2 d ⟨1024 * t.val + k.val, h⟩) := by
  refine (fill_at win1_1 _ _ _ (ix2 d k) (fun a => ?_)).trans ?_
  · match a with
    | ⟨0, _⟩ => show (d : Fin 192).val < win1_1.xsize _ 0; rw [(xs1_1 t).1]; exact d.isLt
    | ⟨1, _⟩ => show k.val < win1_1.xsize _ 1; rw [(xs1_1 t).2]; have := k.isLt; omega
  · refine congrArg (W (Proc.devRef .tc main_v12) : Vec Ideal S192x20000 .i8) ?_
    blk_ext [ix1_1]
theorem ix1_2 : ∀ t : Fin cfg1.N, win1_2.index t = ![0, t.val] := (by decide +kernel : ∀ t : Fin grid1.N, win1_2.index t = ![0, t.val])
theorem xs1_2 : ∀ t : Fin cfg1.N, win1_2.xsize (cfg1.grid.coords t) 0 = 1 ∧ win1_2.xsize (cfg1.grid.coords t) 1 = min 1024 (20000 - 1024 * t.val) :=
  (by decide +kernel : ∀ t : Fin grid1.N, win1_2.xsize (grid1.coords t) 0 = 1 ∧ win1_2.xsize (grid1.coords t) 1 = min 1024 (20000 - 1024 * t.val))
theorem y3_at (W : Valuation τ sig (Elt Ideal)) (t : Fin cfg1.N) (D : Vec Ideal S1x1024 .f32) (k : Fin 1024) (h : 1024 * t.val + k.val < 20000) :
    (cfg1.win 2).fill (cfg1.grid.coords t) D (((cfg1.win 2).blk t).view.read (Elt Ideal) (W (Proc.devRef .tc (Pipeline.arrRef spec1 2)))) (ix2 0 k)
      = (W (Proc.devRef .tc main_v10) : Vec Ideal S1x20000 .f32) (ix2 0 ⟨1024 * t.val + k.val, h⟩) := by
  refine (fill_at win1_2 _ _ _ (ix2 0 k) (fun a => ?_)).trans ?_
  · match a with
    | ⟨0, _⟩ => show (0 : Fin 1).val < win1_2.xsize _ 0; rw [(xs1_2 t).1]; exact Nat.one_pos
    | ⟨1, _⟩ => show k.val < win1_2.xsize _ 1; rw [(xs1_2 t).2]; have := k.isLt; omega
  · refine congrArg (W (Proc.devRef .tc main_v10) : Vec Ideal S1x20000 .f32) ?_
    blk_ext [ix1_2]
theorem ix1_3 : ∀ t : Fin cfg1.N, win1_3.index t = ![0, t.val] := (by decide +kernel : ∀ t : Fin grid1.N, win1_3.index t = ![0, t.val])
theorem xs1_3 : ∀ t : Fin cfg1.N, win1_3.xsize (cfg1.grid.coords t) 0 = 192 ∧ win1_3.xsize (cfg1.grid.coords t) 1 = min 1024 (20000 - 1024 * t.val) :=
  (by decide +kernel : ∀ t : Fin grid1.N, win1_3.xsize (grid1.coords t) 0 = 192 ∧ win1_3.xsize (grid1.coords t) 1 = min 1024 (20000 - 1024 * t.val))
theorem y4_at (W : Valuation τ sig (Elt Ideal)) (t : Fin cfg1.N) (D : Vec Ideal S192x1024 .i8) (d : Fin 192) (k : Fin 1024) (h : 1024 * t.val + k.val < 20000) :
    (cfg1.win 3).fill (cfg1.grid.coords t) D (((cfg1.win 3).blk t).view.read (Elt Ideal) (W (Proc.devRef .tc (Pipeline.arrRef spec1 3)))) (ix2 d k)
      = (W (Proc.devRef .tc main_v13_0) : Vec Ideal S192x20000 .i8) (ix2 d ⟨1024 * t.val + k.val, h⟩) := by
  refine (fill_at win1_3 _ _ _ (ix2 d k) (fun a => ?_)).trans ?_
  · match a with
    | ⟨0, _⟩ => show (d : Fin 192).val < win1_3.xsize _ 0; rw [(xs1_3 t).1]; exact d.isLt
    | ⟨1, _⟩ => show k.val < win1_3.xsize _ 1; rw [(xs1_3 t).2]; have := k.isLt; omega
  · refine congrArg (W (Proc.devRef .tc main_v13_0) : Vec Ideal S192x20000 .i8) ?_
    blk_ext [ix1_3]
theorem ix1_4 : ∀ t : Fin cfg1.N, win1_4.index t = ![0, t.val] := (by decide +kernel : ∀ t : Fin grid1.N, win1_4.index t = ![0, t.val])
theorem xs1_4 : ∀ t : Fin cfg1.N, win1_4.xsize (cfg1.grid.coords t) 0 = 1 ∧ win1_4.xsize (cfg1.grid.coords t) 1 = min 1024 (20000 - 1024 * t.val) :=
  (by decide +kernel : ∀ t : Fin grid1.N, win1_4.xsize (grid1.coords t) 0 = 1 ∧ win1_4.xsize (grid1.coords t) 1 = min 1024 (20000 - 1024 * t.val))
theorem y5_at (W : Valuation τ sig (Elt Ideal)) (t : Fin cfg1.N) (D : Vec Ideal S1x1024 .f32) (k : Fin 1024) (h : 1024 * t.val + k.val < 20000) :
    (cfg1.win 4).fill (cfg1.grid.coords t) D (((cfg1.win 4).blk t).view.read (Elt Ideal) (W (Proc.devRef .tc (Pipeline.arrRef spec1 4)))) (ix2 0 k)
      = (W (Proc.devRef .tc main_v13_1) : Vec Ideal S1x20000 .f32) (ix2 0 ⟨1024 * t.val + k.val, h⟩) := by
  refine (fill_at win1_4 _ _ _ (ix2 0 k) (fun a => ?_)).trans ?_
  · match a with
    | ⟨0, _⟩ => show (0 : Fin 1).val < win1_4.xsize _ 0; rw [(xs1_4 t).1]; exact Nat.one_pos
    | ⟨1, _⟩ => show k.val < win1_4.xsize _ 1; rw [(xs1_4 t).2]; have := k.isLt; omega
  · refine congrArg (W (Proc.devRef .tc main_v13_1) : Vec Ideal S1x20000 .f32) ?_
    blk_ext [ix1_4]
theorem y1_at (W : Valuation τ sig (Elt Ideal)) (t : Fin cfg1.N) (s : Fin 8) (q : Fin 384) (l : Fin 128) :
    Exact1.x1 W t (ix3 s q l) = (W (Proc.devRef .tc main_arg5) : Vec Ideal S160x384x128 .i32) (ix3 ⟨8 * t.val + s.val, by have := t.isLt; have := Exact1.N_eq; omega⟩ q l) := by
  refine congrArg (W (Proc.devRef .tc main_arg5) : Vec Ideal S160x384x128 .i32) ?_
  blk_ext [ix1_0]
theorem ix1_5 : ∀ t : Fin cfg1.N, win1_5.index t = ![0, t.val] := (by decide +kernel : ∀ t : Fin grid1.N, win1_5.index t = ![0, t.val])
theorem y6_at (W : Valuation τ sig (Elt Ideal)) (t : Fin cfg1.N) (k : Fin 1024) :
    Exact1.x6 W t (ix2 0 k) = (W (Proc.devRef .tc main_v13_2) : Vec Ideal S1x20480 .f32) (ix2 0 ⟨1024 * t.val + k.val, by have := t.isLt; have := Exact1.N_eq; omega⟩) := by
  refine congrArg (W (Proc.devRef .tc main_v13_2) : Vec Ideal S1x20480 .f32) ?_
  blk_ext [ix1_5]
theorem ix1_6 : ∀ t : Fin cfg1.N, win1_6.index t = ![0, 0] := (by decide +kernel : ∀ t : Fin grid1.N, win1_6.index t = ![0, 0])
theorem y7_at (W : Valuation τ sig (Elt Ideal)) (t : Fin cfg1.N) (d : Fin 384) (u : Fin 1536) :
    Exact1.x7 W t (ix2 d u) = (W (Proc.devRef .tc main_v13_3) : Vec Ideal S384x1536 .f32) (ix2 d u) := by
  refine congrArg (W (Proc.devRef .tc main_v13_3) : Vec Ideal S384x1536 .f32) ?_
  blk_ext [ix1_6]
theorem ix1_7 : ∀ t : Fin cfg1.N, win1_7.index t = ![0, 0] := (by decide +kernel : ∀ t : Fin grid1.N, win1_7.index t = ![0, 0])
theorem y8_at (W : Valuation τ sig (Elt Ideal)) (t : Fin cfg1.N) (d : Fin 192) (u : Fin 1536) :
    Exact1.x8 W t (ix2 d u) = (W (Proc.devRef .tc main_v11) : Vec Ideal S192x1536 .i8) (ix2 d u) := by
  refine congrArg (W (Proc.devRef .tc main_v11) : Vec Ideal S192x1536 .i8) ?_
  blk_ext [ix1_7]
theorem ix1_8 : ∀ t : Fin cfg1.N, win1_8.index t = ![0, 0] := (by decide +kernel : ∀ t : Fin grid1.N, win1_8.index t = ![0, 0])
theorem y9_at (W : Valuation τ sig (Elt Ideal)) (t : Fin cfg1.N) (d : Fin 1) (u : Fin 1536) :
    Exact1.x9 W t (ix2 d u) = (W (Proc.devRef .tc main_v9) : Vec Ideal S1x1536 .f32) (ix2 d u) := by
  refine congrArg (W (Proc.devRef .tc main_v9) : Vec Ideal S1x1536 .f32) ?_
  blk_ext [ix1_8]
theorem ix1_9 : ∀ t : Fin cfg1.N, win1_9.index t = ![0, 0] := (by decide +kernel : ∀ t : Fin grid1.N, win1_9.index t = ![0, 0])
theorem y10_at (W : Valuation τ sig (Elt Ideal)) (t : Fin cfg1.N) (d : Fin 1) (u : Fin 1536) :
    Exact1.x10 W t (ix2 d u) = (W (Proc.devRef .tc main_v8) : Vec Ideal S1x1536 .f32) (ix2 d u) := by
  refine congrArg (W (Proc.devRef .tc main_v8) : Vec Ideal S1x1536 .f32) ?_
  blk_ext [ix1_9]

end Cert.KernelIdeal.Reads
end
-- ==== Proof.Ideal.Sums.lean ====
module

public import proofs.«01_k».proof.Proof.Ideal.ExactRun
public import proofs.«01_k».proof.Proof.Ideal.KVals0
public import proofs.«01_k».proof.Proof.Ideal.KVals1
public import Idealize.ShloMosaic.Lib.Pipeline.ValueKit.Geometry
public import Idealize.ShloMosaic.Lib.Pointwise

@[expose] public section

set_option maxRecDepth 16384

noncomputable section

/-! The counts summed: a sum over the item blocks is the sum over all items, and the weights in two factors are the weights of the edges. -/
namespace Cert.KernelIdeal.Sums

open Cert Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Counts Cert.KernelIdeal.KGen

/-- The edges between a user and an item slot, as the packed words hold them; slots past the packed ones have none. -/
def cnt (w : Vec Ideal S160x384x128 .i32) (u : Fin 1536) (j : ℕ) : ℝ :=
  if h : j < 20480 then ((Bits.by4 (w (ix3 ⟨j / 128, by omega⟩ ⟨u.val / 4, by omega⟩ ⟨j % 128, by omega⟩)) (u.val % 4) : ℕ) : ℝ) else 0

/-- An item's degree. -/
def dI (w : Vec Ideal S160x384x128 .i32) (j : ℕ) : ℝ := ∑ u, cnt w u j

/-- The normalised weight of an edge: its count times the inverse square roots of the two degrees. -/
def Wt (w : Vec Ideal S160x384x128 .i32) (r : Fin 1536 → EReal) (u : Fin 1536) (j : Fin 20000) : EReal :=
  ((cnt w u j.val : ℝ) : EReal) * (r u * rd (dI w j.val))

theorem Wt_isR (w : Vec Ideal S160x384x128 .i32) (r : Fin 1536 → EReal) (hr : ∀ u, Model.IsR (r u)) (u : Fin 1536) (j : Fin 20000) :
    Model.IsR (Wt w r u j) := (Model.IsR.coe _).mul ((hr u).mul (rd_isR _))

/-- One slot's term of a user's sum, before the user's own factor. -/
def term (w : Vec Ideal S160x384x128 .i32) (x : Fin 20000 → Fin 192 → EReal) (u : Fin 1536) (d : Fin 192) (j : ℕ) : EReal :=
  if h : j < 20000 then (x ⟨j, h⟩ d * rd (dI w j)) * ((cnt w u j : ℝ) : EReal) else 0

/-- A sum taken block after block. -/
theorem blocks (f : ℕ → EReal) (n : ℕ) : (∑ t ∈ Finset.range n, ∑ k : Fin 1024, f (1024 * t + k.val)) = ∑ j ∈ Finset.range (1024 * n), f j := by
  induction n with
  | zero => simp
  | succ n ih =>
    rw [Finset.sum_range_succ, ih, show 1024 * (n + 1) = 1024 * n + 1024 by ring, Finset.sum_range_add, Fin.sum_univ_eq_sum_range (fun k => f (1024 * n + k))]

theorem sum_term (w : Vec Ideal S160x384x128 .i32) (r : Fin 1536 → EReal) (hr : ∀ u, Model.IsR (r u)) (x : Fin 20000 → Fin 192 → EReal) (hx : ∀ j d, Model.IsR (x j d))
    (u : Fin 1536) (d : Fin 192) :
    (∑ t ∈ Finset.range 20, ∑ k : Fin 1024, term w x u d (1024 * t + k.val)) * r u = Model.toU (Wt w r) x u d := by
  rw [blocks]
  have e : ∑ j ∈ Finset.range (1024 * 20), term w x u d j = ∑ j ∈ Finset.range 20000, term w x u d j := by
    refine (Finset.sum_subset (fun j hj => ?_) fun j _ hj => ?_).symm
    · rw [Finset.mem_range] at hj ⊢; omega
    · rw [Finset.mem_range] at hj; exact dif_neg hj
  rw [e, Finset.sum_range]
  have ht : ∀ j : Fin 20000, term w x u d j.val = (x j d * rd (dI w j.val)) * ((cnt w u j.val : ℝ) : EReal) := fun j => dif_pos j.isLt
  rw [Finset.sum_congr rfl fun j _ => ht j, Model.sum_mul_coe _ _ (fun j => ((hx _ _).mul (rd_isR _)).mul (Model.IsR.coe _)) (hr u)]
  refine Finset.sum_congr rfl fun j _ => ?_
  unfold Wt
  ac_rfl

theorem sum_item (w : Vec Ideal S160x384x128 .i32) (r : Fin 1536 → EReal) (hr : ∀ u, Model.IsR (r u)) (x : Fin 1536 → Fin 192 → EReal) (hx : ∀ u d, Model.IsR (x u d))
    (j : Fin 20000) (d : Fin 192) :
    (∑ u, (x u d * r u) * ((cnt w u j.val : ℝ) : EReal)) * rd (dI w j.val) = Model.toI (Wt w r) x j d := by
  rw [Model.sum_mul_coe _ _ (fun u => ((hx _ _).mul (hr u)).mul (Model.IsR.coe _)) (rd_isR _)]
  refine Finset.sum_congr rfl fun u _ => ?_
  unfold Wt
  ac_rfl

theorem rd_zero : rd 0 = 0 := if_neg (lt_irrefl 0)

theorem rd_ite (x : EReal) (e : ℝ) : (if 0 < rd e then x * rd e else 0) = x * rd e := by
  by_cases h : 0 < rd e
  · rw [if_pos h]
  · rw [if_neg h]
    unfold rd at h ⊢
    by_cases he : 0 < e
    · rw [if_pos he] at h
      exact absurd (by exact_mod_cast inv_pos.mpr (Real.sqrt_pos.mpr he)) h
    · rw [if_neg he, mul_zero]

/-- The words' bytes in a block, read off the whole array. -/
theorem cB_eq (w : Vec Ideal S160x384x128 .i32) (x : Vec Ideal S8x384x128 .i32) (t : ℕ) (ht : t < 20)
    (hx : ∀ (s : Fin 8) (q : Fin 384) (l : Fin 128), x (ix3 s q l) = w (ix3 ⟨8 * t + s.val, by omega⟩ q l)) (u : Fin 1536) (k : Fin 1024) :
    cB x u k = cnt w u (1024 * t + k.val) := by
  unfold cB cnt
  rw [dif_pos (by omega), hx]
  congr 4
  · exact Fin.ext (by show 8 * t + k.val / 128 = (1024 * t + k.val) / 128; omega)
  · exact Fin.ext (by show k.val % 128 = (1024 * t + k.val) % 128; omega)

theorem dB_eq (w : Vec Ideal S160x384x128 .i32) (x : Vec Ideal S8x384x128 .i32) (t : ℕ) (ht : t < 20)
    (hx : ∀ (s : Fin 8) (q : Fin 384) (l : Fin 128), x (ix3 s q l) = w (ix3 ⟨8 * t + s.val, by omega⟩ q l)) (k : Fin 1024) :
    dB x k = dI w (1024 * t + k.val) := Finset.sum_congr rfl fun u _ => cB_eq w x t ht hx u k

theorem dI_zero (w : Vec Ideal S160x384x128 .i32) (hZ : ∀ u j, 20000 ≤ j → cnt w u j = 0) (j : ℕ) (hj : 20000 ≤ j) : rd (dI w j) = 0 := by
  unfold dI; rw [Finset.sum_eq_zero fun u _ => hZ u j hj, rd_zero]

end Cert.KernelIdeal.Sums
end
-- ==== Proof.Ideal.Val0.lean ====
module

public import proofs.«01_k».proof.Proof.Ideal.ExactRun
public import proofs.«01_k».proof.Proof.Ideal.KVals0
public import proofs.«01_k».proof.Proof.Ideal.KVals1
public import Idealize.ShloMosaic.Lib.Pipeline.ValueKit.Geometry
public import Idealize.ShloMosaic.Lib.Pointwise
public import proofs.«01_k».proof.Proof.Ideal.Reads
public import proofs.«01_k».proof.Proof.Ideal.Sums

@[expose] public section

set_option maxRecDepth 16384

noncomputable section

/-! The first call's arrays after its last step: the items' first layer and the users' sums of the first two. -/
namespace Cert.KernelIdeal.Val0

open Cert Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Counts Cert.KernelIdeal.KGen

open Cert.KernelIdeal.Sums

/-- What the first call's proof uses of the arrays it is entered with. -/
structure Entry (W : Valuation τ sig (Elt Ideal)) (w : Vec Ideal S160x384x128 .i32) (r : Fin 1536 → EReal)
    (u0 : Fin 1536 → Fin 192 → EReal) (i0 : Fin 20000 → Fin 192 → EReal) : Prop where
  words : (W (Proc.devRef .tc main_arg5) : Vec Ideal S160x384x128 .i32) = w
  small : ∀ i, Bits.Small (w i)
  tail : ∀ u j, 20000 ≤ j → cnt w u j = 0
  rdu : ∀ u, (W (Proc.devRef .tc main_v8) : Vec Ideal S1x1536 .f32) (ix2 0 u) = r u
  rdu_isR : ∀ u, Model.IsR (r u)
  users : ∀ u d, (((((W (Proc.devRef .tc main_v11) : Vec Ideal S192x1536 .i8) (ix2 d u)).toInt : ℝ) : EReal)
    * (W (Proc.devRef .tc main_v9) : Vec Ideal S1x1536 .f32) (ix2 0 u)) = u0 u d
  users_isR : ∀ u d, Model.IsR (u0 u d)
  items : ∀ j d, (((((W (Proc.devRef .tc main_v12) : Vec Ideal S192x20000 .i8) (ix2 d j)).toInt : ℝ) : EReal)
    * (W (Proc.devRef .tc main_v10) : Vec Ideal S1x20000 .f32) (ix2 0 j)) = i0 j d
  items_isR : ∀ j d, Model.IsR (i0 j d)

section Call0
variable {W : Valuation τ sig (Elt Ideal)} {w : Vec Ideal S160x384x128 .i32} {r : Fin 1536 → EReal}
  {u0 : Fin 1536 → Fin 192 → EReal} {i0 : Fin 20000 → Fin 192 → EReal} (E : Entry W w r u0 i0)
include E

theorem x1_read (t : Fin cfg0.N) (s : Fin 8) (q : Fin 384) (l : Fin 128) :
    Exact0.x1 W t (ix3 s q l) = w (ix3 ⟨8 * t.val + s.val, by have := t.isLt; have := Exact0.N_eq; omega⟩ q l) := by
  rw [Reads.x1_at, E.words]

theorem x1_small (t : Fin cfg0.N) (i) : Bits.Small (Exact0.x1 W t i) := by
  rw [show Exact0.x1 W t i = _ from (congrArg (Exact0.x1 W t) (eq_ix3 i)).trans (x1_read E t (i 0) (i 1) (i 2))]; exact E.small _

theorem cB0 (t : Fin cfg0.N) (u : Fin 1536) (k : Fin 1024) : cB (Exact0.x1 W t) u k = cnt w u (1024 * t.val + k.val) :=
  cB_eq w _ t.val (by have := t.isLt; have := Exact0.N_eq; omega) (x1_read E t) u k
theorem dB0 (t : Fin cfg0.N) (k : Fin 1024) : dB (Exact0.x1 W t) k = dI w (1024 * t.val + k.val) :=
  dB_eq w _ t.val (by have := t.isLt; have := Exact0.N_eq; omega) (x1_read E t) k
theorem rdi0 (t : Fin cfg0.N) (k : Fin 1024) : Body0.rdi (Exact0.x1 W t) (ix2 0 k) = rd (dI w (1024 * t.val + k.val)) := by
  rw [rdi_at _ (x1_small E t), dB0 E]

theorem yU0 (t : Fin cfg0.N) (d : Fin 192) (u : Fin 1536) : KVals0.yU (Exact0.x4 W t) (Exact0.x5 W t) (Exact0.x6 W t) d u = u0 u d * r u := by
  unfold KVals0.yU
  rw [Reads.x4_at, Reads.x5_at, Reads.x6_at, E.rdu, ← mul_assoc, E.users]

theorem vu0 : Split (R := 576) (N := 1536) (Exact0.vu W) 0 (fun d u => u0 u d * r u) := by
  have h := KVals0.pay4_split (Exact0.x4 W ⟨0, Exact0.N_pos⟩) (Exact0.x5 W ⟨0, Exact0.N_pos⟩) (Exact0.x6 W ⟨0, Exact0.N_pos⟩)
  rw [funext fun d => funext fun u => yU0 E ⟨0, Exact0.N_pos⟩ d u] at h
  exact h

theorem i1_sum (t : Fin cfg0.N) (d : Fin 192) (k : Fin 1024) :
    Body0.i1 (Exact0.x1 W t) (Exact0.vu W) (ix2 d k)
      = (∑ u, (u0 u d * r u) * ((cnt w u (1024 * t.val + k.val) : ℝ) : EReal)) * rd (dI w (1024 * t.val + k.val)) := by
  rw [KVals0.i1_at _ (x1_small E t) _ _ (vu0 E) (fun d u => (E.users_isR u d).mul (E.rdu_isR u)), dB0 E]
  exact congrArg (· * _) (Finset.sum_congr rfl fun u _ => by rw [cB0 E])

theorem i1_isR (t : Fin cfg0.N) (d : Fin 192) (k : Fin 1024) : Model.IsR (Body0.i1 (Exact0.x1 W t) (Exact0.vu W) (ix2 d k)) := by
  rw [i1_sum E]
  exact (Model.IsR.sum _ _ fun u => ((E.users_isR u d).mul (E.rdu_isR u)).mul (Model.IsR.coe _)).mul (rd_isR _)

/-- The items' aggregates of the first layer. -/
theorem i1_eq (t : Fin cfg0.N) (k : Fin 1024) (h : 1024 * t.val + k.val < 20000) :
    (fun d => Body0.i1 (Exact0.x1 W t) (Exact0.vu W) (ix2 d k)) = Model.ni1 (Wt w r) u0 ⟨1024 * t.val + k.val, h⟩ := by
  funext d
  rw [i1_sum E]
  exact sum_item w r E.rdu_isR u0 E.users_isR ⟨1024 * t.val + k.val, h⟩ d

theorem yB_isR (t : Fin cfg0.N) (d : Fin 192) (k : Fin 1024) : Model.IsR (KVals0.yB (Exact0.x1 W t) (Exact0.vu W) d k) := by
  unfold KVals0.yB
  rw [rdi0 E]
  exact (Model.code_isR _ _).mul ((Model.scale_isR (by norm_num) _ fun d => i1_isR E t d k).mul (rd_isR _))

/-- The items' terms of the first layer, whatever an overhanging block holds past its array's edge. -/
theorem yA_eq (t : Fin cfg0.N) (x2 : Vec Ideal S192x1024 .i8) (x3 : Vec Ideal S1x1024 .f32)
    (h2 : ∀ (d : Fin 192) (k : Fin 1024) (h : 1024 * t.val + k.val < 20000), x2 (ix2 d k) = (W (Proc.devRef .tc main_v12) : Vec Ideal S192x20000 .i8) (ix2 d ⟨1024 * t.val + k.val, h⟩))
    (h3 : ∀ (k : Fin 1024) (h : 1024 * t.val + k.val < 20000), x3 (ix2 0 k) = (W (Proc.devRef .tc main_v10) : Vec Ideal S1x20000 .f32) (ix2 0 ⟨1024 * t.val + k.val, h⟩))
    (d : Fin 192) (k : Fin 1024) :
    KVals0.yA (Exact0.x1 W t) x2 x3 d k = if h : 1024 * t.val + k.val < 20000 then i0 ⟨1024 * t.val + k.val, h⟩ d * rd (dI w (1024 * t.val + k.val)) else 0 := by
  unfold KVals0.yA
  rw [rdi0 E, rd_ite]
  by_cases h : 1024 * t.val + k.val < 20000
  · rw [dif_pos h, h2 d k h, h3 k h, ← mul_assoc, E.items]
  · rw [dif_neg h, dI_zero w E.tail _ (by omega), mul_zero, mul_zero]

theorem yA_isR (t : Fin cfg0.N) (x2 : Vec Ideal S192x1024 .i8) (x3 : Vec Ideal S1x1024 .f32)
    (h2 : ∀ (d : Fin 192) (k : Fin 1024) (h : 1024 * t.val + k.val < 20000), x2 (ix2 d k) = (W (Proc.devRef .tc main_v12) : Vec Ideal S192x20000 .i8) (ix2 d ⟨1024 * t.val + k.val, h⟩))
    (h3 : ∀ (k : Fin 1024) (h : 1024 * t.val + k.val < 20000), x3 (ix2 0 k) = (W (Proc.devRef .tc main_v10) : Vec Ideal S1x20000 .f32) (ix2 0 ⟨1024 * t.val + k.val, h⟩))
    (d : Fin 192) (k : Fin 1024) : Model.IsR (KVals0.yA (Exact0.x1 W t) x2 x3 d k) := by
  rw [yA_eq E t x2 x3 h2 h3]
  split
  · exact (E.items_isR _ _).mul (rd_isR _)
  · exact Model.IsR.zero

theorem x2_fill (t : Fin cfg0.N) (D : Vec Ideal S192x1024 .i8) (d : Fin 192) (k : Fin 1024) (h : 1024 * t.val + k.val < 20000) :
    (cfg0.win 1).fill (cfg0.grid.coords t) D (((cfg0.win 1).blk t).view.read (Elt Ideal) (W (Proc.devRef .tc (Pipeline.arrRef spec0 1)))) (ix2 d k)
      = (W (Proc.devRef .tc main_v12) : Vec Ideal S192x20000 .i8) (ix2 d ⟨1024 * t.val + k.val, h⟩) := by
  have hb : ∀ a, ((ix2 d k : (cfg0.win 1).block.Idx) a).val < (cfg0.win 1).xsize (cfg0.grid.coords t) a := fun a => by
    match a with
    | ⟨0, _⟩ => show d.val < win0_1.xsize _ 0; rw [(Reads.xs0_1 t).1]; exact d.isLt
    | ⟨1, _⟩ => show k.val < win0_1.xsize _ 1; rw [(Reads.xs0_1 t).2]; have := k.isLt; omega
  refine (Reads.fill_at win0_1 _ _ _ (ix2 d k) hb).trans ?_
  exact (Reads.fill_at win0_1 _ _ _ (ix2 d k) hb).symm.trans (Reads.x2_at W t d k h)

theorem x3_fill (t : Fin cfg0.N) (D : Vec Ideal S1x1024 .f32) (k : Fin 1024) (h : 1024 * t.val + k.val < 20000) :
    (cfg0.win 2).fill (cfg0.grid.coords t) D (((cfg0.win 2).blk t).view.read (Elt Ideal) (W (Proc.devRef .tc (Pipeline.arrRef spec0 2)))) (ix2 0 k)
      = (W (Proc.devRef .tc main_v10) : Vec Ideal S1x20000 .f32) (ix2 0 ⟨1024 * t.val + k.val, h⟩) := by
  have hb : ∀ a, ((ix2 0 k : (cfg0.win 2).block.Idx) a).val < (cfg0.win 2).xsize (cfg0.grid.coords t) a := fun a => by
    match a with
    | ⟨0, _⟩ => show (0 : Fin 1).val < win0_2.xsize _ 0; rw [(Reads.xs0_2 t).1]; exact Nat.one_pos
    | ⟨1, _⟩ => show k.val < win0_2.xsize _ 1; rw [(Reads.xs0_2 t).2]; have := k.isLt; omega
  refine (Reads.fill_at win0_2 _ _ _ (ix2 0 k) hb).trans ?_
  exact (Reads.fill_at win0_2 _ _ _ (ix2 0 k) hb).symm.trans (Reads.x3_at W t k h)

theorem sumA (t : Fin cfg0.N) (x2 : Vec Ideal S192x1024 .i8) (x3 : Vec Ideal S1x1024 .f32)
    (h2 : ∀ (d : Fin 192) (k : Fin 1024) (h : 1024 * t.val + k.val < 20000), x2 (ix2 d k) = (W (Proc.devRef .tc main_v12) : Vec Ideal S192x20000 .i8) (ix2 d ⟨1024 * t.val + k.val, h⟩))
    (h3 : ∀ (k : Fin 1024) (h : 1024 * t.val + k.val < 20000), x3 (ix2 0 k) = (W (Proc.devRef .tc main_v10) : Vec Ideal S1x20000 .f32) (ix2 0 ⟨1024 * t.val + k.val, h⟩))
    (d : Fin 192) (u : Fin 1536) :
    (∑ k, KVals0.yA (Exact0.x1 W t) x2 x3 d k * ((cB (Exact0.x1 W t) u k : ℝ) : EReal)) = ∑ k : Fin 1024, term w i0 u d (1024 * t.val + k.val) := by
  refine Finset.sum_congr rfl fun k _ => ?_
  rw [yA_eq E t x2 x3 h2 h3, cB0 E]
  unfold term
  by_cases h : 1024 * t.val + k.val < 20000
  · rw [dif_pos h, dif_pos h]
  · rw [dif_neg h, dif_neg h, zero_mul]

theorem sumB (t : Fin cfg0.N) (d : Fin 192) (u : Fin 1536) :
    (∑ k, KVals0.yB (Exact0.x1 W t) (Exact0.vu W) d k * ((cB (Exact0.x1 W t) u k : ℝ) : EReal))
      = ∑ k : Fin 1024, term w (Model.deqs (Model.ni1 (Wt w r) u0)) u d (1024 * t.val + k.val) := by
  refine Finset.sum_congr rfl fun k _ => ?_
  unfold KVals0.yB
  rw [rdi0 E, cB0 E]
  unfold term
  by_cases h : 1024 * t.val + k.val < 20000
  · rw [dif_pos h, i1_eq E t k h, ← mul_assoc]; rfl
  · rw [dif_neg h, E.tail u _ (by omega)]; exact mul_zero _

/-- One point adds its slots' terms to the users' sums. -/
theorem o10_step (t : Fin cfg0.N) (x2 : Vec Ideal S192x1024 .i8) (x3 : Vec Ideal S1x1024 .f32)
    (h2 : ∀ (d : Fin 192) (k : Fin 1024) (h : 1024 * t.val + k.val < 20000), x2 (ix2 d k) = (W (Proc.devRef .tc main_v12) : Vec Ideal S192x20000 .i8) (ix2 d ⟨1024 * t.val + k.val, h⟩))
    (h3 : ∀ (k : Fin 1024) (h : 1024 * t.val + k.val < 20000), x3 (ix2 0 k) = (W (Proc.devRef .tc main_v10) : Vec Ideal S1x20000 .f32) (ix2 0 ⟨1024 * t.val + k.val, h⟩))
    (G : Vec Ideal S384x1536 .f32) (d : Fin 192) (u : Fin 1536) :
    Body0.o10 (Exact0.x1 W t) x2 x3 (Exact0.vu W) G (ix2 ⟨d.val, by omega⟩ u) = G (ix2 ⟨d.val, by omega⟩ u) + ∑ k : Fin 1024, term w i0 u d (1024 * t.val + k.val)
    ∧ Body0.o10 (Exact0.x1 W t) x2 x3 (Exact0.vu W) G (ix2 ⟨192 + d.val, by omega⟩ u)
      = G (ix2 ⟨192 + d.val, by omega⟩ u) + ∑ k : Fin 1024, term w (Model.deqs (Model.ni1 (Wt w r) u0)) u d (1024 * t.val + k.val) := by
  have h := KVals0.o10_at (Exact0.x1 W t) (x1_small E t) x2 x3 (Exact0.vu W) (yA_isR E t x2 x3 h2 h3) (yB_isR E t) G d u
  rw [sumA E t x2 x3 h2 h3, sumB E] at h
  exact h

theorem edgeFree : Exact0.EdgeFree W := by
  intro t d1 d2 G
  suffices h : ∀ (q : Fin 384) (u : Fin 1536),
      Body0.o10 (Exact0.x1 W t) ((cfg0.win 1).fill (cfg0.grid.coords t) d1 (((cfg0.win 1).blk t).view.read (Elt Ideal) (W (Proc.devRef .tc (Pipeline.arrRef spec0 1)))))
        ((cfg0.win 2).fill (cfg0.grid.coords t) d2 (((cfg0.win 2).blk t).view.read (Elt Ideal) (W (Proc.devRef .tc (Pipeline.arrRef spec0 2))))) (Exact0.vu W) G (ix2 q u)
        = Body0.o10 (Exact0.x1 W t) (Exact0.x2 W t) (Exact0.x3 W t) (Exact0.vu W) G (ix2 q u) by
    funext i
    exact (congrArg _ (eq_ix2 i)).trans ((h (i 0) (i 1)).trans (congrArg _ (eq_ix2 i).symm))
  intro q u
  by_cases hq : q.val < 192
  · exact (o10_step E t _ _ (x2_fill E t d1) (x3_fill E t d2) G ⟨q.val, hq⟩ u).1.trans (o10_step E t _ _ (Reads.x2_at W t) (Reads.x3_at W t) G ⟨q.val, hq⟩ u).1.symm
  · have h := (o10_step E t _ _ (x2_fill E t d1) (x3_fill E t d2) G ⟨q.val - 192, by have := q.isLt; omega⟩ u).2.trans
      (o10_step E t _ _ (Reads.x2_at W t) (Reads.x3_at W t) G ⟨q.val - 192, by have := q.isLt; omega⟩ u).2.symm
    have e : (⟨192 + (q.val - 192), by have := q.isLt; omega⟩ : Fin 384) = q := Fin.ext (by show 192 + (q.val - 192) = q.val; omega)
    rw [e] at h
    exact h

theorem g_sum (n : ℕ) (hn : n < cfg0.N) (d : Fin 192) (u : Fin 1536) :
    Exact0.g W n hn (ix2 ⟨d.val, by omega⟩ u) = ∑ t ∈ Finset.range (n + 1), ∑ k : Fin 1024, term w i0 u d (1024 * t + k.val)
    ∧ Exact0.g W n hn (ix2 ⟨192 + d.val, by omega⟩ u) = ∑ t ∈ Finset.range (n + 1), ∑ k : Fin 1024, term w (Model.deqs (Model.ni1 (Wt w r) u0)) u d (1024 * t + k.val) := by
  induction n with
  | zero =>
    have h := o10_step E ⟨0, hn⟩ _ _ (Reads.x2_at W ⟨0, hn⟩) (Reads.x3_at W ⟨0, hn⟩) (k0_pay5 (F := Ideal)) d u
    have z : ∀ i, k0_pay5 (F := Ideal) i = (0 : EReal) := fun i => Model.ofBits_0
    rw [z, z, zero_add, zero_add] at h
    rw [Finset.sum_range_one, Finset.sum_range_one]
    exact h
  | succ n ih =>
    have h := o10_step E ⟨n + 1, hn⟩ _ _ (Reads.x2_at W ⟨n + 1, hn⟩) (Reads.x3_at W ⟨n + 1, hn⟩) (Exact0.g W n (Nat.lt_of_succ_lt hn)) d u
    rw [(ih _).1, (ih _).2] at h
    rw [Finset.sum_range_succ _ (n + 1), Finset.sum_range_succ _ (n + 1)]
    exact h

/-- The users' aggregates of the first two layers. -/
theorem g_last (d : Fin 192) (u : Fin 1536) :
    Exact0.g W 19 (by decide) (ix2 ⟨d.val, by omega⟩ u) * r u = Model.nu1 (Wt w r) i0 u d
    ∧ Exact0.g W 19 (by decide) (ix2 ⟨192 + d.val, by omega⟩ u) * r u = Model.nu2 (Wt w r) u0 u d := by
  rw [(g_sum E 19 (by decide) d u).1, (g_sum E 19 (by decide) d u).2]
  exact ⟨sum_term w r E.rdu_isR i0 E.items_isR u d,
    sum_term w r E.rdu_isR _ (Model.deqs_isR _ (Model.toI_isR (Wt_isR w r E.rdu_isR) E.users_isR)) u d⟩

theorem codes0 (c : Dev nD) (d : Fin 192) (j : Fin 20000) :
    ((Exact0.dat (U := ExactRun.UA) W c).arrAt 6 cfg0.N : Vec Ideal S192x20000 .i8) (ix2 d j) = Model.code8 (Model.ni1 (Wt w r) u0 j) d := by
  rw [Reads.out0_6]
  have e : 1024 * (j.val / 1024) + j.val % 1024 = j.val := by omega
  refine (KVals0.o7_at _ _ d _).trans ?_
  rw [i1_eq E _ _ (by show 1024 * (j.val / 1024) + j.val % 1024 < 20000; omega)]
  exact congrArg (fun j => Model.code8 (Model.ni1 (Wt w r) u0 j) d) (Fin.ext e)

theorem scales0 (c : Dev nD) (j : Fin 20000) :
    ((Exact0.dat (U := ExactRun.UA) W c).arrAt 7 cfg0.N : Vec Ideal S1x20000 .f32) (ix2 0 j) = Model.scale (Model.ni1 (Wt w r) u0 j) := by
  rw [Reads.out0_7]
  have e : 1024 * (j.val / 1024) + j.val % 1024 = j.val := by omega
  refine (KVals0.scale0_at _ _ _).trans ?_
  rw [i1_eq E _ _ (by show 1024 * (j.val / 1024) + j.val % 1024 < 20000; omega)]
  exact congrArg (fun j => Model.scale (Model.ni1 (Wt w r) u0 j)) (Fin.ext e)

theorem rdis (c : Dev nD) (j : Fin 20480) :
    ((Exact0.dat (U := ExactRun.UA) W c).arrAt 8 cfg0.N : Vec Ideal S1x20480 .f32) (ix2 0 j) = rd (dI w j.val) := by
  rw [Reads.out0_8]
  have e : 1024 * (j.val / 1024) + j.val % 1024 = j.val := by omega
  refine (rdi0 E (Reads.pt0 j.val (by omega)) (Reads.co j.val)).trans ?_
  exact congrArg (fun j => rd (dI w j)) e

end Call0

end Cert.KernelIdeal.Val0
end
-- ==== Proof.Ideal.Val1.lean ====
module

public import proofs.«01_k».proof.Proof.Ideal.ExactRun
public import proofs.«01_k».proof.Proof.Ideal.KVals0
public import proofs.«01_k».proof.Proof.Ideal.KVals1
public import Idealize.ShloMosaic.Lib.Pipeline.ValueKit.Geometry
public import Idealize.ShloMosaic.Lib.Pointwise
public import proofs.«01_k».proof.Proof.Ideal.Val0

@[expose] public section

set_option maxRecDepth 16384

noncomputable section

namespace Cert.KernelIdeal.Val1

open Cert Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Counts Cert.KernelIdeal.KGen

open Cert.KernelIdeal.Sums
open Cert.KernelIdeal.Body1 (gA gB)

/-- What the second call's proof uses of the arrays it is entered with. -/
structure Entry (W : Valuation τ sig (Elt Ideal)) (w : Vec Ideal S160x384x128 .i32) (r : Fin 1536 → EReal)
    (u0 : Fin 1536 → Fin 192 → EReal) (i0 : Fin 20000 → Fin 192 → EReal) (G : Vec Ideal S384x1536 .f32) : Prop extends Val0.Entry W w r u0 i0 where
  rdi : ∀ j : Fin 20480, (W (Proc.devRef .tc main_v13_2) : Vec Ideal S1x20480 .f32) (ix2 0 j) = rd (dI w j.val)
  codes : ∀ d j, (W (Proc.devRef .tc main_v13_0) : Vec Ideal S192x20000 .i8) (ix2 d j) = Model.code8 (Model.ni1 (Wt w r) u0 j) d
  scales : ∀ j, (W (Proc.devRef .tc main_v13_1) : Vec Ideal S1x20000 .f32) (ix2 0 j) = Model.scale (Model.ni1 (Wt w r) u0 j)
  sums : (W (Proc.devRef .tc main_v13_3) : Vec Ideal S384x1536 .f32) = G
  sumsA : ∀ (d : Fin 192) (u : Fin 1536), G (ix2 ⟨d.val, by omega⟩ u) * r u = Model.nu1 (Wt w r) i0 u d
  sumsB : ∀ (d : Fin 192) (u : Fin 1536), G (ix2 ⟨192 + d.val, by omega⟩ u) * r u = Model.nu2 (Wt w r) u0 u d

theorem xs1_14 : ∀ t : Fin cfg1.N, win1_14.xsize (cfg1.grid.coords t) 1 = min 1024 (20000 - 1024 * t.val) :=
  (by decide +kernel : ∀ t : Fin grid1.N, win1_14.xsize (grid1.coords t) 1 = min 1024 (20000 - 1024 * t.val))

section Call1
variable {W : Valuation τ sig (Elt Ideal)} {w : Vec Ideal S160x384x128 .i32} {r : Fin 1536 → EReal}
  {u0 : Fin 1536 → Fin 192 → EReal} {i0 : Fin 20000 → Fin 192 → EReal} {G : Vec Ideal S384x1536 .f32} (E : Entry W w r u0 i0 G)
include E

theorem x1_read (t : Fin cfg1.N) (s : Fin 8) (q : Fin 384) (l : Fin 128) :
    Exact1.x1 W t (ix3 s q l) = w (ix3 ⟨8 * t.val + s.val, by have := t.isLt; have := Exact1.N_eq; omega⟩ q l) := by
  rw [Reads.y1_at, E.words]

theorem x1_small (t : Fin cfg1.N) (i) : Bits.Small (Exact1.x1 W t i) := by
  rw [show Exact1.x1 W t i = _ from (congrArg (Exact1.x1 W t) (eq_ix3 i)).trans (x1_read E t (i 0) (i 1) (i 2))]; exact E.small _

theorem cB1 (t : Fin cfg1.N) (u : Fin 1536) (k : Fin 1024) : cB (Exact1.x1 W t) u k = cnt w u (1024 * t.val + k.val) :=
  cB_eq w _ t.val (by have := t.isLt; have := Exact1.N_eq; omega) (x1_read E t) u k

theorem x6_read (t : Fin cfg1.N) (k : Fin 1024) : Exact1.x6 W t (ix2 0 k) = rd (dI w (1024 * t.val + k.val)) := by
  rw [Reads.y6_at]; exact E.rdi _
theorem x10_read (t : Fin cfg1.N) (u : Fin 1536) : Exact1.x10 W t (ix2 0 u) = r u := by
  rw [Reads.y10_at]; exact E.rdu u

theorem nu1_isR (u d) : Model.IsR (Model.nu1 (Wt w r) i0 u d) := Model.toU_isR (Wt_isR w r E.rdu_isR) E.items_isR u d
theorem ni1_isR (j d) : Model.IsR (Model.ni1 (Wt w r) u0 j d) := Model.toI_isR (Wt_isR w r E.rdu_isR) E.users_isR j d
theorem nu2_isR (u d) : Model.IsR (Model.nu2 (Wt w r) u0 u d) := Model.toU_isR (Wt_isR w r E.rdu_isR) (Model.deqs_isR _ (ni1_isR E)) u d
theorem ni2_isR (j d) : Model.IsR (Model.ni2 (Wt w r) i0 j d) := Model.toI_isR (Wt_isR w r E.rdu_isR) (Model.deqs_isR _ (nu1_isR E)) j d

theorem vA (t : Fin cfg1.N) (u : Fin 1536) : KVals1.vU (gA (Exact1.x7 W t)) (Exact1.x10 W t) u = Model.nu1 (Wt w r) i0 u := by
  funext d
  unfold KVals1.vU
  rw [KVals1.gA_at, Reads.y7_at, x10_read E, E.sums, E.sumsA]
theorem vB (t : Fin cfg1.N) (u : Fin 1536) : KVals1.vU (gB (Exact1.x7 W t)) (Exact1.x10 W t) u = Model.nu2 (Wt w r) u0 u := by
  funext d
  unfold KVals1.vU
  rw [KVals1.gB_at, Reads.y7_at, x10_read E, E.sums, E.sumsB]

theorem yA (t : Fin cfg1.N) : KVals1.yV (gA (Exact1.x7 W t)) (Exact1.x10 W t) = fun d u => Model.deqs (Model.nu1 (Wt w r) i0) u d * r u := by
  funext d u
  unfold KVals1.yV
  rw [vA E, x10_read E, ← mul_assoc]; rfl
theorem yB (t : Fin cfg1.N) : KVals1.yV (gB (Exact1.x7 W t)) (Exact1.x10 W t) = fun d u => Model.deqs (Model.nu2 (Wt w r) u0) u d * r u := by
  funext d u
  unfold KVals1.yV
  rw [vB E, x10_read E, ← mul_assoc]; rfl

theorem splitA : Split (R := 1152) (N := 1536) (Exact1.vuAt W) 0 (fun d u => Model.deqs (Model.nu1 (Wt w r) i0) u d * r u) := by
  have h := (KVals1.vu_split (Exact1.x7 W Exact1.t0) (Exact1.x10 W Exact1.t0)).1
  rw [yA E] at h; exact h
theorem splitB : Split (R := 1152) (N := 1536) (Exact1.vuAt W) 576 (fun d u => Model.deqs (Model.nu2 (Wt w r) u0) u d * r u) := by
  have h := (KVals1.vu_split (Exact1.x7 W Exact1.t0) (Exact1.x10 W Exact1.t0)).2
  rw [yB E] at h; exact h

theorem yA_isR (d : Fin 192) (u : Fin 1536) : Model.IsR (Model.deqs (Model.nu1 (Wt w r) i0) u d * r u) := (Model.deqs_isR _ (nu1_isR E) u d).mul (E.rdu_isR u)
theorem yB_isR (d : Fin 192) (u : Fin 1536) : Model.IsR (Model.deqs (Model.nu2 (Wt w r) u0) u d * r u) := (Model.deqs_isR _ (nu2_isR E) u d).mul (E.rdu_isR u)

theorem vI_isR (t : Fin cfg1.N) (y : Fin 192 → Fin 1536 → EReal) (hy : ∀ d u, Model.IsR (y d u)) (k : Fin 1024) (d : Fin 192) :
    Model.IsR (KVals1.vI (Exact1.x1 W t) (Exact1.x6 W t) y k d) := by
  unfold KVals1.vI
  rw [x6_read E]
  exact (Model.IsR.sum _ _ fun u => (hy d u).mul (Model.IsR.coe _)).mul (rd_isR _)

/-- The items' aggregates from the users' vectors. -/
theorem vI_eq (t : Fin cfg1.N) (x : Fin 1536 → Fin 192 → EReal) (hx : ∀ u d, Model.IsR (x u d)) (k : Fin 1024) (h : 1024 * t.val + k.val < 20000) :
    KVals1.vI (Exact1.x1 W t) (Exact1.x6 W t) (fun d u => x u d * r u) k = Model.toI (Wt w r) x ⟨1024 * t.val + k.val, h⟩ := by
  funext d
  unfold KVals1.vI
  rw [x6_read E, ← sum_item w r E.rdu_isR x hx]
  exact congrArg (· * _) (Finset.sum_congr rfl fun u _ => by rw [cB1 E])

theorem vI2 (t : Fin cfg1.N) (k : Fin 1024) (h : 1024 * t.val + k.val < 20000) :
    KVals1.vI (Exact1.x1 W t) (Exact1.x6 W t) (fun d u => Model.deqs (Model.nu1 (Wt w r) i0) u d * r u) k = Model.ni2 (Wt w r) i0 ⟨1024 * t.val + k.val, h⟩ :=
  vI_eq E t _ (Model.deqs_isR _ (nu1_isR E)) k h
theorem vI3 (t : Fin cfg1.N) (k : Fin 1024) (h : 1024 * t.val + k.val < 20000) :
    KVals1.vI (Exact1.x1 W t) (Exact1.x6 W t) (fun d u => Model.deqs (Model.nu2 (Wt w r) u0) u d * r u) k = Model.ni3 (Wt w r) u0 ⟨1024 * t.val + k.val, h⟩ :=
  vI_eq E t _ (Model.deqs_isR _ (nu2_isR E)) k h

/-- The item output at a slot of the array, whatever an overhanging block holds past the array's edge. -/
theorem o15_eq (t : Fin cfg1.N) (x2 : Vec Ideal S192x1024 .i8) (x3 : Vec Ideal S1x1024 .f32) (x4 : Vec Ideal S192x1024 .i8) (x5 : Vec Ideal S1x1024 .f32)
    (h2 : ∀ (d : Fin 192) (k : Fin 1024) (h : 1024 * t.val + k.val < 20000), x2 (ix2 d k) = (W (Proc.devRef .tc main_v12) : Vec Ideal S192x20000 .i8) (ix2 d ⟨1024 * t.val + k.val, h⟩))
    (h3 : ∀ (k : Fin 1024) (h : 1024 * t.val + k.val < 20000), x3 (ix2 0 k) = (W (Proc.devRef .tc main_v10) : Vec Ideal S1x20000 .f32) (ix2 0 ⟨1024 * t.val + k.val, h⟩))
    (h4 : ∀ (d : Fin 192) (k : Fin 1024) (h : 1024 * t.val + k.val < 20000), x4 (ix2 d k) = (W (Proc.devRef .tc main_v13_0) : Vec Ideal S192x20000 .i8) (ix2 d ⟨1024 * t.val + k.val, h⟩))
    (h5 : ∀ (k : Fin 1024) (h : 1024 * t.val + k.val < 20000), x5 (ix2 0 k) = (W (Proc.devRef .tc main_v13_1) : Vec Ideal S1x20000 .f32) (ix2 0 ⟨1024 * t.val + k.val, h⟩))
    (d : Fin 192) (k : Fin 1024) (h : 1024 * t.val + k.val < 20000) :
    Body1.o15 (Exact1.x1 W t) x2 x3 x4 x5 (Exact1.x6 W t) (Exact1.vuAt W) (ix2 d k) = Model.iOut (Wt w r) u0 i0 ⟨1024 * t.val + k.val, h⟩ d := by
  rw [KVals1.o15_at (Exact1.x1 W t) (x1_small E t) (Exact1.x6 W t) (Exact1.vuAt W) _ (yA_isR E) _ (yB_isR E) (splitA E) (splitB E),
    vI2 E t k h, vI3 E t k h, h2 d k h, h3 k h, h4 d k h, h5 k h, E.codes, E.scales, Model.sitofp_code8, E.items]
  rfl

theorem edgeFree : Exact1.EdgeFree W := by
  intro t d1 d2 d3 d4
  funext y
  have hy1 : (y 1).val < min 1024 (20000 - 1024 * t.val) := by
    have h := (y 1).isLt
    exact lt_of_lt_of_eq h (xs1_14 t)
  have hy0 : (y 0).val < 192 := Nat.lt_of_lt_of_le (y 0).isLt ((cfg1.win 14).xsize_le (cfg1.grid.coords t) 0)
  have hk : 1024 * t.val + (⟨(y 1).val, by omega⟩ : Fin 1024).val < 20000 := by show 1024 * t.val + (y 1).val < 20000; omega
  have e : (cfg1.win 14).xinj (cfg1.grid.coords t) y = (ix2 ⟨(y 0).val, hy0⟩ ⟨(y 1).val, by omega⟩ : S192x1024.Idx) :=
    funext fun a => Fin.ext (by match a with | ⟨0, _⟩ => rfl | ⟨1, _⟩ => rfl)
  refine (congrArg _ e).trans (((o15_eq E t _ _ _ _ (Reads.y2_at W t d1) (Reads.y3_at W t d2) (Reads.y4_at W t d3) (Reads.y5_at W t d4) _ _ hk).trans
    (o15_eq E t _ _ _ _ (Reads.y2_at W t _) (Reads.y3_at W t _) (Reads.y4_at W t _) (Reads.y5_at W t _) _ _ hk).symm).trans (congrArg _ e.symm))

theorem g3_step (t : Fin cfg1.N) (G' : Vec Ideal S192x1536 .f32) (d : Fin 192) (u : Fin 1536) :
    Body1.o25 (Exact1.x1 W t) (Exact1.x6 W t) (Exact1.vuAt W) G' (ix2 d u)
      = G' (ix2 d u) + ∑ k : Fin 1024, term w (Model.deqs (Model.ni2 (Wt w r) i0)) u d (1024 * t.val + k.val) := by
  rw [KVals1.o25_at (Exact1.x1 W t) (x1_small E t) (Exact1.x6 W t) (Exact1.vuAt W) _ (yA_isR E) (splitA E)
    (fun d k => (Model.code_isR _ _).mul ((Model.scale_isR (by norm_num) _ (vI_isR E t _ (yA_isR E) k)).mul (x6_read E t k ▸ rd_isR _)))]
  refine congrArg (G' (ix2 d u) + ·) (Finset.sum_congr rfl fun k _ => ?_)
  rw [x6_read E, cB1 E]
  unfold term
  by_cases h : 1024 * t.val + k.val < 20000
  · rw [dif_pos h, vI2 E t k h, ← mul_assoc]; rfl
  · rw [dif_neg h, E.tail u _ (by omega)]; exact mul_zero _

theorem g3_sum (n : ℕ) (hn : n < cfg1.N) (d : Fin 192) (u : Fin 1536) :
    Exact1.g3 W n hn (ix2 d u) = ∑ t ∈ Finset.range (n + 1), ∑ k : Fin 1024, term w (Model.deqs (Model.ni2 (Wt w r) i0)) u d (1024 * t + k.val) := by
  induction n with
  | zero =>
    have h := g3_step E ⟨0, hn⟩ (k1_pay23 (F := Ideal)) d u
    have z : ∀ i, k1_pay23 (F := Ideal) i = (0 : EReal) := fun i => Model.ofBits_0
    rw [z, zero_add] at h
    rw [Finset.sum_range_one]
    exact h
  | succ n ih =>
    have h := g3_step E ⟨n + 1, hn⟩ (Exact1.g3 W n (Nat.lt_of_succ_lt hn)) d u
    rw [ih] at h
    rw [Finset.sum_range_succ _ (n + 1)]
    exact h

theorem vG (u : Fin 1536) : KVals1.vU (Exact1.g3 W 19 Exact1.tL.isLt) (Exact1.x10 W Exact1.tL) u = Model.nu3 (Wt w r) i0 u := by
  funext d
  unfold KVals1.vU
  rw [g3_sum E 19 Exact1.tL.isLt, x10_read E]
  exact sum_term w r E.rdu_isR _ (Model.deqs_isR _ (ni2_isR E)) u d

/-! ## The arrays the call leaves -/
section Out
variable (c : Dev nD)

theorem ic2 (d : Fin 192) (j : Fin 20000) :
    ((Exact1.dat (U := ExactRun.UA) W c).arrAt 10 cfg1.N : Vec Ideal S192x20000 .i8) (ix2 d j) = Model.code8 (Model.ni2 (Wt w r) i0 j) d := by
  rw [Reads.out1_10]
  have e : 1024 * (j.val / 1024) + j.val % 1024 = j.val := by omega
  refine (KVals1.o11_at _ (x1_small E _) _ _ _ (yA_isR E) (splitA E) d _).trans ?_
  rw [vI2 E _ _ (by show 1024 * (j.val / 1024) + j.val % 1024 < 20000; omega)]
  exact congrArg (fun j => Model.code8 (Model.ni2 (Wt w r) i0 j) d) (Fin.ext e)
theorem is2 (j : Fin 20000) :
    ((Exact1.dat (U := ExactRun.UA) W c).arrAt 11 cfg1.N : Vec Ideal S1x20000 .f32) (ix2 0 j) = Model.scale (Model.ni2 (Wt w r) i0 j) := by
  rw [Reads.out1_11]
  have e : 1024 * (j.val / 1024) + j.val % 1024 = j.val := by omega
  refine (KVals1.o12_at _ (x1_small E _) _ _ _ (yA_isR E) (splitA E) _).trans ?_
  rw [vI2 E _ _ (by show 1024 * (j.val / 1024) + j.val % 1024 < 20000; omega)]
  exact congrArg (fun j => Model.scale (Model.ni2 (Wt w r) i0 j)) (Fin.ext e)
theorem ic3 (d : Fin 192) (j : Fin 20000) :
    ((Exact1.dat (U := ExactRun.UA) W c).arrAt 12 cfg1.N : Vec Ideal S192x20000 .i8) (ix2 d j) = Model.code8 (Model.ni3 (Wt w r) u0 j) d := by
  rw [Reads.out1_12]
  have e : 1024 * (j.val / 1024) + j.val % 1024 = j.val := by omega
  refine (KVals1.o13_at _ (x1_small E _) _ _ _ (yB_isR E) (splitB E) d _).trans ?_
  rw [vI3 E _ _ (by show 1024 * (j.val / 1024) + j.val % 1024 < 20000; omega)]
  exact congrArg (fun j => Model.code8 (Model.ni3 (Wt w r) u0 j) d) (Fin.ext e)
theorem is3 (j : Fin 20000) :
    ((Exact1.dat (U := ExactRun.UA) W c).arrAt 13 cfg1.N : Vec Ideal S1x20000 .f32) (ix2 0 j) = Model.scale (Model.ni3 (Wt w r) u0 j) := by
  rw [Reads.out1_13]
  have e : 1024 * (j.val / 1024) + j.val % 1024 = j.val := by omega
  refine (KVals1.o14_at _ (x1_small E _) _ _ _ (yB_isR E) (splitB E) _).trans ?_
  rw [vI3 E _ _ (by show 1024 * (j.val / 1024) + j.val % 1024 < 20000; omega)]
  exact congrArg (fun j => Model.scale (Model.ni3 (Wt w r) u0 j)) (Fin.ext e)
theorem iout (d : Fin 192) (j : Fin 20000) :
    ((Exact1.dat (U := ExactRun.UA) W c).arrAt 14 cfg1.N : Vec Ideal S192x20000 .bf16) (ix2 d j) = Model.iOut (Wt w r) u0 i0 j d := by
  rw [Reads.out1_14]
  have e : 1024 * (j.val / 1024) + j.val % 1024 = j.val := by omega
  refine (o15_eq E _ _ _ _ _ (Reads.y2_at W _ _) (Reads.y3_at W _ _) (Reads.y4_at W _ _) (Reads.y5_at W _ _) d _ (by show 1024 * (j.val / 1024) + j.val % 1024 < 20000; omega)).trans ?_
  exact congrArg (fun j => Model.iOut (Wt w r) u0 i0 j d) (Fin.ext e)

theorem ruc1 (d : Fin 192) (u : Fin 1536) :
    ((Exact1.dat (U := ExactRun.UA) W c).arrAt 15 cfg1.N : Vec Ideal S192x1536 .i8) (ix2 d u) = Model.code8 (Model.nu1 (Wt w r) i0 u) d := by
  rw [Reads.out1_15]
  exact (KVals1.uc1_at _ _ d u).trans (by rw [vA E])
theorem rus1 (u : Fin 1536) :
    ((Exact1.dat (U := ExactRun.UA) W c).arrAt 16 cfg1.N : Vec Ideal S1x1536 .f32) (ix2 0 u) = Model.scale (Model.nu1 (Wt w r) i0 u) := by
  rw [Reads.out1_16]
  exact (KVals1.us1_at _ _ u).trans (by rw [vA E])
theorem ruc2 (d : Fin 192) (u : Fin 1536) :
    ((Exact1.dat (U := ExactRun.UA) W c).arrAt 17 cfg1.N : Vec Ideal S192x1536 .i8) (ix2 d u) = Model.code8 (Model.nu2 (Wt w r) u0 u) d := by
  rw [Reads.out1_17]
  exact (KVals1.uc2_at _ _ d u).trans (by rw [vB E])
theorem rus2 (u : Fin 1536) :
    ((Exact1.dat (U := ExactRun.UA) W c).arrAt 18 cfg1.N : Vec Ideal S1x1536 .f32) (ix2 0 u) = Model.scale (Model.nu2 (Wt w r) u0 u) := by
  rw [Reads.out1_18]
  exact (KVals1.us2_at _ _ u).trans (by rw [vB E])
theorem ruc3 (d : Fin 192) (u : Fin 1536) :
    ((Exact1.dat (U := ExactRun.UA) W c).arrAt 19 cfg1.N : Vec Ideal S192x1536 .i8) (ix2 d u) = Model.code8 (Model.nu3 (Wt w r) i0 u) d := by
  rw [Reads.out1_19]
  exact (KVals1.o20_at _ _ d u).trans (by rw [vG E])
theorem rus3 (u : Fin 1536) :
    ((Exact1.dat (U := ExactRun.UA) W c).arrAt 20 cfg1.N : Vec Ideal S1x1536 .f32) (ix2 0 u) = Model.scale (Model.nu3 (Wt w r) i0 u) := by
  rw [Reads.out1_20]
  exact (KVals1.o21_at _ _ u).trans (by rw [vG E])
theorem uout (d : Fin 192) (u : Fin 1536) :
    ((Exact1.dat (U := ExactRun.UA) W c).arrAt 21 cfg1.N : Vec Ideal S192x1536 .bf16) (ix2 d u) = Model.uOut (Wt w r) u0 i0 u d := by
  rw [Reads.out1_21]
  refine (KVals1.o22_at _ _ _ d u).trans ?_
  rw [vG E]
  unfold Exact1.accAt
  rw [KVals1.acc_at, vA E, vB E, Reads.y8_at, Reads.y9_at, E.users]
  rfl
end Out
end Call1

end Cert.KernelIdeal.Val1
end
-- ==== Proof.Ideal.KHost.lean ====
module

public import proofs.«01_k».proof.Proof.Ideal.ExactRun
public import proofs.«01_k».proof.Proof.Ideal.KVals0
public import proofs.«01_k».proof.Proof.Ideal.KVals1
public import Idealize.ShloMosaic.Lib.Pipeline.ValueKit.Geometry
public import Idealize.ShloMosaic.Lib.Pointwise
public import Idealize.ShloMosaic.Lib.StableHlo.ReadAt
public import proofs.«01_k».proof.Proof.Ideal.Val1

@[expose] public section

set_option maxRecDepth 16384

noncomputable section

/-! The host code before the first call: the users' inverse square root degrees, and the arrays turned to columns. -/
namespace Cert.KernelIdeal.KHost

open Cert Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Counts Cert.KernelIdeal.KGen

open Cert.KernelIdeal.Sums

variable (m : (ℓ : Loc nD τ sig) → Buf (Elt Ideal) ℓ) (c : Dev nD)

/-- A user's degree. -/
def du (p : Vec Ideal ⟨1, ![1537]⟩ .i32) (u : Fin 1536) : ℝ := ((p (ix1 ⟨u.val + 1, by omega⟩) - p (ix1 ⟨u.val, by omega⟩)).toInt : ℝ)

theorem v8_at (u : Fin 1536) : (V4 m c (Proc.devRef .tc main_v8) : Vec Ideal S1x1536 .f32) (ix2 0 u) = rd (du (m ((c.tc : Thread nD τ).loc main_arg4) : Vec Ideal S1537 .i32) u) := by
  after_reads_at
  have e : FloatOps.sitofp (F := Ideal) .f32 (IntOp.subi ((m ((c.tc : Thread nD τ).loc main_arg4) : Vec Ideal S1537 .i32) (ix1 ⟨1 + u.val, by omega⟩))
      ((m ((c.tc : Thread nD τ).loc main_arg4) : Vec Ideal S1537 .i32) (ix1 ⟨u.val, by omega⟩)))
      = ((du (m ((c.tc : Thread nD τ).loc main_arg4) : Vec Ideal S1537 .i32) u : ℝ) : EReal) := by
    unfold du
    rw [show (⟨u.val + 1, by omega⟩ : Fin 1537) = ⟨1 + u.val, by omega⟩ from Fin.ext (Nat.add_comm _ _)]
    rfl
  refine Eq.trans (b := if 0 < ((du (m ((c.tc : Thread nD τ).loc main_arg4) : Vec Ideal S1537 .i32) u : ℝ) : EReal)
    then Ideal.div 1 (Ideal.sqrt ((du (m ((c.tc : Thread nD τ).loc main_arg4) : Vec Ideal S1537 .i32) u : ℝ) : EReal)) else 0) ?_ ?_
  · rw [← e]
    exact congrArg (fun z : EReal => if (0 : EReal) < _ then _ else z) Model.ofBits_0
  · generalize du (m ((c.tc : Thread nD τ).loc main_arg4) : Vec Ideal S1537 .i32) u = x
    unfold rd
    by_cases h : 0 < x
    · rw [if_pos h, if_pos (by exact_mod_cast h), div_sqrt x h]
    · rw [if_neg h, if_neg (by exact_mod_cast h)]

theorem v9_at (u : Fin 1536) : (V4 m c (Proc.devRef .tc main_v9) : Vec Ideal S1x1536 .f32) (ix2 0 u) = (m ((c.tc : Thread nD τ).loc main_arg1) : Vec Ideal S1536 .f32) (ix1 u) := by
  after_reads_at
theorem v10_at (j : Fin 20000) : (V4 m c (Proc.devRef .tc main_v10) : Vec Ideal S1x20000 .f32) (ix2 0 j) = (m ((c.tc : Thread nD τ).loc main_arg3) : Vec Ideal S20000 .f32) (ix1 j) := by
  after_reads_at
theorem v11_at (d : Fin 192) (u : Fin 1536) : (V4 m c (Proc.devRef .tc main_v11) : Vec Ideal S192x1536 .i8) (ix2 d u) = (m ((c.tc : Thread nD τ).loc main_arg0) : Vec Ideal S1536x192 .i8) (ix2 u d) := by
  after_reads_at
theorem v12_at (d : Fin 192) (j : Fin 20000) : (V4 m c (Proc.devRef .tc main_v12) : Vec Ideal S192x20000 .i8) (ix2 d j) = (m ((c.tc : Thread nD τ).loc main_arg2) : Vec Ideal S20000x192 .i8) (ix2 j d) := by
  after_reads_at
theorem arg5_eq : (V4 m c (Proc.devRef .tc main_arg5) : Vec Ideal S160x384x128 .i32) = m ((c.tc : Thread nD τ).loc main_arg5) :=
  (V4_of m c main_arg5 (by decide)).trans ((V3_of m c main_arg5 (by decide)).trans ((V2_of m c main_arg5 (by decide)).trans (V1_of m c main_arg5 (by decide))))

/-- The first call's entry. -/
theorem entry0 (hS : ∀ i, Bits.Small ((m ((c.tc : Thread nD τ).loc main_arg5) : Vec Ideal S160x384x128 .i32) i))
    (hZ : ∀ u j, 20000 ≤ j → cnt (m ((c.tc : Thread nD τ).loc main_arg5) : Vec Ideal S160x384x128 .i32) u j = 0)
    (hU : ∀ u, Model.IsR ((m ((c.tc : Thread nD τ).loc main_arg1) : Vec Ideal S1536 .f32) (ix1 u)))
    (hI : ∀ j, Model.IsR ((m ((c.tc : Thread nD τ).loc main_arg3) : Vec Ideal S20000 .f32) (ix1 j))) :
    Val0.Entry (V4 m c) (m ((c.tc : Thread nD τ).loc main_arg5)) (fun u => rd (du (m ((c.tc : Thread nD τ).loc main_arg4) : Vec Ideal S1537 .i32) u))
      (fun u d => ((((m ((c.tc : Thread nD τ).loc main_arg0) : Vec Ideal S1536x192 .i8) (ix2 u d)).toInt : ℝ) : EReal) * (m ((c.tc : Thread nD τ).loc main_arg1) : Vec Ideal S1536 .f32) (ix1 u))
      (fun j d => ((((m ((c.tc : Thread nD τ).loc main_arg2) : Vec Ideal S20000x192 .i8) (ix2 j d)).toInt : ℝ) : EReal) * (m ((c.tc : Thread nD τ).loc main_arg3) : Vec Ideal S20000 .f32) (ix1 j)) where
  words := arg5_eq m c
  small := hS
  tail := hZ
  rdu := v8_at m c
  rdu_isR u := rd_isR _
  users u d := by rw [v11_at, v9_at]
  users_isR u d := (Model.IsR.coe _).mul (hU u)
  items j d := by rw [v12_at, v10_at]
  items_isR j d := (Model.IsR.coe _).mul (hI j)

end Cert.KernelIdeal.KHost
end
-- ==== Proof.Ideal.KOut.lean ====
module

public import proofs.«01_k».proof.Proof.Ideal.ExactRun
public import proofs.«01_k».proof.Proof.Ideal.KVals0
public import proofs.«01_k».proof.Proof.Ideal.KVals1
public import Idealize.ShloMosaic.Lib.Pipeline.ValueKit.Geometry
public import Idealize.ShloMosaic.Lib.Pointwise
public import Idealize.ShloMosaic.Lib.StableHlo.ReadAt
public import proofs.«01_k».proof.Proof.Ideal.KHost

@[expose] public section

set_option maxRecDepth 16384

noncomputable section

/-! Each of the kernel's fourteen results at one index, as the propagation of `Model` gives it. -/
namespace Cert.KernelIdeal.KOut

open Cert Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Counts Cert.KernelIdeal.KGen

open Cert.KernelIdeal.Sums Cert.KernelIdeal.KHost
open Cert.KernelIdeal.ExactRun (UA)

variable (m : (ℓ : Loc nD τ sig) → Buf (Elt Ideal) ℓ) (c : Dev nD)

/-- The words of counts. -/
abbrev aw : Vec Ideal S160x384x128 .i32 := m ((c.tc : Thread nD τ).loc main_arg5)
/-- The users' factors. -/
abbrev ar (u : Fin 1536) : EReal := rd (du (m ((c.tc : Thread nD τ).loc main_arg4) : Vec Ideal S1537 .i32) u)
/-- The users' vectors. -/
abbrev au (u : Fin 1536) (d : Fin 192) : EReal :=
  ((((m ((c.tc : Thread nD τ).loc main_arg0) : Vec Ideal S1536x192 .i8) (ix2 u d)).toInt : ℝ) : EReal) * (m ((c.tc : Thread nD τ).loc main_arg1) : Vec Ideal S1536 .f32) (ix1 u)
/-- The items' vectors. -/
abbrev ai (j : Fin 20000) (d : Fin 192) : EReal :=
  ((((m ((c.tc : Thread nD τ).loc main_arg2) : Vec Ideal S20000x192 .i8) (ix2 j d)).toInt : ℝ) : EReal) * (m ((c.tc : Thread nD τ).loc main_arg3) : Vec Ideal S20000 .f32) (ix1 j)

/-- What the precondition says of the arguments. -/
structure Good : Prop where
  small : ∀ i, Bits.Small (aw m c i)
  tail : ∀ u j, 20000 ≤ j → cnt (aw m c) u j = 0
  users : ∀ u, Model.IsR ((m ((c.tc : Thread nD τ).loc main_arg1) : Vec Ideal S1536 .f32) (ix1 u))
  items : ∀ j, Model.IsR ((m ((c.tc : Thread nD τ).loc main_arg3) : Vec Ideal S20000 .f32) (ix1 j))

theorem inj0 : Function.Injective (Pipeline.arrRef cfg0.spec) := launch0.win.arr_inj
theorem inj1 : Function.Injective (Pipeline.arrRef cfg1.spec) := launch1.win.arr_inj

theorem keeps0 (r : Ref sig .tc) (h : ∀ w, Pipeline.arrRef cfg0.spec w = r → (cfg0.win w).isOut = false) :
    ExactRun.V5 m c (Proc.devRef .tc r) = V4 m c (Proc.devRef .tc r) := by
  unfold ExactRun.V5
  exact Pipeline.afterRegion_keeps (Exact0.dat (U := UA) (V4 m c) c) (V4 m c) inj0 (fun _ => rfl) r h
theorem keeps1 (r : Ref sig .tc) (h : ∀ w, Pipeline.arrRef cfg1.spec w = r → (cfg1.win w).isOut = false) :
    ExactRun.V6 m c (Proc.devRef .tc r) = ExactRun.V5 m c (Proc.devRef .tc r) := by
  unfold ExactRun.V6
  exact Pipeline.afterRegion_keeps (Exact1.dat (U := UA) (ExactRun.V5 m c) c) (ExactRun.V5 m c) inj1 (fun _ => rfl) r h
theorem arr0 (w : Fin 10) : ExactRun.V5 m c (Proc.devRef .tc (Pipeline.arrRef cfg0.spec w)) = (Exact0.dat (U := UA) (V4 m c) c).arrAt w cfg0.N := by
  unfold ExactRun.V5
  exact Pipeline.afterRegion_arr (Exact0.dat (U := UA) (V4 m c) c) (V4 m c) inj0 w
theorem arr1 (w : Fin 22) : ExactRun.V6 m c (Proc.devRef .tc (Pipeline.arrRef cfg1.spec w)) = (Exact1.dat (U := UA) (ExactRun.V5 m c) c).arrAt w cfg1.N := by
  unfold ExactRun.V6
  exact Pipeline.afterRegion_arr (Exact1.dat (U := UA) (ExactRun.V5 m c) c) (ExactRun.V5 m c) inj1 w

variable {m c} (H : Good m c)
include H

theorem e0 : Val0.Entry (V4 m c) (aw m c) (ar m c) (au m c) (ai m c) := entry0 m c H.small H.tail H.users H.items

theorem e1 : Val1.Entry (ExactRun.V5 m c) (aw m c) (ar m c) (au m c) (ai m c) (Exact0.g (V4 m c) 19 (by decide)) where
  words := (keeps0 m c main_arg5 (by decide)).trans (e0 H).words
  small := H.small
  tail := H.tail
  rdu u := (congrFun (keeps0 m c main_v8 (by decide)) (ix2 0 u)).trans ((e0 H).rdu u)
  rdu_isR := (e0 H).rdu_isR
  users u d := by rw [keeps0 m c main_v11 (by decide), keeps0 m c main_v9 (by decide)]; exact (e0 H).users u d
  users_isR := (e0 H).users_isR
  items u d := by rw [keeps0 m c main_v12 (by decide), keeps0 m c main_v10 (by decide)]; exact (e0 H).items u d
  items_isR := (e0 H).items_isR
  rdi j := (congrFun (arr0 m c 8) (ix2 0 j)).trans (Val0.rdis (e0 H) c j)
  codes d j := (congrFun (arr0 m c 6) (ix2 d j)).trans (Val0.codes0 (e0 H) c d j)
  scales j := (congrFun (arr0 m c 7) (ix2 0 j)).trans (Val0.scales0 (e0 H) c j)
  sums := (arr0 m c 9).trans (Reads.out0_9 (V4 m c) c)
  sumsA d u := (Val0.g_last (e0 H) d u).1
  sumsB d u := (Val0.g_last (e0 H) d u).2

/-- The weights. -/
abbrev aW (m : (ℓ : Loc nD τ sig) → Buf (Elt Ideal) ℓ) (c : Dev nD) := Wt (aw m c) (ar m c)

theorem r15 (u : Fin 1536) (d : Fin 192) : (ExactRun.V7 m c (Proc.devRef .tc main_v15) : Vec Ideal S1536x192 .f32) (ix2 u d) = Model.uOut (aW m c) (au m c) (ai m c) u d := by
  unfold ExactRun.V7; after_reads_at
  exact (congrFun (arr1 m c 21) (ix2 d u)).trans (Val1.uout (e1 H) c d u)
theorem r16 (j : Fin 20000) (d : Fin 192) : (ExactRun.V7 m c (Proc.devRef .tc main_v16) : Vec Ideal S20000x192 .f32) (ix2 j d) = Model.iOut (aW m c) (au m c) (ai m c) j d := by
  unfold ExactRun.V7; after_reads_at
  exact (congrFun (arr1 m c 14) (ix2 d j)).trans (Val1.iout (e1 H) c d j)
theorem r17 (u : Fin 1536) (d : Fin 192) : (ExactRun.V7 m c (Proc.devRef .tc main_v17) : Vec Ideal S1536x192 .i8) (ix2 u d) = Model.code8 (Model.nu1 (aW m c) (ai m c) u) d := by
  unfold ExactRun.V7; after_reads_at
  exact (congrFun (arr1 m c 15) (ix2 d u)).trans (Val1.ruc1 (e1 H) c d u)
theorem r18 (u : Fin 1536) : (ExactRun.V7 m c (Proc.devRef .tc main_v18) : Vec Ideal S1536 .f32) (ix1 u) = Model.scale (Model.nu1 (aW m c) (ai m c) u) := by
  unfold ExactRun.V7; after_reads_at
  exact (congrFun (arr1 m c 16) (ix2 0 u)).trans (Val1.rus1 (e1 H) c u)
theorem r19 (j : Fin 20000) (d : Fin 192) : (ExactRun.V7 m c (Proc.devRef .tc main_v19) : Vec Ideal S20000x192 .i8) (ix2 j d) = Model.code8 (Model.ni1 (aW m c) (au m c) j) d := by
  unfold ExactRun.V7; after_reads_at
  exact (congrFun (keeps1 m c main_v13_0 (by decide)) (ix2 d j)).trans ((e1 H).codes d j)
theorem r20 (j : Fin 20000) : (ExactRun.V7 m c (Proc.devRef .tc main_v20) : Vec Ideal S20000 .f32) (ix1 j) = Model.scale (Model.ni1 (aW m c) (au m c) j) := by
  unfold ExactRun.V7; after_reads_at
  exact (congrFun (keeps1 m c main_v13_1 (by decide)) (ix2 0 j)).trans ((e1 H).scales j)
theorem r21 (u : Fin 1536) (d : Fin 192) : (ExactRun.V7 m c (Proc.devRef .tc main_v21) : Vec Ideal S1536x192 .i8) (ix2 u d) = Model.code8 (Model.nu2 (aW m c) (au m c) u) d := by
  unfold ExactRun.V7; after_reads_at
  exact (congrFun (arr1 m c 17) (ix2 d u)).trans (Val1.ruc2 (e1 H) c d u)
theorem r22 (u : Fin 1536) : (ExactRun.V7 m c (Proc.devRef .tc main_v22) : Vec Ideal S1536 .f32) (ix1 u) = Model.scale (Model.nu2 (aW m c) (au m c) u) := by
  unfold ExactRun.V7; after_reads_at
  exact (congrFun (arr1 m c 18) (ix2 0 u)).trans (Val1.rus2 (e1 H) c u)
theorem r23 (j : Fin 20000) (d : Fin 192) : (ExactRun.V7 m c (Proc.devRef .tc main_v23) : Vec Ideal S20000x192 .i8) (ix2 j d) = Model.code8 (Model.ni2 (aW m c) (ai m c) j) d := by
  unfold ExactRun.V7; after_reads_at
  exact (congrFun (arr1 m c 10) (ix2 d j)).trans (Val1.ic2 (e1 H) c d j)
theorem r24 (j : Fin 20000) : (ExactRun.V7 m c (Proc.devRef .tc main_v24) : Vec Ideal S20000 .f32) (ix1 j) = Model.scale (Model.ni2 (aW m c) (ai m c) j) := by
  unfold ExactRun.V7; after_reads_at
  exact (congrFun (arr1 m c 11) (ix2 0 j)).trans (Val1.is2 (e1 H) c j)
theorem r25 (u : Fin 1536) (d : Fin 192) : (ExactRun.V7 m c (Proc.devRef .tc main_v25) : Vec Ideal S1536x192 .i8) (ix2 u d) = Model.code8 (Model.nu3 (aW m c) (ai m c) u) d := by
  unfold ExactRun.V7; after_reads_at
  exact (congrFun (arr1 m c 19) (ix2 d u)).trans (Val1.ruc3 (e1 H) c d u)
theorem r26 (u : Fin 1536) : (ExactRun.V7 m c (Proc.devRef .tc main_v26) : Vec Ideal S1536 .f32) (ix1 u) = Model.scale (Model.nu3 (aW m c) (ai m c) u) := by
  unfold ExactRun.V7; after_reads_at
  exact (congrFun (arr1 m c 20) (ix2 0 u)).trans (Val1.rus3 (e1 H) c u)
theorem r27 (j : Fin 20000) (d : Fin 192) : (ExactRun.V7 m c (Proc.devRef .tc main_v27) : Vec Ideal S20000x192 .i8) (ix2 j d) = Model.code8 (Model.ni3 (aW m c) (au m c) j) d := by
  unfold ExactRun.V7; after_reads_at
  exact (congrFun (arr1 m c 12) (ix2 d j)).trans (Val1.ic3 (e1 H) c d j)
theorem r28 (j : Fin 20000) : (ExactRun.V7 m c (Proc.devRef .tc main_v28) : Vec Ideal S20000 .f32) (ix1 j) = Model.scale (Model.ni3 (aW m c) (au m c) j) := by
  unfold ExactRun.V7; after_reads_at
  exact (congrFun (arr1 m c 13) (ix2 0 j)).trans (Val1.is3 (e1 H) c j)

end Cert.KernelIdeal.KOut
end
-- ==== Proof.Ideal.RefRows.lean ====
module

public import proofs.«01_k».proof.Proof.Gen.ReferenceIdeal.Frame
public import proofs.«01_k».proof.Proof.Ideal.Model
public import proofs.«01_k».proof.Proof.Ideal.MaxRow
public import Idealize.ShloMosaic.Lib.Pointwise

@[expose] public section

set_option maxRecDepth 16384

noncomputable section

/-! The row operations of the reference at an index. -/
namespace Cert.ReferenceIdeal.Vals

open Cert.ReferenceIdeal Cert.ReferenceIdeal.Gen
open Idealize.ShloMosaic Idealize.ShloMosaic.TcCoe Idealize.ShloMosaic.Tactic
open Cert

/-- The scale of each row of a matrix, at one row. -/
theorem scaleRow {N : ℕ} (v : FVec Ideal ⟨2, ![N, 192]⟩ .f32) (h : Shape.Reduces ⟨2, ![N, 192]⟩ [1] ⟨1, ![N]⟩) (hφ : FKind.Formats .f32)
    (hacc : (0xFF800000#32 : BitVec 32) = FKind.maximumf.neutral .f32 hφ) (u : Fin N) :
    select (cmpf .oeq (multiReduction .maximumf [1] ⟨1, ![N]⟩ (absf v) 0xFF800000#32 h hφ hacc) (broadcast ⟨1, ![N]⟩ (Scalar.ofBits .f32 0x00000000#32)))
        (broadcast ⟨1, ![N]⟩ (Scalar.ofBits .f32 0x3F800000#32))
        (divf (multiReduction .maximumf [1] ⟨1, ![N]⟩ (absf v) 0xFF800000#32 h hφ hacc) (broadcast ⟨1, ![N]⟩ (Scalar.ofBits .f32 0x42FE0000#32))) (ix1 u)
      = Model.scale (fun d => v (ix2 u d)) := by
  have e : multiReduction .maximumf [1] ⟨1, ![N]⟩ (absf v) 0xFF800000#32 h hφ hacc (ix1 u) = Model.top (fun d => v (ix2 u d)) :=
    Model.maxRow (absf v) h hφ hacc u
  show Scalar.select (FloatOps.cmpf .oeq (multiReduction .maximumf [1] ⟨1, ![N]⟩ (absf v) 0xFF800000#32 h hφ hacc (ix1 u)) (Ideal.ofBits .f32 0x00000000#32))
        (Ideal.ofBits .f32 0x3F800000#32)
        (Ideal.div (multiReduction .maximumf [1] ⟨1, ![N]⟩ (absf v) 0xFF800000#32 h hφ hacc (ix1 u)) (Ideal.ofBits .f32 0x42FE0000#32)) = _
  rw [e]
  exact Model.select_scale _

/-- A column spread over the users' rows. -/
theorem spreadU {α : Type} (s : S1536.Idx → α) (u : Fin 1536) (d : Fin 192) :
    broadcastTo S1536x192 (shapeCast S1536x1 s shapeCasts_S1536_S1536x1) broadcasts_S1536x1_S1536x192 (ix2 u d) = s (ix1 u) := by
  pointwise
/-- A column spread over the items' rows. -/
theorem spreadI {α : Type} (s : S20000.Idx → α) (u : Fin 20000) (d : Fin 192) :
    broadcastTo S20000x192 (shapeCast S20000x1 s shapeCasts_S20000_S20000x1) broadcasts_S20000x1_S20000x192 (ix2 u d) = s (ix1 u) := by
  pointwise

/-- The codes of each row of a matrix, at one element, over the rows' scales. -/
theorem codeRow {N : ℕ} (v b : FVec Ideal ⟨2, ![N, 192]⟩ .f32) (u : Fin N) (d : Fin 192) (hb : b (ix2 u d) = Model.scale (fun d => v (ix2 u d))) :
    fptosi 8 (minimumf (broadcast ⟨2, ![N, 192]⟩ (Scalar.ofBits .f32 0x42FE0000#32)) (maximumf (broadcast ⟨2, ![N, 192]⟩ (Scalar.ofBits .f32 0xC2FE0000#32)) (roundeven (divf v b)))) (ix2 u d)
      = Model.code8 (fun d => v (ix2 u d)) d := by
  show Ideal.fptosi 8 (min (Ideal.ofBits .f32 0x42FE0000#32) (max (Ideal.ofBits .f32 0xC2FE0000#32) (Ideal.liftRound Ideal.roundHalfEven (Ideal.div (v (ix2 u d)) (b (ix2 u d)))))) = _
  rw [hb]; rfl

/-- What the codes of a row stand for. -/
theorem deqRow {N : ℕ} (w : Fin 192 → EReal) (c : IVec ⟨2, ![N, 192]⟩ 8) (b : FVec Ideal ⟨2, ![N, 192]⟩ .f32) (u : Fin N) (d : Fin 192)
    (hc : c (ix2 u d) = Model.code8 w d) (hb : b (ix2 u d) = Model.scale w) :
    mulf (sitofp .f32 c) b (ix2 u d) = Model.deq w d := by
  show (((c (ix2 u d)).toInt : ℝ) : EReal) * b (ix2 u d) = _
  rw [hc, hb, Model.sitofp_code8]; rfl

theorem matU (w : FVec Ideal S1536x20000 .f32) (x : FVec Ideal S20000x192 .f32) (u : Fin 1536) (d : Fin 192) :
    matmul dot_S1536x20000_S20000x192_S1536x192_1_0_0_1_n_n none w x (constant S1536x192 .f32 0x00000000#32) (ix2 u d) = ∑ j, w (ix2 u j) * x (ix2 j d) := by
  pointwise
theorem matI (w : FVec Ideal S1536x20000 .f32) (x : FVec Ideal S1536x192 .f32) (j : Fin 20000) (d : Fin 192) :
    matmul dot_S1536x20000_S1536x192_S20000x192_0_0_1_1_n_n none w x (constant S20000x192 .f32 0x00000000#32) (ix2 j d) = ∑ u, w (ix2 u j) * x (ix2 u d) := by
  pointwise
end Cert.ReferenceIdeal.Vals
end
-- ==== Proof.Ideal.RefVals.lean ====
module

public import proofs.«01_k».proof.Proof.Ideal.RefRows
public import proofs.«01_k».proof.Proof.Ideal.Model
public import proofs.«01_k».proof.Proof.Ideal.MaxRow
public import Idealize.ShloMosaic.Lib.Pointwise

@[expose] public section

set_option maxRecDepth 16384

noncomputable section

/-! The reference's vectors at an index, as the mathematics of the module Model. -/
namespace Cert.ReferenceIdeal.Vals

open Cert.ReferenceIdeal Cert.ReferenceIdeal.Gen
open Idealize.ShloMosaic Idealize.ShloMosaic.TcCoe Idealize.ShloMosaic.Tactic
open Cert

variable (x0 : Vec Ideal S1536x20000 .f32) (x1 : Vec Ideal S1536x192 .i8) (x2 : Vec Ideal S1536 .f32) (x3 : Vec Ideal S20000x192 .i8) (x4 : Vec Ideal S20000 .f32)

/-- The weights as a function. -/
abbrev W (u : Fin 1536) (j : Fin 20000) : EReal := x0 (ix2 u j)
/-- The users' vectors before the first layer. -/
abbrev U (u : Fin 1536) (d : Fin 192) : EReal := (((x1 (ix2 u d)).toInt : ℝ) : EReal) * x2 (ix1 u)
/-- The items' vectors before the first layer. -/
abbrev I (j : Fin 20000) (d : Fin 192) : EReal := (((x3 (ix2 j d)).toInt : ℝ) : EReal) * x4 (ix1 j)

theorem p4 (u : Fin 1536) (d : Fin 192) : k0_pay4 x1 x2 (ix2 u d) = U x1 x2 u d := by
  show (((x1 (ix2 u d)).toInt : ℝ) : EReal) * (broadcastTo S1536x192 (shapeCast S1536x1 x2 shapeCasts_S1536_S1536x1) broadcasts_S1536x1_S1536x192 (ix2 u d)) = _
  rw [spreadU]
theorem p5 (u : Fin 20000) (d : Fin 192) : k0_pay5 x3 x4 (ix2 u d) = I x3 x4 u d := by
  show (((x3 (ix2 u d)).toInt : ℝ) : EReal) * (broadcastTo S20000x192 (shapeCast S20000x1 x4 shapeCasts_S20000_S20000x1) broadcasts_S20000x1_S20000x192 (ix2 u d)) = _
  rw [spreadI]
theorem p3 : k0_pay3 x0 = x0 := by unfold k0_pay3; exact shapeCast_id _ _

theorem p6 (u : Fin 1536) (d : Fin 192) : k0_pay6 x0 x3 x4 (ix2 u d) = Model.nu1 (W x0) (I x3 x4) u d := by
  unfold k0_pay6
  rw [p3]
  refine (matU _ _ u d).trans ?_
  show _ = ∑ j, x0 (ix2 u j) * I x3 x4 j d
  exact Finset.sum_congr rfl fun j _ => congrArg (x0 (ix2 u j) * ·) (p5 x3 x4 j d)
theorem p7 (u : Fin 20000) (d : Fin 192) : k0_pay7 x0 x1 x2 (ix2 u d) = Model.ni1 (W x0) (U x1 x2) u d := by
  unfold k0_pay7
  rw [p3]
  refine (matI _ _ u d).trans ?_
  show _ = ∑ j, x0 (ix2 j u) * U x1 x2 j d
  exact Finset.sum_congr rfl fun j _ => congrArg (x0 (ix2 j u) * ·) (p4 x1 x2 j d)

theorem p8 (u : Fin 1536) : k0_pay8 x0 x3 x4 (ix1 u) = Model.scale (Model.nu1 (W x0) (I x3 x4) u) := by
  rw [← show (fun d => k0_pay6 x0 x3 x4 (ix2 u d)) = Model.nu1 (W x0) (I x3 x4) u from funext fun d => p6 x0 x3 x4 u d]
  unfold k0_pay8
  exact scaleRow (N := 1536) (k0_pay6 x0 x3 x4) _ _ _ u
theorem p9 (u : Fin 1536) (d : Fin 192) : k0_pay9 x0 x3 x4 (ix2 u d) = Model.code8 (Model.nu1 (W x0) (I x3 x4) u) d := by
  have e : (fun d => k0_pay6 x0 x3 x4 (ix2 u d)) = Model.nu1 (W x0) (I x3 x4) u := funext fun d => p6 x0 x3 x4 u d
  rw [← e]
  unfold k0_pay9
  exact codeRow (N := 1536) (k0_pay6 x0 x3 x4) _ u d ((spreadU _ u d).trans ((p8 x0 x3 x4 u).trans (by rw [e])))

/-- The scales of the items' first layer. -/
abbrev S14 : FVec Ideal S20000 .f32 := k0_pay14 (k0_pay11 x0 x1 x2) (k0_pay12 x0 x1 x2) k0_pay13
theorem p14 (u : Fin 20000) : S14 x0 x1 x2 (ix1 u) = Model.scale (Model.ni1 (W x0) (U x1 x2) u) := by
  rw [← show (fun d => k0_pay7 x0 x1 x2 (ix2 u d)) = Model.ni1 (W x0) (U x1 x2) u from funext fun d => p7 x0 x1 x2 u d]
  unfold S14 k0_pay14 k0_pay11 k0_pay12 k0_pay13 k0_pay10
  exact scaleRow (N := 20000) (k0_pay7 x0 x1 x2) _ _ _ u
/-- The codes of the items' first layer. -/
abbrev C15 : IVec S20000x192 8 := k0_pay15 (k0_pay7 x0 x1 x2) (k0_pay11 x0 x1 x2) (k0_pay12 x0 x1 x2) k0_pay13
theorem p15 (u : Fin 20000) (d : Fin 192) : C15 x0 x1 x2 (ix2 u d) = Model.code8 (Model.ni1 (W x0) (U x1 x2) u) d := by
  have e : (fun d => k0_pay7 x0 x1 x2 (ix2 u d)) = Model.ni1 (W x0) (U x1 x2) u := funext fun d => p7 x0 x1 x2 u d
  rw [← e]
  unfold C15 k0_pay15
  exact codeRow (N := 20000) (k0_pay7 x0 x1 x2) _ u d ((spreadI _ u d).trans ((p14 x0 x1 x2 u).trans (by rw [e])))

theorem p16 (u : Fin 1536) (d : Fin 192) : k0_pay16 (k0_pay8 x0 x3 x4) (k0_pay9 x0 x3 x4) (ix2 u d) = Model.deqs (Model.nu1 (W x0) (I x3 x4)) u d := by
  unfold k0_pay16
  exact deqRow _ _ _ u d (p9 x0 x3 x4 u d) ((spreadU _ u d).trans (p8 x0 x3 x4 u))
/-- The items' first-layer vectors. -/
abbrev D17 : FVec Ideal S20000x192 .f32 := k0_pay17 (k0_pay7 x0 x1 x2) (k0_pay11 x0 x1 x2) (k0_pay12 x0 x1 x2) k0_pay13
theorem p17 (u : Fin 20000) (d : Fin 192) : D17 x0 x1 x2 (ix2 u d) = Model.deqs (Model.ni1 (W x0) (U x1 x2)) u d := by
  unfold D17 k0_pay17
  exact deqRow _ _ _ u d (p15 x0 x1 x2 u d) ((spreadI _ u d).trans (p14 x0 x1 x2 u))

/-- The second layer's aggregates at the users. -/
abbrev A20 : FVec Ideal S1536x192 .f32 := k0_pay20 x0 (k0_pay7 x0 x1 x2) (k0_pay11 x0 x1 x2) (k0_pay12 x0 x1 x2) k0_pay13
theorem p20 (u : Fin 1536) (d : Fin 192) : A20 x0 x1 x2 (ix2 u d) = Model.nu2 (W x0) (U x1 x2) u d := by
  unfold A20 k0_pay20
  refine (matU _ _ u d).trans ?_
  show _ = ∑ j, x0 (ix2 u j) * Model.deqs (Model.ni1 (W x0) (U x1 x2)) j d
  exact Finset.sum_congr rfl fun j _ => congrArg (x0 (ix2 u j) * ·) (p17 x0 x1 x2 j d)
/-- The second layer's aggregates at the items. -/
abbrev A21 : FVec Ideal S20000x192 .f32 := k0_pay21 x0 (k0_pay8 x0 x3 x4) (k0_pay9 x0 x3 x4)
theorem p21 (u : Fin 20000) (d : Fin 192) : A21 x0 x3 x4 (ix2 u d) = Model.ni2 (W x0) (I x3 x4) u d := by
  unfold A21 k0_pay21
  refine (matI _ _ u d).trans ?_
  show _ = ∑ j, x0 (ix2 j u) * Model.deqs (Model.nu1 (W x0) (I x3 x4)) j d
  exact Finset.sum_congr rfl fun j _ => congrArg (x0 (ix2 j u) * ·) (p16 x0 x3 x4 j d)

/-- The scales of the users' second layer. -/
abbrev S22 : FVec Ideal S1536 .f32 := k0_pay22 x0 (k0_pay7 x0 x1 x2) (k0_pay11 x0 x1 x2) (k0_pay12 x0 x1 x2) k0_pay13
theorem p22 (u : Fin 1536) : S22 x0 x1 x2 (ix1 u) = Model.scale (Model.nu2 (W x0) (U x1 x2) u) := by
  rw [← show (fun d => A20 x0 x1 x2 (ix2 u d)) = Model.nu2 (W x0) (U x1 x2) u from funext fun d => p20 x0 x1 x2 u d]
  unfold S22 k0_pay22
  exact scaleRow (N := 1536) (A20 x0 x1 x2) _ _ _ u
/-- The codes of the users' second layer, before the last clip. -/
abbrev C23 : FVec Ideal S1536x192 .f32 := k0_pay23 x0 (k0_pay7 x0 x1 x2) (k0_pay11 x0 x1 x2) (k0_pay12 x0 x1 x2) k0_pay13
theorem p24 (u : Fin 1536) (d : Fin 192) : k0_pay24 (Scalar.ofBits .f32 0x42FE0000#32) (C23 x0 x1 x2) (ix2 u d) = Model.code8 (Model.nu2 (W x0) (U x1 x2) u) d := by
  have e : (fun d => A20 x0 x1 x2 (ix2 u d)) = Model.nu2 (W x0) (U x1 x2) u := funext fun d => p20 x0 x1 x2 u d
  rw [← e]
  unfold k0_pay24 C23 k0_pay23
  exact codeRow (N := 1536) (A20 x0 x1 x2) _ u d ((spreadU _ u d).trans ((p22 x0 x1 x2 u).trans (by rw [e])))
theorem p25 (u : Fin 20000) : k0_pay25 (A21 x0 x3 x4) (ix1 u) = Model.scale (Model.ni2 (W x0) (I x3 x4) u) := by
  rw [← show (fun d => A21 x0 x3 x4 (ix2 u d)) = Model.ni2 (W x0) (I x3 x4) u from funext fun d => p21 x0 x3 x4 u d]
  unfold k0_pay25
  exact scaleRow (N := 20000) (A21 x0 x3 x4) _ _ _ u
theorem p26 (u : Fin 20000) (d : Fin 192) : k0_pay26 (A21 x0 x3 x4) (ix2 u d) = Model.code8 (Model.ni2 (W x0) (I x3 x4) u) d := by
  have e : (fun d => A21 x0 x3 x4 (ix2 u d)) = Model.ni2 (W x0) (I x3 x4) u := funext fun d => p21 x0 x3 x4 u d
  rw [← e]
  unfold k0_pay26
  exact codeRow (N := 20000) (A21 x0 x3 x4) _ u d ((spreadI _ u d).trans ((p25 x0 x3 x4 u).trans (by rw [e])))
theorem p27 (u : Fin 1536) (d : Fin 192) : k0_pay27 (S22 x0 x1 x2) (Scalar.ofBits .f32 0x42FE0000#32) (C23 x0 x1 x2) (ix2 u d) = Model.deqs (Model.nu2 (W x0) (U x1 x2)) u d := by
  unfold k0_pay27
  exact deqRow _ _ _ u d (p24 x0 x1 x2 u d) ((spreadU _ u d).trans (p22 x0 x1 x2 u))
theorem p28 (u : Fin 20000) (d : Fin 192) : k0_pay28 (A21 x0 x3 x4) (ix2 u d) = Model.deqs (Model.ni2 (W x0) (I x3 x4)) u d := by
  unfold k0_pay28
  exact deqRow _ _ _ u d (p26 x0 x3 x4 u d) ((spreadI _ u d).trans (p25 x0 x3 x4 u))

/-- The third layer's aggregates at the users. -/
abbrev A31 : FVec Ideal S1536x192 .f32 := k0_pay31 x0 (A21 x0 x3 x4)
theorem p31 (u : Fin 1536) (d : Fin 192) : A31 x0 x3 x4 (ix2 u d) = Model.nu3 (W x0) (I x3 x4) u d := by
  unfold A31 k0_pay31
  refine (matU _ _ u d).trans ?_
  show _ = ∑ j, x0 (ix2 u j) * Model.deqs (Model.ni2 (W x0) (I x3 x4)) j d
  exact Finset.sum_congr rfl fun j _ => congrArg (x0 (ix2 u j) * ·) (p28 x0 x3 x4 j d)
/-- The third layer's aggregates at the items. -/
abbrev A32 : FVec Ideal S20000x192 .f32 := k0_pay32 x0 (S22 x0 x1 x2) (Scalar.ofBits .f32 0x42FE0000#32) (C23 x0 x1 x2)
theorem p32 (u : Fin 20000) (d : Fin 192) : A32 x0 x1 x2 (ix2 u d) = Model.ni3 (W x0) (U x1 x2) u d := by
  unfold A32 k0_pay32
  refine (matI _ _ u d).trans ?_
  show _ = ∑ j, x0 (ix2 j u) * Model.deqs (Model.nu2 (W x0) (U x1 x2)) j d
  exact Finset.sum_congr rfl fun j _ => congrArg (x0 (ix2 j u) * ·) (p27 x0 x1 x2 j d)
/-- The scales of the users' third layer. -/
abbrev S35 : FVec Ideal S1536 .f32 := k0_pay35 (k0_pay33 x0 (A21 x0 x3 x4)) (k0_pay34 x0 (A21 x0 x3 x4))
theorem p35 (u : Fin 1536) : S35 x0 x3 x4 (ix1 u) = Model.scale (Model.nu3 (W x0) (I x3 x4) u) := by
  rw [← show (fun d => A31 x0 x3 x4 (ix2 u d)) = Model.nu3 (W x0) (I x3 x4) u from funext fun d => p31 x0 x3 x4 u d]
  unfold S35 k0_pay35 k0_pay34 k0_pay33
  exact scaleRow (N := 1536) (A31 x0 x3 x4) _ _ _ u
/-- The codes of the users' third layer. -/
abbrev C36 : IVec S1536x192 8 := k0_pay36 (A31 x0 x3 x4) (k0_pay33 x0 (A21 x0 x3 x4)) (k0_pay34 x0 (A21 x0 x3 x4))
theorem p36 (u : Fin 1536) (d : Fin 192) : C36 x0 x3 x4 (ix2 u d) = Model.code8 (Model.nu3 (W x0) (I x3 x4) u) d := by
  have e : (fun d => A31 x0 x3 x4 (ix2 u d)) = Model.nu3 (W x0) (I x3 x4) u := funext fun d => p31 x0 x3 x4 u d
  rw [← e]
  unfold C36 k0_pay36
  exact codeRow (N := 1536) (A31 x0 x3 x4) _ u d ((spreadU _ u d).trans ((p35 x0 x3 x4 u).trans (by rw [e])))
theorem p37 (u : Fin 20000) : k0_pay37 (A32 x0 x1 x2) (ix1 u) = Model.scale (Model.ni3 (W x0) (U x1 x2) u) := by
  rw [← show (fun d => A32 x0 x1 x2 (ix2 u d)) = Model.ni3 (W x0) (U x1 x2) u from funext fun d => p32 x0 x1 x2 u d]
  unfold k0_pay37
  exact scaleRow (N := 20000) (A32 x0 x1 x2) _ _ _ u
theorem p38 (u : Fin 20000) (d : Fin 192) : k0_pay38 (A32 x0 x1 x2) (ix2 u d) = Model.code8 (Model.ni3 (W x0) (U x1 x2) u) d := by
  have e : (fun d => A32 x0 x1 x2 (ix2 u d)) = Model.ni3 (W x0) (U x1 x2) u := funext fun d => p32 x0 x1 x2 u d
  rw [← e]
  unfold k0_pay38
  exact codeRow (N := 20000) (A32 x0 x1 x2) _ u d ((spreadI _ u d).trans ((p37 x0 x1 x2 u).trans (by rw [e])))
theorem p39 (u : Fin 1536) (d : Fin 192) :
    k0_pay39 (A31 x0 x3 x4) (k0_pay33 x0 (A21 x0 x3 x4)) (k0_pay34 x0 (A21 x0 x3 x4)) (ix2 u d) = Model.deqs (Model.nu3 (W x0) (I x3 x4)) u d := by
  unfold k0_pay39
  exact deqRow _ _ _ u d (p36 x0 x3 x4 u d) ((spreadU _ u d).trans (p35 x0 x3 x4 u))

/-- The mean of the users' four vectors. -/
theorem p1 (u : Fin 1536) (d : Fin 192) :
    k0_pay1 (k0_pay29 (k0_pay18 (k0_pay4 x1 x2) (k0_pay8 x0 x3 x4) (k0_pay9 x0 x3 x4)) (S22 x0 x1 x2) (Scalar.ofBits .f32 0x42FE0000#32) (C23 x0 x1 x2))
        (k0_pay39 (A31 x0 x3 x4) (k0_pay33 x0 (A21 x0 x3 x4)) (k0_pay34 x0 (A21 x0 x3 x4))) (ix2 u d)
      = Model.uOut (W x0) (U x1 x2) (I x3 x4) u d := by
  have e : k0_pay1 (k0_pay29 (k0_pay18 (k0_pay4 x1 x2) (k0_pay8 x0 x3 x4) (k0_pay9 x0 x3 x4)) (S22 x0 x1 x2) (Scalar.ofBits .f32 0x42FE0000#32) (C23 x0 x1 x2))
        (k0_pay39 (A31 x0 x3 x4) (k0_pay33 x0 (A21 x0 x3 x4)) (k0_pay34 x0 (A21 x0 x3 x4))) (ix2 u d)
      = (((k0_pay4 x1 x2 (ix2 u d) + k0_pay16 (k0_pay8 x0 x3 x4) (k0_pay9 x0 x3 x4) (ix2 u d))
          + k0_pay27 (S22 x0 x1 x2) (Scalar.ofBits .f32 0x42FE0000#32) (C23 x0 x1 x2) (ix2 u d))
          + k0_pay39 (A31 x0 x3 x4) (k0_pay33 x0 (A21 x0 x3 x4)) (k0_pay34 x0 (A21 x0 x3 x4)) (ix2 u d)) * Ideal.ofBits .f32 0x3E800000#32 := rfl
  rw [e, p4, p16, p27, p39]; rfl
/-- The mean of the items' four vectors. -/
theorem p2 (u : Fin 20000) (d : Fin 192) :
    k0_pay2 (k0_pay30 (k0_pay19 (k0_pay5 x3 x4) (k0_pay7 x0 x1 x2) (k0_pay11 x0 x1 x2) (k0_pay12 x0 x1 x2) k0_pay13) (A21 x0 x3 x4))
        (k0_pay40 (A32 x0 x1 x2)) (k0_pay41 (A32 x0 x1 x2)) (ix2 u d)
      = Model.iOut (W x0) (U x1 x2) (I x3 x4) u d := by
  have e : k0_pay2 (k0_pay30 (k0_pay19 (k0_pay5 x3 x4) (k0_pay7 x0 x1 x2) (k0_pay11 x0 x1 x2) (k0_pay12 x0 x1 x2) k0_pay13) (A21 x0 x3 x4))
        (k0_pay40 (A32 x0 x1 x2)) (k0_pay41 (A32 x0 x1 x2)) (ix2 u d)
      = (((k0_pay5 x3 x4 (ix2 u d) + D17 x0 x1 x2 (ix2 u d)) + k0_pay28 (A21 x0 x3 x4) (ix2 u d))
          + mulf (sitofp .f32 (k0_pay38 (A32 x0 x1 x2))) (broadcastTo S20000x192 (shapeCast S20000x1 (k0_pay37 (A32 x0 x1 x2)) shapeCasts_S20000_S20000x1) broadcasts_S20000x1_S20000x192) (ix2 u d))
          * Ideal.ofBits .f32 0x3E800000#32 := rfl
  rw [e, p5, p17, p28, deqRow _ _ _ u d (p38 x0 x1 x2 u d) ((spreadI _ u d).trans (p37 x0 x1 x2 u))]; rfl
end Cert.ReferenceIdeal.Vals
end
-- ==== Proof.Ideal.RHost.lean ====
module

public import proofs.«01_k».proof.Proof.Gen.ReferenceIdeal
public import proofs.«01_k».proof.Proof.Gen.ReferenceIdeal.Value
public import proofs.«01_k».proof.Proof.Ideal.RefVals
public import proofs.«01_k».proof.Proof.Ideal.Sums
public import proofs.«01_k».proof.Proof.Ideal.KHost
public import Idealize.ShloMosaic.Lib.Pipeline.ValueKit.Geometry
public import Idealize.ShloMosaic.Lib.StableHlo.ReadAt

@[expose] public section

set_option maxRecDepth 16384

noncomputable section

/-! The reference's host code at an index: its weights. -/
namespace Cert.ReferenceIdeal.RHost

open Cert.ReferenceIdeal Cert.ReferenceIdeal.Gen
open Idealize.ShloMosaic Idealize.ShloMosaic.TcCoe Idealize.ShloMosaic.Tactic
open Idealize.SL Idealize.SL.Sem
open Cert
open Cert.KernelIdeal.Sums (cnt dI Wt)
open Cert.KernelIdeal.Counts (rd)
open Cert.KernelIdeal.KHost (du)

variable (m : (ℓ : Loc nD τ sig) → Buf (Elt Ideal) ℓ) (c : Dev nD)

/-- Byte `k` of a word, by shift and mask. -/
def byte (x : BitVec 32) (k : ℕ) : BitVec 32 := IntOp.andi (IntOp.shrsi .host x (BitVec.ofNat 32 (8 * k))) 255#32

theorem byte_toNat (x : BitVec 32) (k : ℕ) (hk : k < 4) : (byte x k).toNat = Bits.by4 x k := by
  have e : byte x k = (x >>> (8 * k)) &&& 255#32 := by
    have e0 : IntOp.shrsi .host x (BitVec.ofNat 32 (8 * k)) = BitVec.sshiftRight x (8 * k) := by
      have : k = 0 ∨ k = 1 ∨ k = 2 ∨ k = 3 := by omega
      rcases this with h | h | h | h <;> subst h <;> (unfold IntOp.shrsi; rw [if_pos (by decide)]; rfl)
    unfold byte IntOp.andi
    rw [e0]
    apply BitVec.eq_of_getLsbD_eq
    intro i hi
    rw [BitVec.getLsbD_and, BitVec.getLsbD_and, BitVec.getLsbD_sshiftRight, BitVec.getLsbD_ushiftRight]
    have h2 : (255#32).getLsbD i = decide (i < 8) := by
      have : ∀ i < 32, (255#32).getLsbD i = decide (i < 8) := by decide
      exact this i hi
    rw [h2]
    by_cases c : i < 8
    · have : 8 * k + i < 32 := by omega
      simp [c, this, hi]
    · simp [c]
  rw [e, BitVec.toNat_and, BitVec.toNat_ushiftRight, Nat.shiftRight_eq_div_pow]
  unfold Bits.by4
  rw [PackedFields.field_eq_div]
  exact Nat.and_two_pow_sub_one_eq_mod _ 8

theorem byte_toInt (x : BitVec 32) (k : ℕ) (hk : k < 4) : (byte x k).toInt = (Bits.by4 x k : ℤ) := by
  have h : Bits.by4 x k < 256 := by unfold Bits.by4 PackedFields.field; exact Nat.mod_lt _ (by norm_num)
  rw [← byte_toNat x k hk] at h ⊢
  rw [BitVec.toInt_eq_toNat_of_lt (by omega)]

theorem chain (x : BitVec 32) (u : ℕ) :
    (if u % 4 < 1 then IntOp.andi (IntOp.shrsi .host x 0#32) 255#32
      else if u % 4 - 1 < 1 then IntOp.andi (IntOp.shrsi .host x 8#32) 255#32
      else if u % 4 - 1 - 1 < 1 then IntOp.andi (IntOp.shrsi .host x 16#32) 255#32
      else IntOp.andi (IntOp.shrsi .host x 24#32) 255#32) = byte x (u % 4) := by
  have : u % 4 = 0 ∨ u % 4 = 1 ∨ u % 4 = 2 ∨ u % 4 = 3 := by omega
  rcases this with h | h | h | h <;> rw [h] <;> rfl

theorem count (w : Vec Ideal ⟨3, ![160, 384, 128]⟩ .i32) (u : Fin 1536) (j : Fin 20000) :
    FloatOps.sitofp (F := Ideal) .f32 (byte (w (ix3 ⟨j.val / 128, by omega⟩ ⟨u.val / 4, by omega⟩ ⟨j.val % 128, by omega⟩)) (u.val % 4))
      = ((cnt w u j.val : ℝ) : EReal) := by
  show (((byte _ _).toInt : ℝ) : EReal) = _
  rw [byte_toInt _ _ (Nat.mod_lt _ (by norm_num))]
  unfold cnt
  rw [dif_pos (by omega : j.val < 20480)]
  norm_cast

theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, EReal.coe_add, ih]

/-- The weight, from the two degrees. -/
theorem weight (k d e : ℝ) : ((k : ℝ) : EReal) * Scalar.select (IntOp.andi (BitVec.ofBool (decide ((0 : EReal) < (d : EReal)))) (BitVec.ofBool (decide ((0 : EReal) < (e : EReal)))))
      (Ideal.div 1 (Ideal.sqrt ((d : EReal) * (e : EReal)))) (0 : EReal) = (k : EReal) * (rd d * rd e) := by
  congr 1
  unfold rd
  by_cases hd : 0 < d
  · by_cases he : 0 < e
    · have h1 : (0 : EReal) < (d : EReal) := by exact_mod_cast hd
      have h2 : (0 : EReal) < (e : EReal) := by exact_mod_cast he
      rw [decide_eq_true h1, decide_eq_true h2, if_pos hd, if_pos he]
      show Ideal.div 1 (Ideal.sqrt ((d : EReal) * (e : EReal))) = _
      rw [← EReal.coe_mul, Cert.KernelIdeal.Counts.div_sqrt _ (mul_pos hd he), ← EReal.coe_mul, Real.sqrt_mul hd.le, mul_inv]
    · have h1 : (0 : EReal) < (d : EReal) := by exact_mod_cast hd
      have h2 : ¬ (0 : EReal) < (e : EReal) := by exact_mod_cast he
      rw [decide_eq_true h1, decide_eq_false h2, if_pos hd, if_neg he, mul_zero]
      rfl
  · have h1 : ¬ (0 : EReal) < (d : EReal) := by exact_mod_cast hd
    rw [decide_eq_false h1, if_neg hd, zero_mul]
    by_cases he : (0 : EReal) < (e : EReal)
    · rw [decide_eq_true he]; rfl
    · rw [decide_eq_false he]; rfl

theorem v16_at (a : Fin 1) (t : Fin 160) (q : Fin 384) (l : Fin 128) :
    (StableHlo.upto [hostOps0, hostOps0_1, hostOps0_2, hostOps0_3, hostOps0_4].flatten (fun b => m (c, b)) 28
            (Proc.tc.devRef main_v16) : Vec Ideal S1x160x384x128 .i32) (ix4 a t q l)
      = IntOp.andi (IntOp.shrsi .host ((m (c, Proc.tc.devRef main_arg5) : Vec Ideal S160x384x128 .i32) (ix3 t q l)) 0#32) 255#32 := by
  after_reads_at

theorem v17_at (a : Fin 1) (t : Fin 160) (q : Fin 384) (l : Fin 128) :
    (StableHlo.upto [hostOps0, hostOps0_1, hostOps0_2, hostOps0_3, hostOps0_4].flatten (fun b => m (c, b)) 28
            (Proc.tc.devRef main_v17) : Vec Ideal S1x160x384x128 .i32) (ix4 a t q l)
      = IntOp.andi (IntOp.shrsi .host ((m (c, Proc.tc.devRef main_arg5) : Vec Ideal S160x384x128 .i32) (ix3 t q l)) 8#32) 255#32 := by
  after_reads_at

theorem v18_at (a : Fin 1) (t : Fin 160) (q : Fin 384) (l : Fin 128) :
    (StableHlo.upto [hostOps0, hostOps0_1, hostOps0_2, hostOps0_3, hostOps0_4].flatten (fun b => m (c, b)) 28
            (Proc.tc.devRef main_v18) : Vec Ideal S1x160x384x128 .i32) (ix4 a t q l)
      = IntOp.andi (IntOp.shrsi .host ((m (c, Proc.tc.devRef main_arg5) : Vec Ideal S160x384x128 .i32) (ix3 t q l)) 16#32) 255#32 := by
  after_reads_at

theorem v19_at (a : Fin 1) (t : Fin 160) (q : Fin 384) (l : Fin 128) :
    (StableHlo.upto [hostOps0, hostOps0_1, hostOps0_2, hostOps0_3, hostOps0_4].flatten (fun b => m (c, b)) 28
            (Proc.tc.devRef main_v19) : Vec Ideal S1x160x384x128 .i32) (ix4 a t q l)
      = IntOp.andi (IntOp.shrsi .host ((m (c, Proc.tc.devRef main_arg5) : Vec Ideal S160x384x128 .i32) (ix3 t q l)) 24#32) 255#32 := by
  after_reads_at

/-- The count at an edge as the four stacked bytes give it. -/
def C (u : Fin 1536) (j : Fin 20000) : BitVec 32 :=
  if h : u.val % 4 < 1 then (StableHlo.upto [hostOps0, hostOps0_1, hostOps0_2, hostOps0_3, hostOps0_4].flatten (fun b => m (c, b)) 28 (Proc.tc.devRef main_v16) : Vec Ideal S1x160x384x128 .i32) (ix4 ⟨u.val % 4, h⟩ ⟨j.val / 128, by omega⟩ ⟨u.val / 4, by omega⟩ ⟨j.val % 128, by omega⟩)
  else if h : u.val % 4 - 1 < 1 then (StableHlo.upto [hostOps0, hostOps0_1, hostOps0_2, hostOps0_3, hostOps0_4].flatten (fun b => m (c, b)) 28 (Proc.tc.devRef main_v17) : Vec Ideal S1x160x384x128 .i32) (ix4 ⟨u.val % 4 - 1, h⟩ ⟨j.val / 128, by omega⟩ ⟨u.val / 4, by omega⟩ ⟨j.val % 128, by omega⟩)
  else if h : u.val % 4 - 1 - 1 < 1 then (StableHlo.upto [hostOps0, hostOps0_1, hostOps0_2, hostOps0_3, hostOps0_4].flatten (fun b => m (c, b)) 28 (Proc.tc.devRef main_v18) : Vec Ideal S1x160x384x128 .i32) (ix4 ⟨u.val % 4 - 1 - 1, h⟩ ⟨j.val / 128, by omega⟩ ⟨u.val / 4, by omega⟩ ⟨j.val % 128, by omega⟩)
  else (StableHlo.upto [hostOps0, hostOps0_1, hostOps0_2, hostOps0_3, hostOps0_4].flatten (fun b => m (c, b)) 28 (Proc.tc.devRef main_v19) : Vec Ideal S1x160x384x128 .i32) (ix4 ⟨u.val % 4 - 1 - 1 - 1, by omega⟩ ⟨j.val / 128, by omega⟩ ⟨u.val / 4, by omega⟩ ⟨j.val % 128, by omega⟩)

theorem C_eq (u : Fin 1536) (j : Fin 20000) : FloatOps.sitofp (F := Ideal) .f32 (C m c u j) = ((cnt (m (c, Proc.tc.devRef main_arg5) : Vec Ideal S160x384x128 .i32) u j.val : ℝ) : EReal) := by
  refine Eq.trans (congrArg (FloatOps.sitofp (F := Ideal) .f32) ?_) (count _ u j)
  refine Eq.trans ?_ (chain _ _)
  unfold C
  by_cases h0 : u.val % 4 < 1
  · rw [dif_pos h0, if_pos h0]; exact v16_at m c _ _ _ _
  · rw [dif_neg h0, if_neg h0]
    by_cases h1 : u.val % 4 - 1 < 1
    · rw [dif_pos h1, if_pos h1]; exact v17_at m c _ _ _ _
    · rw [dif_neg h1, if_neg h1]
      by_cases h2 : u.val % 4 - 1 - 1 < 1
      · rw [dif_pos h2, if_pos h2]; exact v18_at m c _ _ _ _
      · rw [dif_neg h2, if_neg h2]; exact v19_at m c _ _ _ _

theorem degree (u : Fin 1536) : FloatOps.sitofp (F := Ideal) .f32 (IntOp.subi ((m (c, Proc.tc.devRef main_arg4) : Vec Ideal S1537 .i32) (ix1 ⟨1 + u.val, by omega⟩))
      ((m (c, Proc.tc.devRef main_arg4) : Vec Ideal S1537 .i32) (ix1 ⟨u.val, by omega⟩)))
      = ((du (m (c, Proc.tc.devRef main_arg4) : Vec Ideal S1537 .i32) u : ℝ) : EReal) := by
  unfold du
  rw [show (⟨u.val + 1, by omega⟩ : Fin 1537) = ⟨1 + u.val, by omega⟩ from Fin.ext (Nat.add_comm _ _)]
  rfl

theorem v44_at (u : Fin 1536) (j : Fin 20000) : (V m c main_v44 : Vec Ideal S1536x20000 .f32) (ix2 u j)
    = Wt (m (c, Proc.tc.devRef main_arg5) : Vec Ideal S160x384x128 .i32) (fun u => rd (du (m (c, Proc.tc.devRef main_arg4) : Vec Ideal S1537 .i32) u)) u j := by
  after_reads_at
  refine Eq.trans (b := FloatOps.sitofp (F := Ideal) .f32 (C m c u j) * Scalar.select (IntOp.andi
      (BitVec.ofBool (decide ((0 : EReal) < FloatOps.sitofp (F := Ideal) .f32 (IntOp.subi ((m (c, Proc.tc.devRef main_arg4) : Vec Ideal S1537 .i32) (ix1 ⟨1 + u.val, by omega⟩))
        ((m (c, Proc.tc.devRef main_arg4) : Vec Ideal S1537 .i32) (ix1 ⟨u.val, by omega⟩))))))
      (BitVec.ofBool (decide ((0 : EReal) < ∑ x, FloatOps.sitofp (F := Ideal) .f32 (C m c x j)))))
    (Ideal.div 1 (Ideal.sqrt (FloatOps.sitofp (F := Ideal) .f32 (IntOp.subi ((m (c, Proc.tc.devRef main_arg4) : Vec Ideal S1537 .i32) (ix1 ⟨1 + u.val, by omega⟩))
        ((m (c, Proc.tc.devRef main_arg4) : Vec Ideal S1537 .i32) (ix1 ⟨u.val, by omega⟩))) * ∑ x, FloatOps.sitofp (F := Ideal) .f32 (C m c x j))))
    (Ideal.ofBits .f32 0x00000000#32)) ?_ ?_
  · rfl
  · simp only [C_eq, degree, coe_sum]
    rw [Model.ofBits_0]
    exact weight _ _ _

end Cert.ReferenceIdeal.RHost

end
-- ==== Proof.Ideal.ROut.lean ====
module

public import proofs.«01_k».proof.Proof.Gen.ReferenceIdeal
public import proofs.«01_k».proof.Proof.Gen.ReferenceIdeal.Value
public import proofs.«01_k».proof.Proof.Ideal.RefVals
public import proofs.«01_k».proof.Proof.Ideal.Sums
public import proofs.«01_k».proof.Proof.Ideal.KHost
public import proofs.«01_k».proof.Proof.Ideal.RHost
public import Idealize.ShloMosaic.Lib.Pipeline.ValueKit.Geometry
public import Idealize.ShloMosaic.Lib.StableHlo.ReadAt

@[expose] public section

set_option maxRecDepth 16384

noncomputable section

/-! The reference's results at an index, as the mathematics of the module Model. -/
namespace Cert.ReferenceIdeal.ROut

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)
open Cert Vals
open Cert.KernelIdeal.Sums (cnt dI Wt)
open Cert.KernelIdeal.Counts (rd)
open Cert.KernelIdeal.KHost (du)

section Pay
variable (x0 : Vec Ideal S1536x20000 .f32) (x1 : Vec Ideal S1536x192 .i8) (x2 : Vec Ideal S1536 .f32) (x3 : Vec Ideal S20000x192 .i8) (x4 : Vec Ideal S20000 .f32)

theorem z1 : (![0] : Fin 1 → ℕ) = fun _ => 0 := by decide
theorem z2 : (![0, 0] : Fin 2 → ℕ) = fun _ => 0 := by decide
theorem l0 : View.ld x0 r0_0 = x0 := View.ld_unit_zero z2 _ x0
theorem l1 : View.ld x1 r0_1 = x1 := View.ld_unit_zero z2 _ x1
theorem l2 : View.ld x2 r0_2 = x2 := View.ld_unit_zero z1 _ x2
theorem l3 : View.ld x3 r0_3 = x3 := View.ld_unit_zero z2 _ x3
theorem l4 : View.ld x4 r0_4 = x4 := View.ld_unit_zero z1 _ x4

theorem o5 (u : Fin 1536) (d : Fin 192) : out0_5 x0 x1 x2 x3 x4 (ix2 u d) = Model.uOut (W x0) (U x1 x2) (I x3 x4) u d := by
  unfold_out out0_5
  rw [View.canon_unit_zero z2]
  simp only [l0, l1, l2, l3, l4, p3]
  exact p1 x0 x1 x2 x3 x4 u d

theorem o6 (u : Fin 20000) (d : Fin 192) : out0_6 x0 x1 x2 x3 x4 (ix2 u d) = Model.iOut (W x0) (U x1 x2) (I x3 x4) u d := by
  unfold_out out0_6
  rw [View.canon_unit_zero z2]
  simp only [l0, l1, l2, l3, l4, p3]
  exact p2 x0 x1 x2 x3 x4 u d

theorem o7 (u : Fin 1536) (d : Fin 192) : out0_7 x0 x1 x2 x3 x4 (ix2 u d) = Model.code8 (Model.nu1 (W x0) (I x3 x4) u) d := by
  unfold_out out0_7
  rw [View.canon_unit_zero z2]
  simp only [l0, l1, l2, l3, l4, p3]
  exact p9 x0 x3 x4 u d

theorem o8 (u : Fin 1536) : out0_8 x0 x1 x2 x3 x4 (ix1 u) = Model.scale (Model.nu1 (W x0) (I x3 x4) u) := by
  unfold_out out0_8
  rw [View.canon_unit_zero z1]
  simp only [l0, l1, l2, l3, l4, p3]
  exact p8 x0 x3 x4 u

theorem o9 (u : Fin 20000) (d : Fin 192) : out0_9 x0 x1 x2 x3 x4 (ix2 u d) = Model.code8 (Model.ni1 (W x0) (U x1 x2) u) d := by
  unfold_out out0_9
  rw [View.canon_unit_zero z2]
  simp only [l0, l1, l2, l3, l4, p3]
  exact p15 x0 x1 x2 u d

theorem o10 (u : Fin 20000) : out0_10 x0 x1 x2 x3 x4 (ix1 u) = Model.scale (Model.ni1 (W x0) (U x1 x2) u) := by
  unfold_out out0_10
  rw [View.canon_unit_zero z1]
  simp only [l0, l1, l2, l3, l4, p3]
  exact p14 x0 x1 x2 u

theorem o11 (u : Fin 1536) (d : Fin 192) : out0_11 x0 x1 x2 x3 x4 (ix2 u d) = Model.code8 (Model.nu2 (W x0) (U x1 x2) u) d := by
  unfold_out out0_11
  rw [View.canon_unit_zero z2]
  simp only [l0, l1, l2, l3, l4, p3]
  exact p24 x0 x1 x2 u d

theorem o12 (u : Fin 1536) : out0_12 x0 x1 x2 x3 x4 (ix1 u) = Model.scale (Model.nu2 (W x0) (U x1 x2) u) := by
  unfold_out out0_12
  rw [View.canon_unit_zero z1]
  simp only [l0, l1, l2, l3, l4, p3]
  exact p22 x0 x1 x2 u

theorem o13 (u : Fin 20000) (d : Fin 192) : out0_13 x0 x1 x2 x3 x4 (ix2 u d) = Model.code8 (Model.ni2 (W x0) (I x3 x4) u) d := by
  unfold_out out0_13
  rw [View.canon_unit_zero z2]
  simp only [l0, l1, l2, l3, l4, p3]
  exact p26 x0 x3 x4 u d

theorem o14 (u : Fin 20000) : out0_14 x0 x1 x2 x3 x4 (ix1 u) = Model.scale (Model.ni2 (W x0) (I x3 x4) u) := by
  unfold_out out0_14
  rw [View.canon_unit_zero z1]
  simp only [l0, l1, l2, l3, l4, p3]
  exact p25 x0 x3 x4 u

theorem o15 (u : Fin 1536) (d : Fin 192) : out0_15 x0 x1 x2 x3 x4 (ix2 u d) = Model.code8 (Model.nu3 (W x0) (I x3 x4) u) d := by
  unfold_out out0_15
  rw [View.canon_unit_zero z2]
  simp only [l0, l1, l2, l3, l4, p3]
  exact p36 x0 x3 x4 u d

theorem o16 (u : Fin 1536) : out0_16 x0 x1 x2 x3 x4 (ix1 u) = Model.scale (Model.nu3 (W x0) (I x3 x4) u) := by
  unfold_out out0_16
  rw [View.canon_unit_zero z1]
  simp only [l0, l1, l2, l3, l4, p3]
  exact p35 x0 x3 x4 u

theorem o17 (u : Fin 20000) (d : Fin 192) : out0_17 x0 x1 x2 x3 x4 (ix2 u d) = Model.code8 (Model.ni3 (W x0) (U x1 x2) u) d := by
  unfold_out out0_17
  rw [View.canon_unit_zero z2]
  simp only [l0, l1, l2, l3, l4, p3]
  exact p38 x0 x1 x2 u d

theorem o18 (u : Fin 20000) : out0_18 x0 x1 x2 x3 x4 (ix1 u) = Model.scale (Model.ni3 (W x0) (U x1 x2) u) := by
  unfold_out out0_18
  rw [View.canon_unit_zero z1]
  simp only [l0, l1, l2, l3, l4, p3]
  exact p37 x0 x1 x2 u

end Pay

variable (m : (ℓ : Loc nD τ sig) → Buf (Elt Ideal) ℓ) (c : Dev nD)

/-- The words of counts. -/
abbrev aw : Vec Ideal S160x384x128 .i32 := m (c, Proc.tc.devRef main_arg5)
/-- The weights. -/
abbrev aW : Fin 1536 → Fin 20000 → EReal := Wt (aw m c) (fun u => rd (du (m (c, Proc.tc.devRef main_arg4) : Vec Ideal S1537 .i32) u))
/-- The users' vectors. -/
abbrev au (u : Fin 1536) (d : Fin 192) : EReal :=
  ((((m (c, Proc.tc.devRef main_arg0) : Vec Ideal S1536x192 .i8) (ix2 u d)).toInt : ℝ) : EReal) * (m (c, Proc.tc.devRef main_arg1) : Vec Ideal S1536 .f32) (ix1 u)
/-- The items' vectors. -/
abbrev ai (j : Fin 20000) (d : Fin 192) : EReal :=
  ((((m (c, Proc.tc.devRef main_arg2) : Vec Ideal S20000x192 .i8) (ix2 j d)).toInt : ℝ) : EReal) * (m (c, Proc.tc.devRef main_arg3) : Vec Ideal S20000 .f32) (ix1 j)

theorem a0_at (u : Fin 1536) (d : Fin 192) : (V m c main_arg0 : Vec Ideal S1536x192 .i8) (ix2 u d) = (m (c, Proc.tc.devRef main_arg0) : Vec Ideal S1536x192 .i8) (ix2 u d) := by
  after_reads_at
theorem a1_at (u : Fin 1536) : (V m c main_arg1 : Vec Ideal S1536 .f32) (ix1 u) = (m (c, Proc.tc.devRef main_arg1) : Vec Ideal S1536 .f32) (ix1 u) := by
  after_reads_at
theorem a2_at (u : Fin 20000) (d : Fin 192) : (V m c main_arg2 : Vec Ideal S20000x192 .i8) (ix2 u d) = (m (c, Proc.tc.devRef main_arg2) : Vec Ideal S20000x192 .i8) (ix2 u d) := by
  after_reads_at
theorem a3_at (u : Fin 20000) : (V m c main_arg3 : Vec Ideal S20000 .f32) (ix1 u) = (m (c, Proc.tc.devRef main_arg3) : Vec Ideal S20000 .f32) (ix1 u) := by
  after_reads_at

theorem idx0 : ∀ t : Fin cfg0.N, win0_0.index t = ![0, 0] := (by decide +kernel : ∀ t : Fin grid0.N, win0_0.index t = ![0, 0])
theorem b0 (t : Fin cfg0.N) (u : Fin 1536) (j : Fin 20000) : (iblk m c 0 t : Vec Ideal S1536x20000 .f32) (ix2 u j) = (V m c main_v44 : Vec Ideal S1536x20000 .f32) (ix2 u j) := by
  refine congrArg (V m c main_v44 : Vec Ideal S1536x20000 .f32) ?_
  blk_ext [idx0]

theorem idx1 : ∀ t : Fin cfg0.N, win0_1.index t = ![0, 0] := (by decide +kernel : ∀ t : Fin grid0.N, win0_1.index t = ![0, 0])
theorem b1 (t : Fin cfg0.N) (u : Fin 1536) (d : Fin 192) : (iblk m c 1 t : Vec Ideal S1536x192 .i8) (ix2 u d) = (V m c main_arg0 : Vec Ideal S1536x192 .i8) (ix2 u d) := by
  refine congrArg (V m c main_arg0 : Vec Ideal S1536x192 .i8) ?_
  blk_ext [idx1]

theorem idx2 : ∀ t : Fin cfg0.N, win0_2.index t = ![0] := (by decide +kernel : ∀ t : Fin grid0.N, win0_2.index t = ![0])
theorem b2 (t : Fin cfg0.N) (u : Fin 1536) : (iblk m c 2 t : Vec Ideal S1536 .f32) (ix1 u) = (V m c main_arg1 : Vec Ideal S1536 .f32) (ix1 u) := by
  refine congrArg (V m c main_arg1 : Vec Ideal S1536 .f32) ?_
  blk_ext [idx2]

theorem idx3 : ∀ t : Fin cfg0.N, win0_3.index t = ![0, 0] := (by decide +kernel : ∀ t : Fin grid0.N, win0_3.index t = ![0, 0])
theorem b3 (t : Fin cfg0.N) (u : Fin 20000) (d : Fin 192) : (iblk m c 3 t : Vec Ideal S20000x192 .i8) (ix2 u d) = (V m c main_arg2 : Vec Ideal S20000x192 .i8) (ix2 u d) := by
  refine congrArg (V m c main_arg2 : Vec Ideal S20000x192 .i8) ?_
  blk_ext [idx3]

theorem idx4 : ∀ t : Fin cfg0.N, win0_4.index t = ![0] := (by decide +kernel : ∀ t : Fin grid0.N, win0_4.index t = ![0])
theorem b4 (t : Fin cfg0.N) (u : Fin 20000) : (iblk m c 4 t : Vec Ideal S20000 .f32) (ix1 u) = (V m c main_arg3 : Vec Ideal S20000 .f32) (ix1 u) := by
  refine congrArg (V m c main_arg3 : Vec Ideal S20000 .f32) ?_
  blk_ext [idx4]

/-- The single grid point. -/
def t0 : Fin cfg0.N := ⟨0, by decide⟩

theorem eW : W (iblk m c 0 t0) = aW m c := by
  funext u j; exact (b0 m c t0 u j).trans (RHost.v44_at m c u j)
theorem eU : U (iblk m c 1 t0) (iblk m c 2 t0) = au m c := by
  funext u d
  exact congrArg₂ (fun (a : BitVec 8) (b : EReal) => ((a.toInt : ℝ) : EReal) * b) ((b1 m c t0 u d).trans (a0_at m c u d)) ((b2 m c t0 u).trans (a1_at m c u))
theorem eI : I (iblk m c 3 t0) (iblk m c 4 t0) = ai m c := by
  funext u d
  exact congrArg₂ (fun (a : BitVec 8) (b : EReal) => ((a.toInt : ℝ) : EReal) * b) ((b3 m c t0 u d).trans (a2_at m c u d)) ((b4 m c t0 u).trans (a3_at m c u))

theorem r5 (u : Fin 1536) (d : Fin 192) : ((dats m 0 c).arrAt 5 cfg0.N : Vec Ideal S1536x192 .bf16) (ix2 u d) = Model.uOut (aW m c) (au m c) (ai m c) u d := by
  refine (congrFun ((dats m 0 c).arrAt_eq_of_after_last 5 t0 (by decide +kernel) (out0_5 (iblk m c 0 t0) (iblk m c 1 t0) (iblk m c 2 t0) (iblk m c 3 t0) (iblk m c 4 t0))
    (fun j => congrFun (after0_5 m c t0) j)) (ix2 u d)).trans ?_
  refine (o5 (iblk m c 0 t0) (iblk m c 1 t0) (iblk m c 2 t0) (iblk m c 3 t0) (iblk m c 4 t0) u d).trans ?_
  rw [eW, eU, eI]

theorem r6 (u : Fin 20000) (d : Fin 192) : ((dats m 0 c).arrAt 6 cfg0.N : Vec Ideal S20000x192 .bf16) (ix2 u d) = Model.iOut (aW m c) (au m c) (ai m c) u d := by
  refine (congrFun ((dats m 0 c).arrAt_eq_of_after_last 6 t0 (by decide +kernel) (out0_6 (iblk m c 0 t0) (iblk m c 1 t0) (iblk m c 2 t0) (iblk m c 3 t0) (iblk m c 4 t0))
    (fun j => congrFun (after0_6 m c t0) j)) (ix2 u d)).trans ?_
  refine (o6 (iblk m c 0 t0) (iblk m c 1 t0) (iblk m c 2 t0) (iblk m c 3 t0) (iblk m c 4 t0) u d).trans ?_
  rw [eW, eU, eI]

theorem r7 (u : Fin 1536) (d : Fin 192) : ((dats m 0 c).arrAt 7 cfg0.N : Vec Ideal S1536x192 .i8) (ix2 u d) = Model.code8 (Model.nu1 (aW m c) (ai m c) u) d := by
  refine (congrFun ((dats m 0 c).arrAt_eq_of_after_last 7 t0 (by decide +kernel) (out0_7 (iblk m c 0 t0) (iblk m c 1 t0) (iblk m c 2 t0) (iblk m c 3 t0) (iblk m c 4 t0))
    (fun j => congrFun (after0_7 m c t0) j)) (ix2 u d)).trans ?_
  refine (o7 (iblk m c 0 t0) (iblk m c 1 t0) (iblk m c 2 t0) (iblk m c 3 t0) (iblk m c 4 t0) u d).trans ?_
  rw [eW, eI]

theorem r8 (u : Fin 1536) : ((dats m 0 c).arrAt 8 cfg0.N : Vec Ideal S1536 .f32) (ix1 u) = Model.scale (Model.nu1 (aW m c) (ai m c) u) := by
  refine (congrFun ((dats m 0 c).arrAt_eq_of_after_last 8 t0 (by decide +kernel) (out0_8 (iblk m c 0 t0) (iblk m c 1 t0) (iblk m c 2 t0) (iblk m c 3 t0) (iblk m c 4 t0))
    (fun j => congrFun (after0_8 m c t0) j)) (ix1 u)).trans ?_
  refine (o8 (iblk m c 0 t0) (iblk m c 1 t0) (iblk m c 2 t0) (iblk m c 3 t0) (iblk m c 4 t0) u).trans ?_
  rw [eW, eI]

theorem r9 (u : Fin 20000) (d : Fin 192) : ((dats m 0 c).arrAt 9 cfg0.N : Vec Ideal S20000x192 .i8) (ix2 u d) = Model.code8 (Model.ni1 (aW m c) (au m c) u) d := by
  refine (congrFun ((dats m 0 c).arrAt_eq_of_after_last 9 t0 (by decide +kernel) (out0_9 (iblk m c 0 t0) (iblk m c 1 t0) (iblk m c 2 t0) (iblk m c 3 t0) (iblk m c 4 t0))
    (fun j => congrFun (after0_9 m c t0) j)) (ix2 u d)).trans ?_
  refine (o9 (iblk m c 0 t0) (iblk m c 1 t0) (iblk m c 2 t0) (iblk m c 3 t0) (iblk m c 4 t0) u d).trans ?_
  rw [eW, eU]

theorem r10 (u : Fin 20000) : ((dats m 0 c).arrAt 10 cfg0.N : Vec Ideal S20000 .f32) (ix1 u) = Model.scale (Model.ni1 (aW m c) (au m c) u) := by
  refine (congrFun ((dats m 0 c).arrAt_eq_of_after_last 10 t0 (by decide +kernel) (out0_10 (iblk m c 0 t0) (iblk m c 1 t0) (iblk m c 2 t0) (iblk m c 3 t0) (iblk m c 4 t0))
    (fun j => congrFun (after0_10 m c t0) j)) (ix1 u)).trans ?_
  refine (o10 (iblk m c 0 t0) (iblk m c 1 t0) (iblk m c 2 t0) (iblk m c 3 t0) (iblk m c 4 t0) u).trans ?_
  rw [eW, eU]

theorem r11 (u : Fin 1536) (d : Fin 192) : ((dats m 0 c).arrAt 11 cfg0.N : Vec Ideal S1536x192 .i8) (ix2 u d) = Model.code8 (Model.nu2 (aW m c) (au m c) u) d := by
  refine (congrFun ((dats m 0 c).arrAt_eq_of_after_last 11 t0 (by decide +kernel) (out0_11 (iblk m c 0 t0) (iblk m c 1 t0) (iblk m c 2 t0) (iblk m c 3 t0) (iblk m c 4 t0))
    (fun j => congrFun (after0_11 m c t0) j)) (ix2 u d)).trans ?_
  refine (o11 (iblk m c 0 t0) (iblk m c 1 t0) (iblk m c 2 t0) (iblk m c 3 t0) (iblk m c 4 t0) u d).trans ?_
  rw [eW, eU]

theorem r12 (u : Fin 1536) : ((dats m 0 c).arrAt 12 cfg0.N : Vec Ideal S1536 .f32) (ix1 u) = Model.scale (Model.nu2 (aW m c) (au m c) u) := by
  refine (congrFun ((dats m 0 c).arrAt_eq_of_after_last 12 t0 (by decide +kernel) (out0_12 (iblk m c 0 t0) (iblk m c 1 t0) (iblk m c 2 t0) (iblk m c 3 t0) (iblk m c 4 t0))
    (fun j => congrFun (after0_12 m c t0) j)) (ix1 u)).trans ?_
  refine (o12 (iblk m c 0 t0) (iblk m c 1 t0) (iblk m c 2 t0) (iblk m c 3 t0) (iblk m c 4 t0) u).trans ?_
  rw [eW, eU]

theorem r13 (u : Fin 20000) (d : Fin 192) : ((dats m 0 c).arrAt 13 cfg0.N : Vec Ideal S20000x192 .i8) (ix2 u d) = Model.code8 (Model.ni2 (aW m c) (ai m c) u) d := by
  refine (congrFun ((dats m 0 c).arrAt_eq_of_after_last 13 t0 (by decide +kernel) (out0_13 (iblk m c 0 t0) (iblk m c 1 t0) (iblk m c 2 t0) (iblk m c 3 t0) (iblk m c 4 t0))
    (fun j => congrFun (after0_13 m c t0) j)) (ix2 u d)).trans ?_
  refine (o13 (iblk m c 0 t0) (iblk m c 1 t0) (iblk m c 2 t0) (iblk m c 3 t0) (iblk m c 4 t0) u d).trans ?_
  rw [eW, eI]

theorem r14 (u : Fin 20000) : ((dats m 0 c).arrAt 14 cfg0.N : Vec Ideal S20000 .f32) (ix1 u) = Model.scale (Model.ni2 (aW m c) (ai m c) u) := by
  refine (congrFun ((dats m 0 c).arrAt_eq_of_after_last 14 t0 (by decide +kernel) (out0_14 (iblk m c 0 t0) (iblk m c 1 t0) (iblk m c 2 t0) (iblk m c 3 t0) (iblk m c 4 t0))
    (fun j => congrFun (after0_14 m c t0) j)) (ix1 u)).trans ?_
  refine (o14 (iblk m c 0 t0) (iblk m c 1 t0) (iblk m c 2 t0) (iblk m c 3 t0) (iblk m c 4 t0) u).trans ?_
  rw [eW, eI]

theorem r15 (u : Fin 1536) (d : Fin 192) : ((dats m 0 c).arrAt 15 cfg0.N : Vec Ideal S1536x192 .i8) (ix2 u d) = Model.code8 (Model.nu3 (aW m c) (ai m c) u) d := by
  refine (congrFun ((dats m 0 c).arrAt_eq_of_after_last 15 t0 (by decide +kernel) (out0_15 (iblk m c 0 t0) (iblk m c 1 t0) (iblk m c 2 t0) (iblk m c 3 t0) (iblk m c 4 t0))
    (fun j => congrFun (after0_15 m c t0) j)) (ix2 u d)).trans ?_
  refine (o15 (iblk m c 0 t0) (iblk m c 1 t0) (iblk m c 2 t0) (iblk m c 3 t0) (iblk m c 4 t0) u d).trans ?_
  rw [eW, eI]

theorem r16 (u : Fin 1536) : ((dats m 0 c).arrAt 16 cfg0.N : Vec Ideal S1536 .f32) (ix1 u) = Model.scale (Model.nu3 (aW m c) (ai m c) u) := by
  refine (congrFun ((dats m 0 c).arrAt_eq_of_after_last 16 t0 (by decide +kernel) (out0_16 (iblk m c 0 t0) (iblk m c 1 t0) (iblk m c 2 t0) (iblk m c 3 t0) (iblk m c 4 t0))
    (fun j => congrFun (after0_16 m c t0) j)) (ix1 u)).trans ?_
  refine (o16 (iblk m c 0 t0) (iblk m c 1 t0) (iblk m c 2 t0) (iblk m c 3 t0) (iblk m c 4 t0) u).trans ?_
  rw [eW, eI]

theorem r17 (u : Fin 20000) (d : Fin 192) : ((dats m 0 c).arrAt 17 cfg0.N : Vec Ideal S20000x192 .i8) (ix2 u d) = Model.code8 (Model.ni3 (aW m c) (au m c) u) d := by
  refine (congrFun ((dats m 0 c).arrAt_eq_of_after_last 17 t0 (by decide +kernel) (out0_17 (iblk m c 0 t0) (iblk m c 1 t0) (iblk m c 2 t0) (iblk m c 3 t0) (iblk m c 4 t0))
    (fun j => congrFun (after0_17 m c t0) j)) (ix2 u d)).trans ?_
  refine (o17 (iblk m c 0 t0) (iblk m c 1 t0) (iblk m c 2 t0) (iblk m c 3 t0) (iblk m c 4 t0) u d).trans ?_
  rw [eW, eU]

theorem r18 (u : Fin 20000) : ((dats m 0 c).arrAt 18 cfg0.N : Vec Ideal S20000 .f32) (ix1 u) = Model.scale (Model.ni3 (aW m c) (au m c) u) := by
  refine (congrFun ((dats m 0 c).arrAt_eq_of_after_last 18 t0 (by decide +kernel) (out0_18 (iblk m c 0 t0) (iblk m c 1 t0) (iblk m c 2 t0) (iblk m c 3 t0) (iblk m c 4 t0))
    (fun j => congrFun (after0_18 m c t0) j)) (ix1 u)).trans ?_
  refine (o18 (iblk m c 0 t0) (iblk m c 1 t0) (iblk m c 2 t0) (iblk m c 3 t0) (iblk m c 4 t0) u).trans ?_
  rw [eW, eU]

end Cert.ReferenceIdeal.ROut

end
-- ==== Proof.Ideal.PreRead.lean ====
module

public import proofs.«01_k».proof.Proof.Ideal.ExactRun
public import proofs.«01_k».proof.Proof.Ideal.KVals0
public import proofs.«01_k».proof.Proof.Ideal.KVals1
public import Idealize.ShloMosaic.Lib.Pipeline.ValueKit.Geometry
public import proofs.«01_k».proof.Defs
public import Idealize.ShloMosaic.Lib.Pointwise
public import Idealize.ShloMosaic.Lib.StableHlo.ReadAt
public import proofs.«01_k».proof.Proof.Ideal.KOut

@[expose] public section

set_option maxRecDepth 16384

noncomputable section

/-! The precondition read: finite scales, counts below 128, and no edges past the last item. -/
namespace Cert.KernelIdeal.PreRead

open Cert Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Counts Cert.KernelIdeal.KGen

open Cert.KernelIdeal.Sums Cert.KernelIdeal.KOut

/-- The shape relations the precondition's printed form asks for. -/
theorem preFacts : Cert.Pre_small_counts.Facts where
  bcast_S_S1536 := by decide
  bcast_S_S20000 := by decide
  bcast_S_S160x384x128 := by decide

theorem bit_eq {b : Bool} (h : BitVec.ofBool b = 1#1) : b = true := by
  cases b
  · exact absurd h (by decide)
  · rfl

theorem ofBits_inf : Ideal.ofBits .f32 0x7F800000#32 = (⊤ : EReal) := by
  simp [Ideal.ofBits, Ideal.ieee]

theorem isR_of_abs (x : EReal) (h : max x (-x) < ⊤) : Model.IsR x := by
  induction x with
  | bot => simp at h
  | top => simp at h
  | coe r => exact ⟨r, rfl⟩

/-- Past the last item the words are zero, and so the counts. -/
theorem tail_of (w : Vec Ideal S160x384x128 .i32) (h : ∀ (t : Fin 160) (q : Fin 384) (l : Fin 128), 20000 ≤ 128 * t.val + l.val → w (ix3 t q l) = 0#32)
    (u : Fin 1536) (j : ℕ) (hj : 20000 ≤ j) : cnt w u j = 0 := by
  unfold cnt
  by_cases hlt : j < 20480
  · rw [dif_pos hlt, h _ _ _ (by show 20000 ≤ 128 * (j / 128) + j % 128; omega)]
    unfold Bits.by4
    rw [PackedFields.field_eq_div]
    simp
  · rw [dif_neg hlt]

theorem lt_of_slt (t : Fin 160) (l : Fin 128) (h : (BitVec.slt (128#32 * BitVec.ofNat 32 t.val + BitVec.ofNat 32 l.val) 20000#32) = true) : 128 * t.val + l.val < 20000 := by
  have ht := t.isLt
  have hl := l.isLt
  have e : (128#32 * BitVec.ofNat 32 t.val + BitVec.ofNat 32 l.val).toNat = 128 * t.val + l.val := by
    simp only [BitVec.toNat_add, BitVec.toNat_mul, BitVec.toNat_ofNat]
    omega
  rw [BitVec.slt_eq_decide, decide_eq_true_iff, BitVec.toInt_eq_toNat_of_lt (by rw [e]; omega), e] at h
  have : (20000#32).toInt = 20000 := by decide
  omega

/-- The precondition, read. -/
theorem good (m : (ℓ : Loc nD τ sig) → Buf (Elt Ideal) ℓ) (hp : @Cert.Pre_KernelIdeal_small_counts preFacts m) (c : Dev nD) : Good m c := by
  obtain ⟨h1, h2, h3, h4⟩ := hp c
  refine ⟨fun i => ?_, tail_of _ fun t q l hj => ?_, fun u => ?_, fun j => ?_⟩
  · have h := bit_eq (congrFun h3 i)
    exact eq_of_beq h
  · have h := congrFun h4 (ix3 t q l)
    have h' : IntOp.ori (BitVec.ofBool (BitVec.slt (128#32 * BitVec.ofNat 32 t.val + BitVec.ofNat 32 l.val) 20000#32)) (BitVec.ofBool (aw m c (ix3 t q l) == 0#32)) = 1#1 := h
    by_cases hs : BitVec.slt (128#32 * BitVec.ofNat 32 t.val + BitVec.ofNat 32 l.val) 20000#32 = true
    · exact absurd (lt_of_slt t l hs) (by omega)
    · rw [Bool.not_eq_true] at hs
      rw [hs] at h'
      by_cases hz : (aw m c (ix3 t q l) == 0#32) = true
      · exact eq_of_beq hz
      · rw [Bool.not_eq_true] at hz
        rw [hz] at h'
        exact absurd h' (by decide)
  · have h := of_decide_eq_true (bit_eq (congrFun h1 (ix1 u)))
    exact isR_of_abs _ (lt_of_lt_of_eq h ofBits_inf)
  · have h := of_decide_eq_true (bit_eq (congrFun h2 (ix1 j)))
    exact isR_of_abs _ (lt_of_lt_of_eq h ofBits_inf)

end Cert.KernelIdeal.PreRead
end
-- ==== Proof.Ideal.Match.lean ====
module

public import proofs.«01_k».proof.Defs
public import proofs.«01_k».proof.Proof.Ideal.Run
public import proofs.«01_k».proof.Proof.Ideal.ExactRun
public import proofs.«01_k».proof.Proof.Ideal.KOut
public import proofs.«01_k».proof.Proof.Ideal.ROut
public import proofs.«01_k».proof.Proof.Ideal.PreRead
public import proofs.«01_k».proof.Proof.Gen.ReferenceIdeal.Value

@[expose] public section

set_option maxRecDepth 16384

noncomputable section

/-! The value claim: under the precondition, every result of the kernel is the reference's. -/
namespace Cert.KernelIdeal.Match

open Idealize.ShloMosaic Idealize.ShloMosaic.TcCoe
open Idealize.SL Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference starts from the kernel's arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} (S : Same m m' c)
include S

theorem eW : Cert.ReferenceIdeal.ROut.aW m' c = KOut.aW m c := by
  obtain ⟨h0, h1, h2, h3, h4, h5⟩ := S
  funext u j
  exact congrArg₂ (fun (w : Vec Ideal ⟨3, ![160, 384, 128]⟩ .i32) (p : Vec Ideal ⟨1, ![1537]⟩ .i32) => Sums.Wt w (fun u => Counts.rd (KHost.du p u)) u j) h5 h4
theorem eU : Cert.ReferenceIdeal.ROut.au m' c = KOut.au m c := by
  obtain ⟨h0, h1, h2, h3, h4, h5⟩ := S
  funext u d
  exact congrArg₂ (fun (q : Vec Ideal ⟨2, ![1536, 192]⟩ .i8) (s : Vec Ideal ⟨1, ![1536]⟩ .f32) => (((q (ix2 u d)).toInt : ℝ) : EReal) * s (ix1 u)) h0 h1
theorem eI : Cert.ReferenceIdeal.ROut.ai m' c = KOut.ai m c := by
  obtain ⟨h0, h1, h2, h3, h4, h5⟩ := S
  funext u d
  exact congrArg₂ (fun (q : Vec Ideal ⟨2, ![20000, 192]⟩ .i8) (s : Vec Ideal ⟨1, ![20000]⟩ .f32) => (((q (ix2 u d)).toInt : ℝ) : EReal) * s (ix1 u)) h2 h3

variable (H : KOut.Good m c)
include H

theorem m15 : ((Cert.ReferenceIdeal.Gen.dats m' 0 c).arrAt 5 Cert.ReferenceIdeal.cfg0.N : Vec Ideal ⟨2, ![1536, 192]⟩ .bf16)
    = (ExactRun.V7 m c (Proc.devRef .tc main_v15) : Vec Ideal ⟨2, ![1536, 192]⟩ .bf16) := by
  funext i
  refine (congrArg ((Cert.ReferenceIdeal.Gen.dats m' 0 c).arrAt 5 Cert.ReferenceIdeal.cfg0.N : Vec Ideal ⟨2, ![1536, 192]⟩ .bf16) (eq_ix2 i)).trans ?_
  refine (Cert.ReferenceIdeal.ROut.r5 m' c (i 0) (i 1)).trans ?_
  rw [eW S, eU S, eI S]
  exact (KOut.r15 H (i 0) (i 1)).symm.trans (congrArg (ExactRun.V7 m c (Proc.devRef .tc main_v15) : Vec Ideal ⟨2, ![1536, 192]⟩ .bf16) (eq_ix2 i).symm)

theorem m16 : ((Cert.ReferenceIdeal.Gen.dats m' 0 c).arrAt 6 Cert.ReferenceIdeal.cfg0.N : Vec Ideal ⟨2, ![20000, 192]⟩ .bf16)
    = (ExactRun.V7 m c (Proc.devRef .tc main_v16) : Vec Ideal ⟨2, ![20000, 192]⟩ .bf16) := by
  funext i
  refine (congrArg ((Cert.ReferenceIdeal.Gen.dats m' 0 c).arrAt 6 Cert.ReferenceIdeal.cfg0.N : Vec Ideal ⟨2, ![20000, 192]⟩ .bf16) (eq_ix2 i)).trans ?_
  refine (Cert.ReferenceIdeal.ROut.r6 m' c (i 0) (i 1)).trans ?_
  rw [eW S, eU S, eI S]
  exact (KOut.r16 H (i 0) (i 1)).symm.trans (congrArg (ExactRun.V7 m c (Proc.devRef .tc main_v16) : Vec Ideal ⟨2, ![20000, 192]⟩ .bf16) (eq_ix2 i).symm)

theorem m17 : ((Cert.ReferenceIdeal.Gen.dats m' 0 c).arrAt 7 Cert.ReferenceIdeal.cfg0.N : Vec Ideal ⟨2, ![1536, 192]⟩ .i8)
    = (ExactRun.V7 m c (Proc.devRef .tc main_v17) : Vec Ideal ⟨2, ![1536, 192]⟩ .i8) := by
  funext i
  refine (congrArg ((Cert.ReferenceIdeal.Gen.dats m' 0 c).arrAt 7 Cert.ReferenceIdeal.cfg0.N : Vec Ideal ⟨2, ![1536, 192]⟩ .i8) (eq_ix2 i)).trans ?_
  refine (Cert.ReferenceIdeal.ROut.r7 m' c (i 0) (i 1)).trans ?_
  rw [eW S, eI S]
  exact (KOut.r17 H (i 0) (i 1)).symm.trans (congrArg (ExactRun.V7 m c (Proc.devRef .tc main_v17) : Vec Ideal ⟨2, ![1536, 192]⟩ .i8) (eq_ix2 i).symm)

theorem m18 : ((Cert.ReferenceIdeal.Gen.dats m' 0 c).arrAt 8 Cert.ReferenceIdeal.cfg0.N : Vec Ideal ⟨1, ![1536]⟩ .f32)
    = (ExactRun.V7 m c (Proc.devRef .tc main_v18) : Vec Ideal ⟨1, ![1536]⟩ .f32) := by
  funext i
  refine (congrArg ((Cert.ReferenceIdeal.Gen.dats m' 0 c).arrAt 8 Cert.ReferenceIdeal.cfg0.N : Vec Ideal ⟨1, ![1536]⟩ .f32) (eq_ix1 i)).trans ?_
  refine (Cert.ReferenceIdeal.ROut.r8 m' c (i 0)).trans ?_
  rw [eW S, eI S]
  exact (KOut.r18 H (i 0)).symm.trans (congrArg (ExactRun.V7 m c (Proc.devRef .tc main_v18) : Vec Ideal ⟨1, ![1536]⟩ .f32) (eq_ix1 i).symm)

theorem m19 : ((Cert.ReferenceIdeal.Gen.dats m' 0 c).arrAt 9 Cert.ReferenceIdeal.cfg0.N : Vec Ideal ⟨2, ![20000, 192]⟩ .i8)
    = (ExactRun.V7 m c (Proc.devRef .tc main_v19) : Vec Ideal ⟨2, ![20000, 192]⟩ .i8) := by
  funext i
  refine (congrArg ((Cert.ReferenceIdeal.Gen.dats m' 0 c).arrAt 9 Cert.ReferenceIdeal.cfg0.N : Vec Ideal ⟨2, ![20000, 192]⟩ .i8) (eq_ix2 i)).trans ?_
  refine (Cert.ReferenceIdeal.ROut.r9 m' c (i 0) (i 1)).trans ?_
  rw [eW S, eU S]
  exact (KOut.r19 H (i 0) (i 1)).symm.trans (congrArg (ExactRun.V7 m c (Proc.devRef .tc main_v19) : Vec Ideal ⟨2, ![20000, 192]⟩ .i8) (eq_ix2 i).symm)

theorem m20 : ((Cert.ReferenceIdeal.Gen.dats m' 0 c).arrAt 10 Cert.ReferenceIdeal.cfg0.N : Vec Ideal ⟨1, ![20000]⟩ .f32)
    = (ExactRun.V7 m c (Proc.devRef .tc main_v20) : Vec Ideal ⟨1, ![20000]⟩ .f32) := by
  funext i
  refine (congrArg ((Cert.ReferenceIdeal.Gen.dats m' 0 c).arrAt 10 Cert.ReferenceIdeal.cfg0.N : Vec Ideal ⟨1, ![20000]⟩ .f32) (eq_ix1 i)).trans ?_
  refine (Cert.ReferenceIdeal.ROut.r10 m' c (i 0)).trans ?_
  rw [eW S, eU S]
  exact (KOut.r20 H (i 0)).symm.trans (congrArg (ExactRun.V7 m c (Proc.devRef .tc main_v20) : Vec Ideal ⟨1, ![20000]⟩ .f32) (eq_ix1 i).symm)

theorem m21 : ((Cert.ReferenceIdeal.Gen.dats m' 0 c).arrAt 11 Cert.ReferenceIdeal.cfg0.N : Vec Ideal ⟨2, ![1536, 192]⟩ .i8)
    = (ExactRun.V7 m c (Proc.devRef .tc main_v21) : Vec Ideal ⟨2, ![1536, 192]⟩ .i8) := by
  funext i
  refine (congrArg ((Cert.ReferenceIdeal.Gen.dats m' 0 c).arrAt 11 Cert.ReferenceIdeal.cfg0.N : Vec Ideal ⟨2, ![1536, 192]⟩ .i8) (eq_ix2 i)).trans ?_
  refine (Cert.ReferenceIdeal.ROut.r11 m' c (i 0) (i 1)).trans ?_
  rw [eW S, eU S]
  exact (KOut.r21 H (i 0) (i 1)).symm.trans (congrArg (ExactRun.V7 m c (Proc.devRef .tc main_v21) : Vec Ideal ⟨2, ![1536, 192]⟩ .i8) (eq_ix2 i).symm)

theorem m22 : ((Cert.ReferenceIdeal.Gen.dats m' 0 c).arrAt 12 Cert.ReferenceIdeal.cfg0.N : Vec Ideal ⟨1, ![1536]⟩ .f32)
    = (ExactRun.V7 m c (Proc.devRef .tc main_v22) : Vec Ideal ⟨1, ![1536]⟩ .f32) := by
  funext i
  refine (congrArg ((Cert.ReferenceIdeal.Gen.dats m' 0 c).arrAt 12 Cert.ReferenceIdeal.cfg0.N : Vec Ideal ⟨1, ![1536]⟩ .f32) (eq_ix1 i)).trans ?_
  refine (Cert.ReferenceIdeal.ROut.r12 m' c (i 0)).trans ?_
  rw [eW S, eU S]
  exact (KOut.r22 H (i 0)).symm.trans (congrArg (ExactRun.V7 m c (Proc.devRef .tc main_v22) : Vec Ideal ⟨1, ![1536]⟩ .f32) (eq_ix1 i).symm)

theorem m23 : ((Cert.ReferenceIdeal.Gen.dats m' 0 c).arrAt 13 Cert.ReferenceIdeal.cfg0.N : Vec Ideal ⟨2, ![20000, 192]⟩ .i8)
    = (ExactRun.V7 m c (Proc.devRef .tc main_v23) : Vec Ideal ⟨2, ![20000, 192]⟩ .i8) := by
  funext i
  refine (congrArg ((Cert.ReferenceIdeal.Gen.dats m' 0 c).arrAt 13 Cert.ReferenceIdeal.cfg0.N : Vec Ideal ⟨2, ![20000, 192]⟩ .i8) (eq_ix2 i)).trans ?_
  refine (Cert.ReferenceIdeal.ROut.r13 m' c (i 0) (i 1)).trans ?_
  rw [eW S, eI S]
  exact (KOut.r23 H (i 0) (i 1)).symm.trans (congrArg (ExactRun.V7 m c (Proc.devRef .tc main_v23) : Vec Ideal ⟨2, ![20000, 192]⟩ .i8) (eq_ix2 i).symm)

theorem m24 : ((Cert.ReferenceIdeal.Gen.dats m' 0 c).arrAt 14 Cert.ReferenceIdeal.cfg0.N : Vec Ideal ⟨1, ![20000]⟩ .f32)
    = (ExactRun.V7 m c (Proc.devRef .tc main_v24) : Vec Ideal ⟨1, ![20000]⟩ .f32) := by
  funext i
  refine (congrArg ((Cert.ReferenceIdeal.Gen.dats m' 0 c).arrAt 14 Cert.ReferenceIdeal.cfg0.N : Vec Ideal ⟨1, ![20000]⟩ .f32) (eq_ix1 i)).trans ?_
  refine (Cert.ReferenceIdeal.ROut.r14 m' c (i 0)).trans ?_
  rw [eW S, eI S]
  exact (KOut.r24 H (i 0)).symm.trans (congrArg (ExactRun.V7 m c (Proc.devRef .tc main_v24) : Vec Ideal ⟨1, ![20000]⟩ .f32) (eq_ix1 i).symm)

theorem m25 : ((Cert.ReferenceIdeal.Gen.dats m' 0 c).arrAt 15 Cert.ReferenceIdeal.cfg0.N : Vec Ideal ⟨2, ![1536, 192]⟩ .i8)
    = (ExactRun.V7 m c (Proc.devRef .tc main_v25) : Vec Ideal ⟨2, ![1536, 192]⟩ .i8) := by
  funext i
  refine (congrArg ((Cert.ReferenceIdeal.Gen.dats m' 0 c).arrAt 15 Cert.ReferenceIdeal.cfg0.N : Vec Ideal ⟨2, ![1536, 192]⟩ .i8) (eq_ix2 i)).trans ?_
  refine (Cert.ReferenceIdeal.ROut.r15 m' c (i 0) (i 1)).trans ?_
  rw [eW S, eI S]
  exact (KOut.r25 H (i 0) (i 1)).symm.trans (congrArg (ExactRun.V7 m c (Proc.devRef .tc main_v25) : Vec Ideal ⟨2, ![1536, 192]⟩ .i8) (eq_ix2 i).symm)

theorem m26 : ((Cert.ReferenceIdeal.Gen.dats m' 0 c).arrAt 16 Cert.ReferenceIdeal.cfg0.N : Vec Ideal ⟨1, ![1536]⟩ .f32)
    = (ExactRun.V7 m c (Proc.devRef .tc main_v26) : Vec Ideal ⟨1, ![1536]⟩ .f32) := by
  funext i
  refine (congrArg ((Cert.ReferenceIdeal.Gen.dats m' 0 c).arrAt 16 Cert.ReferenceIdeal.cfg0.N : Vec Ideal ⟨1, ![1536]⟩ .f32) (eq_ix1 i)).trans ?_
  refine (Cert.ReferenceIdeal.ROut.r16 m' c (i 0)).trans ?_
  rw [eW S, eI S]
  exact (KOut.r26 H (i 0)).symm.trans (congrArg (ExactRun.V7 m c (Proc.devRef .tc main_v26) : Vec Ideal ⟨1, ![1536]⟩ .f32) (eq_ix1 i).symm)

theorem m27 : ((Cert.ReferenceIdeal.Gen.dats m' 0 c).arrAt 17 Cert.ReferenceIdeal.cfg0.N : Vec Ideal ⟨2, ![20000, 192]⟩ .i8)
    = (ExactRun.V7 m c (Proc.devRef .tc main_v27) : Vec Ideal ⟨2, ![20000, 192]⟩ .i8) := by
  funext i
  refine (congrArg ((Cert.ReferenceIdeal.Gen.dats m' 0 c).arrAt 17 Cert.ReferenceIdeal.cfg0.N : Vec Ideal ⟨2, ![20000, 192]⟩ .i8) (eq_ix2 i)).trans ?_
  refine (Cert.ReferenceIdeal.ROut.r17 m' c (i 0) (i 1)).trans ?_
  rw [eW S, eU S]
  exact (KOut.r27 H (i 0) (i 1)).symm.trans (congrArg (ExactRun.V7 m c (Proc.devRef .tc main_v27) : Vec Ideal ⟨2, ![20000, 192]⟩ .i8) (eq_ix2 i).symm)

theorem m28 : ((Cert.ReferenceIdeal.Gen.dats m' 0 c).arrAt 18 Cert.ReferenceIdeal.cfg0.N : Vec Ideal ⟨1, ![20000]⟩ .f32)
    = (ExactRun.V7 m c (Proc.devRef .tc main_v28) : Vec Ideal ⟨1, ![20000]⟩ .f32) := by
  funext i
  refine (congrArg ((Cert.ReferenceIdeal.Gen.dats m' 0 c).arrAt 18 Cert.ReferenceIdeal.cfg0.N : Vec Ideal ⟨1, ![20000]⟩ .f32) (eq_ix1 i)).trans ?_
  refine (Cert.ReferenceIdeal.ROut.r18 m' c (i 0)).trans ?_
  rw [eW S, eU S]
  exact (KOut.r28 H (i 0)).symm.trans (congrArg (ExactRun.V7 m c (Proc.devRef .tc main_v28) : Vec Ideal ⟨1, ![20000]⟩ .f32) (eq_ix1 i).symm)

end Cert.KernelIdeal.Match

end
-- ==== Proof.lean ====
/-
  The certificate's claims, put together: the frames (Proof/Run.lean, its twin for the idealized program, and the
  reference's generated one), that the idealization rewrites nothing, and the value claim: both programs run
  (Proof/Ideal/ExactRun.lean, the reference's generated run), and their results agree (Proof/Ideal/Match.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Value
public import proofs.«01_k».proof.Proof.Run
public import proofs.«01_k».proof.Proof.Ideal.Run
public import proofs.«01_k».proof.Proof.Ideal.Match
public import Idealize.ShloMosaic.Adequacy
public import Idealize.ShloMosaic.Init

@[expose] public section

noncomputable section

namespace Cert.Proof

open Idealize.ShloMosaic Idealize.SL.Sem Cert.Kernel

/-- A result of the kernel is among the buffers the run's postcondition speaks of. -/
theorem mem_uc (b : Ref Cert.KernelIdeal.sig .tc) (h : ¬ (Proc.devRef .tc b : DevRef Cert.KernelIdeal.τ Cert.KernelIdeal.sig).isScoped) :
    (Proc.devRef .tc b : DevRef Cert.KernelIdeal.τ Cert.KernelIdeal.sig) ∈ Pipeline.ucRefs Cert.KernelIdeal.τ Cert.KernelIdeal.sig :=
  Finset.mem_filter.mpr ⟨StableHlo.devRef_mem_tcRefs b, h⟩

set_option maxHeartbeats 4000000 in
/-- The value claim. -/
theorem values : @Cert.algebraic_KernelIdeal_ReferenceIdeal_pre_small_counts Cert.KernelIdeal.Gen.facts Cert.ReferenceIdeal.Gen.facts Cert.KernelIdeal.PreRead.preFacts := by
  intro m g m' g' hp hs
  have H : ∀ c, Cert.KernelIdeal.KOut.Good m c := Cert.KernelIdeal.PreRead.good m hp
  refine ⟨fun c => Cert.KernelIdeal.ExactRun.V7 m c (Proc.devRef .tc Cert.KernelIdeal.main_v15), fun c => Cert.KernelIdeal.ExactRun.V7 m c (Proc.devRef .tc Cert.KernelIdeal.main_v16), fun c => Cert.KernelIdeal.ExactRun.V7 m c (Proc.devRef .tc Cert.KernelIdeal.main_v17), fun c => Cert.KernelIdeal.ExactRun.V7 m c (Proc.devRef .tc Cert.KernelIdeal.main_v18), fun c => Cert.KernelIdeal.ExactRun.V7 m c (Proc.devRef .tc Cert.KernelIdeal.main_v19), fun c => Cert.KernelIdeal.ExactRun.V7 m c (Proc.devRef .tc Cert.KernelIdeal.main_v20), fun c => Cert.KernelIdeal.ExactRun.V7 m c (Proc.devRef .tc Cert.KernelIdeal.main_v21), fun c => Cert.KernelIdeal.ExactRun.V7 m c (Proc.devRef .tc Cert.KernelIdeal.main_v22), fun c => Cert.KernelIdeal.ExactRun.V7 m c (Proc.devRef .tc Cert.KernelIdeal.main_v23), fun c => Cert.KernelIdeal.ExactRun.V7 m c (Proc.devRef .tc Cert.KernelIdeal.main_v24), fun c => Cert.KernelIdeal.ExactRun.V7 m c (Proc.devRef .tc Cert.KernelIdeal.main_v25), fun c => Cert.KernelIdeal.ExactRun.V7 m c (Proc.devRef .tc Cert.KernelIdeal.main_v26), fun c => Cert.KernelIdeal.ExactRun.V7 m c (Proc.devRef .tc Cert.KernelIdeal.main_v27), fun c => Cert.KernelIdeal.ExactRun.V7 m c (Proc.devRef .tc Cert.KernelIdeal.main_v28), ?_, ?_⟩
  · refine (θ_run _ _ _).mono ?_ (θ_run_and (Cert.KernelIdeal.ExactRun.run m g
      (fun c => Cert.KernelIdeal.Val0.edgeFree (Cert.KernelIdeal.KOut.e0 (H c))) (fun c => Cert.KernelIdeal.Val1.edgeFree (Cert.KernelIdeal.KOut.e1 (H c))))
      (Cert.KernelIdeal.Run.frame m g))
    intro r h c
    exact ⟨h.1 c _ (mem_uc Cert.KernelIdeal.main_v15 (by decide)), h.1 c _ (mem_uc Cert.KernelIdeal.main_v16 (by decide)), h.1 c _ (mem_uc Cert.KernelIdeal.main_v17 (by decide)), h.1 c _ (mem_uc Cert.KernelIdeal.main_v18 (by decide)), h.1 c _ (mem_uc Cert.KernelIdeal.main_v19 (by decide)), h.1 c _ (mem_uc Cert.KernelIdeal.main_v20 (by decide)), h.1 c _ (mem_uc Cert.KernelIdeal.main_v21 (by decide)), h.1 c _ (mem_uc Cert.KernelIdeal.main_v22 (by decide)), h.1 c _ (mem_uc Cert.KernelIdeal.main_v23 (by decide)), h.1 c _ (mem_uc Cert.KernelIdeal.main_v24 (by decide)), h.1 c _ (mem_uc Cert.KernelIdeal.main_v25 (by decide)), h.1 c _ (mem_uc Cert.KernelIdeal.main_v26 (by decide)), h.1 c _ (mem_uc Cert.KernelIdeal.main_v27 (by decide)), h.1 c _ (mem_uc Cert.KernelIdeal.main_v28 (by decide)), h.2.1 c⟩
  · refine (θ_run _ _ _).mono ?_ (Cert.ReferenceIdeal.Value.run_blocks m' g')
    intro r h c
    obtain ⟨h15, h16, h17, h18, h19, h20, h21, h22, h23, h24, h25, h26, h27, h28, ha⟩ := h c
    exact ⟨h15.trans (Cert.KernelIdeal.Match.m15 (hs c) (H c)), h16.trans (Cert.KernelIdeal.Match.m16 (hs c) (H c)), h17.trans (Cert.KernelIdeal.Match.m17 (hs c) (H c)), h18.trans (Cert.KernelIdeal.Match.m18 (hs c) (H c)), h19.trans (Cert.KernelIdeal.Match.m19 (hs c) (H c)), h20.trans (Cert.KernelIdeal.Match.m20 (hs c) (H c)), h21.trans (Cert.KernelIdeal.Match.m21 (hs c) (H c)), h22.trans (Cert.KernelIdeal.Match.m22 (hs c) (H c)), h23.trans (Cert.KernelIdeal.Match.m23 (hs c) (H c)), h24.trans (Cert.KernelIdeal.Match.m24 (hs c) (H c)), h25.trans (Cert.KernelIdeal.Match.m25 (hs c) (H c)), h26.trans (Cert.KernelIdeal.Match.m26 (hs c) (H c)), h27.trans (Cert.KernelIdeal.Match.m27 (hs c) (H c)), h28.trans (Cert.KernelIdeal.Match.m28 (hs c) (H c)), ha⟩

theorem claim : Cert.Claim :=
  ⟨Cert.Kernel.Gen.facts, Cert.KernelIdeal.Gen.facts, Cert.ReferenceIdeal.Gen.facts, Cert.KernelIdeal.PreRead.preFacts,
    fun m g _ => Cert.Kernel.Run.frame m g, fun m g _ => Cert.KernelIdeal.Run.frame m g, fun m g _ => Cert.KernelIdeal.Run.frame m g,
    fun m g _ => Cert.ReferenceIdeal.Gen.frame m g, fun m g _ => Cert.ReferenceIdeal.Gen.frame m g, trivial, values⟩

end Cert.Proof

end
